-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXRefIdeal (m : (ℓ : Loc Cert.QuantXRefIdeal.nD Cert.QuantXRefIdeal.τ Cert.QuantXRefIdeal.sig) → Buf (Elt Ideal) ℓ) : Prop :=
  True

def Pre_QuantH (m : (ℓ : Loc Cert.QuantH.nD Cert.QuantH.τ Cert.QuantH.sig) → Buf (Elt Bits) ℓ) : Prop :=
  True

def Pre_QuantHIdeal (m : (ℓ : Loc Cert.QuantHIdeal.nD Cert.QuantHIdeal.τ Cert.QuantHIdeal.sig) → Buf (Elt Ideal) ℓ) : Prop :=
  True

def Pre_QuantHRefIdeal (m : (ℓ : Loc Cert.QuantHRefIdeal.nD Cert.QuantHRefIdeal.τ Cert.QuantHRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0)
      ∧ r.2.mem ((c.tc : Thread Cert.QuantX.nD Cert.QuantX.τ).loc Cert.QuantX.main_arg1) = m ((c.tc : Thread Cert.QuantX.nD Cert.QuantX.τ).loc Cert.QuantX.main_arg1))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ r.2.sem = fun _ => 0)

def quiescent_QuantXRefIdeal [hQuantXRefIdeal : Cert.QuantXRefIdeal.Facts] : Prop :=
  ∀ (m : (ℓ : Loc Cert.QuantXRefIdeal.nD Cert.QuantXRefIdeal.τ Cert.QuantXRefIdeal.sig) → Buf (Elt Ideal) ℓ) (g : Dev Cert.QuantXRefIdeal.nD → PrngReg), Pre_QuantXRefIdeal m →
    θ_run (Cert.QuantXRefIdeal.defs (F := Ideal)) (onTc (τ := Cert.QuantXRefIdeal.τ) (Cert.QuantXRefIdeal.main (F := Ideal))) ⟨m, fun _ => 0, g⟩ (fun r => (∀ c : Dev Cert.QuantXRefIdeal.nD,
      r.2.mem ((c.tc : Thread Cert.QuantXRefIdeal.nD Cert.QuantXRefIdeal.τ).loc Cert.QuantXRefIdeal.main_arg0) = m ((c.tc : Thread Cert.QuantXRefIdeal.nD Cert.QuantXRefIdeal.τ).loc Cert.QuantXRefIdeal.main_arg0)
      ∧ r.2.mem ((c.tc : Thread Cert.QuantXRefIdeal.nD Cert.QuantXRefIdeal.τ).loc Cert.QuantXRefIdeal.main_arg1) = m ((c.tc : Thread Cert.QuantXRefIdeal.nD Cert.QuantXRefIdeal.τ).loc Cert.QuantXRefIdeal.main_arg1))
      ∧ r.2.sem = fun _ => 0)

def quiescent_QuantH [hQuantH : Cert.QuantH.Facts] : Prop :=
  ∀ (m : (ℓ : Loc Cert.QuantH.nD Cert.QuantH.τ Cert.QuantH.sig) → Buf (Elt Bits) ℓ) (g : Dev Cert.QuantH.nD → PrngReg), Pre_QuantH m →
    θ_run (Cert.QuantH.defs (F := Bits)) (onTc (τ := Cert.QuantH.τ) (Cert.QuantH.main (F := Bits))) ⟨m, fun _ => 0, g⟩ (fun r => (∀ c : Dev Cert.QuantH.nD,
      r.2.mem ((c.tc : Thread Cert.QuantH.nD Cert.QuantH.τ).loc Cert.QuantH.main_arg0) = m ((c.tc : Thread Cert.QuantH.nD Cert.QuantH.τ).loc Cert.QuantH.main_arg0)
      ∧ r.2.mem ((c.tc : Thread Cert.QuantH.nD Cert.QuantH.τ).loc Cert.QuantH.main_arg1) = m ((c.tc : Thread Cert.QuantH.nD Cert.QuantH.τ).loc Cert.QuantH.main_arg1))
      ∧ r.2.sem = fun _ => 0)

def quiescent_QuantHIdeal [hQuantHIdeal : Cert.QuantHIdeal.Facts] : Prop :=
  ∀ (m : (ℓ : Loc Cert.QuantHIdeal.nD Cert.QuantHIdeal.τ Cert.QuantHIdeal.sig) → Buf (Elt Ideal) ℓ) (g : Dev Cert.QuantHIdeal.nD → PrngReg), Pre_QuantHIdeal m →
    θ_run (Cert.QuantHIdeal.defs (F := Ideal)) (onTc (τ := Cert.QuantHIdeal.τ) (Cert.QuantHIdeal.main (F := Ideal))) ⟨m, fun _ => 0, g⟩ (fun r => (∀ c : Dev Cert.QuantHIdeal.nD,
      r.2.mem ((c.tc : Thread Cert.QuantHIdeal.nD Cert.QuantHIdeal.τ).loc Cert.QuantHIdeal.main_arg0) = m ((c.tc : Thread Cert.QuantHIdeal.nD Cert.QuantHIdeal.τ).loc Cert.QuantHIdeal.main_arg0)
      ∧ r.2.mem ((c.tc : Thread Cert.QuantHIdeal.nD Cert.QuantHIdeal.τ).loc Cert.QuantHIdeal.main_arg1) = m ((c.tc : Thread Cert.QuantHIdeal.nD Cert.QuantHIdeal.τ).loc Cert.QuantHIdeal.main_arg1))
      ∧ r.2.sem = fun _ => 0)

def quiescent_QuantHRefIdeal [hQuantHRefIdeal : Cert.QuantHRefIdeal.Facts] : Prop :=
  ∀ (m : (ℓ : Loc Cert.QuantHRefIdeal.nD Cert.QuantHRefIdeal.τ Cert.QuantHRefIdeal.sig) → Buf (Elt Ideal) ℓ) (g : Dev Cert.QuantHRefIdeal.nD → PrngReg), Pre_QuantHRefIdeal m →
    θ_run (Cert.QuantHRefIdeal.defs (F := Ideal)) (onTc (τ := Cert.QuantHRefIdeal.τ) (Cert.QuantHRefIdeal.main (F := Ideal))) ⟨m, fun _ => 0, g⟩ (fun r => (∀ c : Dev Cert.QuantHRefIdeal.nD,
      r.2.mem ((c.tc : Thread Cert.QuantHRefIdeal.nD Cert.QuantHRefIdeal.τ).loc Cert.QuantHRefIdeal.main_arg0) = m ((c.tc : Thread Cert.QuantHRefIdeal.nD Cert.QuantHRefIdeal.τ).loc Cert.QuantHRefIdeal.main_arg0)
      ∧ r.2.mem ((c.tc : Thread Cert.QuantHRefIdeal.nD Cert.QuantHRefIdeal.τ).loc Cert.QuantHRefIdeal.main_arg1) = m ((c.tc : Thread Cert.QuantHRefIdeal.nD Cert.QuantHRefIdeal.τ).loc Cert.QuantHRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v1_0)) (v1 : (c : Dev Cert.GateUpIdeal.nD) → Buf (Elt Ideal) ((c.tc : Thread Cert.GateUpIdeal.nD Cert.GateUpIdeal.τ).loc Cert.GateUpIdeal.main_v1_1)) (v2 : (c : Dev Cert.GateUpIdeal.nD) → Buf (Elt Ideal) ((c.tc : Thread Cert.GateUpIdeal.nD Cert.GateUpIdeal.τ).loc Cert.GateUpIdeal.main_v1_2)) (v3 : (c : Dev Cert.GateUpIdeal.nD) → Buf (Elt Ideal) ((c.tc : Thread Cert.GateUpIdeal.nD Cert.GateUpIdeal.τ).loc Cert.GateUpIdeal.main_v1_3)) (v4 : (c : Dev Cert.GateUpIdeal.nD) → Buf (Elt Ideal) ((c.tc : Thread Cert.GateUpIdeal.nD Cert.GateUpIdeal.τ).loc Cert.GateUpIdeal.main_v1_4)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1_0) = v0 c
          ∧ r.2.mem ((c.tc : Thread Cert.GateUpIdeal.nD Cert.GateUpIdeal.τ).loc Cert.GateUpIdeal.main_v1_1) = v1 c
          ∧ r.2.mem ((c.tc : Thread Cert.GateUpIdeal.nD Cert.GateUpIdeal.τ).loc Cert.GateUpIdeal.main_v1_2) = v2 c
          ∧ r.2.mem ((c.tc : Thread Cert.GateUpIdeal.nD Cert.GateUpIdeal.τ).loc Cert.GateUpIdeal.main_v1_3) = v3 c
          ∧ r.2.mem ((c.tc : Thread Cert.GateUpIdeal.nD Cert.GateUpIdeal.τ).loc Cert.GateUpIdeal.main_v1_4) = v4 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v1_0) = v0 c
          ∧ r.2.mem ((c.tc : Thread Cert.GateUpRefIdeal.nD Cert.GateUpRefIdeal.τ).loc Cert.GateUpRefIdeal.main_v1_1) = v1 c
          ∧ r.2.mem ((c.tc : Thread Cert.GateUpRefIdeal.nD Cert.GateUpRefIdeal.τ).loc Cert.GateUpRefIdeal.main_v1_2) = v2 c
          ∧ r.2.mem ((c.tc : Thread Cert.GateUpRefIdeal.nD Cert.GateUpRefIdeal.τ).loc Cert.GateUpRefIdeal.main_v1_3) = v3 c
          ∧ r.2.mem ((c.tc : Thread Cert.GateUpRefIdeal.nD Cert.GateUpRefIdeal.τ).loc Cert.GateUpRefIdeal.main_v1_4) = v4 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)) →
    ∃ (v0 : (c : Dev Cert.OProjIdeal.nD) → Buf (Elt Ideal) ((c.tc : Thread Cert.OProjIdeal.nD Cert.OProjIdeal.τ).loc Cert.OProjIdeal.main_v0)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v0) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4))

def preserves_QuantX_QuantXIdeal : Prop :=
  True

def algebraic_QuantXIdeal_QuantXRefIdeal [hQuantXIdeal : Cert.QuantXIdeal.Facts] [hQuantXRefIdeal : Cert.QuantXRefIdeal.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantXRefIdeal.nD Cert.QuantXRefIdeal.τ Cert.QuantXRefIdeal.sig) → Buf (Elt Ideal) ℓ) (g' : Dev Cert.QuantXRefIdeal.nD → PrngReg), Pre_QuantXIdeal m →
    (∀ c : Dev Cert.QuantXIdeal.nD,
      m' ((c.tc : Thread Cert.QuantXRefIdeal.nD Cert.QuantXRefIdeal.τ).loc Cert.QuantXRefIdeal.main_arg0) = m ((c.tc : Thread Cert.QuantXIdeal.nD Cert.QuantXIdeal.τ).loc Cert.QuantXIdeal.main_arg0)
      ∧ m' ((c.tc : Thread Cert.QuantXRefIdeal.nD Cert.QuantXRefIdeal.τ).loc Cert.QuantXRefIdeal.main_arg1) = m ((c.tc : Thread Cert.QuantXIdeal.nD Cert.QuantXIdeal.τ).loc Cert.QuantXIdeal.main_arg1)) →
    ∃ (v0 : (c : Dev Cert.QuantXIdeal.nD) → Buf (Elt Ideal) ((c.tc : Thread Cert.QuantXIdeal.nD Cert.QuantXIdeal.τ).loc Cert.QuantXIdeal.main_v1_0)) (v1 : (c : Dev Cert.QuantXIdeal.nD) → Buf (Elt Ideal) ((c.tc : Thread Cert.QuantXIdeal.nD Cert.QuantXIdeal.τ).loc Cert.QuantXIdeal.main_v1_1)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v1_0) = v0 c
          ∧ r.2.mem ((c.tc : Thread Cert.QuantXIdeal.nD Cert.QuantXIdeal.τ).loc Cert.QuantXIdeal.main_v1_1) = v1 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
          ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ θ_run (Cert.QuantXRefIdeal.defs (F := Ideal)) (onTc (τ := Cert.QuantXRefIdeal.τ) (Cert.QuantXRefIdeal.main (F := Ideal))) ⟨m', fun _ => 0, g'⟩ (fun r => ∀ c : Dev Cert.QuantXRefIdeal.nD,
          r.2.mem ((c.tc : Thread Cert.QuantXRefIdeal.nD Cert.QuantXRefIdeal.τ).loc Cert.QuantXRefIdeal.main_v1_0) = v0 c
          ∧ r.2.mem ((c.tc : Thread Cert.QuantXRefIdeal.nD Cert.QuantXRefIdeal.τ).loc Cert.QuantXRefIdeal.main_v1_1) = v1 c
          ∧ r.2.mem ((c.tc : Thread Cert.QuantXRefIdeal.nD Cert.QuantXRefIdeal.τ).loc Cert.QuantXRefIdeal.main_arg0) = m' ((c.tc : Thread Cert.QuantXRefIdeal.nD Cert.QuantXRefIdeal.τ).loc Cert.QuantXRefIdeal.main_arg0)
          ∧ r.2.mem ((c.tc : Thread Cert.QuantXRefIdeal.nD Cert.QuantXRefIdeal.τ).loc Cert.QuantXRefIdeal.main_arg1) = m' ((c.tc : Thread Cert.QuantXRefIdeal.nD Cert.QuantXRefIdeal.τ).loc Cert.QuantXRefIdeal.main_arg1))

def preserves_QuantH_QuantHIdeal : Prop :=
  True

def algebraic_QuantHIdeal_QuantHRefIdeal [hQuantHIdeal : Cert.QuantHIdeal.Facts] [hQuantHRefIdeal : Cert.QuantHRefIdeal.Facts] : Prop :=
  ∀ (m : (ℓ : Loc Cert.QuantHIdeal.nD Cert.QuantHIdeal.τ Cert.QuantHIdeal.sig) → Buf (Elt Ideal) ℓ) (g : Dev Cert.QuantHIdeal.nD → PrngReg)
    (m' : (ℓ : Loc Cert.QuantHRefIdeal.nD Cert.QuantHRefIdeal.τ Cert.QuantHRefIdeal.sig) → Buf (Elt Ideal) ℓ) (g' : Dev Cert.QuantHRefIdeal.nD → PrngReg), Pre_QuantHIdeal m →
    (∀ c : Dev Cert.QuantHIdeal.nD,
      m' ((c.tc : Thread Cert.QuantHRefIdeal.nD Cert.QuantHRefIdeal.τ).loc Cert.QuantHRefIdeal.main_arg0) = m ((c.tc : Thread Cert.QuantHIdeal.nD Cert.QuantHIdeal.τ).loc Cert.QuantHIdeal.main_arg0)
      ∧ m' ((c.tc : Thread Cert.QuantHRefIdeal.nD Cert.QuantHRefIdeal.τ).loc Cert.QuantHRefIdeal.main_arg1) = m ((c.tc : Thread Cert.QuantHIdeal.nD Cert.QuantHIdeal.τ).loc Cert.QuantHIdeal.main_arg1)) →
    ∃ (v0 : (c : Dev Cert.QuantHIdeal.nD) → Buf (Elt Ideal) ((c.tc : Thread Cert.QuantHIdeal.nD Cert.QuantHIdeal.τ).loc Cert.QuantHIdeal.main_v1_0)) (v1 : (c : Dev Cert.QuantHIdeal.nD) → Buf (Elt Ideal) ((c.tc : Thread Cert.QuantHIdeal.nD Cert.QuantHIdeal.τ).loc Cert.QuantHIdeal.main_v1_1)),
      θ_run (Cert.QuantHIdeal.defs (F := Ideal)) (onTc (τ := Cert.QuantHIdeal.τ) (Cert.QuantHIdeal.main (F := Ideal))) ⟨m, fun _ => 0, g⟩ (fun r => ∀ c : Dev Cert.QuantHIdeal.nD,
          r.2.mem ((c.tc : Thread Cert.QuantHIdeal.nD Cert.QuantHIdeal.τ).loc Cert.QuantHIdeal.main_v1_0) = v0 c
          ∧ r.2.mem ((c.tc : Thread Cert.QuantHIdeal.nD Cert.QuantHIdeal.τ).loc Cert.QuantHIdeal.main_v1_1) = v1 c
          ∧ r.2.mem ((c.tc : Thread Cert.QuantHIdeal.nD Cert.QuantHIdeal.τ).loc Cert.QuantHIdeal.main_arg0) = m ((c.tc : Thread Cert.QuantHIdeal.nD Cert.QuantHIdeal.τ).loc Cert.QuantHIdeal.main_arg0)
          ∧ r.2.mem ((c.tc : Thread Cert.QuantHIdeal.nD Cert.QuantHIdeal.τ).loc Cert.QuantHIdeal.main_arg1) = m ((c.tc : Thread Cert.QuantHIdeal.nD Cert.QuantHIdeal.τ).loc Cert.QuantHIdeal.main_arg1))
      ∧ θ_run (Cert.QuantHRefIdeal.defs (F := Ideal)) (onTc (τ := Cert.QuantHRefIdeal.τ) (Cert.QuantHRefIdeal.main (F := Ideal))) ⟨m', fun _ => 0, g'⟩ (fun r => ∀ c : Dev Cert.QuantHRefIdeal.nD,
          r.2.mem ((c.tc : Thread Cert.QuantHRefIdeal.nD Cert.QuantHRefIdeal.τ).loc Cert.QuantHRefIdeal.main_v1_0) = v0 c
          ∧ r.2.mem ((c.tc : Thread Cert.QuantHRefIdeal.nD Cert.QuantHRefIdeal.τ).loc Cert.QuantHRefIdeal.main_v1_1) = v1 c
          ∧ r.2.mem ((c.tc : Thread Cert.QuantHRefIdeal.nD Cert.QuantHRefIdeal.τ).loc Cert.QuantHRefIdeal.main_arg0) = m' ((c.tc : Thread Cert.QuantHRefIdeal.nD Cert.QuantHRefIdeal.τ).loc Cert.QuantHRefIdeal.main_arg0)
          ∧ r.2.mem ((c.tc : Thread Cert.QuantHRefIdeal.nD Cert.QuantHRefIdeal.τ).loc Cert.QuantHRefIdeal.main_arg1) = m' ((c.tc : Thread Cert.QuantHRefIdeal.nD Cert.QuantHRefIdeal.τ).loc Cert.QuantHRefIdeal.main_arg1))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v1_0)) (v1 : (c : Dev Cert.AttnIdeal.nD) → Buf (Elt Ideal) ((c.tc : Thread Cert.AttnIdeal.nD Cert.AttnIdeal.τ).loc Cert.AttnIdeal.main_v1_1)) (v2 : (c : Dev Cert.AttnIdeal.nD) → Buf (Elt Ideal) ((c.tc : Thread Cert.AttnIdeal.nD Cert.AttnIdeal.τ).loc Cert.AttnIdeal.main_v1_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1_0) = v0 c
          ∧ r.2.mem ((c.tc : Thread Cert.AttnIdeal.nD Cert.AttnIdeal.τ).loc Cert.AttnIdeal.main_v1_1) = v1 c
          ∧ r.2.mem ((c.tc : Thread Cert.AttnIdeal.nD Cert.AttnIdeal.τ).loc Cert.AttnIdeal.main_v1_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v1_0) = v0 c
          ∧ r.2.mem ((c.tc : Thread Cert.AttnRefIdeal.nD Cert.AttnRefIdeal.τ).loc Cert.AttnRefIdeal.main_v1_1) = v1 c
          ∧ r.2.mem ((c.tc : Thread Cert.AttnRefIdeal.nD Cert.AttnRefIdeal.τ).loc Cert.AttnRefIdeal.main_v1_2) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hGateUp : Cert.GateUp.Facts) (hGateUpIdeal : Cert.GateUpIdeal.Facts) (hGateUpRefIdeal : Cert.GateUpRefIdeal.Facts) (hOProj : Cert.OProj.Facts) (hOProjIdeal : Cert.OProjIdeal.Facts) (hOProjRefIdeal : Cert.OProjRefIdeal.Facts) (hQuantX : Cert.QuantX.Facts) (hQuantXIdeal : Cert.QuantXIdeal.Facts) (hQuantXRefIdeal : Cert.QuantXRefIdeal.Facts) (hQuantH : Cert.QuantH.Facts) (hQuantHIdeal : Cert.QuantHIdeal.Facts) (hQuantHRefIdeal : Cert.QuantHRefIdeal.Facts) (hAttn : Cert.Attn.Facts) (hAttnIdeal : Cert.AttnIdeal.Facts) (hAttnRefIdeal : Cert.AttnRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_OProj (hOProj := hOProj)
    ∧ quiescent_OProjIdeal (hOProjIdeal := hOProjIdeal)
    ∧ quiescent_OProjRefIdeal (hOProjRefIdeal := hOProjRefIdeal)
    ∧ quiescent_QuantX (hQuantX := hQuantX)
    ∧ quiescent_QuantXIdeal (hQuantXIdeal := hQuantXIdeal)
    ∧ quiescent_QuantXRefIdeal (hQuantXRefIdeal := hQuantXRefIdeal)
    ∧ quiescent_QuantH (hQuantH := hQuantH)
    ∧ quiescent_QuantHIdeal (hQuantHIdeal := hQuantHIdeal)
    ∧ quiescent_QuantHRefIdeal (hQuantHRefIdeal := hQuantHRefIdeal)
    ∧ quiescent_Attn (hAttn := hAttn)
    ∧ quiescent_AttnIdeal (hAttnIdeal := hAttnIdeal)
    ∧ quiescent_AttnRefIdeal (hAttnRefIdeal := hAttnRefIdeal)
    ∧ preserves_GateUp_GateUpIdeal
    ∧ algebraic_GateUpIdeal_GateUpRefIdeal (hGateUpIdeal := hGateUpIdeal) (hGateUpRefIdeal := hGateUpRefIdeal)
    ∧ preserves_OProj_OProjIdeal
    ∧ algebraic_OProjIdeal_OProjRefIdeal (hOProjIdeal := hOProjIdeal) (hOProjRefIdeal := hOProjRefIdeal)
    ∧ preserves_QuantX_QuantXIdeal
    ∧ algebraic_QuantXIdeal_QuantXRefIdeal (hQuantXIdeal := hQuantXIdeal) (hQuantXRefIdeal := hQuantXRefIdeal)
    ∧ preserves_QuantH_QuantHIdeal
    ∧ algebraic_QuantHIdeal_QuantHRefIdeal (hQuantHIdeal := hQuantHIdeal) (hQuantHRefIdeal := hQuantHRefIdeal)
    ∧ preserves_Attn_AttnIdeal
    ∧ algebraic_AttnIdeal_AttnRefIdeal (hAttnIdeal := hAttnIdeal) (hAttnRefIdeal := hAttnRefIdeal)
-- ==== GateUp.lean ====
abbrev S2 : Shape := ⟨1, ![2]⟩
abbrev S4x2880x384 : Shape := ⟨3, ![4, 2880, 384]⟩
abbrev S4x1x384 : Shape := ⟨3, ![4, 1, 384]⟩
abbrev S7680 : Shape := ⟨1, ![7680]⟩
abbrev S720x7680 : Shape := ⟨2, ![720, 7680]⟩
abbrev S1x7680 : Shape := ⟨2, ![1, 7680]⟩
abbrev S1536x7680 : Shape := ⟨2, ![1536, 7680]⟩
abbrev S1536x128 : Shape := ⟨2, ![1536, 128]⟩
abbrev S1x512 : Shape := ⟨2, ![1, 512]⟩
abbrev S720x512 : Shape := ⟨2, ![720, 512]⟩
abbrev S1536x512 : Shape := ⟨2, ![1536, 512]⟩
abbrev S1536x2880 : Shape := ⟨2, ![1536, 2880]⟩
abbrev S2880x512 : Shape := ⟨2, ![2880, 512]⟩
abbrev S1x1x384 : Shape := ⟨3, ![1, 1, 384]⟩
abbrev S1x384 : Shape := ⟨2, ![1, 384]⟩
abbrev S1x128 : Shape := ⟨2, ![1, 128]⟩
abbrev S128x128 : Shape := ⟨2, ![128, 128]⟩
abbrev S384x128 : Shape := ⟨2, ![384, 128]⟩
abbrev S1x2880x384 : Shape := ⟨3, ![1, 2880, 384]⟩
abbrev S2880x384 : Shape := ⟨2, ![2880, 384]⟩
abbrev S384x2880 : Shape := ⟨2, ![384, 2880]⟩
abbrev S180x512 : Shape := ⟨2, ![180, 512]⟩
abbrev S384x512 : Shape := ⟨2, ![384, 512]⟩
abbrev S1 : Shape := ⟨1, ![1]⟩
abbrev S384 : Shape := ⟨1, ![384]⟩
abbrev S384x1 : Shape := ⟨2, ![384, 1]⟩
abbrev S1x1x128 : Shape := ⟨3, ![1, 1, 128]⟩

abbrev nBuf : Space → Nat
  | .hbm => 12
  | .vmem => 20
  | .smem => 1
  | _ => 0

abbrev bufTy : (tb : Table) → Fin (tcTables nBuf tb) → BufTy
  | .hbm, ⟨0, _⟩ => ⟨S2, .f32⟩
  | .hbm, ⟨1, _⟩ => ⟨S4x2880x384, .i8⟩
  | .hbm, ⟨2, _⟩ => ⟨S4x1x384, .f32⟩
  | .hbm, ⟨3, _⟩ => ⟨S7680, .f32⟩
  | .hbm, ⟨4, _⟩ => ⟨S720x7680, .i8⟩
  | .hbm, ⟨5, _⟩ => ⟨S720x7680, .i8⟩
  | .hbm, ⟨6, _⟩ => ⟨S1x7680, .f32⟩
  | .hbm, ⟨7, _⟩ => ⟨S1536x7680, .f32⟩
  | .hbm, ⟨8, _⟩ => ⟨S1536x128, .f32⟩
  | .hbm, ⟨9, _⟩ => ⟨S1536x128, .f32⟩
  | .hbm, ⟨10, _⟩ => ⟨S4x1x384, .f32⟩
  | .hbm, ⟨11, _⟩ => ⟨S4x1x384, .f32⟩
  | .local _ .vmem, ⟨0, _⟩ => ⟨S4x2880x384, .i8⟩
  | .local _ .vmem, ⟨1, _⟩ => ⟨S4x1x384, .f32⟩
  | .local _ .vmem, ⟨2, _⟩ => ⟨S1x512, .f32⟩
  | .local _ .vmem, ⟨3, _⟩ => ⟨S1x512, .f32⟩
  | .local _ .vmem, ⟨4, _⟩ => ⟨S720x512, .i8⟩
  | .local _ .vmem, ⟨5, _⟩ => ⟨S720x512, .i8⟩
  | .local _ .vmem, ⟨6, _⟩ => ⟨S720x512, .i8⟩
  | .local _ .vmem, ⟨7, _⟩ => ⟨S720x512, .i8⟩
  | .local _ .vmem, ⟨8, _⟩ => ⟨S1536x512, .f32⟩
  | .local _ .vmem, ⟨9, _⟩ => ⟨S1536x512, .f32⟩
  | .local _ .vmem, ⟨10, _⟩ => ⟨S1536x128, .f32⟩
  | .local _ .vmem, ⟨11, _⟩ => ⟨S1536x128, .f32⟩
  | .local _ .vmem, ⟨12, _⟩ => ⟨S4x1x384, .f32⟩
  | .local _ .vmem, ⟨13, _⟩ => ⟨S4x1x384, .f32⟩
  | .local _ .vmem, ⟨14, _⟩ => ⟨S1536x2880, .bf16⟩
  | .local _ .vmem, ⟨15, _⟩ => ⟨S1536x128, .f32⟩
  | .local _ .vmem, ⟨16, _⟩ => ⟨S1536x128, .f32⟩
  | .local _ .vmem, ⟨17, _⟩ => ⟨S1536x128, .f32⟩
  | .local _ .vmem, ⟨18, _⟩ => ⟨S2880x512, .bf16⟩
  | .local _ .vmem, ⟨19, _⟩ => ⟨S2880x512, .bf16⟩
  | .local _ .smem, ⟨0, _⟩ => ⟨S2, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![15], ![false]⟩

def k0_cond2 (i : grid0.Coords) : BitVec 1 :=
  let arg0 : BitVec 32 := BitVec.ofNat 32 (i 0).val
  let c14_i32 : BitVec 32 := 14#32
  let v297 : BitVec 1 := Scalar.cmpi .eq arg0 c14_i32
  let v298 : BitVec 32 := Scalar.extui v297
  let c0_i32_136 : BitVec 32 := 0#32
  let v299 : BitVec 1 := Scalar.cmpi .ne v298 c0_i32_136
  v299

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x2880x384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S720x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S720x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateUpRefIdeal.lean ====
abbrev S2 : Shape := ⟨1, ![2]⟩
abbrev S4x2880x384 : Shape := ⟨3, ![4, 2880, 384]⟩
abbrev S4x1x384 : Shape := ⟨3, ![4, 1, 384]⟩
abbrev S7680 : Shape := ⟨1, ![7680]⟩
abbrev S720x7680 : Shape := ⟨2, ![720, 7680]⟩
abbrev S1x7680 : Shape := ⟨2, ![1, 7680]⟩
abbrev S1536x7680 : Shape := ⟨2, ![1536, 7680]⟩
abbrev S1536x128 : Shape := ⟨2, ![1536, 128]⟩
abbrev S4x384x2880 : Shape := ⟨3, ![4, 384, 2880]⟩
abbrev S1536x2880 : Shape := ⟨2, ![1536, 2880]⟩
abbrev S4x384x1 : Shape := ⟨3, ![4, 384, 1]⟩
abbrev S1536x1 : Shape := ⟨2, ![1536, 1]⟩
abbrev S1 : Shape := ⟨1, ![1]⟩
abbrev S1536x720 : Shape := ⟨2, ![1536, 720]⟩
abbrev S1536 : Shape := ⟨1, ![1536]⟩

abbrev nBuf : Space → Nat
  | .hbm => 12
  | .vmem => 10
  | .smem => 1
  | _ => 0

abbrev bufTy : (tb : Table) → Fin (tcTables nBuf tb) → BufTy
  | .hbm, ⟨0, _⟩ => ⟨S2, .f32⟩
  | .hbm, ⟨1, _⟩ => ⟨S4x2880x384, .i8⟩
  | .hbm, ⟨2, _⟩ => ⟨S4x1x384, .f32⟩
  | .hbm, ⟨3, _⟩ => ⟨S7680, .f32⟩
  | .hbm, ⟨4, _⟩ => ⟨S720x7680, .i8⟩
  | .hbm, ⟨5, _⟩ => ⟨S720x7680, .i8⟩
  | .hbm, ⟨6, _⟩ => ⟨S1x7680, .f32⟩
  | .hbm, ⟨7, _⟩ => ⟨S1536x7680, .f32⟩
  | .hbm, ⟨8, _⟩ => ⟨S1536x128, .f32⟩
  | .hbm, ⟨9, _⟩ => ⟨S1536x128, .f32⟩
  | .hbm, ⟨10, _⟩ => ⟨S4x1x384, .f32⟩
  | .hbm, ⟨11, _⟩ => ⟨S4x1x384, .f32⟩
  | .local _ .vmem, ⟨0, _⟩ => ⟨S4x2880x384, .i8⟩
  | .local _ .vmem, ⟨1, _⟩ => ⟨S4x1x384, .f32⟩
  | .local _ .vmem, ⟨2, _⟩ => ⟨S1x7680, .f32⟩
  | .local _ .vmem, ⟨3, _⟩ => ⟨S720x7680, .i8⟩
  | .local _ .vmem, ⟨4, _⟩ => ⟨S720x7680, .i8⟩
  | .local _ .vmem, ⟨5, _⟩ => ⟨S1536x7680, .f32⟩
  | .local _ .vmem, ⟨6, _⟩ => ⟨S1536x128, .f32⟩
  | .local _ .vmem, ⟨7, _⟩ => ⟨S1536x128, .f32⟩
  | .local _ .vmem, ⟨8, _⟩ => ⟨S4x1x384, .f32⟩
  | .local _ .vmem, ⟨9, _⟩ => ⟨S4x1x384, .f32⟩
  | .local _ .smem, ⟨0, _⟩ => ⟨S2, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2880x384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7680 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S720x7680 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S720x7680 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x7680 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== OProj.lean ====
abbrev S1 : Shape := ⟨1, ![1]⟩
abbrev S4x2880x384 : Shape := ⟨3, ![4, 2880, 384]⟩
abbrev S4x1x384 : Shape := ⟨3, ![4, 1, 384]⟩
abbrev S720x2880 : Shape := ⟨2, ![720, 2880]⟩
abbrev S4x960x384 : Shape := ⟨3, ![4, 960, 384]⟩
abbrev S2880x1536 : Shape := ⟨2, ![2880, 1536]⟩
abbrev S720x960 : Shape := ⟨2, ![720, 960]⟩
abbrev S2880x960 : Shape := ⟨2, ![2880, 960]⟩
abbrev S960x2880 : Shape := ⟨2, ![960, 2880]⟩
abbrev S1x2880x384 : Shape := ⟨3, ![1, 2880, 384]⟩
abbrev S2880x384 : Shape := ⟨2, ![2880, 384]⟩
abbrev S180x960 : Shape := ⟨2, ![180, 960]⟩
abbrev S128x960 : Shape := ⟨2, ![128, 960]⟩
abbrev S960x128 : Shape := ⟨2, ![960, 128]⟩
abbrev S64x960 : Shape := ⟨2, ![64, 960]⟩
abbrev S960x64 : Shape := ⟨2, ![960, 64]⟩
abbrev S960x1536 : Shape := ⟨2, ![960, 1536]⟩
abbrev S1x960x384 : Shape := ⟨3, ![1, 960, 384]⟩
abbrev S960x384 : Shape := ⟨2, ![960, 384]⟩
abbrev S1x1x384 : Shape := ⟨3, ![1, 1, 384]⟩
abbrev S1x384 : Shape := ⟨2, ![1, 384]⟩

abbrev nBuf : Space → Nat
  | .hbm => 6
  | .vmem => 11
  | .smem => 1
  | _ => 0

abbrev bufTy : (tb : Table) → Fin (tcTables nBuf tb) → BufTy
  | .hbm, ⟨0, _⟩ => ⟨S1, .f32⟩
  | .hbm, ⟨1, _⟩ => ⟨S4x2880x384, .i8⟩
  | .hbm, ⟨2, _⟩ => ⟨S4x1x384, .f32⟩
  | .hbm, ⟨3, _⟩ => ⟨S720x2880, .i8⟩
  | .hbm, ⟨4, _⟩ => ⟨S4x2880x384, .bf16⟩
  | .hbm, ⟨5, _⟩ => ⟨S4x2880x384, .f32⟩
  | .local _ .vmem, ⟨0, _⟩ => ⟨S4x2880x384, .i8⟩
  | .local _ .vmem, ⟨1, _⟩ => ⟨S4x1x384, .f32⟩
  | .local _ .vmem, ⟨2, _⟩ => ⟨S720x2880, .i8⟩
  | .local _ .vmem, ⟨3, _⟩ => ⟨S4x960x384, .bf16⟩
  | .local _ .vmem, ⟨4, _⟩ => ⟨S4x960x384, .bf16⟩
  | .local _ .vmem, ⟨5, _⟩ => ⟨S4x960x384, .f32⟩
  | .local _ .vmem, ⟨6, _⟩ => ⟨S4x960x384, .f32⟩
  | .local _ .vmem, ⟨7, _⟩ => ⟨S2880x1536, .bf16⟩
  | .local _ .vmem, ⟨8, _⟩ => ⟨S720x960, .i8⟩
  | .local _ .vmem, ⟨9, _⟩ => ⟨S2880x960, .bf16⟩
  | .local _ .vmem, ⟨10, _⟩ => ⟨S960x2880, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![3], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x2880x384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S720x2880 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x960x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x960x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OProjRefIdeal.lean ====
abbrev S1 : Shape := ⟨1, ![1]⟩
abbrev S4x2880x384 : Shape := ⟨3, ![4, 2880, 384]⟩
abbrev S4x1x384 : Shape := ⟨3, ![4, 1, 384]⟩
abbrev S720x2880 : Shape := ⟨2, ![720, 2880]⟩
abbrev S4x384x2880 : Shape := ⟨3, ![4, 384, 2880]⟩
abbrev S1536x2880 : Shape := ⟨2, ![1536, 2880]⟩
abbrev S4x384x1 : Shape := ⟨3, ![4, 384, 1]⟩
abbrev S1536x1 : Shape := ⟨2, ![1536, 1]⟩
abbrev S1536x720 : Shape := ⟨2, ![1536, 720]⟩

abbrev nBuf : Space → Nat
  | .hbm => 6
  | .vmem => 5
  | .smem => 1
  | _ => 0

abbrev bufTy : (tb : Table) → Fin (tcTables nBuf tb) → BufTy
  | .hbm, ⟨0, _⟩ => ⟨S1, .f32⟩
  | .hbm, ⟨1, _⟩ => ⟨S4x2880x384, .i8⟩
  | .hbm, ⟨2, _⟩ => ⟨S4x1x384, .f32⟩
  | .hbm, ⟨3, _⟩ => ⟨S720x2880, .i8⟩
  | .hbm, ⟨4, _⟩ => ⟨S4x2880x384, .bf16⟩
  | .hbm, ⟨5, _⟩ => ⟨S4x2880x384, .f32⟩
  | .local _ .vmem, ⟨0, _⟩ => ⟨S4x2880x384, .i8⟩
  | .local _ .vmem, ⟨1, _⟩ => ⟨S4x1x384, .f32⟩
  | .local _ .vmem, ⟨2, _⟩ => ⟨S720x2880, .i8⟩
  | .local _ .vmem, ⟨3, _⟩ => ⟨S4x2880x384, .bf16⟩
  | .local _ .vmem, ⟨4, _⟩ => ⟨S4x2880x384, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2880x384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S720x2880 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2880x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2880x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== QuantX.lean ====
abbrev S4x2880x384 : Shape := ⟨3, ![4, 2880, 384]⟩
abbrev S2880 : Shape := ⟨1, ![2880]⟩
abbrev S1x2880 : Shape := ⟨2, ![1, 2880]⟩
abbrev S4x1x384 : Shape := ⟨3, ![4, 1, 384]⟩
abbrev S1x2880x384 : Shape := ⟨3, ![1, 2880, 384]⟩
abbrev S1x1x384 : Shape := ⟨3, ![1, 1, 384]⟩
abbrev S2880x128 : Shape := ⟨2, ![2880, 128]⟩
abbrev S1x128 : Shape := ⟨2, ![1, 128]⟩
abbrev S128x128 : Shape := ⟨2, ![128, 128]⟩
abbrev S1x64 : Shape := ⟨2, ![1, 64]⟩
abbrev S128x64 : Shape := ⟨2, ![128, 64]⟩
abbrev S64x128 : Shape := ⟨2, ![64, 128]⟩
abbrev S8x384 : Shape := ⟨2, ![8, 384]⟩
abbrev S1x96x384 : Shape := ⟨3, ![1, 96, 384]⟩
abbrev S96x384 : Shape := ⟨2, ![96, 384]⟩
abbrev S12x8x384 : Shape := ⟨3, ![12, 8, 384]⟩
abbrev S1x8x384 : Shape := ⟨3, ![1, 8, 384]⟩
abbrev S384 : Shape := ⟨1, ![384]⟩
abbrev S1x384 : Shape := ⟨2, ![1, 384]⟩
abbrev S96x128 : Shape := ⟨2, ![96, 128]⟩

abbrev nBuf : Space → Nat
  | .hbm => 5
  | .vmem => 8
  | .smem => 0
  | _ => 0

abbrev bufTy : (tb : Table) → Fin (tcTables nBuf tb) → BufTy
  | .hbm, ⟨0, _⟩ => ⟨S4x2880x384, .bf16⟩
  | .hbm, ⟨1, _⟩ => ⟨S2880, .f32⟩
  | .hbm, ⟨2, _⟩ => ⟨S1x2880, .f32⟩
  | .hbm, ⟨3, _⟩ => ⟨S4x2880x384, .i8⟩
  | .hbm, ⟨4, _⟩ => ⟨S4x1x384, .f32⟩
  | .local _ .vmem, ⟨0, _⟩ => ⟨S1x2880x384, .bf16⟩
  | .local _ .vmem, ⟨1, _⟩ => ⟨S1x2880x384, .bf16⟩
  | .local _ .vmem, ⟨2, _⟩ => ⟨S1x2880, .f32⟩
  | .local _ .vmem, ⟨3, _⟩ => ⟨S1x2880x384, .i8⟩
  | .local _ .vmem, ⟨4, _⟩ => ⟨S1x2880x384, .i8⟩
  | .local _ .vmem, ⟨5, _⟩ => ⟨S1x1x384, .f32⟩
  | .local _ .vmem, ⟨6, _⟩ => ⟨S1x1x384, .f32⟩
  | .local _ .vmem, ⟨7, _⟩ => ⟨S2880x128, .f32⟩
  | _, _ => ⟨S4x2880x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c30_i32 : BitVec 32 := 30#32
  let v4 : BitVec 32 := Scalar.addi c0_i32_1 c30_i32
  let c1_i32 : BitVec 32 := 1#32
  ⟨c0_i32_1, v4, c1_i32⟩
def k0_off1 (k0_t1 : Fin k0_t1_loop.trips) : Fin 3 → Nat :=
  let c0_22 : Index := 0#32
  let c0_i32_1 : BitVec 32 := 0#32
  let c1_i32 : BitVec 32 := 1#32
  let arg6 : BitVec 32 := Scf.iv c0_i32_1 c1_i32 k0_t1
  let c96_i32 : BitVec 32 := 96#32
  let v30 : BitVec 32 := Scalar.muli arg6 c96_i32
  let v31 : Index := Scalar.indexCast v30
  let c0_23 : Index := 0#32
  ![0, v31.toNat, 0]
@[reducible] def k0_t2_loop : Scf.Loop 32 :=
  let c0_i32_7 : BitVec 32 := 0#32
  let c30_i32_8 : BitVec 32 := 30#32
  let v14 : BitVec 32 := Scalar.addi c0_i32_7 c30_i32_8
  let c1_i32_9 : BitVec 32 := 1#32
  ⟨c0_i32_7, v14, c1_i32_9⟩
def k0_off2 (k0_t2 : Fin k0_t2_loop.trips) : Fin 3 → Nat :=
  let c0_22 : Index := 0#32
  let c0_i32_7 : BitVec 32 := 0#32
  let c1_i32_9 : BitVec 32 := 1#32
  let arg6 : BitVec 32 := Scf.iv c0_i32_7 c1_i32_9 k0_t2
  let c96_i32 : BitVec 32 := 96#32
  let v30 : BitVec 32 := Scalar.muli arg6 c96_i32
  let v31 : Index := Scalar.indexCast v30
  let c0_23 : Index := 0#32
  ![0, v31.toNat, 0]
def k0_off3 (k0_t2 : Fin k0_t2_loop.trips) : Fin 2 → Nat :=
  let c0_i32_7 : BitVec 32 := 0#32
  let c1_i32_9 : BitVec 32 := 1#32
  let arg6 : BitVec 32 := Scf.iv c0_i32_7 c1_i32_9 k0_t2
  let c96_i32_24 : BitVec 32 := 96#32
  let v37 : BitVec 32 := Scalar.muli arg6 c96_i32_24
  let v38 : Index := Scalar.indexCast v37
  let c0_25 : Index := 0#32
  ![v38.toNat, 0]
@[reducible] def k0_t3_loop : Scf.Loop 32 :=
  let c0_i32_16 : BitVec 32 := 0#32
  let c30_i32_17 : BitVec 32 := 30#32
  let v26 : BitVec 32 := Scalar.addi c0_i32_16 c30_i32_17
  let c1_i32_18 : BitVec 32 := 1#32
  ⟨c0_i32_16, v26, c1_i32_18⟩
def k0_off4 (k0_t3 : Fin k0_t3_loop.trips) : Fin 3 → Nat :=
  let c0_22 : Index := 0#32
  let c0_i32_16 : BitVec 32 := 0#32
  let c1_i32_18 : BitVec 32 := 1#32
  let arg6 : BitVec 32 := Scf.iv c0_i32_16 c1_i32_18 k0_t3
  let c96_i32 : BitVec 32 := 96#32
  let v30 : BitVec 32 := Scalar.muli arg6 c96_i32
  let v31 : Index := Scalar.indexCast v30
  let c0_23 : Index := 0#32
  ![0, v31.toNat, 0]
def k0_off5 (k0_t3 : Fin k0_t3_loop.trips) : Fin 2 → Nat :=
  let c0_i32_16 : BitVec 32 := 0#32
  let c1_i32_18 : BitVec 32 := 1#32
  let arg6 : BitVec 32 := Scf.iv c0_i32_16 c1_i32_18 k0_t3
  let c96_i32_24 : BitVec 32 := 96#32
  let v37 : BitVec 32 := Scalar.muli arg6 c96_i32_24
  let v38 : Index := Scalar.indexCast v37
  let c0_25 : Index := 0#32
  ![v38.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2880x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2880 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2880x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantXIdeal.lean ====
abbrev S4x2880x384 : Shape := ⟨3, ![4, 2880, 384]⟩
abbrev S2880 : Shape := ⟨1, ![2880]⟩
abbrev S1x2880 : Shape := ⟨2, ![1, 2880]⟩
abbrev S4x1x384 : Shape := ⟨3, ![4, 1, 384]⟩
abbrev S1x2880x384 : Shape := ⟨3, ![1, 2880, 384]⟩
abbrev S1x1x384 : Shape := ⟨3, ![1, 1, 384]⟩
abbrev S2880x128 : Shape := ⟨2, ![2880, 128]⟩
abbrev S1x128 : Shape := ⟨2, ![1, 128]⟩
abbrev S128x128 : Shape := ⟨2, ![128, 128]⟩
abbrev S1x64 : Shape := ⟨2, ![1, 64]⟩
abbrev S128x64 : Shape := ⟨2, ![128, 64]⟩
abbrev S64x128 : Shape := ⟨2, ![64, 128]⟩
abbrev S8x384 : Shape := ⟨2, ![8, 384]⟩
abbrev S1x96x384 : Shape := ⟨3, ![1, 96, 384]⟩
abbrev S96x384 : Shape := ⟨2, ![96, 384]⟩
abbrev S12x8x384 : Shape := ⟨3, ![12, 8, 384]⟩
abbrev S1x8x384 : Shape := ⟨3, ![1, 8, 384]⟩
abbrev S384 : Shape := ⟨1, ![384]⟩
abbrev S1x384 : Shape := ⟨2, ![1, 384]⟩
abbrev S96x128 : Shape := ⟨2, ![96, 128]⟩

abbrev nBuf : Space → Nat
  | .hbm => 5
  | .vmem => 8
  | .smem => 0
  | _ => 0

abbrev bufTy : (tb : Table) → Fin (tcTables nBuf tb) → BufTy
  | .hbm, ⟨0, _⟩ => ⟨S4x2880x384, .bf16⟩
  | .hbm, ⟨1, _⟩ => ⟨S2880, .f32⟩
  | .hbm, ⟨2, _⟩ => ⟨S1x2880, .f32⟩
  | .hbm, ⟨3, _⟩ => ⟨S4x2880x384, .i8⟩
  | .hbm, ⟨4, _⟩ => ⟨S4x1x384, .f32⟩
  | .local _ .vmem, ⟨0, _⟩ => ⟨S1x2880x384, .bf16⟩
  | .local _ .vmem, ⟨1, _⟩ => ⟨S1x2880x384, .bf16⟩
  | .local _ .vmem, ⟨2, _⟩ => ⟨S1x2880, .f32⟩
  | .local _ .vmem, ⟨3, _⟩ => ⟨S1x2880x384, .i8⟩
  | .local _ .vmem, ⟨4, _⟩ => ⟨S1x2880x384, .i8⟩
  | .local _ .vmem, ⟨5, _⟩ => ⟨S1x1x384, .f32⟩
  | .local _ .vmem, ⟨6, _⟩ => ⟨S1x1x384, .f32⟩
  | .local _ .vmem, ⟨7, _⟩ => ⟨S2880x128, .f32⟩
  | _, _ => ⟨S4x2880x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c30_i32 : BitVec 32 := 30#32
  let v4 : BitVec 32 := Scalar.addi c0_i32_1 c30_i32
  let c1_i32 : BitVec 32 := 1#32
  ⟨c0_i32_1, v4, c1_i32⟩
def k0_off1 (k0_t1 : Fin k0_t1_loop.trips) : Fin 3 → Nat :=
  let c0_22 : Index := 0#32
  let c0_i32_1 : BitVec 32 := 0#32
  let c1_i32 : BitVec 32 := 1#32
  let arg6 : BitVec 32 := Scf.iv c0_i32_1 c1_i32 k0_t1
  let c96_i32 : BitVec 32 := 96#32
  let v30 : BitVec 32 := Scalar.muli arg6 c96_i32
  let v31 : Index := Scalar.indexCast v30
  let c0_23 : Index := 0#32
  ![0, v31.toNat, 0]
@[reducible] def k0_t2_loop : Scf.Loop 32 :=
  let c0_i32_7 : BitVec 32 := 0#32
  let c30_i32_8 : BitVec 32 := 30#32
  let v14 : BitVec 32 := Scalar.addi c0_i32_7 c30_i32_8
  let c1_i32_9 : BitVec 32 := 1#32
  ⟨c0_i32_7, v14, c1_i32_9⟩
def k0_off2 (k0_t2 : Fin k0_t2_loop.trips) : Fin 3 → Nat :=
  let c0_22 : Index := 0#32
  let c0_i32_7 : BitVec 32 := 0#32
  let c1_i32_9 : BitVec 32 := 1#32
  let arg6 : BitVec 32 := Scf.iv c0_i32_7 c1_i32_9 k0_t2
  let c96_i32 : BitVec 32 := 96#32
  let v30 : BitVec 32 := Scalar.muli arg6 c96_i32
  let v31 : Index := Scalar.indexCast v30
  let c0_23 : Index := 0#32
  ![0, v31.toNat, 0]
def k0_off3 (k0_t2 : Fin k0_t2_loop.trips) : Fin 2 → Nat :=
  let c0_i32_7 : BitVec 32 := 0#32
  let c1_i32_9 : BitVec 32 := 1#32
  let arg6 : BitVec 32 := Scf.iv c0_i32_7 c1_i32_9 k0_t2
  let c96_i32_24 : BitVec 32 := 96#32
  let v37 : BitVec 32 := Scalar.muli arg6 c96_i32_24
  let v38 : Index := Scalar.indexCast v37
  let c0_25 : Index := 0#32
  ![v38.toNat, 0]
@[reducible] def k0_t3_loop : Scf.Loop 32 :=
  let c0_i32_16 : BitVec 32 := 0#32
  let c30_i32_17 : BitVec 32 := 30#32
  let v26 : BitVec 32 := Scalar.addi c0_i32_16 c30_i32_17
  let c1_i32_18 : BitVec 32 := 1#32
  ⟨c0_i32_16, v26, c1_i32_18⟩
def k0_off4 (k0_t3 : Fin k0_t3_loop.trips) : Fin 3 → Nat :=
  let c0_22 : Index := 0#32
  let c0_i32_16 : BitVec 32 := 0#32
  let c1_i32_18 : BitVec 32 := 1#32
  let arg6 : BitVec 32 := Scf.iv c0_i32_16 c1_i32_18 k0_t3
  let c96_i32 : BitVec 32 := 96#32
  let v30 : BitVec 32 := Scalar.muli arg6 c96_i32
  let v31 : Index := Scalar.indexCast v30
  let c0_23 : Index := 0#32
  ![0, v31.toNat, 0]
def k0_off5 (k0_t3 : Fin k0_t3_loop.trips) : Fin 2 → Nat :=
  let c0_i32_16 : BitVec 32 := 0#32
  let c1_i32_18 : BitVec 32 := 1#32
  let arg6 : BitVec 32 := Scf.iv c0_i32_16 c1_i32_18 k0_t3
  let c96_i32_24 : BitVec 32 := 96#32
  let v37 : BitVec 32 := Scalar.muli arg6 c96_i32_24
  let v38 : Index := Scalar.indexCast v37
  let c0_25 : Index := 0#32
  ![v38.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2880x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2880 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2880x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantXRefIdeal.lean ====
abbrev S4x2880x384 : Shape := ⟨3, ![4, 2880, 384]⟩
abbrev S2880 : Shape := ⟨1, ![2880]⟩
abbrev S1x2880 : Shape := ⟨2, ![1, 2880]⟩
abbrev S4x1x384 : Shape := ⟨3, ![4, 1, 384]⟩
abbrev S4x384x2880 : Shape := ⟨3, ![4, 384, 2880]⟩
abbrev S1536x2880 : Shape := ⟨2, ![1536, 2880]⟩
abbrev S1536 : Shape := ⟨1, ![1536]⟩
abbrev S1536x1 : Shape := ⟨2, ![1536, 1]⟩
abbrev S4x384x1 : Shape := ⟨3, ![4, 384, 1]⟩

abbrev nBuf : Space → Nat
  | .hbm => 5
  | .vmem => 4
  | .smem => 0
  | _ => 0

abbrev bufTy : (tb : Table) → Fin (tcTables nBuf tb) → BufTy
  | .hbm, ⟨0, _⟩ => ⟨S4x2880x384, .bf16⟩
  | .hbm, ⟨1, _⟩ => ⟨S2880, .f32⟩
  | .hbm, ⟨2, _⟩ => ⟨S1x2880, .f32⟩
  | .hbm, ⟨3, _⟩ => ⟨S4x2880x384, .i8⟩
  | .hbm, ⟨4, _⟩ => ⟨S4x1x384, .f32⟩
  | .local _ .vmem, ⟨0, _⟩ => ⟨S4x2880x384, .bf16⟩
  | .local _ .vmem, ⟨1, _⟩ => ⟨S1x2880, .f32⟩
  | .local _ .vmem, ⟨2, _⟩ => ⟨S4x2880x384, .i8⟩
  | .local _ .vmem, ⟨3, _⟩ => ⟨S4x1x384, .f32⟩
  | _, _ => ⟨S4x2880x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x2880x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2880 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2880x384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== QuantH.lean ====
abbrev S4x2880x384 : Shape := ⟨3, ![4, 2880, 384]⟩
abbrev S2880 : Shape := ⟨1, ![2880]⟩
abbrev S1x2880 : Shape := ⟨2, ![1, 2880]⟩
abbrev S4x1x384 : Shape := ⟨3, ![4, 1, 384]⟩
abbrev S1x2880x384 : Shape := ⟨3, ![1, 2880, 384]⟩
abbrev S1x1x384 : Shape := ⟨3, ![1, 1, 384]⟩
abbrev S2880x128 : Shape := ⟨2, ![2880, 128]⟩
abbrev S1x128 : Shape := ⟨2, ![1, 128]⟩
abbrev S128x128 : Shape := ⟨2, ![128, 128]⟩
abbrev S1x64 : Shape := ⟨2, ![1, 64]⟩
abbrev S128x64 : Shape := ⟨2, ![128, 64]⟩
abbrev S64x128 : Shape := ⟨2, ![64, 128]⟩
abbrev S8x384 : Shape := ⟨2, ![8, 384]⟩
abbrev S1x96x384 : Shape := ⟨3, ![1, 96, 384]⟩
abbrev S96x384 : Shape := ⟨2, ![96, 384]⟩
abbrev S12x8x384 : Shape := ⟨3, ![12, 8, 384]⟩
abbrev S1x8x384 : Shape := ⟨3, ![1, 8, 384]⟩
abbrev S384 : Shape := ⟨1, ![384]⟩
abbrev S1x384 : Shape := ⟨2, ![1, 384]⟩
abbrev S96x128 : Shape := ⟨2, ![96, 128]⟩

abbrev nBuf : Space → Nat
  | .hbm => 5
  | .vmem => 8
  | .smem => 0
  | _ => 0

abbrev bufTy : (tb : Table) → Fin (tcTables nBuf tb) → BufTy
  | .hbm, ⟨0, _⟩ => ⟨S4x2880x384, .f32⟩
  | .hbm, ⟨1, _⟩ => ⟨S2880, .f32⟩
  | .hbm, ⟨2, _⟩ => ⟨S1x2880, .f32⟩
  | .hbm, ⟨3, _⟩ => ⟨S4x2880x384, .i8⟩
  | .hbm, ⟨4, _⟩ => ⟨S4x1x384, .f32⟩
  | .local _ .vmem, ⟨0, _⟩ => ⟨S1x2880x384, .f32⟩
  | .local _ .vmem, ⟨1, _⟩ => ⟨S1x2880x384, .f32⟩
  | .local _ .vmem, ⟨2, _⟩ => ⟨S1x2880, .f32⟩
  | .local _ .vmem, ⟨3, _⟩ => ⟨S1x2880x384, .i8⟩
  | .local _ .vmem, ⟨4, _⟩ => ⟨S1x2880x384, .i8⟩
  | .local _ .vmem, ⟨5, _⟩ => ⟨S1x1x384, .f32⟩
  | .local _ .vmem, ⟨6, _⟩ => ⟨S1x1x384, .f32⟩
  | .local _ .vmem, ⟨7, _⟩ => ⟨S2880x128, .f32⟩
  | _, _ => ⟨S4x2880x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c30_i32 : BitVec 32 := 30#32
  let v4 : BitVec 32 := Scalar.addi c0_i32_1 c30_i32
  let c1_i32 : BitVec 32 := 1#32
  ⟨c0_i32_1, v4, c1_i32⟩
def k0_off1 (k0_t1 : Fin k0_t1_loop.trips) : Fin 3 → Nat :=
  let c0_22 : Index := 0#32
  let c0_i32_1 : BitVec 32 := 0#32
  let c1_i32 : BitVec 32 := 1#32
  let arg6 : BitVec 32 := Scf.iv c0_i32_1 c1_i32 k0_t1
  let c96_i32 : BitVec 32 := 96#32
  let v30 : BitVec 32 := Scalar.muli arg6 c96_i32
  let v31 : Index := Scalar.indexCast v30
  let c0_23 : Index := 0#32
  ![0, v31.toNat, 0]
@[reducible] def k0_t2_loop : Scf.Loop 32 :=
  let c0_i32_7 : BitVec 32 := 0#32
  let c30_i32_8 : BitVec 32 := 30#32
  let v14 : BitVec 32 := Scalar.addi c0_i32_7 c30_i32_8
  let c1_i32_9 : BitVec 32 := 1#32
  ⟨c0_i32_7, v14, c1_i32_9⟩
def k0_off2 (k0_t2 : Fin k0_t2_loop.trips) : Fin 3 → Nat :=
  let c0_22 : Index := 0#32
  let c0_i32_7 : BitVec 32 := 0#32
  let c1_i32_9 : BitVec 32 := 1#32
  let arg6 : BitVec 32 := Scf.iv c0_i32_7 c1_i32_9 k0_t2
  let c96_i32 : BitVec 32 := 96#32
  let v30 : BitVec 32 := Scalar.muli arg6 c96_i32
  let v31 : Index := Scalar.indexCast v30
  let c0_23 : Index := 0#32
  ![0, v31.toNat, 0]
def k0_off3 (k0_t2 : Fin k0_t2_loop.trips) : Fin 2 → Nat :=
  let c0_i32_7 : BitVec 32 := 0#32
  let c1_i32_9 : BitVec 32 := 1#32
  let arg6 : BitVec 32 := Scf.iv c0_i32_7 c1_i32_9 k0_t2
  let c96_i32_24 : BitVec 32 := 96#32
  let v36 : BitVec 32 := Scalar.muli arg6 c96_i32_24
  let v37 : Index := Scalar.indexCast v36
  let c0_25 : Index := 0#32
  ![v37.toNat, 0]
@[reducible] def k0_t3_loop : Scf.Loop 32 :=
  let c0_i32_16 : BitVec 32 := 0#32
  let c30_i32_17 : BitVec 32 := 30#32
  let v26 : BitVec 32 := Scalar.addi c0_i32_16 c30_i32_17
  let c1_i32_18 : BitVec 32 := 1#32
  ⟨c0_i32_16, v26, c1_i32_18⟩
def k0_off4 (k0_t3 : Fin k0_t3_loop.trips) : Fin 3 → Nat :=
  let c0_22 : Index := 0#32
  let c0_i32_16 : BitVec 32 := 0#32
  let c1_i32_18 : BitVec 32 := 1#32
  let arg6 : BitVec 32 := Scf.iv c0_i32_16 c1_i32_18 k0_t3
  let c96_i32 : BitVec 32 := 96#32
  let v30 : BitVec 32 := Scalar.muli arg6 c96_i32
  let v31 : Index := Scalar.indexCast v30
  let c0_23 : Index := 0#32
  ![0, v31.toNat, 0]
def k0_off5 (k0_t3 : Fin k0_t3_loop.trips) : Fin 2 → Nat :=
  let c0_i32_16 : BitVec 32 := 0#32
  let c1_i32_18 : BitVec 32 := 1#32
  let arg6 : BitVec 32 := Scf.iv c0_i32_16 c1_i32_18 k0_t3
  let c96_i32_24 : BitVec 32 := 96#32
  let v36 : BitVec 32 := Scalar.muli arg6 c96_i32_24
  let v37 : Index := Scalar.indexCast v36
  let c0_25 : Index := 0#32
  ![v37.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2880x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2880 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2880x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantHRefIdeal.lean ====
abbrev S4x2880x384 : Shape := ⟨3, ![4, 2880, 384]⟩
abbrev S2880 : Shape := ⟨1, ![2880]⟩
abbrev S1x2880 : Shape := ⟨2, ![1, 2880]⟩
abbrev S4x1x384 : Shape := ⟨3, ![4, 1, 384]⟩
abbrev S4x384x2880 : Shape := ⟨3, ![4, 384, 2880]⟩
abbrev S1536x2880 : Shape := ⟨2, ![1536, 2880]⟩
abbrev S1536 : Shape := ⟨1, ![1536]⟩
abbrev S1536x1 : Shape := ⟨2, ![1536, 1]⟩
abbrev S4x384x1 : Shape := ⟨3, ![4, 384, 1]⟩

abbrev nBuf : Space → Nat
  | .hbm => 5
  | .vmem => 4
  | .smem => 0
  | _ => 0

abbrev bufTy : (tb : Table) → Fin (tcTables nBuf tb) → BufTy
  | .hbm, ⟨0, _⟩ => ⟨S4x2880x384, .f32⟩
  | .hbm, ⟨1, _⟩ => ⟨S2880, .f32⟩
  | .hbm, ⟨2, _⟩ => ⟨S1x2880, .f32⟩
  | .hbm, ⟨3, _⟩ => ⟨S4x2880x384, .i8⟩
  | .hbm, ⟨4, _⟩ => ⟨S4x1x384, .f32⟩
  | .local _ .vmem, ⟨0, _⟩ => ⟨S4x2880x384, .f32⟩
  | .local _ .vmem, ⟨1, _⟩ => ⟨S1x2880, .f32⟩
  | .local _ .vmem, ⟨2, _⟩ => ⟨S4x2880x384, .i8⟩
  | .local _ .vmem, ⟨3, _⟩ => ⟨S4x1x384, .f32⟩
  | _, _ => ⟨S4x2880x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x2880x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2880 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2880x384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Attn.lean ====
abbrev S4x18x160x384 : Shape := ⟨4, ![4, 18, 160, 384]⟩
abbrev S4x6x160x384 : Shape := ⟨4, ![4, 6, 160, 384]⟩
abbrev S2880 : Shape := ⟨1, ![2880]⟩
abbrev S1x2880 : Shape := ⟨2, ![1, 2880]⟩
abbrev S4x2880x384 : Shape := ⟨3, ![4, 2880, 384]⟩
abbrev S4x1x384 : Shape := ⟨3, ![4, 1, 384]⟩
abbrev S1x18x160x384 : Shape := ⟨4, ![1, 18, 160, 384]⟩
abbrev S1x6x160x384 : Shape := ⟨4, ![1, 6, 160, 384]⟩
abbrev S1x2880x384 : Shape := ⟨3, ![1, 2880, 384]⟩
abbrev S1x1x384 : Shape := ⟨3, ![1, 1, 384]⟩
abbrev S2880x128 : Shape := ⟨2, ![2880, 128]⟩
abbrev S2880x384 : Shape := ⟨2, ![2880, 384]⟩
abbrev S1x128 : Shape := ⟨2, ![1, 128]⟩
abbrev S128x128 : Shape := ⟨2, ![128, 128]⟩
abbrev S1x64 : Shape := ⟨2, ![1, 64]⟩
abbrev S128x64 : Shape := ⟨2, ![128, 64]⟩
abbrev S64x128 : Shape := ⟨2, ![64, 128]⟩
abbrev S384x384 : Shape := ⟨2, ![384, 384]⟩
abbrev S1x1x160x384 : Shape := ⟨4, ![1, 1, 160, 384]⟩
abbrev S160x384 : Shape := ⟨2, ![160, 384]⟩
abbrev S384 : Shape := ⟨1, ![384]⟩
abbrev S1x384 : Shape := ⟨2, ![1, 384]⟩
abbrev S8x384 : Shape := ⟨2, ![8, 384]⟩
abbrev S96x384 : Shape := ⟨2, ![96, 384]⟩
abbrev S12x8x384 : Shape := ⟨3, ![12, 8, 384]⟩
abbrev S1x8x384 : Shape := ⟨3, ![1, 8, 384]⟩
abbrev S96x128 : Shape := ⟨2, ![96, 128]⟩
abbrev S1x96x384 : Shape := ⟨3, ![1, 96, 384]⟩

abbrev nBuf : Space → Nat
  | .hbm => 8
  | .vmem => 15
  | .smem => 0
  | _ => 0

abbrev bufTy : (tb : Table) → Fin (tcTables nBuf tb) → BufTy
  | .hbm, ⟨0, _⟩ => ⟨S4x18x160x384, .bf16⟩
  | .hbm, ⟨1, _⟩ => ⟨S4x6x160x384, .bf16⟩
  | .hbm, ⟨2, _⟩ => ⟨S4x6x160x384, .bf16⟩
  | .hbm, ⟨3, _⟩ => ⟨S2880, .f32⟩
  | .hbm, ⟨4, _⟩ => ⟨S1x2880, .f32⟩
  | .hbm, ⟨5, _⟩ => ⟨S4x2880x384, .i8⟩
  | .hbm, ⟨6, _⟩ => ⟨S4x1x384, .f32⟩
  | .hbm, ⟨7, _⟩ => ⟨S4x1x384, .f32⟩
  | .local _ .vmem, ⟨0, _⟩ => ⟨S1x18x160x384, .bf16⟩
  | .local _ .vmem, ⟨1, _⟩ => ⟨S1x18x160x384, .bf16⟩
  | .local _ .vmem, ⟨2, _⟩ => ⟨S1x6x160x384, .bf16⟩
  | .local _ .vmem, ⟨3, _⟩ => ⟨S1x6x160x384, .bf16⟩
  | .local _ .vmem, ⟨4, _⟩ => ⟨S1x6x160x384, .bf16⟩
  | .local _ .vmem, ⟨5, _⟩ => ⟨S1x6x160x384, .bf16⟩
  | .local _ .vmem, ⟨6, _⟩ => ⟨S1x2880, .f32⟩
  | .local _ .vmem, ⟨7, _⟩ => ⟨S1x2880x384, .i8⟩
  | .local _ .vmem, ⟨8, _⟩ => ⟨S1x2880x384, .i8⟩
  | .local _ .vmem, ⟨9, _⟩ => ⟨S1x1x384, .f32⟩
  | .local _ .vmem, ⟨10, _⟩ => ⟨S1x1x384, .f32⟩
  | .local _ .vmem, ⟨11, _⟩ => ⟨S1x1x384, .f32⟩
  | .local _ .vmem, ⟨12, _⟩ => ⟨S1x1x384, .f32⟩
  | .local _ .vmem, ⟨13, _⟩ => ⟨S2880x128, .f32⟩
  | .local _ .vmem, ⟨14, _⟩ => ⟨S2880x384, .f32⟩
  | _, _ => ⟨S4x18x160x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c6_i32 : BitVec 32 := 6#32
  let v6 : BitVec 32 := Scalar.addi c0_i32_1 c6_i32
  let c1_i32 : BitVec 32 := 1#32
  ⟨c0_i32_1, v6, c1_i32⟩
def k0_off1 (k0_t1 : Fin k0_t1_loop.trips) : Fin 4 → Nat :=
  let c0_28 : Index := 0#32
  let c0_i32_1 : BitVec 32 := 0#32
  let c1_i32 : BitVec 32 := 1#32
  let arg10 : BitVec 32 := Scf.iv c0_i32_1 c1_i32 k0_t1
  let v37 : Index := Scalar.indexCast arg10
  let c0_29 : Index := 0#32
  let c0_30 : Index := 0#32
  ![0, v37.toNat, 0, 0]
def k0_off2 (k0_t1 : Fin k0_t1_loop.trips) (c0_i32_34 : BitVec 32) : Fin 4 → Nat :=
  let c0_35 : Index := 0#32
  let c0_i32_1 : BitVec 32 := 0#32
  let c1_i32 : BitVec 32 := 1#32
  let arg10 : BitVec 32 := Scf.iv c0_i32_1 c1_i32 k0_t1
  let c3_i32 : BitVec 32 := 3#32
  let v43 : BitVec 32 := Scalar.muli arg10 c3_i32
  let v44 : BitVec 32 := Scalar.addi v43 c0_i32_34
  let v45 : Index := Scalar.indexCast v44
  let c0_36 : Index := 0#32
  let c0_37 : Index := 0#32
  ![0, v45.toNat, 0, 0]
def k0_off3 (k0_t1 : Fin k0_t1_loop.trips) (c0_i32_34 : BitVec 32) : Fin 2 → Nat :=
  let c0_i32_1 : BitVec 32 := 0#32
  let c1_i32 : BitVec 32 := 1#32
  let arg10 : BitVec 32 := Scf.iv c0_i32_1 c1_i32 k0_t1
  let c3_i32 : BitVec 32 := 3#32
  let v43 : BitVec 32 := Scalar.muli arg10 c3_i32
  let v44 : BitVec 32 := Scalar.addi v43 c0_i32_34
  let c160_i32 : BitVec 32 := 160#32
  let v64 : BitVec 32 := Scalar.muli v44 c160_i32
  let v65 : Index := Scalar.indexCast v64
  let c0_44 : Index := 0#32
  ![v65.toNat, 0]
@[reducible] def k0_t2_loop : Scf.Loop 32 :=
  let c0_i32_3 : BitVec 32 := 0#32
  let c30_i32 : BitVec 32 := 30#32
  let v8 : BitVec 32 := Scalar.addi c0_i32_3 c30_i32
  let c1_i32_4 : BitVec 32 := 1#32
  ⟨c0_i32_3, v8, c1_i32_4⟩
def k0_off4 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c96_i32 : BitVec 32 := 96#32
  let v37 : BitVec 32 := Scalar.muli arg10 c96_i32
  let v38 : Index := Scalar.indexCast v37
  let c0_28 : Index := 0#32
  ![v38.toNat, 0]
@[reducible] def k0_t3_loop : Scf.Loop 32 :=
  let c0_i32_10 : BitVec 32 := 0#32
  let c30_i32_11 : BitVec 32 := 30#32
  let v18 : BitVec 32 := Scalar.addi c0_i32_10 c30_i32_11
  let c1_i32_12 : BitVec 32 := 1#32
  ⟨c0_i32_10, v18, c1_i32_12⟩
def k0_off5 (k0_t3 : Fin k0_t3_loop.trips) : Fin 2 → Nat :=
  let c0_i32_10 : BitVec 32 := 0#32
  let c1_i32_12 : BitVec 32 := 1#32
  let arg10 : BitVec 32 := Scf.iv c0_i32_10 c1_i32_12 k0_t3
  let c96_i32 : BitVec 32 := 96#32
  let v37 : BitVec 32 := Scalar.muli arg10 c96_i32
  let v38 : Index := Scalar.indexCast v37
  let c0_28 : Index := 0#32
  ![v38.toNat, 0]
def k0_off6 (k0_t3 : Fin k0_t3_loop.trips) : Fin 2 → Nat :=
  let c0_i32_10 : BitVec 32 := 0#32
  let c1_i32_12 : BitVec 32 := 1#32
  let arg10 : BitVec 32 := Scf.iv c0_i32_10 c1_i32_12 k0_t3
  let c96_i32_29 : BitVec 32 := 96#32
  let v42 : BitVec 32 := Scalar.muli arg10 c96_i32_29
  let v43 : Index := Scalar.indexCast v42
  let c0_30 : Index := 0#32
  ![v43.toNat, 0]
@[reducible] def k0_t4_loop : Scf.Loop 32 :=
  let c0_i32_19 : BitVec 32 := 0#32
  let c30_i32_20 : BitVec 32 := 30#32
  let v30 : BitVec 32 := Scalar.addi c0_i32_19 c30_i32_20
  let c1_i32_21 : BitVec 32 := 1#32
  ⟨c0_i32_19, v30, c1_i32_21⟩
def k0_off7 (k0_t4 : Fin k0_t4_loop.trips) : Fin 2 → Nat :=
  let c0_i32_19 : BitVec 32 := 0#32
  let c1_i32_21 : BitVec 32 := 1#32
  let arg10 : BitVec 32 := Scf.iv c0_i32_19 c1_i32_21 k0_t4
  let c96_i32 : BitVec 32 := 96#32
  let v37 : BitVec 32 := Scalar.muli arg10 c96_i32
  let v38 : Index := Scalar.indexCast v37
  let c0_28 : Index := 0#32
  ![v38.toNat, 0]
def k0_off8 (k0_t4 : Fin k0_t4_loop.trips) : Fin 2 → Nat :=
  let c0_i32_19 : BitVec 32 := 0#32
  let c1_i32_21 : BitVec 32 := 1#32
  let arg10 : BitVec 32 := Scf.iv c0_i32_19 c1_i32_21 k0_t4
  let c96_i32_29 : BitVec 32 := 96#32
  let v42 : BitVec 32 := Scalar.muli arg10 c96_i32_29
  let v43 : Index := Scalar.indexCast v42
  let c0_30 : Index := 0#32
  ![v43.toNat, 0]
def k0_off9 (k0_t4 : Fin k0_t4_loop.trips) : Fin 3 → Nat :=
  let c0_34 : Index := 0#32
  let c0_i32_19 : BitVec 32 := 0#32
  let c1_i32_21 : BitVec 32 := 1#32
  let arg10 : BitVec 32 := Scf.iv c0_i32_19 c1_i32_21 k0_t4
  let c96_i32_33 : BitVec 32 := 96#32
  let v55 : BitVec 32 := Scalar.muli arg10 c96_i32_33
  let v56 : Index := Scalar.indexCast v55
  let c0_35 : Index := 0#32
  ![0, v56.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x18x160x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x160x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x160x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2880x384 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnRefIdeal.lean ====
abbrev S4x18x160x384 : Shape := ⟨4, ![4, 18, 160, 384]⟩
abbrev S4x6x160x384 : Shape := ⟨4, ![4, 6, 160, 384]⟩
abbrev S2880 : Shape := ⟨1, ![2880]⟩
abbrev S1x2880 : Shape := ⟨2, ![1, 2880]⟩
abbrev S4x2880x384 : Shape := ⟨3, ![4, 2880, 384]⟩
abbrev S4x1x384 : Shape := ⟨3, ![4, 1, 384]⟩
abbrev S72x160x384 : Shape := ⟨3, ![72, 160, 384]⟩
abbrev S4x6x1x160x384 : Shape := ⟨5, ![4, 6, 1, 160, 384]⟩
abbrev S4x6x3x160x384 : Shape := ⟨5, ![4, 6, 3, 160, 384]⟩
abbrev S72x384x160 : Shape := ⟨3, ![72, 384, 160]⟩
abbrev S72x384x384 : Shape := ⟨3, ![72, 384, 384]⟩
abbrev S72x384 : Shape := ⟨2, ![72, 384]⟩
abbrev S72x384x1 : Shape := ⟨3, ![72, 384, 1]⟩
abbrev S4x384x2880 : Shape := ⟨3, ![4, 384, 2880]⟩
abbrev S1536x2880 : Shape := ⟨2, ![1536, 2880]⟩
abbrev S1536 : Shape := ⟨1, ![1536]⟩
abbrev S1536x1 : Shape := ⟨2, ![1536, 1]⟩
abbrev S4x384x1 : Shape := ⟨3, ![4, 384, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x18x160x384, .bf16⟩
  | .hbm, ⟨1, _⟩ => ⟨S4x6x160x384, .bf16⟩
  | .hbm, ⟨2, _⟩ => ⟨S4x6x160x384, .bf16⟩
  | .hbm, ⟨3, _⟩ => ⟨S2880, .f32⟩
  | .hbm, ⟨4, _⟩ => ⟨S1x2880, .f32⟩
  | .hbm, ⟨5, _⟩ => ⟨S4x2880x384, .i8⟩
  | .hbm, ⟨6, _⟩ => ⟨S4x1x384, .f32⟩
  | .hbm, ⟨7, _⟩ => ⟨S4x1x384, .f32⟩
  | .local _ .vmem, ⟨0, _⟩ => ⟨S4x18x160x384, .bf16⟩
  | .local _ .vmem, ⟨1, _⟩ => ⟨S4x6x160x384, .bf16⟩
  | .local _ .vmem, ⟨2, _⟩ => ⟨S4x6x160x384, .bf16⟩
  | .local _ .vmem, ⟨3, _⟩ => ⟨S1x2880, .f32⟩
  | .local _ .vmem, ⟨4, _⟩ => ⟨S4x2880x384, .i8⟩
  | .local _ .vmem, ⟨5, _⟩ => ⟨S4x1x384, .f32⟩
  | .local _ .vmem, ⟨6, _⟩ => ⟨S4x1x384, .f32⟩
  | _, _ => ⟨S4x18x160x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x18x160x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x6x160x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x6x160x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2880x384 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Unpack.lean ====
/-
  Ternary weights, four to a byte: field `f` of a byte (its bits `2f` and `2f + 1`) minus one is one weight. The kernels read
  the fields through 32-bit words, four bytes of a column at a time (`word_field`), widen the field to a float and subtract one
  there; the references shift each byte as a word of its own and subtract one before widening. Both are `tern f` of the byte,
  for every byte.
-/
module

public import Idealize.ShloMosaic.Lib.BitcastFour
public import Idealize.ShloMosaic.Lib.Pointwise
public import Idealize.ShloMosaic.Lib.Pipeline.ValueKit

@[expose] public section

noncomputable section

open Idealize.ShloMosaic Idealize.ShloMosaic.TcCoe Idealize.SL.Sem

namespace Cert.Tern

/-- Field `f` of a byte: its bits `2f` and `2f + 1`, as a byte of its own. -/
def field (f : Nat) (b : BitVec 8) : BitVec 8 := (b >>> (2 * f)) &&& 3#8

/-- The ternary weight that field `f` of a byte holds, as an extended real: the field minus one. -/
def tern (f : Nat) (b : BitVec 8) : EReal := (((field f b).toInt : ℝ) : EReal) - 1

/-- Bit `i` of the mask that keeps the two low bits of each of a word's four bytes. -/
theorem mask_getLsbD (q : Nat) (hq : q < 32) : (50529027#32 : BitVec 32).getLsbD q = decide (q % 8 < 2) := by
  revert q; decide

/-- Bit `i` of a field. -/
theorem field_getLsbD (f : Nat) (b : BitVec 8) (i : Nat) (hi : i < 8) :
    (field f b).getLsbD i = (b.getLsbD (2 * f + i) && decide (i < 2)) := by
  have h3 : (3#8 : BitVec 8).getLsbD i = decide (i < 2) := by revert i; decide
  rw [field, BitVec.getLsbD_and, BitVec.getLsbD_ushiftRight, h3]

/-- Thirty-two bit rows read at eight bits: bit `i` of row `p` is bit `8 (p % 4) + i` of word row `p / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (i : Nat) (hi : i < 8) (a : Fin r)
    (ha : a.val = p.val / 4) :
    (bitcast ⟨2, ![R, n]⟩ 8 x h (ValueIdx.ix2 p l)).getLsbD i = (x (ValueIdx.ix2 a l)).getLsbD (8 * (p.val % 4) + i) := by
  rw [bitcast_getLsbD x h _ i hi (by decide)]
  have hrow : (⟨2, ![R, n]⟩ : Shape).row (ValueIdx.ix2 p l) = p.val := rfl
  have e1 : ((⟨2, ![R, n]⟩ : Shape).row (ValueIdx.ix2 p l) * 8 + i) / 32 = a.val := by rw [hrow]; omega
  have e2 : ((⟨2, ![R, n]⟩ : Shape).row (ValueIdx.ix2 p l) * 8 + i) % 32 = 8 * (p.val % 4) + i := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- A byte array read as words, the words shifted right by `2f` and masked, and read as bytes again: each byte is field `f` of the
    byte that was there. -/
theorem word_field {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (f : Nat) (hf : f < 4) (y : (⟨2, ![r, n]⟩ : Shape).Idx → BitVec 32)
    (hy : ∀ j, y j = (bitcast ⟨2, ![r, n]⟩ 32 x h j >>> (2 * f)) &&& 50529027#32) (p : Fin R) (l : Fin n) :
    bitcast ⟨2, ![R, n]⟩ 8 y h' (ValueIdx.ix2 p l) = field f (x (ValueIdx.ix2 p l)) := by
  apply BitVec.eq_of_getLsbD_eq
  intro i hi
  have hp := p.isLt
  have hbit : 8 * (p.val % 4) + i < 32 := by omega
  rw [bitcast_32_8_getLsbD_ix2 y h' p l i hi ⟨p.val / 4, by omega⟩ rfl, hy, BitVec.getLsbD_and, BitVec.getLsbD_ushiftRight,
    mask_getLsbD _ hbit, field_getLsbD f _ i hi]
  by_cases h2 : i < 2
  · rw [bitcast_8_32_getLsbD_ix2 x h ⟨p.val / 4, by omega⟩ l (2 * f + (8 * (p.val % 4) + i)) (by omega) p
      (by show p.val = 4 * (p.val / 4) + _; omega)]
    have e1 : (2 * f + (8 * (p.val % 4) + i)) % 8 = 2 * f + i := by omega
    have e2 : (8 * (p.val % 4) + i) % 8 = i := by omega
    rw [e1, e2]
  · have e2 : (8 * (p.val % 4) + i) % 8 = i := by omega
    rw [e2]; simp [h2]

/-- The reference's spelling: a byte widened to a word, shifted, masked, cut back to a byte, minus one, as an integer — is the
    field as an integer, minus one. -/
theorem word_of_byte (f : Nat) (hf : f < 4) (b : BitVec 8) :
    (IntOp.subi (BitVec.setWidth 8 (IntOp.andi (IntOp.shrsi .vector (BitVec.setWidth 32 b) (BitVec.ofNat 32 (2 * f))) 3#32)) 1#8).toInt
      = (field f b).toInt - 1 := by
  interval_cases f <;> revert b <;> decide +kernel

end Cert.Tern

end
-- ==== Proof.Spec.lean ====
/-
  The gate/up product and its statistics as plain functions of the arguments: the codes and scales of a token, the ternary
  weights of a column, one entry of the gated product, and that entry's magnitude under the gain.
-/
module

public import proofs.«01_k».proof.Proof.Unpack
public import Idealize.ShloMosaic.Lib.Pointwise

@[expose] public section

noncomputable section

open Idealize.ShloMosaic Idealize.ShloMosaic.TcCoe Idealize.SL.Sem

namespace Cert.Spec

open Cert.Tern

/-- One entry of the gated product, from a token's codes and scale and two columns of weights. -/
def Mf (X : Fin 2880 → EReal) (α : EReal) (wg wu : Fin 2880 → EReal) (s0 s1 : EReal) : EReal :=
  max ((∑ k, X k * wg k) * α * s0) 0 * max ((∑ k, X k * wg k) * α * s0) 0 * ((∑ k, X k * wu k) * α * s1)

/-- The code of token `R` (batch `R / 384`, position `R % 384`) at feature `k`. -/
def Xs (ct : (⟨3, ![4, 2880, 384]⟩ : Shape).Idx → BitVec 8) (R : Fin 1536) (k : Fin 2880) : EReal :=
  (((ct (ix3 ⟨R.val / 384, by omega⟩ k ⟨R.val % 384, by omega⟩)).toInt : ℝ) : EReal)

/-- The activation scale of token `R`. -/
def As (al : (⟨3, ![4, 1, 384]⟩ : Shape).Idx → EReal) (R : Fin 1536) : EReal :=
  al (ix3 ⟨R.val / 384, by omega⟩ 0 ⟨R.val % 384, by omega⟩)

/-- The ternary weight at feature `k` of column `N`: field `k / 720` of byte row `k % 720`. -/
def Ws (w : (⟨2, ![720, 7680]⟩ : Shape).Idx → BitVec 8) (N : Fin 7680) (k : Fin 2880) : EReal :=
  tern (k.val / 720) (w (ix2 ⟨k.val % 720, by omega⟩ N))

/-- The arguments of the call. -/
structure Args where
  /-- The two weight scales. -/
  s : (⟨1, ![2]⟩ : Shape).Idx → EReal
  /-- The codes. -/
  ct : (⟨3, ![4, 2880, 384]⟩ : Shape).Idx → BitVec 8
  /-- The activation scales. -/
  al : (⟨3, ![4, 1, 384]⟩ : Shape).Idx → EReal
  /-- The gain. -/
  g : (⟨1, ![7680]⟩ : Shape).Idx → EReal
  /-- The packed gate weights. -/
  wg : (⟨2, ![720, 7680]⟩ : Shape).Idx → BitVec 8
  /-- The packed up weights. -/
  wu : (⟨2, ![720, 7680]⟩ : Shape).Idx → BitVec 8

variable (A : Args)

/-- Entry `(R, N)` of the gated product. -/
def Ms (R : Fin 1536) (N : Fin 7680) : EReal := Mf (Xs A.ct R) (As A.al R) (Ws A.wg N) (Ws A.wu N) (A.s (ix1 0)) (A.s (ix1 1))

/-- The magnitude of entry `(R, N)` under the gain, before normalising. -/
def Gs (R : Fin 1536) (N : Fin 7680) : EReal := max (Ms A R N * A.g (ix1 N)) (-(Ms A R N * A.g (ix1 N)))

/-- A column number as a column. -/
def col (n : ℕ) : Fin 7680 := ⟨n % 7680, Nat.mod_lt _ (by decide)⟩

/-- What column block `p` adds to lane `l` of token `R`'s sum of squares. -/
def Tb (R : Fin 1536) (p : ℕ) (l : ℕ) : EReal :=
  ∑ j : Fin 4, Ms A R (col (512 * p + (128 * j.val + l))) * Ms A R (col (512 * p + (128 * j.val + l)))

/-- The greatest magnitude that column block `p` brings to lane `l` of token `R`. -/
def Gb (R : Fin 1536) (p : ℕ) (l : ℕ) : EReal :=
  max (Gs A R (col (512 * p + (128 * 0 + l)))) (max (Gs A R (col (512 * p + (128 * 1 + l))))
    (max (Gs A R (col (512 * p + (128 * 2 + l)))) (Gs A R (col (512 * p + (128 * 3 + l))))))

/-- The reciprocal root that a token's sum of squares gives. -/
def rK (σ : EReal) : EReal := Ideal.rsqrt (Ideal.div σ (Ideal.ofBits .f32 1173356544#32) + Ideal.ofBits .f32 925353388#32)

/-- The activation scale from the greatest normalised magnitude. -/
def scaleOf (a : EReal) : EReal := if a = 0 then 1 else Ideal.div a (Ideal.ofBits .f32 1123942400#32)

/-- The kernel's scale from a token's sum of squares and its greatest magnitude before normalising. -/
def sK (σ μ : EReal) : EReal := scaleOf (if 0 < rK σ then μ * rK σ else 0)

/-- The greatest of the lanes, folded from minus infinity. -/
def fmax {n : ℕ} (f : Fin n → EReal) : EReal := Finset.fold max (Ideal.ofBits FTy.f32 4286578688#32) f Finset.univ

theorem fmax_le {n : ℕ} (f : Fin n → EReal) (z : EReal) : fmax f ≤ z ↔ ∀ i, f i ≤ z := by
  have hb : Ideal.ofBits FTy.f32 4286578688#32 = (⊥ : EReal) := by
    simp [Ideal.ofBits, Ideal.ieee]
  unfold fmax
  rw [hb, Finset.fold_max_le]
  simp

/-- Token `R`'s sum of squares. -/
def Sq (R : Fin 1536) : EReal := ∑ N : Fin 7680, Ms A R N * Ms A R N

end Cert.Spec

end
-- ==== Proof.Pay.lean ====
/-
  What the gate/up kernel's pieces of arithmetic hold at an index: the unpacked weights, one entry of the gated product, and
  the running sum of squares and running maximum over one block of columns, for any of the four batches.
-/
module

public import proofs.«01_k».proof.Defs
public import proofs.«01_k».proof.Proof.Gen.GateUpIdeal.Skeleton
public import proofs.«01_k».proof.Proof.Unpack
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GateUpIdeal.Pay

open Cert.GateUpIdeal Cert.GateUpIdeal.Gen Cert.Tern Cert.Spec

theorem fieldAt (f : Nat) (hf : f < 4) (v : Vec Ideal S720x512 .i8) (y : IVec S180x512 32)
    (hy : ∀ j, y j = (bitcast S180x512 32 v bitcasts_S720x512_w8_S180x512_w32 j >>> (2 * f)) &&& 50529027#32)
    (r : Fin 720) (l : Fin 512) :
    bitcast S720x512 8 y bitcasts_S180x512_w32_S720x512_w8 (ix2 r l) = field f (v (ix2 r l)) :=
  word_field v bitcasts_S720x512_w8_S180x512_w32 bitcasts_S180x512_w32_S720x512_w8 rfl f hf y hy r l

theorem pay53 (v : Vec Ideal S720x512 .i8) (r : Fin 720) (l : Fin 512) : k0_pay53 (F := Ideal) v (ix2 r l) = tern 0 (v (ix2 r l)) := by
  unfold k0_pay53
  pointwise
  rw [fieldAt 0 (by decide) v _ (fun j => by
    show IntOp.andi _ _ = _
    rw [show ∀ w : BitVec 32, w >>> (2 * 0) = w from fun w => by simp]; rfl) r l]
  rfl

theorem pay57 (v : Vec Ideal S720x512 .i8) (r : Fin 720) (l : Fin 512) : k0_pay57 (F := Ideal) v (ix2 r l) = tern 1 (v (ix2 r l)) := by
  unfold k0_pay57
  pointwise
  rw [fieldAt 1 (by decide) v (andi (shrui (bitcast S180x512 32 v bitcasts_S720x512_w8_S180x512_w32) (broadcast S180x512 2#32))
    (broadcast S180x512 50529027#32)) (fun j => by simp [andi, shrui, broadcast, IntOp.andi, IntOp.shrui]) r l]
  rfl

theorem pay58 (v : Vec Ideal S720x512 .i8) (r : Fin 720) (l : Fin 512) : k0_pay58 (F := Ideal) v (ix2 r l) = tern 2 (v (ix2 r l)) := by
  unfold k0_pay58
  pointwise
  rw [fieldAt 2 (by decide) v (andi (shrui (bitcast S180x512 32 v bitcasts_S720x512_w8_S180x512_w32) (broadcast S180x512 4#32))
    (broadcast S180x512 50529027#32)) (fun j => by simp [andi, shrui, broadcast, IntOp.andi, IntOp.shrui]) r l]
  rfl

theorem pay62 (v : Vec Ideal S720x512 .i8) (r : Fin 720) (l : Fin 512) : k0_pay62 (F := Ideal) v (ix2 r l) = tern 3 (v (ix2 r l)) := by
  unfold k0_pay62
  pointwise
  rw [fieldAt 3 (by decide) v (andi (shrui (bitcast S180x512 32 v bitcasts_S720x512_w8_S180x512_w32) (broadcast S180x512 6#32))
    (broadcast S180x512 50529027#32)) (fun j => by simp [andi, shrui, broadcast, IntOp.andi, IntOp.shrui]) r l]
  rfl

theorem pay65 (a : Vec Ideal S384x128 .f32) (r : Fin 384) (α : EReal) (ha : ∀ l, a (ix2 r l) = α) (l : Fin 512) :
    k0_pay65 (F := Ideal) a (ix2 r l) = α := by
  unfold k0_pay65
  pointwise
  simp only [ha, ite_self, dite_eq_ite]
  try (split_ifs <;> rfl)

theorem pay66 (x : Vec Ideal S384x2880 .bf16) (a : Vec Ideal S384x128 .f32) (ug uu : Vec Ideal S2880x512 .bf16) (s0 s1 : Elt Ideal .f32)
    (r : Fin 384) (X : Fin 2880 → EReal) (α : EReal) (wg wu : Fin 2880 → EReal) (l : Fin 512)
    (hx : ∀ k, x (ix2 r k) = X k) (ha : ∀ l, a (ix2 r l) = α)
    (hg : ∀ k, ug (ix2 k l) = wg k) (hu : ∀ k, uu (ix2 k l) = wu k) :
    k0_pay66 (F := Ideal) x (k0_pay65 a) ug s0 uu s1 (ix2 r l) = Mf X α wg wu s0 s1 := by
  unfold k0_pay66
  pointwise
  simp only [pay65 a r α ha, hx, hg, hu, Mf]

theorem pay68 (x : Vec Ideal S384x2880 .bf16) (b : Vec Ideal S384x512 .f32) (ug uu : Vec Ideal S2880x512 .bf16) (s0 s1 : Elt Ideal .f32)
    (r : Fin 384) (M : ℕ → EReal) (v : Vec Ideal S384x128 .f32) (l : Fin 128)
    (hm : ∀ n : Fin 512, k0_pay66 (F := Ideal) x b ug s0 uu s1 (ix2 r n) = M n.val) :
    k0_pay68 (F := Ideal) x b ug s0 uu s1 v (ix2 r l) = v (ix2 r l) + ∑ j : Fin 4, M (128 * j.val + l.val) * M (128 * j.val + l.val) := by
  unfold k0_pay68
  pointwise
  simp only [hm, Fin.sum_univ_four]
  show _ = v (ix2 r l) + (M (0 + l.val) * M (0 + l.val) + M (128 + l.val) * M (128 + l.val) + M (256 + l.val) * M (256 + l.val)
    + M (384 + l.val) * M (384 + l.val))
  rw [Nat.zero_add]
  simp only [add_assoc]

theorem pay69 (g : Vec Ideal S1x512 .f32) (x : Vec Ideal S384x2880 .bf16) (b : Vec Ideal S384x512 .f32) (ug uu : Vec Ideal S2880x512 .bf16) (s0 s1 : Elt Ideal .f32)
    (r : Fin 384) (M : ℕ → EReal) (v : Vec Ideal S384x128 .f32) (l : Fin 128) (z : EReal)
    (hm : ∀ n : Fin 512, max (k0_pay66 (F := Ideal) x b ug s0 uu s1 (ix2 r n) * g (ix2 0 n)) (-(k0_pay66 (F := Ideal) x b ug s0 uu s1 (ix2 r n) * g (ix2 0 n))) = M n.val) :
    k0_pay69 (F := Ideal) (k0_pay67 (k0_pay64 g) x b ug s0 uu s1 v) (ix2 r l) ≤ z ↔ v (ix2 r l) ≤ z ∧ ∀ j : Fin 4, M (128 * j.val + l.val) ≤ z := by
  unfold k0_pay69 k0_pay67 k0_pay64
  have hm' : ∀ n : Fin 512, FloatOps.absf (F := Ideal) (φ := .f32) (k0_pay66 (F := Ideal) x b ug s0 uu s1 (ix2 r n) * g (ix2 0 n)) = M n.val := hm
  pointwise
  simp only [hm', max_le_iff, and_assoc]

theorem pay3 (v : Vec Ideal S1x2880x384 .i8) (r : Fin 384) (k : Fin 2880) :
    k0_pay3 (F := Ideal) v (ix2 r k) = (((v (ix3 0 k r)).toInt : ℝ) : EReal) := by
  unfold k0_pay3
  pointwise
  rfl

theorem pay2 (v : Vec Ideal S1x1x384 .f32) (r : Fin 384) (l : Fin 128) : k0_pay2 (F := Ideal) v (ix2 r l) = v (ix3 0 0 r) := by
  unfold k0_pay2
  pointwise
  by_cases h1 : r.val < 128
  · rw [dif_pos h1]
  · rw [dif_neg h1]
    by_cases h2 : r.val - 128 < 128
    · rw [dif_pos h2]
      exact congrArg (fun q => v (ix3 0 0 q)) (Fin.ext (by show 128 + (r.val - 128) = r.val; omega))
    · rw [dif_neg h2]
      exact congrArg (fun q => v (ix3 0 0 q)) (Fin.ext (by show 256 + (r.val - 128 - 128) = r.val; omega))

theorem pay10 (a : Vec Ideal S384x128 .f32) (r : Fin 384) : k0_pay10 (F := Ideal) a (ix2 r 0) = rK (∑ l, a (ix2 r l)) := by
  unfold k0_pay10
  pointwise
  rfl

theorem pay11 (a : Vec Ideal S384x128 .f32) (r : Fin 384) (l : Fin 128) :
    k0_pay11 (F := Ideal) a (ix2 r l) = rK (∑ l, a (ix2 r l)) := by
  unfold k0_pay11
  pointwise
  exact pay10 a r

theorem pay12 (a b : Vec Ideal S384x128 .f32) (r : Fin 384) (l : Fin 128) :
    k0_pay12 (F := Ideal) a b (ix2 r l)
      = sK (∑ l, a (ix2 r l)) (fmax fun x => b (ix2 r x)) := by
  unfold k0_pay12
  pointwise
  rw [pay10]
  rfl

theorem row0 (v : Vec Ideal S384x128 .f32) (l : Fin 128) : k0_pay43 (F := Ideal) v (ix3 0 0 l) = v (ix2 ⟨l.val, by omega⟩ 0) := by
  unfold k0_pay43
  pointwise

theorem row1 (v : Vec Ideal S384x128 .f32) (l : Fin 128) : k0_pay16 (F := Ideal) v (ix3 0 0 l) = v (ix2 ⟨128 + l.val, by omega⟩ 0) := by
  unfold k0_pay16
  pointwise

theorem row2 (v : Vec Ideal S384x128 .f32) (l : Fin 128) : k0_pay18 (F := Ideal) v (ix3 0 0 l) = v (ix2 ⟨256 + l.val, by omega⟩ 0) := by
  unfold k0_pay18
  pointwise

/-! The other batches' pieces are the first batch's, under other names. -/

section
variable (g : Vec Ideal S1x512 .f32) (x : Vec Ideal S384x2880 .bf16) (a v : Vec Ideal S384x128 .f32) (ug uu : Vec Ideal S2880x512 .bf16) (s0 s1 : Elt Ideal .f32)

theorem m1 : k0_pay70 (F := Ideal) x a ug s0 uu s1 = k0_pay66 x (k0_pay65 a) ug s0 uu s1 := rfl
theorem m2 : k0_pay78 (F := Ideal) x a ug s0 uu s1 = k0_pay66 x (k0_pay65 a) ug s0 uu s1 := rfl
theorem m3 : k0_pay86 (F := Ideal) (k0_pay84 x a ug s0) (k0_pay85 x a uu) s1 = k0_pay66 x (k0_pay65 a) ug s0 uu s1 := rfl
theorem ss1 : k0_pay76 (F := Ideal) (k0_pay71 x a ug s0 uu s1) (k0_pay74 x a ug s0 uu s1 v) = k0_pay68 x (k0_pay65 a) ug s0 uu s1 v := rfl
theorem ss2 : k0_pay81 (F := Ideal) (k0_pay79 x a ug s0 uu s1) v = k0_pay68 x (k0_pay65 a) ug s0 uu s1 v := rfl
theorem ss3 : k0_pay87 (F := Ideal) (k0_pay84 x a ug s0) (k0_pay85 x a uu) s1 v = k0_pay68 x (k0_pay65 a) ug s0 uu s1 v := rfl
theorem mx1 : k0_pay77 (F := Ideal) (k0_pay72 (k0_pay64 g) x a ug s0 uu s1) (k0_pay73 (k0_pay64 g) x a ug s0 uu s1 v) (k0_pay75 (k0_pay64 g) x a ug s0 uu s1)
    = k0_pay69 (k0_pay67 (k0_pay64 g) x (k0_pay65 a) ug s0 uu s1 v) := rfl
theorem mx2 : k0_pay82 (F := Ideal) (k0_pay80 (k0_pay64 g) x a ug s0 uu s1) v
    = k0_pay69 (k0_pay67 (k0_pay64 g) x (k0_pay65 a) ug s0 uu s1 v) := rfl
theorem mx3 : k0_pay88 (F := Ideal) (k0_pay64 g) (k0_pay84 x a ug s0) (k0_pay85 x a uu) s1 v
    = k0_pay69 (k0_pay67 (k0_pay64 g) x (k0_pay65 a) ug s0 uu s1 v) := rfl
end

theorem x1 (v : Vec Ideal S1x2880x384 .i8) : k0_pay5 (F := Ideal) v = k0_pay3 v := rfl
theorem x2 (v : Vec Ideal S1x2880x384 .i8) : k0_pay7 (F := Ideal) v = k0_pay3 v := rfl
theorem x3 (v : Vec Ideal S1x2880x384 .i8) : k0_pay50 (F := Ideal) v = k0_pay3 v := rfl
theorem a1 (v : Vec Ideal S1x1x384 .f32) : k0_pay4 (F := Ideal) v = k0_pay2 v := rfl
theorem a2 (v : Vec Ideal S1x1x384 .f32) : k0_pay6 (F := Ideal) v = k0_pay2 v := rfl
theorem a3 (v : Vec Ideal S1x1x384 .f32) : k0_pay49 (F := Ideal) (k0_pay8 v) (k0_pay9 v) = k0_pay2 v := rfl

theorem w55 (v : Vec Ideal S720x512 .i8) : k0_pay56 (F := Ideal) (k0_pay55 v) = k0_pay57 v := rfl
theorem w54 (v : Vec Ideal S720x512 .i8) : k0_pay54 (F := Ideal) v = k0_pay53 v := rfl
theorem w61 (v : Vec Ideal S720x512 .i8) : k0_pay61 (F := Ideal) (k0_pay59 v) k0_pay60 = k0_pay58 v := rfl
theorem w63 (v : Vec Ideal S720x512 .i8) : k0_pay63 (F := Ideal) v = k0_pay62 v := rfl

section
variable (a b v : Vec Ideal S384x128 .f32)
theorem st1 : k0_pay21 (F := Ideal) (k0_pay20 a) = k0_pay11 a := rfl
theorem st2 : k0_pay22 (F := Ideal) (k0_pay20 a) b = k0_pay12 a b := rfl
theorem st3 : k0_pay32 (F := Ideal) (k0_pay30 a) = k0_pay11 a := rfl
theorem st4 : k0_pay33 (F := Ideal) (k0_pay31 a b) = k0_pay12 a b := rfl
theorem st5 : k0_pay41 (F := Ideal) a = k0_pay11 a := rfl
theorem st6 : k0_pay42 (F := Ideal) a b = k0_pay12 a b := rfl
theorem rr13 : k0_pay13 (F := Ideal) a = k0_pay43 (k0_pay11 a) := rfl
theorem rr15 : k0_pay15 (F := Ideal) (k0_pay14 a b) = k0_pay43 (k0_pay12 a b) := rfl
theorem rr17 : k0_pay17 (F := Ideal) v = k0_pay16 v := rfl
theorem rr19 : k0_pay19 (F := Ideal) v = k0_pay18 v := rfl
theorem rr23 : k0_pay23 (F := Ideal) (k0_pay20 a) = k0_pay43 (k0_pay11 a) := rfl
theorem rr24 : k0_pay24 (F := Ideal) (k0_pay20 a) b = k0_pay43 (k0_pay12 a b) := rfl
theorem rr26 : k0_pay26 (F := Ideal) (k0_pay25 (k0_pay20 a)) = k0_pay16 (k0_pay11 a) := rfl
theorem rr27 : k0_pay27 (F := Ideal) v = k0_pay16 v := rfl
theorem rr28 : k0_pay28 (F := Ideal) v = k0_pay18 v := rfl
theorem rr29 : k0_pay29 (F := Ideal) v = k0_pay18 v := rfl
theorem rr34 : k0_pay34 (F := Ideal) (k0_pay30 a) = k0_pay43 (k0_pay11 a) := rfl
theorem rr35 : k0_pay35 (F := Ideal) (k0_pay31 a b) = k0_pay43 (k0_pay12 a b) := rfl
theorem rr36 : k0_pay36 (F := Ideal) (k0_pay30 a) = k0_pay16 (k0_pay11 a) := rfl
theorem rr37 : k0_pay37 (F := Ideal) (k0_pay31 a b) = k0_pay16 (k0_pay12 a b) := rfl
theorem rr38 : k0_pay38 (F := Ideal) v = k0_pay18 v := rfl
theorem rr39 : k0_pay39 (F := Ideal) v = k0_pay18 v := rfl
theorem rr44 : k0_pay44 (F := Ideal) v = k0_pay43 v := rfl
theorem rr45 : k0_pay45 (F := Ideal) v = k0_pay16 v := rfl
theorem rr46 : k0_pay46 (F := Ideal) v = k0_pay16 v := rfl
theorem rr47 : k0_pay47 (F := Ideal) v = k0_pay18 v := rfl
theorem rr48 : k0_pay1 (F := Ideal) (k0_pay48 v) = k0_pay18 v := rfl
end

end Cert.GateUpIdeal.Pay

end
-- ==== Proof.Point.lean ====
/-
  One grid point of the gate/up kernel: what each stored piece holds at an index, given that the codes and scales it reads are
  the token's.
-/
module

public import proofs.«01_k».proof.Defs
public import proofs.«01_k».proof.Proof.Gen.GateUpIdeal.Value
public import proofs.«01_k».proof.Proof.Pay
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateUpIdeal.Point

open Cert.GateUpIdeal Cert.GateUpIdeal.Gen Cert.GateUpIdeal.Value Cert.Spec Cert.Tern

variable (m : (ℓ : Loc nD τ sig) → Buf (Elt Ideal) ℓ)

/-- The call's arguments on device `c`. -/
def args (c : Dev nD) : Args where
  s := m ⟨c, main_arg0⟩
  ct := m ⟨c, main_arg1⟩
  al := m ⟨c, main_arg2⟩
  g := m ⟨c, main_arg3⟩
  wg := m ⟨c, main_arg4⟩
  wu := m ⟨c, main_arg5⟩

theorem idx : ∀ t : Fin cfg0.N, win0_0.index t = ![0] ∧ win0_1.index t = ![0, 0, 0] ∧ win0_2.index t = ![0, 0, 0]
    ∧ win0_3.index t = ![0, t.val] ∧ win0_4.index t = ![0, t.val] ∧ win0_5.index t = ![0, t.val] ∧ win0_6.index t = ![0, t.val]
    ∧ win0_7.index t = ![0, 0] ∧ win0_8.index t = ![0, 0] ∧ win0_9.index t = ![0, 0, 0] ∧ win0_10.index t = ![0, 0, 0] := by
  decide +kernel

theorem s_at (c : Dev nD) (t : Fin cfg0.N) (i : Fin 2) : iblk m c 0 t (ix1 i) = (args m c).s (ix1 i) := by
  obtain ⟨e0, e1, e2, e3, e4, e5, e6⟩ := idx t
  show _ = m ⟨c, main_arg0⟩ (ix1 i)
  blk_ext [iblk, V, e0]

theorem c_at (c : Dev nD) (t : Fin cfg0.N) (i : Fin 4) (k : Fin 2880) (r : Fin 384) : iblk m c 1 t (ix3 i k r) = (args m c).ct (ix3 i k r) := by
  obtain ⟨e0, e1, e2, e3, e4, e5, e6⟩ := idx t
  show _ = m ⟨c, main_arg1⟩ (ix3 i k r)
  blk_ext [iblk, V, e1]

theorem a_at (c : Dev nD) (t : Fin cfg0.N) (i : Fin 4) (r : Fin 384) : iblk m c 2 t (ix3 i 0 r) = (args m c).al (ix3 i 0 r) := by
  obtain ⟨e0, e1, e2, e3, e4, e5, e6⟩ := idx t
  show _ = m ⟨c, main_arg2⟩ (ix3 i 0 r)
  blk_ext [iblk, V, e2]

theorem g_at (c : Dev nD) (t : Fin cfg0.N) (n : Fin 512) : iblk m c 3 t (ix2 0 n) = (args m c).g (ix1 (col (512 * t.val + n.val))) := by
  obtain ⟨e0, e1, e2, e3, e4, e5, e6⟩ := idx t
  have ht : t.val < 15 := t.isLt
  show _ = m ⟨c, main_arg3⟩ (ix1 (col (512 * t.val + n.val)))
  have hc : col (512 * t.val + n.val) = ⟨512 * t.val + n.val, by omega⟩ := Fin.ext (Nat.mod_eq_of_lt (by omega))
  rw [hc]
  show V m c main_v0 ((win0_3.blk t).view.emb (ix2 0 n)) = _
  entry_read
  pointwise
  blk_ext [e3]

theorem wg_at (c : Dev nD) (t : Fin cfg0.N) (k : Fin 720) (n : Fin 512) : iblk m c 4 t (ix2 k n) = (args m c).wg (ix2 k (col (512 * t.val + n.val))) := by
  obtain ⟨e0, e1, e2, e3, e4, e5, e6⟩ := idx t
  have ht : t.val < 15 := t.isLt
  show _ = m ⟨c, main_arg4⟩ (ix2 k (col (512 * t.val + n.val)))
  have hc : col (512 * t.val + n.val) = ⟨512 * t.val + n.val, by omega⟩ := Fin.ext (Nat.mod_eq_of_lt (by omega))
  rw [hc]
  blk_ext [iblk, V, e4]

theorem wu_at (c : Dev nD) (t : Fin cfg0.N) (k : Fin 720) (n : Fin 512) : iblk m c 5 t (ix2 k n) = (args m c).wu (ix2 k (col (512 * t.val + n.val))) := by
  obtain ⟨e0, e1, e2, e3, e4, e5, e6⟩ := idx t
  have ht : t.val < 15 := t.isLt
  show _ = m ⟨c, main_arg5⟩ (ix2 k (col (512 * t.val + n.val)))
  have hc : col (512 * t.val + n.val) = ⟨512 * t.val + n.val, by omega⟩ := Fin.ext (Nat.mod_eq_of_lt (by omega))
  rw [hc]
  blk_ext [iblk, V, e5]

/-- The gate columns that a point unpacks into its scratch. -/
def UG (c : Dev nD) (t : Fin cfg0.N) : Vec Ideal S2880x512 .bf16 :=
  have B := View.readCov (Val := Elt Ideal) (s := S2880x512) (e := .bf16) (View.whole cc0_scratch4)
    [⟨Rect.unit ![2160, 0] ![720, 512] inb_S2880x512_S720x512_2160_0, k0_pay62 (iblk m c 4 t)⟩,
      ⟨Rect.unit ![1440, 0] ![720, 512] inb_S2880x512_S720x512_1440_0, k0_pay58 (iblk m c 4 t)⟩,
      ⟨Rect.unit ![720, 0] ![720, 512] inb_S2880x512_S720x512_720_0, k0_pay56 (k0_pay55 (iblk m c 4 t))⟩,
      ⟨Rect.unit ![0, 0] ![720, 512] inb_S2880x512_S720x512_0_0, k0_pay53 (iblk m c 4 t)⟩]
    (Rect.toLoadRect (Rect.unit (s := S2880x512) ![0, 0] ![2880, 512] inb_S2880x512_S2880x512_0_0))
  B

/-- The up columns that a point unpacks into its scratch. -/
def UU (c : Dev nD) (t : Fin cfg0.N) : Vec Ideal S2880x512 .bf16 :=
  have B := View.readCov (Val := Elt Ideal) (s := S2880x512) (e := .bf16) (View.whole cc0_scratch5)
    [⟨Rect.unit ![2160, 0] ![720, 512] inb_S2880x512_S720x512_2160_0, k0_pay63 (iblk m c 5 t)⟩,
      ⟨Rect.unit ![1440, 0] ![720, 512] inb_S2880x512_S720x512_1440_0, k0_pay61 (k0_pay59 (iblk m c 5 t)) k0_pay60⟩,
      ⟨Rect.unit ![720, 0] ![720, 512] inb_S2880x512_S720x512_720_0, k0_pay57 (iblk m c 5 t)⟩,
      ⟨Rect.unit ![0, 0] ![720, 512] inb_S2880x512_S720x512_0_0, k0_pay54 (iblk m c 5 t)⟩]
    (Rect.toLoadRect (Rect.unit (s := S2880x512) ![0, 0] ![2880, 512] inb_S2880x512_S2880x512_0_0))
  B

theorem w_fin (w : (⟨2, ![720, 7680]⟩ : Shape).Idx → BitVec 8) (v : Vec Ideal S720x512 .i8) (pay : FVec Ideal S720x512 .bf16) (f : ℕ)
    (hp : ∀ q n, pay (ix2 q n) = tern f (v (ix2 q n))) (k : Fin 2880) (n : Fin 512) (N : Fin 7680) (j : S720x512.Idx)
    (hv : ∀ q, v (ix2 q n) = w (ix2 q N)) (h0 : k.val = 720 * f + (j 0).val) (h1 : n.val = (j 1).val) : pay j = Ws w N k := by
  obtain ⟨q, n', rfl⟩ : ∃ (q : Fin 720) (n' : Fin 512), j = ix2 q n' := ⟨j 0, j 1, eq_ix2 j⟩
  have h0' : k.val = 720 * f + q.val := h0
  obtain rfl : n = n' := Fin.ext h1
  have hq := q.isLt
  rw [hp, hv, Ws]
  have e1 : k.val / 720 = f := by omega
  have e2 : (⟨k.val % 720, by omega⟩ : Fin 720) = q := Fin.ext (by show k.val % 720 = q.val; omega)
  rw [e1, e2]

theorem UG_at (c : Dev nD) (t : Fin cfg0.N) (k : Fin 2880) (n : Fin 512) :
    UG m c t (ix2 k n) = Ws (args m c).wg (col (512 * t.val + n.val)) k := by
  have hb := fun (q : Fin 720) => wg_at m c t q n
  unfold UG
  rw [View.readCov_eq_canon']
  show View.canon _ _ = _
  generalize hj : LoadRect.idx _ _ = j
  have j0 : (j 0).val = k.val := by rw [← hj]; exact (Nat.zero_add _).trans (Nat.one_mul _)
  have j1 : (j 1).val = n.val := by rw [← hj]; exact (Nat.zero_add _).trans (Nat.one_mul _)
  canon_tiles j h
  · exact w_fin _ _ _ 3 (Pay.pay62 _) k n _ j hb (by omega) (by omega)
  · exact w_fin _ _ _ 2 (Pay.pay58 _) k n _ j hb (by omega) (by omega)
  · exact w_fin _ _ _ 1 (fun q n => by rw [Pay.w55]; exact Pay.pay57 _ q n) k n _ j hb (by omega) (by omega)
  · exact w_fin _ _ _ 0 (Pay.pay53 _) k n _ j hb (by omega) (by omega)

theorem UU_at (c : Dev nD) (t : Fin cfg0.N) (k : Fin 2880) (n : Fin 512) :
    UU m c t (ix2 k n) = Ws (args m c).wu (col (512 * t.val + n.val)) k := by
  have hb := fun (q : Fin 720) => wu_at m c t q n
  unfold UU
  rw [View.readCov_eq_canon']
  show View.canon _ _ = _
  generalize hj : LoadRect.idx _ _ = j
  have j0 : (j 0).val = k.val := by rw [← hj]; exact (Nat.zero_add _).trans (Nat.one_mul _)
  have j1 : (j 1).val = n.val := by rw [← hj]; exact (Nat.zero_add _).trans (Nat.one_mul _)
  canon_tiles j h
  · exact w_fin _ _ _ 3 (fun q n => by rw [Pay.w63]; exact Pay.pay62 _ q n) k n _ j hb (by omega) (by omega)
  · exact w_fin _ _ _ 2 (fun q n => by rw [Pay.w61]; exact Pay.pay58 _ q n) k n _ j hb (by omega) (by omega)
  · exact w_fin _ _ _ 1 (Pay.pay57 _) k n _ j hb (by omega) (by omega)
  · exact w_fin _ _ _ 0 (fun q n => by rw [Pay.w54]; exact Pay.pay53 _ q n) k n _ j hb (by omega) (by omega)

theorem s0_at (c : Dev nD) (t : Fin cfg0.N) (h) : View.ld (iblk m c 0 t) (Rect.unit ![0] ![1] inb_S2_S1_0) (Shape.Idx.first h) = (args m c).s (ix1 0) := by
  refine (congrArg (iblk m c 0 t) ?_).trans (s_at m c t 0)
  funext a
  match a with
  | ⟨0, _⟩ => rfl

theorem s1_at (c : Dev nD) (t : Fin cfg0.N) (h) : View.ld (iblk m c 0 t) (Rect.unit ![1] ![1] inb_S2_S1_1) (Shape.Idx.first h) = (args m c).s (ix1 1) := by
  refine (congrArg (iblk m c 0 t) ?_).trans (s_at m c t 1)
  funext a
  match a with
  | ⟨0, _⟩ => rfl

/-- A slab of rows of an array, read at a row of the slab. -/
theorem slab {n : ℕ} {e : EltTy} (X : Vec Ideal (⟨2, ![1536, n]⟩ : Shape) e) (o : ℕ) (inb) (R : Fin 1536) (r : Fin 384) (hr : R.val = o + r.val) (k : Fin n) :
    View.ld (Val := Elt Ideal) (e' := e) X (Rect.unit (s := ⟨2, ![1536, n]⟩) ![o, 0] ![384, n] inb) (ix2 r k) = X (ix2 R k) := by
  refine congrArg X ?_
  funext a
  match a with
  | ⟨0, _⟩ => exact Fin.ext (by show o + 1 * r.val = R.val; omega)
  | ⟨1, _⟩ => exact Fin.ext (by show 0 + 1 * k.val = k.val; omega)

theorem x_init (c : Dev nD) (t : Fin cfg0.N) (b : Fin 4) (o : ℕ) (ho : o = 384 * b.val) (inb) (R : Fin 1536) (r : Fin 384) (hr : R.val = o + r.val) (k : Fin 2880) :
    k0_pay3 (F := Ideal) (View.ld (iblk m c 1 t) (Rect.unit (s := S4x2880x384) ![b.val, 0, 0] ![1, 2880, 384] inb)) (ix2 r k) = Xs (args m c).ct R k := by
  rw [Pay.pay3]
  have hr' := r.isLt
  have e1 : (⟨R.val / 384, by omega⟩ : Fin 4) = b := Fin.ext (by show R.val / 384 = b.val; omega)
  have e2 : (⟨R.val % 384, by omega⟩ : Fin 384) = r := Fin.ext (by show R.val % 384 = r.val; omega)
  rw [Xs, e1, e2, ← c_at m c t]
  refine congrArg (fun q => (((iblk m c 1 t q).toInt : ℝ) : EReal)) ?_
  funext a
  match a with
  | ⟨0, _⟩ => exact Fin.ext (by show b.val + 1 * 0 = b.val; omega)
  | ⟨1, _⟩ => exact Fin.ext (by show 0 + 1 * k.val = k.val; omega)
  | ⟨2, _⟩ => exact Fin.ext (by show 0 + 1 * r.val = r.val; omega)

theorem a_init (c : Dev nD) (t : Fin cfg0.N) (b : Fin 4) (o : ℕ) (ho : o = 384 * b.val) (inb) (R : Fin 1536) (r : Fin 384) (hr : R.val = o + r.val) (l : Fin 128) :
    k0_pay2 (F := Ideal) (View.ld (iblk m c 2 t) (Rect.unit (s := S4x1x384) ![b.val, 0, 0] ![1, 1, 384] inb)) (ix2 r l) = As (args m c).al R := by
  rw [Pay.pay2]
  have hr' := r.isLt
  have e1 : (⟨R.val / 384, by omega⟩ : Fin 4) = b := Fin.ext (by show R.val / 384 = b.val; omega)
  have e2 : (⟨R.val % 384, by omega⟩ : Fin 384) = r := Fin.ext (by show R.val % 384 = r.val; omega)
  rw [As, e1, e2, ← a_at m c t]
  refine congrArg (fun q => iblk m c 2 t q) ?_
  funext a
  match a with
  | ⟨0, _⟩ => exact Fin.ext (by show b.val + 1 * 0 = b.val; omega)
  | ⟨1, _⟩ => rfl
  | ⟨2, _⟩ => exact Fin.ext (by show 0 + 1 * r.val = r.val; omega)

section
variable (c : Dev nD) (t : Fin cfg0.N) (R : Fin 1536) (r : Fin 384) (x : Vec Ideal S384x2880 .bf16) (a v : Vec Ideal S384x128 .f32)
  (s0 s1 : Elt Ideal .f32)
  (hs0 : s0 = (args m c).s (ix1 0)) (hs1 : s1 = (args m c).s (ix1 1))
  (hx : ∀ k, x (ix2 r k) = Xs (args m c).ct R k) (ha : ∀ l, a (ix2 r l) = As (args m c).al R)

include hs0 hs1 hx ha

theorem m_row (n : Fin 512) : k0_pay66 (F := Ideal) x (k0_pay65 a) (UG m c t) s0 (UU m c t) s1 (ix2 r n)
    = Ms (args m c) R (col (512 * t.val + n.val)) := by
  rw [Pay.pay66 x a (UG m c t) (UU m c t) s0 s1 r (Xs (args m c).ct R) (As (args m c).al R) (Ws (args m c).wg (col (512 * t.val + n.val)))
    (Ws (args m c).wu (col (512 * t.val + n.val))) n hx ha (fun k => UG_at m c t k n) (fun k => UU_at m c t k n), hs0, hs1]
  rfl

theorem ss_row (l : Fin 128) : k0_pay68 (F := Ideal) x (k0_pay65 a) (UG m c t) s0 (UU m c t) s1 v (ix2 r l)
    = v (ix2 r l) + Tb (args m c) R t.val l.val :=
  Pay.pay68 x (k0_pay65 a) (UG m c t) (UU m c t) s0 s1 r (fun n => Ms (args m c) R (col (512 * t.val + n))) v l
    (fun n => m_row m c t R r x a s0 s1 hs0 hs1 hx ha n)

theorem mx_row (l : Fin 128) : k0_pay69 (F := Ideal) (k0_pay67 (k0_pay64 (iblk m c 3 t)) x (k0_pay65 a) (UG m c t) s0 (UU m c t) s1 v) (ix2 r l)
    = max (v (ix2 r l)) (Gb (args m c) R t.val l.val) := by
  refine eq_of_forall_ge_iff fun z => ?_
  rw [Pay.pay69 (iblk m c 3 t) x (k0_pay65 a) (UG m c t) (UU m c t) s0 s1 r (fun n => Gs (args m c) R (col (512 * t.val + n))) v l z
    (fun n => by rw [m_row m c t R r x a s0 s1 hs0 hs1 hx ha n, g_at]; rfl)]
  rw [max_le_iff, Gb, max_le_iff, max_le_iff, max_le_iff]
  refine and_congr Iff.rfl ⟨fun h => ⟨h 0, h 1, h 2, h 3⟩, fun ⟨h0, h1, h2, h3⟩ j => ?_⟩
  match j with
  | ⟨0, _⟩ => exact h0
  | ⟨1, _⟩ => exact h1
  | ⟨2, _⟩ => exact h2
  | ⟨3, _⟩ => exact h3
end

end Cert.GateUpIdeal.Point

end
-- ==== Proof.States.lean ====
/-
  What each grid point of the gate/up kernel leaves in its buffers, from what the point before left.
-/
module

public import proofs.«01_k».proof.Proof.Point

@[expose] public section

set_option maxRecDepth 16384

noncomputable section

open Idealize.ShloMosaic Idealize.ShloMosaic.TcCoe Idealize.SL.Sem
open Idealize.ShloMosaic.Pipeline (Dat)

namespace Cert.GateUpIdeal.Point

open Cert.GateUpIdeal Cert.GateUpIdeal.Gen Cert.GateUpIdeal.Value Cert.Spec Cert.Tern

variable (m : (ℓ : Loc nD τ sig) → Buf (Elt Ideal) ℓ)

/-- Stores that cover an index hide what was stored there before. -/
theorem canon_app {S : Shape} {e : EltTy} (L' : List (View.Piece (Elt Ideal) S e)) : ∀ (L : List (View.Piece (Elt Ideal) S e)) (y : S.Idx)
    (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_app L' L y ?_
      obtain ⟨q, hq, hyq⟩ := hy
      rcases List.mem_cons.mp hq with rfl | hq'
      · exact absurd hyq hm
      · exact ⟨q, hq', hyq⟩

theorem canon_cut {S : Shape} {e : EltTy} (p1 p2 p3 p4 p5 : View.Piece (Elt Ideal) S e) (y : S.Idx)
    (h : ∃ p ∈ [p1, p2, p3, p4], y ∈ p.1.set) : View.canon [p1, p2, p3, p4, p5] y = View.canon [p1, p2, p3, p4] y :=
  canon_app [p5] [p1, p2, p3, p4] y h

/-- A stored piece of rows, at an index of the piece, from what it holds along the row it stands for. -/
theorem piece {n : ℕ} (P : (⟨2, ![384, n]⟩ : Shape).Idx → EReal) (o : ℕ) (R : Fin 1536) (l : Fin n) (v : EReal) (j : (⟨2, ![384, n]⟩ : Shape).Idx)
    (h : ∀ r : Fin 384, R.val = o + r.val → P (ix2 r l) = v) (h0 : R.val = o + (j 0).val) (h1 : l.val = (j 1).val) : P j = v := by
  have hj : j = ix2 (n0 := 384) (n1 := n) (j 0) l := by
    funext a
    match a with
    | ⟨0, _⟩ => rfl
    | ⟨1, _⟩ => exact (Fin.ext h1).symm
  rw [hj]
  exact h (j 0) h0

theorem x_A (c : Dev nD) (t : Fin cfg0.N) (hA : t.val % 15 = 0) (hB : ¬ t.val % 15 = 14) (R : Fin 1536) (l : Fin 2880) :
    (outsAt0 m c t.val t.isLt).2.2.2.2.2.1 (ix2 R l) = Xs (args m c).ct R l := by
  rw [outsAt0_A m c t hA hB]
  frame_open
  simp (disch := decide) only [↓ View.readCov_skip, ↓ View.readCov_cons_toLoadRect, ↓ View.readCov_fill]
  frame_out
  show View.canon _ (ix2 R l) = _
  generalize hi : (ix2 R l : S1536x2880.Idx) = i
  have i0 : (i 0).val = R.val := by rw [← hi]; rfl
  have i1 : (i 1).val = l.val := by rw [← hi]; rfl
  canon_tiles j h
  · refine piece _ 1152 R l _ j (fun r hr => ?_) (by omega) (by omega)
    rw [Pay.x3]
    exact x_init m c t 3 1152 rfl _ R r hr l
  · refine piece _ 768 R l _ j (fun r hr => ?_) (by omega) (by omega)
    rw [Pay.x2]
    exact x_init m c t 2 768 rfl _ R r hr l
  · refine piece _ 384 R l _ j (fun r hr => ?_) (by omega) (by omega)
    rw [Pay.x1]
    exact x_init m c t 1 384 rfl _ R r hr l
  · refine piece _ 0 R l _ j (fun r hr => ?_) (by omega) (by omega)
    exact x_init m c t 0 0 rfl _ R r hr l

theorem a_A (c : Dev nD) (t : Fin cfg0.N) (hA : t.val % 15 = 0) (hB : ¬ t.val % 15 = 14) (R : Fin 1536) (l : Fin 128) :
    (outsAt0 m c t.val t.isLt).2.2.2.2.2.2.1 (ix2 R l) = As (args m c).al R := by
  rw [outsAt0_A m c t hA hB]
  frame_open
  simp (disch := decide) only [↓ View.readCov_skip, ↓ View.readCov_cons_toLoadRect, ↓ View.readCov_fill]
  frame_out
  show View.canon _ (ix2 R l) = _
  generalize hi : (ix2 R l : S1536x128.Idx) = i
  have i0 : (i 0).val = R.val := by rw [← hi]; rfl
  have i1 : (i 1).val = l.val := by rw [← hi]; rfl
  canon_tiles j h
  · refine piece _ 1152 R l _ j (fun r hr => ?_) (by omega) (by omega)
    rw [Pay.a3]
    exact a_init m c t 3 1152 rfl _ R r hr l
  · refine piece _ 768 R l _ j (fun r hr => ?_) (by omega) (by omega)
    rw [Pay.a2]
    exact a_init m c t 2 768 rfl _ R r hr l
  · refine piece _ 384 R l _ j (fun r hr => ?_) (by omega) (by omega)
    rw [Pay.a1]
    exact a_init m c t 1 384 rfl _ R r hr l
  · refine piece _ 0 R l _ j (fun r hr => ?_) (by omega) (by omega)
    exact a_init m c t 0 0 rfl _ R r hr l

theorem x_B (c : Dev nD) (t : Fin cfg0.N) (hA : ¬ t.val % 15 = 0) (hB : ¬ t.val % 15 = 14) :
    (outsAt0 m c t.val t.isLt).2.2.2.2.2.1 = (outsAt0 m c (t.val - 1) (Nat.lt_of_le_of_lt (Nat.sub_le _ _) t.isLt)).2.2.2.2.2.1 := by
  rw [outsAt0_B m c t hA hB]
  rfl

theorem x_C (c : Dev nD) (t : Fin cfg0.N) (hA : ¬ t.val % 15 = 0) (hB : t.val % 15 = 14) :
    (outsAt0 m c t.val t.isLt).2.2.2.2.2.1 = (outsAt0 m c (t.val - 1) (Nat.lt_of_le_of_lt (Nat.sub_le _ _) t.isLt)).2.2.2.2.2.1 := by
  rw [outsAt0_C m c t hA hB]
  rfl

theorem a_B (c : Dev nD) (t : Fin cfg0.N) (hA : ¬ t.val % 15 = 0) (hB : ¬ t.val % 15 = 14) :
    (outsAt0 m c t.val t.isLt).2.2.2.2.2.2.1 = (outsAt0 m c (t.val - 1) (Nat.lt_of_le_of_lt (Nat.sub_le _ _) t.isLt)).2.2.2.2.2.2.1 := by
  rw [outsAt0_B m c t hA hB]
  rfl

theorem a_C (c : Dev nD) (t : Fin cfg0.N) (hA : ¬ t.val % 15 = 0) (hB : t.val % 15 = 14) :
    (outsAt0 m c t.val t.isLt).2.2.2.2.2.2.1 = (outsAt0 m c (t.val - 1) (Nat.lt_of_le_of_lt (Nat.sub_le _ _) t.isLt)).2.2.2.2.2.2.1 := by
  rw [outsAt0_C m c t hA hB]
  rfl

theorem ss_A (c : Dev nD) (t : Fin cfg0.N) (hA : t.val % 15 = 0) (hB : ¬ t.val % 15 = 14) (R : Fin 1536) (l : Fin 128) :
    (outsAt0 m c t.val t.isLt).2.2.2.2.2.2.2.1 (ix2 R l) = k0_pay51 (F := Ideal) (ix2 R l) + Tb (args m c) R t.val l.val := by
  rw [outsAt0_A m c t hA hB]
  frame_open
  simp (disch := decide) only [↓ View.readCov_skip, ↓ View.readCov_cons_toLoadRect, ↓ View.readCov_fill]
  frame_out
  show View.canon _ (ix2 R l) = _
  generalize hw : k0_pay51 (F := Ideal) (ix2 R l) + Tb (args m c) R t.val l.val = w
  generalize hi : (ix2 R l : S1536x128.Idx) = i
  have i0 : (i 0).val = R.val := by rw [← hi]; rfl
  have i1 : (i 1).val = l.val := by rw [← hi]; rfl
  subst hw
  refine (canon_cut _ _ _ _ _ _ (View.cover_of_tiled_head _ _ _ rfl _)).trans ?_
  canon_tiles j h
  · refine piece _ 1152 R l _ j (fun r hr => ?_) (by omega) (by omega)
    rw [Pay.ss3]
    exact (ss_row m c t R r _ _ _ _ _ (s0_at m c t _) (s1_at m c t _) (fun k => x_init m c t 3 1152 rfl _ R r hr k) (fun l => a_init m c t 3 1152 rfl _ R r hr l) l).trans (congrArg (· + Tb (args m c) R t.val l.val) (slab _ 1152 _ R r hr l))
  · refine piece _ 768 R l _ j (fun r hr => ?_) (by omega) (by omega)
    rw [Pay.ss2]
    exact (ss_row m c t R r _ _ _ _ _ (s0_at m c t _) (s1_at m c t _) (fun k => x_init m c t 2 768 rfl _ R r hr k) (fun l => a_init m c t 2 768 rfl _ R r hr l) l).trans (congrArg (· + Tb (args m c) R t.val l.val) (slab _ 768 _ R r hr l))
  · refine piece _ 384 R l _ j (fun r hr => ?_) (by omega) (by omega)
    rw [Pay.ss1]
    exact (ss_row m c t R r _ _ _ _ _ (s0_at m c t _) (s1_at m c t _) (fun k => x_init m c t 1 384 rfl _ R r hr k) (fun l => a_init m c t 1 384 rfl _ R r hr l) l).trans (congrArg (· + Tb (args m c) R t.val l.val) (slab _ 384 _ R r hr l))
  · refine piece _ 0 R l _ j (fun r hr => ?_) (by omega) (by omega)
    exact (ss_row m c t R r _ _ _ _ _ (s0_at m c t _) (s1_at m c t _) (fun k => x_init m c t 0 0 rfl _ R r hr k) (fun l => a_init m c t 0 0 rfl _ R r hr l) l).trans (congrArg (· + Tb (args m c) R t.val l.val) (slab _ 0 _ R r hr l))

theorem mx_A (c : Dev nD) (t : Fin cfg0.N) (hA : t.val % 15 = 0) (hB : ¬ t.val % 15 = 14) (R : Fin 1536) (l : Fin 128) :
    (outsAt0 m c t.val t.isLt).2.2.2.2.2.2.2.2 (ix2 R l) = max (k0_pay52 (F := Ideal) (ix2 R l)) (Gb (args m c) R t.val l.val) := by
  rw [outsAt0_A m c t hA hB]
  frame_open
  simp (disch := decide) only [↓ View.readCov_skip, ↓ View.readCov_cons_toLoadRect, ↓ View.readCov_fill]
  frame_out
  show View.canon _ (ix2 R l) = _
  generalize hw : max (k0_pay52 (F := Ideal) (ix2 R l)) (Gb (args m c) R t.val l.val) = w
  generalize hi : (ix2 R l : S1536x128.Idx) = i
  have i0 : (i 0).val = R.val := by rw [← hi]; rfl
  have i1 : (i 1).val = l.val := by rw [← hi]; rfl
  subst hw
  refine (canon_cut _ _ _ _ _ _ (View.cover_of_tiled_head _ _ _ rfl _)).trans ?_
  canon_tiles j h
  · refine piece _ 1152 R l _ j (fun r hr => ?_) (by omega) (by omega)
    rw [Pay.mx3]
    exact (mx_row m c t R r _ _ _ _ _ (s0_at m c t _) (s1_at m c t _) (fun k => x_init m c t 3 1152 rfl _ R r hr k) (fun l => a_init m c t 3 1152 rfl _ R r hr l) l).trans (congrArg (max · (Gb (args m c) R t.val l.val)) (slab _ 1152 _ R r hr l))
  · refine piece _ 768 R l _ j (fun r hr => ?_) (by omega) (by omega)
    rw [Pay.mx2]
    exact (mx_row m c t R r _ _ _ _ _ (s0_at m c t _) (s1_at m c t _) (fun k => x_init m c t 2 768 rfl _ R r hr k) (fun l => a_init m c t 2 768 rfl _ R r hr l) l).trans (congrArg (max · (Gb (args m c) R t.val l.val)) (slab _ 768 _ R r hr l))
  · refine piece _ 384 R l _ j (fun r hr => ?_) (by omega) (by omega)
    rw [Pay.mx1]
    exact (mx_row m c t R r _ _ _ _ _ (s0_at m c t _) (s1_at m c t _) (fun k => x_init m c t 1 384 rfl _ R r hr k) (fun l => a_init m c t 1 384 rfl _ R r hr l) l).trans (congrArg (max · (Gb (args m c) R t.val l.val)) (slab _ 384 _ R r hr l))
  · refine piece _ 0 R l _ j (fun r hr => ?_) (by omega) (by omega)
    exact (mx_row m c t R r _ _ _ _ _ (s0_at m c t _) (s1_at m c t _) (fun k => x_init m c t 0 0 rfl _ R r hr k) (fun l => a_init m c t 0 0 rfl _ R r hr l) l).trans (congrArg (max · (Gb (args m c) R t.val l.val)) (slab _ 0 _ R r hr l))

theorem m_A (c : Dev nD) (t : Fin cfg0.N) (hA : t.val % 15 = 0) (hB : ¬ t.val % 15 = 14) (R : Fin 1536) (l : Fin 512) :
    (outsAt0 m c t.val t.isLt).1 (ix2 R l) = Ms (args m c) R (col (512 * t.val + l.val)) := by
  rw [outsAt0_A m c t hA hB]
  frame_open
  simp (disch := decide) only [↓ View.readCov_skip, ↓ View.readCov_cons_toLoadRect, ↓ View.readCov_fill]
  frame_out
  show View.canon _ (ix2 R l) = _
  generalize hw : Ms (args m c) R (col (512 * t.val + l.val)) = w
  generalize hi : (ix2 R l : S1536x512.Idx) = i
  have i0 : (i 0).val = R.val := by rw [← hi]; rfl
  have i1 : (i 1).val = l.val := by rw [← hi]; rfl
  subst hw
  canon_tiles j h
  · refine piece _ 1152 R l _ j (fun r hr => ?_) (by omega) (by omega)
    rw [Pay.m3]
    exact m_row m c t R r _ _ _ _ (s0_at m c t _) (s1_at m c t _) (fun k => x_init m c t 3 1152 rfl _ R r hr k) (fun l => a_init m c t 3 1152 rfl _ R r hr l) l
  · refine piece _ 768 R l _ j (fun r hr => ?_) (by omega) (by omega)
    rw [Pay.m2]
    exact m_row m c t R r _ _ _ _ (s0_at m c t _) (s1_at m c t _) (fun k => x_init m c t 2 768 rfl _ R r hr k) (fun l => a_init m c t 2 768 rfl _ R r hr l) l
  · refine piece _ 384 R l _ j (fun r hr => ?_) (by omega) (by omega)
    rw [Pay.m1]
    exact m_row m c t R r _ _ _ _ (s0_at m c t _) (s1_at m c t _) (fun k => x_init m c t 1 384 rfl _ R r hr k) (fun l => a_init m c t 1 384 rfl _ R r hr l) l
  · refine piece _ 0 R l _ j (fun r hr => ?_) (by omega) (by omega)
    exact m_row m c t R r _ _ _ _ (s0_at m c t _) (s1_at m c t _) (fun k => x_init m c t 0 0 rfl _ R r hr k) (fun l => a_init m c t 0 0 rfl _ R r hr l) l

theorem ss_B (c : Dev nD) (t : Fin cfg0.N) (hA : ¬ t.val % 15 = 0) (hB : ¬ t.val % 15 = 14)
    (hX : ∀ R k, (outsAt0 m c (t.val - 1) (Nat.lt_of_le_of_lt (Nat.sub_le _ _) t.isLt)).2.2.2.2.2.1 (ix2 R k) = Xs (args m c).ct R k)
    (hAc : ∀ R l, (outsAt0 m c (t.val - 1) (Nat.lt_of_le_of_lt (Nat.sub_le _ _) t.isLt)).2.2.2.2.2.2.1 (ix2 R l) = As (args m c).al R) (R : Fin 1536) (l : Fin 128) :
    (outsAt0 m c t.val t.isLt).2.2.2.2.2.2.2.1 (ix2 R l) = (outsAt0 m c (t.val - 1) (Nat.lt_of_le_of_lt (Nat.sub_le _ _) t.isLt)).2.2.2.2.2.2.2.1 (ix2 R l) + Tb (args m c) R t.val l.val := by
  rw [outsAt0_B m c t hA hB]
  frame_open
  simp (disch := decide) only [↓ View.readCov_skip, ↓ View.readCov_cons_toLoadRect, ↓ View.readCov_fill]
  frame_out
  simp only [read_unread_whole]
  show View.canon _ (ix2 R l) = _
  generalize hw : (outsAt0 m c (t.val - 1) (Nat.lt_of_le_of_lt (Nat.sub_le _ _) t.isLt)).2.2.2.2.2.2.2.1 (ix2 R l) + Tb (args m c) R t.val l.val = w
  generalize hi : (ix2 R l : S1536x128.Idx) = i
  have i0 : (i 0).val = R.val := by rw [← hi]; rfl
  have i1 : (i 1).val = l.val := by rw [← hi]; rfl
  subst hw
  canon_tiles j h
  · refine piece _ 1152 R l _ j (fun r hr => ?_) (by omega) (by omega)
    rw [Pay.ss3]
    exact (ss_row m c t R r _ _ _ _ _ (s0_at m c t _) (s1_at m c t _) (fun k => (slab _ 1152 _ R r hr k).trans (hX R k)) (fun l => (slab _ 1152 _ R r hr l).trans (hAc R l)) l).trans (congrArg (· + Tb (args m c) R t.val l.val) (slab _ 1152 _ R r hr l))
  · refine piece _ 768 R l _ j (fun r hr => ?_) (by omega) (by omega)
    rw [Pay.ss2]
    exact (ss_row m c t R r _ _ _ _ _ (s0_at m c t _) (s1_at m c t _) (fun k => (slab _ 768 _ R r hr k).trans (hX R k)) (fun l => (slab _ 768 _ R r hr l).trans (hAc R l)) l).trans (congrArg (· + Tb (args m c) R t.val l.val) (slab _ 768 _ R r hr l))
  · refine piece _ 384 R l _ j (fun r hr => ?_) (by omega) (by omega)
    rw [Pay.ss1]
    exact (ss_row m c t R r _ _ _ _ _ (s0_at m c t _) (s1_at m c t _) (fun k => (slab _ 384 _ R r hr k).trans (hX R k)) (fun l => (slab _ 384 _ R r hr l).trans (hAc R l)) l).trans (congrArg (· + Tb (args m c) R t.val l.val) (slab _ 384 _ R r hr l))
  · refine piece _ 0 R l _ j (fun r hr => ?_) (by omega) (by omega)
    exact (ss_row m c t R r _ _ _ _ _ (s0_at m c t _) (s1_at m c t _) (fun k => (slab _ 0 _ R r hr k).trans (hX R k)) (fun l => (slab _ 0 _ R r hr l).trans (hAc R l)) l).trans (congrArg (· + Tb (args m c) R t.val l.val) (slab _ 0 _ R r hr l))

theorem mx_B (c : Dev nD) (t : Fin cfg0.N) (hA : ¬ t.val % 15 = 0) (hB : ¬ t.val % 15 = 14)
    (hX : ∀ R k, (outsAt0 m c (t.val - 1) (Nat.lt_of_le_of_lt (Nat.sub_le _ _) t.isLt)).2.2.2.2.2.1 (ix2 R k) = Xs (args m c).ct R k)
    (hAc : ∀ R l, (outsAt0 m c (t.val - 1) (Nat.lt_of_le_of_lt (Nat.sub_le _ _) t.isLt)).2.2.2.2.2.2.1 (ix2 R l) = As (args m c).al R) (R : Fin 1536) (l : Fin 128) :
    (outsAt0 m c t.val t.isLt).2.2.2.2.2.2.2.2 (ix2 R l) = max ((outsAt0 m c (t.val - 1) (Nat.lt_of_le_of_lt (Nat.sub_le _ _) t.isLt)).2.2.2.2.2.2.2.2 (ix2 R l)) (Gb (args m c) R t.val l.val) := by
  rw [outsAt0_B m c t hA hB]
  frame_open
  simp (disch := decide) only [↓ View.readCov_skip, ↓ View.readCov_cons_toLoadRect, ↓ View.readCov_fill]
  frame_out
  simp only [read_unread_whole]
  show View.canon _ (ix2 R l) = _
  generalize hw : max ((outsAt0 m c (t.val - 1) (Nat.lt_of_le_of_lt (Nat.sub_le _ _) t.isLt)).2.2.2.2.2.2.2.2 (ix2 R l)) (Gb (args m c) R t.val l.val) = w
  generalize hi : (ix2 R l : S1536x128.Idx) = i
  have i0 : (i 0).val = R.val := by rw [← hi]; rfl
  have i1 : (i 1).val = l.val := by rw [← hi]; rfl
  subst hw
  canon_tiles j h
  · refine piece _ 1152 R l _ j (fun r hr => ?_) (by omega) (by omega)
    rw [Pay.mx3]
    exact (mx_row m c t R r _ _ _ _ _ (s0_at m c t _) (s1_at m c t _) (fun k => (slab _ 1152 _ R r hr k).trans (hX R k)) (fun l => (slab _ 1152 _ R r hr l).trans (hAc R l)) l).trans (congrArg (max · (Gb (args m c) R t.val l.val)) (slab _ 1152 _ R r hr l))
  · refine piece _ 768 R l _ j (fun r hr => ?_) (by omega) (by omega)
    rw [Pay.mx2]
    exact (mx_row m c t R r _ _ _ _ _ (s0_at m c t _) (s1_at m c t _) (fun k => (slab _ 768 _ R r hr k).trans (hX R k)) (fun l => (slab _ 768 _ R r hr l).trans (hAc R l)) l).trans (congrArg (max · (Gb (args m c) R t.val l.val)) (slab _ 768 _ R r hr l))
  · refine piece _ 384 R l _ j (fun r hr => ?_) (by omega) (by omega)
    rw [Pay.mx1]
    exact (mx_row m c t R r _ _ _ _ _ (s0_at m c t _) (s1_at m c t _) (fun k => (slab _ 384 _ R r hr k).trans (hX R k)) (fun l => (slab _ 384 _ R r hr l).trans (hAc R l)) l).trans (congrArg (max · (Gb (args m c) R t.val l.val)) (slab _ 384 _ R r hr l))
  · refine piece _ 0 R l _ j (fun r hr => ?_) (by omega) (by omega)
    exact (mx_row m c t R r _ _ _ _ _ (s0_at m c t _) (s1_at m c t _) (fun k => (slab _ 0 _ R r hr k).trans (hX R k)) (fun l => (slab _ 0 _ R r hr l).trans (hAc R l)) l).trans (congrArg (max · (Gb (args m c) R t.val l.val)) (slab _ 0 _ R r hr l))

theorem m_B (c : Dev nD) (t : Fin cfg0.N) (hA : ¬ t.val % 15 = 0) (hB : ¬ t.val % 15 = 14)
    (hX : ∀ R k, (outsAt0 m c (t.val - 1) (Nat.lt_of_le_of_lt (Nat.sub_le _ _) t.isLt)).2.2.2.2.2.1 (ix2 R k) = Xs (args m c).ct R k)
    (hAc : ∀ R l, (outsAt0 m c (t.val - 1) (Nat.lt_of_le_of_lt (Nat.sub_le _ _) t.isLt)).2.2.2.2.2.2.1 (ix2 R l) = As (args m c).al R) (R : Fin 1536) (l : Fin 512) :
    (outsAt0 m c t.val t.isLt).1 (ix2 R l) = Ms (args m c) R (col (512 * t.val + l.val)) := by
  rw [outsAt0_B m c t hA hB]
  frame_open
  simp (disch := decide) only [↓ View.readCov_skip, ↓ View.readCov_cons_toLoadRect, ↓ View.readCov_fill]
  frame_out
  simp only [read_unread_whole]
  show View.canon _ (ix2 R l) = _
  generalize hw : Ms (args m c) R (col (512 * t.val + l.val)) = w
  generalize hi : (ix2 R l : S1536x512.Idx) = i
  have i0 : (i 0).val = R.val := by rw [← hi]; rfl
  have i1 : (i 1).val = l.val := by rw [← hi]; rfl
  subst hw
  canon_tiles j h
  · refine piece _ 1152 R l _ j (fun r hr => ?_) (by omega) (by omega)
    rw [Pay.m3]
    exact m_row m c t R r _ _ _ _ (s0_at m c t _) (s1_at m c t _) (fun k => (slab _ 1152 _ R r hr k).trans (hX R k)) (fun l => (slab _ 1152 _ R r hr l).trans (hAc R l)) l
  · refine piece _ 768 R l _ j (fun r hr => ?_) (by omega) (by omega)
    rw [Pay.m2]
    exact m_row m c t R r _ _ _ _ (s0_at m c t _) (s1_at m c t _) (fun k => (slab _ 768 _ R r hr k).trans (hX R k)) (fun l => (slab _ 768 _ R r hr l).trans (hAc R l)) l
  · refine piece _ 384 R l _ j (fun r hr => ?_) (by omega) (by omega)
    rw [Pay.m1]
    exact m_row m c t R r _ _ _ _ (s0_at m c t _) (s1_at m c t _) (fun k => (slab _ 384 _ R r hr k).trans (hX R k)) (fun l => (slab _ 384 _ R r hr l).trans (hAc R l)) l
  · refine piece _ 0 R l _ j (fun r hr => ?_) (by omega) (by omega)
    exact m_row m c t R r _ _ _ _ (s0_at m c t _) (s1_at m c t _) (fun k => (slab _ 0 _ R r hr k).trans (hX R k)) (fun l => (slab _ 0 _ R r hr l).trans (hAc R l)) l

theorem ss_C (c : Dev nD) (t : Fin cfg0.N) (hA : ¬ t.val % 15 = 0) (hB : t.val % 15 = 14)
    (hX : ∀ R k, (outsAt0 m c (t.val - 1) (Nat.lt_of_le_of_lt (Nat.sub_le _ _) t.isLt)).2.2.2.2.2.1 (ix2 R k) = Xs (args m c).ct R k)
    (hAc : ∀ R l, (outsAt0 m c (t.val - 1) (Nat.lt_of_le_of_lt (Nat.sub_le _ _) t.isLt)).2.2.2.2.2.2.1 (ix2 R l) = As (args m c).al R) (R : Fin 1536) (l : Fin 128) :
    (outsAt0 m c t.val t.isLt).2.2.2.2.2.2.2.1 (ix2 R l) = (outsAt0 m c (t.val - 1) (Nat.lt_of_le_of_lt (Nat.sub_le _ _) t.isLt)).2.2.2.2.2.2.2.1 (ix2 R l) + Tb (args m c) R t.val l.val := by
  rw [outsAt0_C m c t hA hB]
  frame_open
  simp (disch := decide) only [↓ View.readCov_skip, ↓ View.readCov_cons_toLoadRect, ↓ View.readCov_fill]
  frame_out
  simp only [read_unread_whole]
  show View.canon _ (ix2 R l) = _
  generalize hw : (outsAt0 m c (t.val - 1) (Nat.lt_of_le_of_lt (Nat.sub_le _ _) t.isLt)).2.2.2.2.2.2.2.1 (ix2 R l) + Tb (args m c) R t.val l.val = w
  generalize hi : (ix2 R l : S1536x128.Idx) = i
  have i0 : (i 0).val = R.val := by rw [← hi]; rfl
  have i1 : (i 1).val = l.val := by rw [← hi]; rfl
  subst hw
  canon_tiles j h
  · refine piece _ 1152 R l _ j (fun r hr => ?_) (by omega) (by omega)
    rw [Pay.ss3]
    exact (ss_row m c t R r _ _ _ _ _ (s0_at m c t _) (s1_at m c t _) (fun k => (slab _ 1152 _ R r hr k).trans (hX R k)) (fun l => (slab _ 1152 _ R r hr l).trans (hAc R l)) l).trans (congrArg (· + Tb (args m c) R t.val l.val) (slab _ 1152 _ R r hr l))
  · refine piece _ 768 R l _ j (fun r hr => ?_) (by omega) (by omega)
    rw [Pay.ss2]
    exact (ss_row m c t R r _ _ _ _ _ (s0_at m c t _) (s1_at m c t _) (fun k => (slab _ 768 _ R r hr k).trans (hX R k)) (fun l => (slab _ 768 _ R r hr l).trans (hAc R l)) l).trans (congrArg (· + Tb (args m c) R t.val l.val) (slab _ 768 _ R r hr l))
  · refine piece _ 384 R l _ j (fun r hr => ?_) (by omega) (by omega)
    rw [Pay.ss1]
    exact (ss_row m c t R r _ _ _ _ _ (s0_at m c t _) (s1_at m c t _) (fun k => (slab _ 384 _ R r hr k).trans (hX R k)) (fun l => (slab _ 384 _ R r hr l).trans (hAc R l)) l).trans (congrArg (· + Tb (args m c) R t.val l.val) (slab _ 384 _ R r hr l))
  · refine piece _ 0 R l _ j (fun r hr => ?_) (by omega) (by omega)
    exact (ss_row m c t R r _ _ _ _ _ (s0_at m c t _) (s1_at m c t _) (fun k => (slab _ 0 _ R r hr k).trans (hX R k)) (fun l => (slab _ 0 _ R r hr l).trans (hAc R l)) l).trans (congrArg (· + Tb (args m c) R t.val l.val) (slab _ 0 _ R r hr l))

theorem mx_C (c : Dev nD) (t : Fin cfg0.N) (hA : ¬ t.val % 15 = 0) (hB : t.val % 15 = 14)
    (hX : ∀ R k, (outsAt0 m c (t.val - 1) (Nat.lt_of_le_of_lt (Nat.sub_le _ _) t.isLt)).2.2.2.2.2.1 (ix2 R k) = Xs (args m c).ct R k)
    (hAc : ∀ R l, (outsAt0 m c (t.val - 1) (Nat.lt_of_le_of_lt (Nat.sub_le _ _) t.isLt)).2.2.2.2.2.2.1 (ix2 R l) = As (args m c).al R) (R : Fin 1536) (l : Fin 128) :
    (outsAt0 m c t.val t.isLt).2.2.2.2.2.2.2.2 (ix2 R l) = max ((outsAt0 m c (t.val - 1) (Nat.lt_of_le_of_lt (Nat.sub_le _ _) t.isLt)).2.2.2.2.2.2.2.2 (ix2 R l)) (Gb (args m c) R t.val l.val) := by
  rw [outsAt0_C m c t hA hB]
  frame_open
  simp (disch := decide) only [↓ View.readCov_skip, ↓ View.readCov_cons_toLoadRect, ↓ View.readCov_fill]
  frame_out
  simp only [read_unread_whole]
  show View.canon _ (ix2 R l) = _
  generalize hw : max ((outsAt0 m c (t.val - 1) (Nat.lt_of_le_of_lt (Nat.sub_le _ _) t.isLt)).2.2.2.2.2.2.2.2 (ix2 R l)) (Gb (args m c) R t.val l.val) = w
  generalize hi : (ix2 R l : S1536x128.Idx) = i
  have i0 : (i 0).val = R.val := by rw [← hi]; rfl
  have i1 : (i 1).val = l.val := by rw [← hi]; rfl
  subst hw
  canon_tiles j h
  · refine piece _ 1152 R l _ j (fun r hr => ?_) (by omega) (by omega)
    rw [Pay.mx3]
    exact (mx_row m c t R r _ _ _ _ _ (s0_at m c t _) (s1_at m c t _) (fun k => (slab _ 1152 _ R r hr k).trans (hX R k)) (fun l => (slab _ 1152 _ R r hr l).trans (hAc R l)) l).trans (congrArg (max · (Gb (args m c) R t.val l.val)) (slab _ 1152 _ R r hr l))
  · refine piece _ 768 R l _ j (fun r hr => ?_) (by omega) (by omega)
    rw [Pay.mx2]
    exact (mx_row m c t R r _ _ _ _ _ (s0_at m c t _) (s1_at m c t _) (fun k => (slab _ 768 _ R r hr k).trans (hX R k)) (fun l => (slab _ 768 _ R r hr l).trans (hAc R l)) l).trans (congrArg (max · (Gb (args m c) R t.val l.val)) (slab _ 768 _ R r hr l))
  · refine piece _ 384 R l _ j (fun r hr => ?_) (by omega) (by omega)
    rw [Pay.mx1]
    exact (mx_row m c t R r _ _ _ _ _ (s0_at m c t _) (s1_at m c t _) (fun k => (slab _ 384 _ R r hr k).trans (hX R k)) (fun l => (slab _ 384 _ R r hr l).trans (hAc R l)) l).trans (congrArg (max · (Gb (args m c) R t.val l.val)) (slab _ 384 _ R r hr l))
  · refine piece _ 0 R l _ j (fun r hr => ?_) (by omega) (by omega)
    exact (mx_row m c t R r _ _ _ _ _ (s0_at m c t _) (s1_at m c t _) (fun k => (slab _ 0 _ R r hr k).trans (hX R k)) (fun l => (slab _ 0 _ R r hr l).trans (hAc R l)) l).trans (congrArg (max · (Gb (args m c) R t.val l.val)) (slab _ 0 _ R r hr l))

theorem m_C (c : Dev nD) (t : Fin cfg0.N) (hA : ¬ t.val % 15 = 0) (hB : t.val % 15 = 14)
    (hX : ∀ R k, (outsAt0 m c (t.val - 1) (Nat.lt_of_le_of_lt (Nat.sub_le _ _) t.isLt)).2.2.2.2.2.1 (ix2 R k) = Xs (args m c).ct R k)
    (hAc : ∀ R l, (outsAt0 m c (t.val - 1) (Nat.lt_of_le_of_lt (Nat.sub_le _ _) t.isLt)).2.2.2.2.2.2.1 (ix2 R l) = As (args m c).al R) (R : Fin 1536) (l : Fin 512) :
    (outsAt0 m c t.val t.isLt).1 (ix2 R l) = Ms (args m c) R (col (512 * t.val + l.val)) := by
  rw [outsAt0_C m c t hA hB]
  frame_open
  simp (disch := decide) only [↓ View.readCov_skip, ↓ View.readCov_cons_toLoadRect, ↓ View.readCov_fill]
  frame_out
  simp only [read_unread_whole]
  show View.canon _ (ix2 R l) = _
  generalize hw : Ms (args m c) R (col (512 * t.val + l.val)) = w
  generalize hi : (ix2 R l : S1536x512.Idx) = i
  have i0 : (i 0).val = R.val := by rw [← hi]; rfl
  have i1 : (i 1).val = l.val := by rw [← hi]; rfl
  subst hw
  canon_tiles j h
  · refine piece _ 1152 R l _ j (fun r hr => ?_) (by omega) (by omega)
    rw [Pay.m3]
    exact m_row m c t R r _ _ _ _ (s0_at m c t _) (s1_at m c t _) (fun k => (slab _ 1152 _ R r hr k).trans (hX R k)) (fun l => (slab _ 1152 _ R r hr l).trans (hAc R l)) l
  · refine piece _ 768 R l _ j (fun r hr => ?_) (by omega) (by omega)
    rw [Pay.m2]
    exact m_row m c t R r _ _ _ _ (s0_at m c t _) (s1_at m c t _) (fun k => (slab _ 768 _ R r hr k).trans (hX R k)) (fun l => (slab _ 768 _ R r hr l).trans (hAc R l)) l
  · refine piece _ 384 R l _ j (fun r hr => ?_) (by omega) (by omega)
    rw [Pay.m1]
    exact m_row m c t R r _ _ _ _ (s0_at m c t _) (s1_at m c t _) (fun k => (slab _ 384 _ R r hr k).trans (hX R k)) (fun l => (slab _ 384 _ R r hr l).trans (hAc R l)) l
  · refine piece _ 0 R l _ j (fun r hr => ?_) (by omega) (by omega)
    exact m_row m c t R r _ _ _ _ (s0_at m c t _) (s1_at m c t _) (fun k => (slab _ 0 _ R r hr k).trans (hX R k)) (fun l => (slab _ 0 _ R r hr l).trans (hAc R l)) l

end Cert.GateUpIdeal.Point

end
-- ==== Proof.Stats.lean ====
/-
  What the last grid point of the gate/up kernel writes as statistics, from what the point before left.
-/
module

public import proofs.«01_k».proof.Proof.States

@[expose] public section

set_option maxRecDepth 16384

noncomputable section

open Idealize.ShloMosaic Idealize.ShloMosaic.TcCoe Idealize.SL.Sem
open Idealize.ShloMosaic.Pipeline (Dat)

namespace Cert.GateUpIdeal.Point

open Cert.GateUpIdeal Cert.GateUpIdeal.Gen Cert.GateUpIdeal.Value Cert.Spec Cert.Tern

variable (m : (ℓ : Loc nD τ sig) → Buf (Elt Ideal) ℓ)

/-- A stored row of 128 lanes, at an index of the row. -/
theorem piece3 (P : (⟨3, ![1, 1, 128]⟩ : Shape).Idx → EReal) (b o : ℕ) (R : Fin 1536) (v : EReal) (j : (⟨3, ![1, 1, 128]⟩ : Shape).Idx)
    (h : ∀ (r : Fin 384) (l : Fin 128), r.val = o + l.val → R.val = 384 * b + r.val → P (ix3 0 0 l) = v)
    (h0 : R.val / 384 = b) (h2 : R.val % 384 = o + (j 2).val) : P j = v := by
  have hj : j = ix3 (n0 := 1) (n1 := 1) (n2 := 128) 0 0 (j 2) := by
    funext a
    match a with
    | ⟨0, _⟩ => exact Subsingleton.elim (α := Fin 1) _ _
    | ⟨1, _⟩ => exact Subsingleton.elim (α := Fin 1) _ _
    | ⟨2, _⟩ => rfl
  rw [hj]
  exact h ⟨R.val % 384, by omega⟩ (j 2) h2 (by show R.val = 384 * b + R.val % 384; omega)

theorem row0 (v : Vec Ideal S384x128 .f32) (l : Fin 128) (r : Fin 384) (h : r.val = 0 + l.val) :
    k0_pay43 (F := Ideal) v (ix3 0 0 l) = v (ix2 r 0) := by
  rw [Pay.row0]
  exact congrArg (fun q => v (ix2 q 0)) (Fin.ext (by show l.val = r.val; omega))

theorem row1 (v : Vec Ideal S384x128 .f32) (l : Fin 128) (r : Fin 384) (h : r.val = 128 + l.val) :
    k0_pay16 (F := Ideal) v (ix3 0 0 l) = v (ix2 r 0) := by
  rw [Pay.row1]
  exact congrArg (fun q => v (ix2 q 0)) (Fin.ext h.symm)

theorem row2 (v : Vec Ideal S384x128 .f32) (l : Fin 128) (r : Fin 384) (h : r.val = 256 + l.val) :
    k0_pay18 (F := Ideal) v (ix3 0 0 l) = v (ix2 r 0) := by
  rw [Pay.row2]
  exact congrArg (fun q => v (ix2 q 0)) (Fin.ext h.symm)

theorem rw_C (c : Dev nD) (t : Fin cfg0.N) (hA : ¬ t.val % 15 = 0) (hB : t.val % 15 = 14)
    (hX : ∀ R k, (outsAt0 m c (t.val - 1) (Nat.lt_of_le_of_lt (Nat.sub_le _ _) t.isLt)).2.2.2.2.2.1 (ix2 R k) = Xs (args m c).ct R k)
    (hAc : ∀ R l, (outsAt0 m c (t.val - 1) (Nat.lt_of_le_of_lt (Nat.sub_le _ _) t.isLt)).2.2.2.2.2.2.1 (ix2 R l) = As (args m c).al R) (R : Fin 1536) (l : Fin 128) :
    (outsAt0 m c t.val t.isLt).2.1 (ix2 R l) = rK (∑ l : Fin 128, ((outsAt0 m c (t.val - 1) (Nat.lt_of_le_of_lt (Nat.sub_le _ _) t.isLt)).2.2.2.2.2.2.2.1 (ix2 R l) + Tb (args m c) R t.val l.val)) := by
  rw [outsAt0_C m c t hA hB]
  frame_open
  simp (disch := decide) only [↓ View.readCov_skip, ↓ View.readCov_cons_toLoadRect, ↓ View.readCov_fill]
  frame_out
  simp only [read_unread_whole]
  show View.canon _ (ix2 R l) = _
  generalize hw : rK (∑ l : Fin 128, ((outsAt0 m c (t.val - 1) (Nat.lt_of_le_of_lt (Nat.sub_le _ _) t.isLt)).2.2.2.2.2.2.2.1 (ix2 R l) + Tb (args m c) R t.val l.val)) = w
  generalize hi : (ix2 R l : S1536x128.Idx) = i
  have i0 : (i 0).val = R.val := by rw [← hi]; rfl
  have i1 : (i 1).val = l.val := by rw [← hi]; rfl
  subst hw
  canon_tiles j h
  · refine piece _ 1152 R l _ j (fun r hr => ?_) (by omega) (by omega)
    rw [Pay.st5]
    refine (Pay.pay11 _ r _).trans (congrArg rK (Finset.sum_congr rfl fun l' _ => ?_))
    rw [Pay.ss3]; exact (ss_row m c t R r _ _ _ _ _ (s0_at m c t _) (s1_at m c t _) (fun k => (slab _ 1152 _ R r hr k).trans (hX R k)) (fun l => (slab _ 1152 _ R r hr l).trans (hAc R l)) l').trans (congrArg (· + Tb (args m c) R t.val l'.val) (slab _ 1152 _ R r hr l'))
  · refine piece _ 768 R l _ j (fun r hr => ?_) (by omega) (by omega)
    rw [Pay.st3]
    refine (Pay.pay11 _ r _).trans (congrArg rK (Finset.sum_congr rfl fun l' _ => ?_))
    rw [Pay.ss2]; exact (ss_row m c t R r _ _ _ _ _ (s0_at m c t _) (s1_at m c t _) (fun k => (slab _ 768 _ R r hr k).trans (hX R k)) (fun l => (slab _ 768 _ R r hr l).trans (hAc R l)) l').trans (congrArg (· + Tb (args m c) R t.val l'.val) (slab _ 768 _ R r hr l'))
  · refine piece _ 384 R l _ j (fun r hr => ?_) (by omega) (by omega)
    rw [Pay.st1]
    refine (Pay.pay11 _ r _).trans (congrArg rK (Finset.sum_congr rfl fun l' _ => ?_))
    rw [Pay.ss1]; exact (ss_row m c t R r _ _ _ _ _ (s0_at m c t _) (s1_at m c t _) (fun k => (slab _ 384 _ R r hr k).trans (hX R k)) (fun l => (slab _ 384 _ R r hr l).trans (hAc R l)) l').trans (congrArg (· + Tb (args m c) R t.val l'.val) (slab _ 384 _ R r hr l'))
  · refine piece _ 0 R l _ j (fun r hr => ?_) (by omega) (by omega)
    refine (Pay.pay11 _ r _).trans (congrArg rK (Finset.sum_congr rfl fun l' _ => ?_))
    exact (ss_row m c t R r _ _ _ _ _ (s0_at m c t _) (s1_at m c t _) (fun k => (slab _ 0 _ R r hr k).trans (hX R k)) (fun l => (slab _ 0 _ R r hr l).trans (hAc R l)) l').trans (congrArg (· + Tb (args m c) R t.val l'.val) (slab _ 0 _ R r hr l'))

theorem sw_C (c : Dev nD) (t : Fin cfg0.N) (hA : ¬ t.val % 15 = 0) (hB : t.val % 15 = 14)
    (hX : ∀ R k, (outsAt0 m c (t.val - 1) (Nat.lt_of_le_of_lt (Nat.sub_le _ _) t.isLt)).2.2.2.2.2.1 (ix2 R k) = Xs (args m c).ct R k)
    (hAc : ∀ R l, (outsAt0 m c (t.val - 1) (Nat.lt_of_le_of_lt (Nat.sub_le _ _) t.isLt)).2.2.2.2.2.2.1 (ix2 R l) = As (args m c).al R) (R : Fin 1536) (l : Fin 128) :
    (outsAt0 m c t.val t.isLt).2.2.1 (ix2 R l) = sK (∑ l : Fin 128, ((outsAt0 m c (t.val - 1) (Nat.lt_of_le_of_lt (Nat.sub_le _ _) t.isLt)).2.2.2.2.2.2.2.1 (ix2 R l) + Tb (args m c) R t.val l.val)) (fmax fun l : Fin 128 => max ((outsAt0 m c (t.val - 1) (Nat.lt_of_le_of_lt (Nat.sub_le _ _) t.isLt)).2.2.2.2.2.2.2.2 (ix2 R l)) (Gb (args m c) R t.val l.val)) := by
  rw [outsAt0_C m c t hA hB]
  frame_open
  simp (disch := decide) only [↓ View.readCov_skip, ↓ View.readCov_cons_toLoadRect, ↓ View.readCov_fill]
  frame_out
  simp only [read_unread_whole]
  show View.canon _ (ix2 R l) = _
  generalize hw : sK (∑ l : Fin 128, ((outsAt0 m c (t.val - 1) (Nat.lt_of_le_of_lt (Nat.sub_le _ _) t.isLt)).2.2.2.2.2.2.2.1 (ix2 R l) + Tb (args m c) R t.val l.val)) (fmax fun l : Fin 128 => max ((outsAt0 m c (t.val - 1) (Nat.lt_of_le_of_lt (Nat.sub_le _ _) t.isLt)).2.2.2.2.2.2.2.2 (ix2 R l)) (Gb (args m c) R t.val l.val)) = w
  generalize hi : (ix2 R l : S1536x128.Idx) = i
  have i0 : (i 0).val = R.val := by rw [← hi]; rfl
  have i1 : (i 1).val = l.val := by rw [← hi]; rfl
  subst hw
  canon_tiles j h
  · refine piece _ 1152 R l _ j (fun r hr => ?_) (by omega) (by omega)
    rw [Pay.st6]
    refine (Pay.pay12 _ _ r _).trans (congrArg₂ sK (Finset.sum_congr rfl fun l' _ => ?_) (congrArg fmax (funext fun l' => ?_)))
    · rw [Pay.ss3]; exact (ss_row m c t R r _ _ _ _ _ (s0_at m c t _) (s1_at m c t _) (fun k => (slab _ 1152 _ R r hr k).trans (hX R k)) (fun l => (slab _ 1152 _ R r hr l).trans (hAc R l)) l').trans (congrArg (· + Tb (args m c) R t.val l'.val) (slab _ 1152 _ R r hr l'))
    · rw [Pay.mx3]; exact (mx_row m c t R r _ _ _ _ _ (s0_at m c t _) (s1_at m c t _) (fun k => (slab _ 1152 _ R r hr k).trans (hX R k)) (fun l => (slab _ 1152 _ R r hr l).trans (hAc R l)) l').trans (congrArg (max · (Gb (args m c) R t.val l'.val)) (slab _ 1152 _ R r hr l'))
  · refine piece _ 768 R l _ j (fun r hr => ?_) (by omega) (by omega)
    rw [Pay.st4]
    refine (Pay.pay12 _ _ r _).trans (congrArg₂ sK (Finset.sum_congr rfl fun l' _ => ?_) (congrArg fmax (funext fun l' => ?_)))
    · rw [Pay.ss2]; exact (ss_row m c t R r _ _ _ _ _ (s0_at m c t _) (s1_at m c t _) (fun k => (slab _ 768 _ R r hr k).trans (hX R k)) (fun l => (slab _ 768 _ R r hr l).trans (hAc R l)) l').trans (congrArg (· + Tb (args m c) R t.val l'.val) (slab _ 768 _ R r hr l'))
    · rw [Pay.mx2]; exact (mx_row m c t R r _ _ _ _ _ (s0_at m c t _) (s1_at m c t _) (fun k => (slab _ 768 _ R r hr k).trans (hX R k)) (fun l => (slab _ 768 _ R r hr l).trans (hAc R l)) l').trans (congrArg (max · (Gb (args m c) R t.val l'.val)) (slab _ 768 _ R r hr l'))
  · refine piece _ 384 R l _ j (fun r hr => ?_) (by omega) (by omega)
    rw [Pay.st2]
    refine (Pay.pay12 _ _ r _).trans (congrArg₂ sK (Finset.sum_congr rfl fun l' _ => ?_) (congrArg fmax (funext fun l' => ?_)))
    · rw [Pay.ss1]; exact (ss_row m c t R r _ _ _ _ _ (s0_at m c t _) (s1_at m c t _) (fun k => (slab _ 384 _ R r hr k).trans (hX R k)) (fun l => (slab _ 384 _ R r hr l).trans (hAc R l)) l').trans (congrArg (· + Tb (args m c) R t.val l'.val) (slab _ 384 _ R r hr l'))
    · rw [Pay.mx1]; exact (mx_row m c t R r _ _ _ _ _ (s0_at m c t _) (s1_at m c t _) (fun k => (slab _ 384 _ R r hr k).trans (hX R k)) (fun l => (slab _ 384 _ R r hr l).trans (hAc R l)) l').trans (congrArg (max · (Gb (args m c) R t.val l'.val)) (slab _ 384 _ R r hr l'))
  · refine piece _ 0 R l _ j (fun r hr => ?_) (by omega) (by omega)
    refine (Pay.pay12 _ _ r _).trans (congrArg₂ sK (Finset.sum_congr rfl fun l' _ => ?_) (congrArg fmax (funext fun l' => ?_)))
    · exact (ss_row m c t R r _ _ _ _ _ (s0_at m c t _) (s1_at m c t _) (fun k => (slab _ 0 _ R r hr k).trans (hX R k)) (fun l => (slab _ 0 _ R r hr l).trans (hAc R l)) l').trans (congrArg (· + Tb (args m c) R t.val l'.val) (slab _ 0 _ R r hr l'))
    · exact (mx_row m c t R r _ _ _ _ _ (s0_at m c t _) (s1_at m c t _) (fun k => (slab _ 0 _ R r hr k).trans (hX R k)) (fun l => (slab _ 0 _ R r hr l).trans (hAc R l)) l').trans (congrArg (max · (Gb (args m c) R t.val l'.val)) (slab _ 0 _ R r hr l'))

theorem rn_C (c : Dev nD) (t : Fin cfg0.N) (hA : ¬ t.val % 15 = 0) (hB : t.val % 15 = 14)
    (hX : ∀ R k, (outsAt0 m c (t.val - 1) (Nat.lt_of_le_of_lt (Nat.sub_le _ _) t.isLt)).2.2.2.2.2.1 (ix2 R k) = Xs (args m c).ct R k)
    (hAc : ∀ R l, (outsAt0 m c (t.val - 1) (Nat.lt_of_le_of_lt (Nat.sub_le _ _) t.isLt)).2.2.2.2.2.2.1 (ix2 R l) = As (args m c).al R) (R : Fin 1536) :
    (outsAt0 m c t.val t.isLt).2.2.2.1 (ix3 ⟨R.val / 384, by omega⟩ 0 ⟨R.val % 384, by omega⟩) = rK (∑ l : Fin 128, ((outsAt0 m c (t.val - 1) (Nat.lt_of_le_of_lt (Nat.sub_le _ _) t.isLt)).2.2.2.2.2.2.2.1 (ix2 R l) + Tb (args m c) R t.val l.val)) := by
  rw [outsAt0_C m c t hA hB]
  frame_open
  simp (disch := decide) only [↓ View.readCov_skip, ↓ View.readCov_cons_toLoadRect, ↓ View.readCov_fill]
  frame_out
  simp only [read_unread_whole]
  show View.canon _ (ix3 ⟨R.val / 384, by omega⟩ 0 ⟨R.val % 384, by omega⟩) = _
  generalize hw : rK (∑ l : Fin 128, ((outsAt0 m c (t.val - 1) (Nat.lt_of_le_of_lt (Nat.sub_le _ _) t.isLt)).2.2.2.2.2.2.2.1 (ix2 R l) + Tb (args m c) R t.val l.val)) = w
  generalize hi : (ix3 ⟨R.val / 384, by omega⟩ 0 ⟨R.val % 384, by omega⟩ : S4x1x384.Idx) = i
  have i0 : (i 0).val = R.val / 384 := by rw [← hi]; rfl
  have i2 : (i 2).val = R.val % 384 := by rw [← hi]; rfl
  subst hw
  canon_tiles j h
  · refine piece3 _ 3 256 R _ j (fun r l hl hr' => ?_) (by omega) (by omega)
    have hr : R.val = 1152 + r.val := hr'
    rw [Pay.rr47, Pay.st5]
    rw [row2 _ l r hl]
    refine (Pay.pay11 _ r _).trans (congrArg rK (Finset.sum_congr rfl fun l' _ => ?_))
    rw [Pay.ss3]; exact (ss_row m c t R r _ _ _ _ _ (s0_at m c t _) (s1_at m c t _) (fun k => (slab _ 1152 _ R r hr k).trans (hX R k)) (fun l => (slab _ 1152 _ R r hr l).trans (hAc R l)) l').trans (congrArg (· + Tb (args m c) R t.val l'.val) (slab _ 1152 _ R r hr l'))
  · refine piece3 _ 3 128 R _ j (fun r l hl hr' => ?_) (by omega) (by omega)
    have hr : R.val = 1152 + r.val := hr'
    rw [Pay.rr45, Pay.st5]
    rw [row1 _ l r hl]
    refine (Pay.pay11 _ r _).trans (congrArg rK (Finset.sum_congr rfl fun l' _ => ?_))
    rw [Pay.ss3]; exact (ss_row m c t R r _ _ _ _ _ (s0_at m c t _) (s1_at m c t _) (fun k => (slab _ 1152 _ R r hr k).trans (hX R k)) (fun l => (slab _ 1152 _ R r hr l).trans (hAc R l)) l').trans (congrArg (· + Tb (args m c) R t.val l'.val) (slab _ 1152 _ R r hr l'))
  · refine piece3 _ 3 0 R _ j (fun r l hl hr' => ?_) (by omega) (by omega)
    have hr : R.val = 1152 + r.val := hr'
    rw [Pay.st5]
    rw [row0 _ l r hl]
    refine (Pay.pay11 _ r _).trans (congrArg rK (Finset.sum_congr rfl fun l' _ => ?_))
    rw [Pay.ss3]; exact (ss_row m c t R r _ _ _ _ _ (s0_at m c t _) (s1_at m c t _) (fun k => (slab _ 1152 _ R r hr k).trans (hX R k)) (fun l => (slab _ 1152 _ R r hr l).trans (hAc R l)) l').trans (congrArg (· + Tb (args m c) R t.val l'.val) (slab _ 1152 _ R r hr l'))
  · refine piece3 _ 2 256 R _ j (fun r l hl hr' => ?_) (by omega) (by omega)
    have hr : R.val = 768 + r.val := hr'
    rw [Pay.rr38, Pay.st3]
    rw [row2 _ l r hl]
    refine (Pay.pay11 _ r _).trans (congrArg rK (Finset.sum_congr rfl fun l' _ => ?_))
    rw [Pay.ss2]; exact (ss_row m c t R r _ _ _ _ _ (s0_at m c t _) (s1_at m c t _) (fun k => (slab _ 768 _ R r hr k).trans (hX R k)) (fun l => (slab _ 768 _ R r hr l).trans (hAc R l)) l').trans (congrArg (· + Tb (args m c) R t.val l'.val) (slab _ 768 _ R r hr l'))
  · refine piece3 _ 2 128 R _ j (fun r l hl hr' => ?_) (by omega) (by omega)
    have hr : R.val = 768 + r.val := hr'
    rw [Pay.rr36]
    rw [row1 _ l r hl]
    refine (Pay.pay11 _ r _).trans (congrArg rK (Finset.sum_congr rfl fun l' _ => ?_))
    rw [Pay.ss2]; exact (ss_row m c t R r _ _ _ _ _ (s0_at m c t _) (s1_at m c t _) (fun k => (slab _ 768 _ R r hr k).trans (hX R k)) (fun l => (slab _ 768 _ R r hr l).trans (hAc R l)) l').trans (congrArg (· + Tb (args m c) R t.val l'.val) (slab _ 768 _ R r hr l'))
  · refine piece3 _ 2 0 R _ j (fun r l hl hr' => ?_) (by omega) (by omega)
    have hr : R.val = 768 + r.val := hr'
    rw [Pay.rr34]
    rw [row0 _ l r hl]
    refine (Pay.pay11 _ r _).trans (congrArg rK (Finset.sum_congr rfl fun l' _ => ?_))
    rw [Pay.ss2]; exact (ss_row m c t R r _ _ _ _ _ (s0_at m c t _) (s1_at m c t _) (fun k => (slab _ 768 _ R r hr k).trans (hX R k)) (fun l => (slab _ 768 _ R r hr l).trans (hAc R l)) l').trans (congrArg (· + Tb (args m c) R t.val l'.val) (slab _ 768 _ R r hr l'))
  · refine piece3 _ 1 256 R _ j (fun r l hl hr' => ?_) (by omega) (by omega)
    have hr : R.val = 384 + r.val := hr'
    rw [Pay.rr28, Pay.st1]
    rw [row2 _ l r hl]
    refine (Pay.pay11 _ r _).trans (congrArg rK (Finset.sum_congr rfl fun l' _ => ?_))
    rw [Pay.ss1]; exact (ss_row m c t R r _ _ _ _ _ (s0_at m c t _) (s1_at m c t _) (fun k => (slab _ 384 _ R r hr k).trans (hX R k)) (fun l => (slab _ 384 _ R r hr l).trans (hAc R l)) l').trans (congrArg (· + Tb (args m c) R t.val l'.val) (slab _ 384 _ R r hr l'))
  · refine piece3 _ 1 128 R _ j (fun r l hl hr' => ?_) (by omega) (by omega)
    have hr : R.val = 384 + r.val := hr'
    rw [Pay.rr26]
    rw [row1 _ l r hl]
    refine (Pay.pay11 _ r _).trans (congrArg rK (Finset.sum_congr rfl fun l' _ => ?_))
    rw [Pay.ss1]; exact (ss_row m c t R r _ _ _ _ _ (s0_at m c t _) (s1_at m c t _) (fun k => (slab _ 384 _ R r hr k).trans (hX R k)) (fun l => (slab _ 384 _ R r hr l).trans (hAc R l)) l').trans (congrArg (· + Tb (args m c) R t.val l'.val) (slab _ 384 _ R r hr l'))
  · refine piece3 _ 1 0 R _ j (fun r l hl hr' => ?_) (by omega) (by omega)
    have hr : R.val = 384 + r.val := hr'
    rw [Pay.rr23]
    rw [row0 _ l r hl]
    refine (Pay.pay11 _ r _).trans (congrArg rK (Finset.sum_congr rfl fun l' _ => ?_))
    rw [Pay.ss1]; exact (ss_row m c t R r _ _ _ _ _ (s0_at m c t _) (s1_at m c t _) (fun k => (slab _ 384 _ R r hr k).trans (hX R k)) (fun l => (slab _ 384 _ R r hr l).trans (hAc R l)) l').trans (congrArg (· + Tb (args m c) R t.val l'.val) (slab _ 384 _ R r hr l'))
  · refine piece3 _ 0 256 R _ j (fun r l hl hr' => ?_) (by omega) (by omega)
    have hr : R.val = 0 + r.val := hr'
    rw [row2 _ l r hl]
    refine (Pay.pay11 _ r _).trans (congrArg rK (Finset.sum_congr rfl fun l' _ => ?_))
    exact (ss_row m c t R r _ _ _ _ _ (s0_at m c t _) (s1_at m c t _) (fun k => (slab _ 0 _ R r hr k).trans (hX R k)) (fun l => (slab _ 0 _ R r hr l).trans (hAc R l)) l').trans (congrArg (· + Tb (args m c) R t.val l'.val) (slab _ 0 _ R r hr l'))
  · refine piece3 _ 0 128 R _ j (fun r l hl hr' => ?_) (by omega) (by omega)
    have hr : R.val = 0 + r.val := hr'
    rw [row1 _ l r hl]
    refine (Pay.pay11 _ r _).trans (congrArg rK (Finset.sum_congr rfl fun l' _ => ?_))
    exact (ss_row m c t R r _ _ _ _ _ (s0_at m c t _) (s1_at m c t _) (fun k => (slab _ 0 _ R r hr k).trans (hX R k)) (fun l => (slab _ 0 _ R r hr l).trans (hAc R l)) l').trans (congrArg (· + Tb (args m c) R t.val l'.val) (slab _ 0 _ R r hr l'))
  · refine piece3 _ 0 0 R _ j (fun r l hl hr' => ?_) (by omega) (by omega)
    have hr : R.val = 0 + r.val := hr'
    rw [Pay.rr13]
    rw [row0 _ l r hl]
    refine (Pay.pay11 _ r _).trans (congrArg rK (Finset.sum_congr rfl fun l' _ => ?_))
    exact (ss_row m c t R r _ _ _ _ _ (s0_at m c t _) (s1_at m c t _) (fun k => (slab _ 0 _ R r hr k).trans (hX R k)) (fun l => (slab _ 0 _ R r hr l).trans (hAc R l)) l').trans (congrArg (· + Tb (args m c) R t.val l'.val) (slab _ 0 _ R r hr l'))

theorem sn_C (c : Dev nD) (t : Fin cfg0.N) (hA : ¬ t.val % 15 = 0) (hB : t.val % 15 = 14)
    (hX : ∀ R k, (outsAt0 m c (t.val - 1) (Nat.lt_of_le_of_lt (Nat.sub_le _ _) t.isLt)).2.2.2.2.2.1 (ix2 R k) = Xs (args m c).ct R k)
    (hAc : ∀ R l, (outsAt0 m c (t.val - 1) (Nat.lt_of_le_of_lt (Nat.sub_le _ _) t.isLt)).2.2.2.2.2.2.1 (ix2 R l) = As (args m c).al R) (R : Fin 1536) :
    (outsAt0 m c t.val t.isLt).2.2.2.2.1 (ix3 ⟨R.val / 384, by omega⟩ 0 ⟨R.val % 384, by omega⟩) = sK (∑ l : Fin 128, ((outsAt0 m c (t.val - 1) (Nat.lt_of_le_of_lt (Nat.sub_le _ _) t.isLt)).2.2.2.2.2.2.2.1 (ix2 R l) + Tb (args m c) R t.val l.val)) (fmax fun l : Fin 128 => max ((outsAt0 m c (t.val - 1) (Nat.lt_of_le_of_lt (Nat.sub_le _ _) t.isLt)).2.2.2.2.2.2.2.2 (ix2 R l)) (Gb (args m c) R t.val l.val)) := by
  rw [outsAt0_C m c t hA hB]
  frame_open
  simp (disch := decide) only [↓ View.readCov_skip, ↓ View.readCov_cons_toLoadRect, ↓ View.readCov_fill]
  frame_out
  simp only [read_unread_whole]
  show View.canon _ (ix3 ⟨R.val / 384, by omega⟩ 0 ⟨R.val % 384, by omega⟩) = _
  generalize hw : sK (∑ l : Fin 128, ((outsAt0 m c (t.val - 1) (Nat.lt_of_le_of_lt (Nat.sub_le _ _) t.isLt)).2.2.2.2.2.2.2.1 (ix2 R l) + Tb (args m c) R t.val l.val)) (fmax fun l : Fin 128 => max ((outsAt0 m c (t.val - 1) (Nat.lt_of_le_of_lt (Nat.sub_le _ _) t.isLt)).2.2.2.2.2.2.2.2 (ix2 R l)) (Gb (args m c) R t.val l.val)) = w
  generalize hi : (ix3 ⟨R.val / 384, by omega⟩ 0 ⟨R.val % 384, by omega⟩ : S4x1x384.Idx) = i
  have i0 : (i 0).val = R.val / 384 := by rw [← hi]; rfl
  have i2 : (i 2).val = R.val % 384 := by rw [← hi]; rfl
  subst hw
  canon_tiles j h
  · refine piece3 _ 3 256 R _ j (fun r l hl hr' => ?_) (by omega) (by omega)
    have hr : R.val = 1152 + r.val := hr'
    rw [Pay.rr48, Pay.st6]
    rw [row2 _ l r hl]
    refine (Pay.pay12 _ _ r _).trans (congrArg₂ sK (Finset.sum_congr rfl fun l' _ => ?_) (congrArg fmax (funext fun l' => ?_)))
    · rw [Pay.ss3]; exact (ss_row m c t R r _ _ _ _ _ (s0_at m c t _) (s1_at m c t _) (fun k => (slab _ 1152 _ R r hr k).trans (hX R k)) (fun l => (slab _ 1152 _ R r hr l).trans (hAc R l)) l').trans (congrArg (· + Tb (args m c) R t.val l'.val) (slab _ 1152 _ R r hr l'))
    · rw [Pay.mx3]; exact (mx_row m c t R r _ _ _ _ _ (s0_at m c t _) (s1_at m c t _) (fun k => (slab _ 1152 _ R r hr k).trans (hX R k)) (fun l => (slab _ 1152 _ R r hr l).trans (hAc R l)) l').trans (congrArg (max · (Gb (args m c) R t.val l'.val)) (slab _ 1152 _ R r hr l'))
  · refine piece3 _ 3 128 R _ j (fun r l hl hr' => ?_) (by omega) (by omega)
    have hr : R.val = 1152 + r.val := hr'
    rw [Pay.rr46, Pay.st6]
    rw [row1 _ l r hl]
    refine (Pay.pay12 _ _ r _).trans (congrArg₂ sK (Finset.sum_congr rfl fun l' _ => ?_) (congrArg fmax (funext fun l' => ?_)))
    · rw [Pay.ss3]; exact (ss_row m c t R r _ _ _ _ _ (s0_at m c t _) (s1_at m c t _) (fun k => (slab _ 1152 _ R r hr k).trans (hX R k)) (fun l => (slab _ 1152 _ R r hr l).trans (hAc R l)) l').trans (congrArg (· + Tb (args m c) R t.val l'.val) (slab _ 1152 _ R r hr l'))
    · rw [Pay.mx3]; exact (mx_row m c t R r _ _ _ _ _ (s0_at m c t _) (s1_at m c t _) (fun k => (slab _ 1152 _ R r hr k).trans (hX R k)) (fun l => (slab _ 1152 _ R r hr l).trans (hAc R l)) l').trans (congrArg (max · (Gb (args m c) R t.val l'.val)) (slab _ 1152 _ R r hr l'))
  · refine piece3 _ 3 0 R _ j (fun r l hl hr' => ?_) (by omega) (by omega)
    have hr : R.val = 1152 + r.val := hr'
    rw [Pay.rr44, Pay.st6]
    rw [row0 _ l r hl]
    refine (Pay.pay12 _ _ r _).trans (congrArg₂ sK (Finset.sum_congr rfl fun l' _ => ?_) (congrArg fmax (funext fun l' => ?_)))
    · rw [Pay.ss3]; exact (ss_row m c t R r _ _ _ _ _ (s0_at m c t _) (s1_at m c t _) (fun k => (slab _ 1152 _ R r hr k).trans (hX R k)) (fun l => (slab _ 1152 _ R r hr l).trans (hAc R l)) l').trans (congrArg (· + Tb (args m c) R t.val l'.val) (slab _ 1152 _ R r hr l'))
    · rw [Pay.mx3]; exact (mx_row m c t R r _ _ _ _ _ (s0_at m c t _) (s1_at m c t _) (fun k => (slab _ 1152 _ R r hr k).trans (hX R k)) (fun l => (slab _ 1152 _ R r hr l).trans (hAc R l)) l').trans (congrArg (max · (Gb (args m c) R t.val l'.val)) (slab _ 1152 _ R r hr l'))
  · refine piece3 _ 2 256 R _ j (fun r l hl hr' => ?_) (by omega) (by omega)
    have hr : R.val = 768 + r.val := hr'
    rw [Pay.rr39, Pay.st4]
    rw [row2 _ l r hl]
    refine (Pay.pay12 _ _ r _).trans (congrArg₂ sK (Finset.sum_congr rfl fun l' _ => ?_) (congrArg fmax (funext fun l' => ?_)))
    · rw [Pay.ss2]; exact (ss_row m c t R r _ _ _ _ _ (s0_at m c t _) (s1_at m c t _) (fun k => (slab _ 768 _ R r hr k).trans (hX R k)) (fun l => (slab _ 768 _ R r hr l).trans (hAc R l)) l').trans (congrArg (· + Tb (args m c) R t.val l'.val) (slab _ 768 _ R r hr l'))
    · rw [Pay.mx2]; exact (mx_row m c t R r _ _ _ _ _ (s0_at m c t _) (s1_at m c t _) (fun k => (slab _ 768 _ R r hr k).trans (hX R k)) (fun l => (slab _ 768 _ R r hr l).trans (hAc R l)) l').trans (congrArg (max · (Gb (args m c) R t.val l'.val)) (slab _ 768 _ R r hr l'))
  · refine piece3 _ 2 128 R _ j (fun r l hl hr' => ?_) (by omega) (by omega)
    have hr : R.val = 768 + r.val := hr'
    rw [Pay.rr37]
    rw [row1 _ l r hl]
    refine (Pay.pay12 _ _ r _).trans (congrArg₂ sK (Finset.sum_congr rfl fun l' _ => ?_) (congrArg fmax (funext fun l' => ?_)))
    · rw [Pay.ss2]; exact (ss_row m c t R r _ _ _ _ _ (s0_at m c t _) (s1_at m c t _) (fun k => (slab _ 768 _ R r hr k).trans (hX R k)) (fun l => (slab _ 768 _ R r hr l).trans (hAc R l)) l').trans (congrArg (· + Tb (args m c) R t.val l'.val) (slab _ 768 _ R r hr l'))
    · rw [Pay.mx2]; exact (mx_row m c t R r _ _ _ _ _ (s0_at m c t _) (s1_at m c t _) (fun k => (slab _ 768 _ R r hr k).trans (hX R k)) (fun l => (slab _ 768 _ R r hr l).trans (hAc R l)) l').trans (congrArg (max · (Gb (args m c) R t.val l'.val)) (slab _ 768 _ R r hr l'))
  · refine piece3 _ 2 0 R _ j (fun r l hl hr' => ?_) (by omega) (by omega)
    have hr : R.val = 768 + r.val := hr'
    rw [Pay.rr35]
    rw [row0 _ l r hl]
    refine (Pay.pay12 _ _ r _).trans (congrArg₂ sK (Finset.sum_congr rfl fun l' _ => ?_) (congrArg fmax (funext fun l' => ?_)))
    · rw [Pay.ss2]; exact (ss_row m c t R r _ _ _ _ _ (s0_at m c t _) (s1_at m c t _) (fun k => (slab _ 768 _ R r hr k).trans (hX R k)) (fun l => (slab _ 768 _ R r hr l).trans (hAc R l)) l').trans (congrArg (· + Tb (args m c) R t.val l'.val) (slab _ 768 _ R r hr l'))
    · rw [Pay.mx2]; exact (mx_row m c t R r _ _ _ _ _ (s0_at m c t _) (s1_at m c t _) (fun k => (slab _ 768 _ R r hr k).trans (hX R k)) (fun l => (slab _ 768 _ R r hr l).trans (hAc R l)) l').trans (congrArg (max · (Gb (args m c) R t.val l'.val)) (slab _ 768 _ R r hr l'))
  · refine piece3 _ 1 256 R _ j (fun r l hl hr' => ?_) (by omega) (by omega)
    have hr : R.val = 384 + r.val := hr'
    rw [Pay.rr29, Pay.st2]
    rw [row2 _ l r hl]
    refine (Pay.pay12 _ _ r _).trans (congrArg₂ sK (Finset.sum_congr rfl fun l' _ => ?_) (congrArg fmax (funext fun l' => ?_)))
    · rw [Pay.ss1]; exact (ss_row m c t R r _ _ _ _ _ (s0_at m c t _) (s1_at m c t _) (fun k => (slab _ 384 _ R r hr k).trans (hX R k)) (fun l => (slab _ 384 _ R r hr l).trans (hAc R l)) l').trans (congrArg (· + Tb (args m c) R t.val l'.val) (slab _ 384 _ R r hr l'))
    · rw [Pay.mx1]; exact (mx_row m c t R r _ _ _ _ _ (s0_at m c t _) (s1_at m c t _) (fun k => (slab _ 384 _ R r hr k).trans (hX R k)) (fun l => (slab _ 384 _ R r hr l).trans (hAc R l)) l').trans (congrArg (max · (Gb (args m c) R t.val l'.val)) (slab _ 384 _ R r hr l'))
  · refine piece3 _ 1 128 R _ j (fun r l hl hr' => ?_) (by omega) (by omega)
    have hr : R.val = 384 + r.val := hr'
    rw [Pay.rr27, Pay.st2]
    rw [row1 _ l r hl]
    refine (Pay.pay12 _ _ r _).trans (congrArg₂ sK (Finset.sum_congr rfl fun l' _ => ?_) (congrArg fmax (funext fun l' => ?_)))
    · rw [Pay.ss1]; exact (ss_row m c t R r _ _ _ _ _ (s0_at m c t _) (s1_at m c t _) (fun k => (slab _ 384 _ R r hr k).trans (hX R k)) (fun l => (slab _ 384 _ R r hr l).trans (hAc R l)) l').trans (congrArg (· + Tb (args m c) R t.val l'.val) (slab _ 384 _ R r hr l'))
    · rw [Pay.mx1]; exact (mx_row m c t R r _ _ _ _ _ (s0_at m c t _) (s1_at m c t _) (fun k => (slab _ 384 _ R r hr k).trans (hX R k)) (fun l => (slab _ 384 _ R r hr l).trans (hAc R l)) l').trans (congrArg (max · (Gb (args m c) R t.val l'.val)) (slab _ 384 _ R r hr l'))
  · refine piece3 _ 1 0 R _ j (fun r l hl hr' => ?_) (by omega) (by omega)
    have hr : R.val = 384 + r.val := hr'
    rw [Pay.rr24]
    rw [row0 _ l r hl]
    refine (Pay.pay12 _ _ r _).trans (congrArg₂ sK (Finset.sum_congr rfl fun l' _ => ?_) (congrArg fmax (funext fun l' => ?_)))
    · rw [Pay.ss1]; exact (ss_row m c t R r _ _ _ _ _ (s0_at m c t _) (s1_at m c t _) (fun k => (slab _ 384 _ R r hr k).trans (hX R k)) (fun l => (slab _ 384 _ R r hr l).trans (hAc R l)) l').trans (congrArg (· + Tb (args m c) R t.val l'.val) (slab _ 384 _ R r hr l'))
    · rw [Pay.mx1]; exact (mx_row m c t R r _ _ _ _ _ (s0_at m c t _) (s1_at m c t _) (fun k => (slab _ 384 _ R r hr k).trans (hX R k)) (fun l => (slab _ 384 _ R r hr l).trans (hAc R l)) l').trans (congrArg (max · (Gb (args m c) R t.val l'.val)) (slab _ 384 _ R r hr l'))
  · refine piece3 _ 0 256 R _ j (fun r l hl hr' => ?_) (by omega) (by omega)
    have hr : R.val = 0 + r.val := hr'
    rw [Pay.rr19]
    rw [row2 _ l r hl]
    refine (Pay.pay12 _ _ r _).trans (congrArg₂ sK (Finset.sum_congr rfl fun l' _ => ?_) (congrArg fmax (funext fun l' => ?_)))
    · exact (ss_row m c t R r _ _ _ _ _ (s0_at m c t _) (s1_at m c t _) (fun k => (slab _ 0 _ R r hr k).trans (hX R k)) (fun l => (slab _ 0 _ R r hr l).trans (hAc R l)) l').trans (congrArg (· + Tb (args m c) R t.val l'.val) (slab _ 0 _ R r hr l'))
    · exact (mx_row m c t R r _ _ _ _ _ (s0_at m c t _) (s1_at m c t _) (fun k => (slab _ 0 _ R r hr k).trans (hX R k)) (fun l => (slab _ 0 _ R r hr l).trans (hAc R l)) l').trans (congrArg (max · (Gb (args m c) R t.val l'.val)) (slab _ 0 _ R r hr l'))
  · refine piece3 _ 0 128 R _ j (fun r l hl hr' => ?_) (by omega) (by omega)
    have hr : R.val = 0 + r.val := hr'
    rw [Pay.rr17]
    rw [row1 _ l r hl]
    refine (Pay.pay12 _ _ r _).trans (congrArg₂ sK (Finset.sum_congr rfl fun l' _ => ?_) (congrArg fmax (funext fun l' => ?_)))
    · exact (ss_row m c t R r _ _ _ _ _ (s0_at m c t _) (s1_at m c t _) (fun k => (slab _ 0 _ R r hr k).trans (hX R k)) (fun l => (slab _ 0 _ R r hr l).trans (hAc R l)) l').trans (congrArg (· + Tb (args m c) R t.val l'.val) (slab _ 0 _ R r hr l'))
    · exact (mx_row m c t R r _ _ _ _ _ (s0_at m c t _) (s1_at m c t _) (fun k => (slab _ 0 _ R r hr k).trans (hX R k)) (fun l => (slab _ 0 _ R r hr l).trans (hAc R l)) l').trans (congrArg (max · (Gb (args m c) R t.val l'.val)) (slab _ 0 _ R r hr l'))
  · refine piece3 _ 0 0 R _ j (fun r l hl hr' => ?_) (by omega) (by omega)
    have hr : R.val = 0 + r.val := hr'
    rw [Pay.rr15]
    rw [row0 _ l r hl]
    refine (Pay.pay12 _ _ r _).trans (congrArg₂ sK (Finset.sum_congr rfl fun l' _ => ?_) (congrArg fmax (funext fun l' => ?_)))
    · exact (ss_row m c t R r _ _ _ _ _ (s0_at m c t _) (s1_at m c t _) (fun k => (slab _ 0 _ R r hr k).trans (hX R k)) (fun l => (slab _ 0 _ R r hr l).trans (hAc R l)) l').trans (congrArg (· + Tb (args m c) R t.val l'.val) (slab _ 0 _ R r hr l'))
    · exact (mx_row m c t R r _ _ _ _ _ (s0_at m c t _) (s1_at m c t _) (fun k => (slab _ 0 _ R r hr k).trans (hX R k)) (fun l => (slab _ 0 _ R r hr l).trans (hAc R l)) l').trans (congrArg (max · (Gb (args m c) R t.val l'.val)) (slab _ 0 _ R r hr l'))

end Cert.GateUpIdeal.Point

end
-- ==== Proof.Sweep.lean ====
/-
  The gate/up kernel's scratch after each grid point: the codes and scales as loaded, the lane sums of squares so far and the
  lane maxima so far.
-/
module

public import proofs.«01_k».proof.Proof.Stats

@[expose] public section

set_option maxRecDepth 16384

noncomputable section

open Idealize.ShloMosaic Idealize.ShloMosaic.TcCoe Idealize.SL.Sem

namespace Cert.GateUpIdeal.Point

open Cert.GateUpIdeal Cert.GateUpIdeal.Gen Cert.GateUpIdeal.Value Cert.Spec Cert.Tern

variable (m : (ℓ : Loc nD τ sig) → Buf (Elt Ideal) ℓ)

theorem N15 : cfg0.N = 15 := rfl

/-- After every point the scratch holds the codes and the scales. -/
theorem scr (c : Dev nD) : ∀ (n : ℕ) (h : n < cfg0.N),
    (∀ R k, (outsAt0 m c n h).2.2.2.2.2.1 (ix2 R k) = Xs (args m c).ct R k)
      ∧ ∀ R l, (outsAt0 m c n h).2.2.2.2.2.2.1 (ix2 R l) = As (args m c).al R
  | 0, h => ⟨fun R k => x_A m c ⟨0, h⟩ rfl (by show ¬ 0 % 15 = 14; decide) R k, fun R l => a_A m c ⟨0, h⟩ rfl (by show ¬ 0 % 15 = 14; decide) R l⟩
  | n + 1, h => by
    have hn : n < cfg0.N := Nat.lt_of_succ_lt h
    have h15 : n + 1 < 15 := h
    obtain ⟨ix, ia⟩ := scr c n hn
    have hA : ¬ (n + 1) % 15 = 0 := by omega
    by_cases hB : (n + 1) % 15 = 14
    · have ex : (outsAt0 m c (n + 1) h).2.2.2.2.2.1 = (outsAt0 m c n hn).2.2.2.2.2.1 := x_C m c ⟨n + 1, h⟩ hA hB
      have ea : (outsAt0 m c (n + 1) h).2.2.2.2.2.2.1 = (outsAt0 m c n hn).2.2.2.2.2.2.1 := a_C m c ⟨n + 1, h⟩ hA hB
      rw [ex, ea]; exact ⟨ix, ia⟩
    · have ex : (outsAt0 m c (n + 1) h).2.2.2.2.2.1 = (outsAt0 m c n hn).2.2.2.2.2.1 := x_B m c ⟨n + 1, h⟩ hA hB
      have ea : (outsAt0 m c (n + 1) h).2.2.2.2.2.2.1 = (outsAt0 m c n hn).2.2.2.2.2.2.1 := a_B m c ⟨n + 1, h⟩ hA hB
      rw [ex, ea]; exact ⟨ix, ia⟩

theorem zero51 (R : Fin 1536) (l : Fin 128) : k0_pay51 (F := Ideal) (ix2 R l) = 0 := by
  unfold k0_pay51
  pointwise

theorem zero52 (R : Fin 1536) (l : Fin 128) : k0_pay52 (F := Ideal) (ix2 R l) = 0 := by
  unfold k0_pay52
  pointwise

/-- The lane sums after point `n`. -/
theorem sums (c : Dev nD) (R : Fin 1536) (l : Fin 128) : ∀ (n : ℕ) (h : n < cfg0.N), n < 14 →
    (outsAt0 m c n h).2.2.2.2.2.2.2.1 (ix2 R l) = ∑ p ∈ Finset.range (n + 1), Tb (args m c) R p l.val
  | 0, h, _ => by
    refine (ss_A m c ⟨0, h⟩ rfl (by show ¬ 0 % 15 = 14; decide) R l).trans ?_
    rw [zero51, zero_add, Finset.sum_range_one]
  | n + 1, h, h14 => by
    have hn : n < cfg0.N := Nat.lt_of_succ_lt h
    obtain ⟨ix, ia⟩ := scr m c n hn
    have hA : ¬ (n + 1) % 15 = 0 := by omega
    have hB : ¬ (n + 1) % 15 = 14 := by omega
    refine (ss_B m c ⟨n + 1, h⟩ hA hB ix ia R l).trans ?_
    rw [Finset.sum_range_succ]
    exact congrArg (· + Tb (args m c) R (n + 1) l.val) (sums c R l n hn (by omega))

/-- What bounds the lane maxima after point `n`. -/
theorem maxs (c : Dev nD) (R : Fin 1536) (l : Fin 128) (z : EReal) : ∀ (n : ℕ) (h : n < cfg0.N), n < 14 →
    ((outsAt0 m c n h).2.2.2.2.2.2.2.2 (ix2 R l) ≤ z ↔ 0 ≤ z ∧ ∀ p, p < n + 1 → Gb (args m c) R p l.val ≤ z)
  | 0, h, _ => by
    have e : (outsAt0 m c 0 h).2.2.2.2.2.2.2.2 (ix2 R l) = max 0 (Gb (args m c) R 0 l.val) := by
      refine (mx_A m c ⟨0, h⟩ rfl (by show ¬ 0 % 15 = 14; decide) R l).trans ?_
      rw [zero52]
    rw [e, max_le_iff]
    refine and_congr_right fun _ => ⟨fun hz p hp => ?_, fun hz => hz 0 (by omega)⟩
    obtain rfl : p = 0 := by omega
    exact hz
  | n + 1, h, h14 => by
    have hn : n < cfg0.N := Nat.lt_of_succ_lt h
    obtain ⟨ix, ia⟩ := scr m c n hn
    have hA : ¬ (n + 1) % 15 = 0 := by omega
    have hB : ¬ (n + 1) % 15 = 14 := by omega
    have e : (outsAt0 m c (n + 1) h).2.2.2.2.2.2.2.2 (ix2 R l) = max ((outsAt0 m c n hn).2.2.2.2.2.2.2.2 (ix2 R l)) (Gb (args m c) R (n + 1) l.val) :=
      mx_B m c ⟨n + 1, h⟩ hA hB ix ia R l
    rw [e, max_le_iff, maxs c R l z n hn (by omega), and_assoc]
    refine and_congr_right fun _ => ⟨fun hz p hp => ?_, fun hz => ⟨fun p hp => hz p (by omega), hz (n + 1) (by omega)⟩⟩
    rcases Nat.lt_succ_iff_lt_or_eq.mp hp with hp | rfl
    · exact hz.1 p hp
    · exact hz.2

/-- The last point. -/
def last : Fin cfg0.N := ⟨14, by decide⟩

/-- What a token's lane sums add up to at the last point. -/
def SL (A : Args) (R : Fin 1536) : EReal := ∑ l : Fin 128, ∑ p ∈ Finset.range 15, Tb A R p l.val

theorem sumLast (c : Dev nD) (R : Fin 1536) (h : 13 < cfg0.N) :
    (∑ l : Fin 128, ((outsAt0 m c 13 h).2.2.2.2.2.2.2.1 (ix2 R l) + Tb (args m c) R 14 l.val)) = SL (args m c) R := by
  refine Finset.sum_congr rfl fun l _ => ?_
  rw [sums m c R l 13 h (by omega), ← Finset.sum_range_succ]

/-- What bounds a token's greatest lane maximum at the last point. -/
theorem maxLast (c : Dev nD) (R : Fin 1536) (h : 13 < cfg0.N) (z : EReal) :
    (fmax fun l : Fin 128 => max ((outsAt0 m c 13 h).2.2.2.2.2.2.2.2 (ix2 R l)) (Gb (args m c) R 14 l.val)) ≤ z
      ↔ 0 ≤ z ∧ ∀ (l : Fin 128) (p : ℕ), p < 15 → Gb (args m c) R p l.val ≤ z := by
  rw [fmax_le]
  constructor
  · intro hz
    refine ⟨?_, fun l p hp => ?_⟩
    · exact ((maxs m c R 0 z 13 h (by omega)).mp (max_le_iff.mp (hz 0)).1).1
    · obtain ⟨h1, h2⟩ := max_le_iff.mp (hz l)
      rcases Nat.lt_succ_iff_lt_or_eq.mp hp with hp | rfl
      · exact ((maxs m c R l z 13 h (by omega)).mp h1).2 p hp
      · exact h2
  · rintro ⟨h0, hz⟩ l
    exact max_le_iff.mpr ⟨(maxs m c R l z 13 h (by omega)).mpr ⟨h0, fun p hp => hz l p (by omega)⟩, hz l 14 (by omega)⟩

end Cert.GateUpIdeal.Point

end
-- ==== Proof.Scale.lean ====
/-
  The statistics of a token as sums and maxima over all of its columns: the lane sums regrouped, the greatest magnitude pulled
  out of the normalisation.
-/
module

public import proofs.«01_k».proof.Proof.Spec

@[expose] public section

noncomputable section

open Idealize.ShloMosaic Idealize.ShloMosaic.TcCoe Idealize.SL.Sem

namespace Cert.Spec

variable (A : Args)

/-- A sum over all columns, lane by lane. -/
theorem sumCols (f : Fin 7680 → EReal) : (∑ l : Fin 128, ∑ p ∈ Finset.range 15, ∑ j : Fin 4, f (col (512 * p + (128 * j.val + l.val)))) = ∑ N, f N := by
  have k1 : ∑ N, f N = ∑ p : Fin 15, ∑ x : Fin 512, f (col (512 * p.val + x.val)) := by
    rw [← Fintype.sum_prod_type']
    refine (Fintype.sum_equiv (finProdFinEquiv (m := 15) (n := 512)) _ _ fun q => ?_).symm
    obtain ⟨p, x⟩ := q
    refine congrArg f (Fin.ext ?_)
    show (512 * p.val + x.val) % 7680 = x.val + 512 * p.val
    omega
  have k2 : ∀ g : ℕ → EReal, ∑ x : Fin 512, g x.val = ∑ j : Fin 4, ∑ l : Fin 128, g (128 * j.val + l.val) := by
    intro g
    rw [← Fintype.sum_prod_type']
    refine (Fintype.sum_equiv (finProdFinEquiv (m := 4) (n := 128)) _ _ fun q => ?_).symm
    obtain ⟨j, l⟩ := q
    refine congrArg g ?_
    show 128 * j.val + l.val = l.val + 128 * j.val
    omega
  rw [k1]
  have k3 : ∀ p : Fin 15, ∑ x : Fin 512, f (col (512 * p.val + x.val)) = ∑ l : Fin 128, ∑ j : Fin 4, f (col (512 * p.val + (128 * j.val + l.val))) := by
    intro p
    rw [k2 fun x => f (col (512 * p.val + x)), Finset.sum_comm]
  rw [Finset.sum_congr rfl fun p _ => k3 p]
  refine Eq.trans ?_ Finset.sum_comm
  exact Finset.sum_congr rfl fun (l : Fin 128) _ => Finset.sum_range (fun p => ∑ j : Fin 4, f (col (512 * p + (128 * j.val + l.val))))

theorem sq_eq (R : Fin 1536) : (∑ l : Fin 128, ∑ p ∈ Finset.range 15, Tb A R p l.val) = Sq A R :=
  sumCols fun N => Ms A R N * Ms A R N

/-- What bounds every column block's maxima bounds every column. -/
theorem gb_le (R : Fin 1536) (z : EReal) :
    (∀ (l : Fin 128) (p : ℕ), p < 15 → Gb A R p l.val ≤ z) ↔ ∀ N, Gs A R N ≤ z := by
  constructor
  · intro h N
    have hN := N.isLt
    have h1 := h ⟨N.val % 128, Nat.mod_lt _ (by decide)⟩ (N.val / 512) (by omega)
    rw [Gb, max_le_iff, max_le_iff, max_le_iff] at h1
    obtain ⟨a0, a1, a2, a3⟩ := h1
    have hc : ∀ n : ℕ, n = N.val → col n = N := fun n hn => Fin.ext (by show n % 7680 = N.val; omega)
    have hj : N.val % 512 / 128 = 0 ∨ N.val % 512 / 128 = 1 ∨ N.val % 512 / 128 = 2 ∨ N.val % 512 / 128 = 3 := by omega
    rcases hj with hj | hj | hj | hj
    · rw [hc _ (by show 512 * (N.val / 512) + (128 * 0 + N.val % 128) = N.val; omega)] at a0; exact a0
    · rw [hc _ (by show 512 * (N.val / 512) + (128 * 1 + N.val % 128) = N.val; omega)] at a1; exact a1
    · rw [hc _ (by show 512 * (N.val / 512) + (128 * 2 + N.val % 128) = N.val; omega)] at a2; exact a2
    · rw [hc _ (by show 512 * (N.val / 512) + (128 * 3 + N.val % 128) = N.val; omega)] at a3; exact a3
  · intro h l p _
    exact max_le (h _) (max_le (h _) (max_le (h _) (h _)))

theorem sq_nonneg (x : EReal) : 0 ≤ x * x := by
  rcases le_total 0 x with h | h
  · exact mul_nonneg h h
  · have h' : 0 ≤ -x := EReal.neg_nonneg.mpr h
    have := mul_nonneg h' h'
    rwa [neg_mul_neg] at this

theorem eps_pos : ∃ e : ℝ, 0 < e ∧ Ideal.ofBits .f32 925353388#32 = (e : EReal) := by
  refine ⟨10995116 * (2 : ℝ) ^ (-40 : Int), by positivity, ?_⟩
  simp [Ideal.ofBits, Ideal.ieee, -EReal.coe_mul]

theorem div_nonneg' (σ : EReal) (h : 0 ≤ σ) : 0 ≤ Ideal.div σ (Ideal.ofBits .f32 1173356544#32) := by
  have e : Ideal.ofBits .f32 1173356544#32 = ((7680 : ℝ) : EReal) := by
    simp [Ideal.ofBits, Ideal.ieee, -EReal.coe_mul]; norm_num
  rw [e]
  unfold Ideal.div
  rw [if_neg (by exact_mod_cast (by norm_num : (7680 : ℝ) ≠ 0)), ← EReal.coe_inv]
  exact mul_nonneg h (by exact_mod_cast (by norm_num : (0 : ℝ) ≤ (7680 : ℝ)⁻¹))

/-- The reciprocal root of a token is a nonnegative real. -/
theorem root_real (σ : EReal) (h : 0 ≤ σ) : ∃ ρ : ℝ, 0 ≤ ρ ∧ rK σ = (ρ : EReal) := by
  obtain ⟨e, he, e1⟩ := eps_pos
  have hd := div_nonneg' σ h
  unfold rK
  rw [e1]
  generalize Ideal.div σ (Ideal.ofBits .f32 1173356544#32) = d at hd
  induction d with
  | bot => exact absurd hd (by simp)
  | top => exact ⟨0, le_refl _, by rw [EReal.top_add_coe]; rfl⟩
  | coe d =>
    have hd' : 0 ≤ d := by exact_mod_cast hd
    have hp : 0 < d + e := by linarith
    rw [← EReal.coe_add]
    refine ⟨(Real.sqrt (d + e))⁻¹, by positivity, ?_⟩
    show (if d + e < 0 then (⊥ : EReal) else if d + e = 0 then ⊤ else (((Real.sqrt (d + e))⁻¹ : ℝ) : EReal)) = _
    rw [if_neg (not_lt.mpr hp.le), if_neg hp.ne']

theorem max_neg_nonneg (x : EReal) : 0 ≤ max x (-x) := by
  rcases le_total 0 x with h | h
  · exact le_max_of_le_left h
  · exact le_max_of_le_right (EReal.neg_nonneg.mpr h)

/-- Pulling the reciprocal root out of a token's greatest normalised magnitude. -/
theorem scale_eq (R : Fin 1536) (μ : EReal) (hμ : ∀ z, μ ≤ z ↔ 0 ≤ z ∧ ∀ N, Gs A R N ≤ z) :
    (if 0 < rK (Sq A R) then μ * rK (Sq A R) else 0)
      = fmax fun N => max (Ms A R N * rK (Sq A R) * A.g (ix1 N)) (-(Ms A R N * rK (Sq A R) * A.g (ix1 N))) := by
  obtain ⟨ρ, h0, hr⟩ := root_real (Sq A R) (Finset.sum_nonneg fun N _ => sq_nonneg _)
  rw [hr]
  rcases h0.eq_or_lt with rfl | hp
  · rw [if_neg (by simp)]
    refine eq_of_forall_ge_iff fun z => ?_
    rw [fmax_le]
    simp
  · rw [if_pos (by exact_mod_cast hp)]
    have hρ : (0 : EReal) ≤ (ρ : EReal) := by exact_mod_cast h0
    have hi : (0 : EReal) ≤ ((ρ⁻¹ : ℝ) : EReal) := by exact_mod_cast inv_nonneg.mpr h0
    have h1 : (ρ : EReal) * ((ρ⁻¹ : ℝ) : EReal) = 1 := by
      rw [← EReal.coe_mul, mul_inv_cancel₀ hp.ne', EReal.coe_one]
    have hG : ∀ N, max (Ms A R N * (ρ : EReal) * A.g (ix1 N)) (-(Ms A R N * (ρ : EReal) * A.g (ix1 N))) = Gs A R N * (ρ : EReal) := by
      intro N
      have hmono : Monotone fun x : EReal => x * (ρ : EReal) := fun a b hab => mul_le_mul_of_nonneg_right hab hρ
      rw [mul_right_comm, ← EReal.neg_mul]
      exact (hmono.map_max (a := Ms A R N * A.g (ix1 N)) (b := -(Ms A R N * A.g (ix1 N)))).symm
    simp only [hG]
    obtain ⟨hμ0, hμG⟩ := (hμ μ).mp le_rfl
    have hf := (fmax_le (fun N => Gs A R N * (ρ : EReal)) _).mp le_rfl
    refine le_antisymm ?_ ((fmax_le _ _).mpr fun N => mul_le_mul_of_nonneg_right (hμG N) hρ)
    have hφ : μ ≤ (fmax fun N => Gs A R N * (ρ : EReal)) * ((ρ⁻¹ : ℝ) : EReal) := by
      refine (hμ _).mpr ⟨mul_nonneg ((mul_nonneg (max_neg_nonneg _) hρ).trans (hf 0)) hi, fun N => ?_⟩
      have := mul_le_mul_of_nonneg_right (hf N) hi
      rwa [mul_assoc, h1, mul_one] at this
    have := mul_le_mul_of_nonneg_right hφ hρ
    rwa [mul_assoc, mul_comm ((ρ⁻¹ : ℝ) : EReal), h1, mul_one] at this

/-- Token `R`'s activation scale: its greatest normalised magnitude under the gain, divided by the code range. -/
def Sc (R : Fin 1536) : EReal :=
  scaleOf (fmax fun N => max (Ms A R N * rK (Sq A R) * A.g (ix1 N)) (-(Ms A R N * rK (Sq A R) * A.g (ix1 N))))

/-- The token at position `r` of block `b`. -/
def row (b : Fin 4) (r : Fin 384) : Fin 1536 := ⟨b.val * 384 + r.val, by omega⟩

end Cert.Spec

end
-- ==== Proof.KerVal.lean ====
/-
  The kernel's five result arrays after its last grid point, entry by entry.
-/
module

public import proofs.«01_k».proof.Proof.Sweep
public import proofs.«01_k».proof.Proof.Scale

@[expose] public section

set_option maxRecDepth 16384

noncomputable section

open Idealize.ShloMosaic Idealize.ShloMosaic.TcCoe Idealize.SL.Sem
open Idealize.ShloMosaic.Pipeline (Dat)

namespace Cert.GateUpIdeal.Point

open Cert.GateUpIdeal Cert.GateUpIdeal.Gen Cert.GateUpIdeal.Value Cert.Spec Cert.Tern

variable (m : (ℓ : Loc nD τ sig) → Buf (Elt Ideal) ℓ)

/-- The gated product at every point. -/
theorem m_at (c : Dev nD) (t : Fin cfg0.N) (R : Fin 1536) (l : Fin 512) :
    (outsAt0 m c t.val t.isLt).1 (ix2 R l) = Ms (args m c) R (col (512 * t.val + l.val)) := by
  have h15 : t.val < 15 := t.isLt
  obtain ⟨ix, ia⟩ := scr m c (t.val - 1) (Nat.lt_of_le_of_lt (Nat.sub_le _ _) t.isLt)
  by_cases hA : t.val % 15 = 0
  · exact m_A m c t hA (by omega) R l
  · by_cases hB : t.val % 15 = 14
    · exact m_C m c t hA hB ix ia R l
    · exact m_B m c t hA hB ix ia R l

theorem emb6 (t : Fin cfg0.N) (R : Fin 1536) (l : Fin 512) :
    ((View.whole main_v1_0).slice (win0_6.rect t)).emb (ix2 R l) = ix2 R ⟨512 * t.val + l.val, by have : t.val < 15 := t.isLt; omega⟩ := by
  obtain ⟨e0, e1, e2, e3, e4, e5, e6, e7, e8, e9, e10⟩ := idx t
  have ht : t.val < 15 := t.isLt
  blk_ext [e6]

theorem emb7 (t : Fin cfg0.N) (y : S1536x128.Idx) : ((View.whole main_v1_1).slice (win0_7.rect t)).emb y = y := by
  obtain ⟨e0, e1, e2, e3, e4, e5, e6, e7, e8, e9, e10⟩ := idx t
  blk_ext [e7]

theorem emb8 (t : Fin cfg0.N) (y : S1536x128.Idx) : ((View.whole main_v1_2).slice (win0_8.rect t)).emb y = y := by
  obtain ⟨e0, e1, e2, e3, e4, e5, e6, e7, e8, e9, e10⟩ := idx t
  blk_ext [e8]

theorem emb9 (t : Fin cfg0.N) (y : S4x1x384.Idx) : ((View.whole main_v1_3).slice (win0_9.rect t)).emb y = y := by
  obtain ⟨e0, e1, e2, e3, e4, e5, e6, e7, e8, e9, e10⟩ := idx t
  blk_ext [e9]

theorem emb10 (t : Fin cfg0.N) (y : S4x1x384.Idx) : ((View.whole main_v1_4).slice (win0_10.rect t)).emb y = y := by
  obtain ⟨e0, e1, e2, e3, e4, e5, e6, e7, e8, e9, e10⟩ := idx t
  blk_ext [e10]

theorem out6 (c : Dev nD) : (dats m 0 c).arrAt 6 cfg0.N = fun i : S1536x7680.Idx => Ms (args m c) (i 0) (i 1) := by
  refine (dats m 0 c).arrAt_eq_of_covers 6 _ (by decide +kernel) fun t hf y => ?_
  blk_simp
  rw [after0_6]
  obtain ⟨R, l, rfl⟩ : ∃ (R : Fin 1536) (l : Fin 512), y = ix2 R l := ⟨y 0, y 1, eq_ix2 _⟩
  have ht : t.val < 15 := t.isLt
  refine (m_at m c t R l).trans ?_
  rw [emb6]
  exact congrArg (Ms (args m c) R) (Fin.ext (Nat.mod_eq_of_lt (by omega)))

/-- The last point's sum of squares. -/
theorem sum_last (c : Dev nD) (R : Fin 1536) (h : 13 < cfg0.N) :
    (∑ l : Fin 128, ((outsAt0 m c 13 h).2.2.2.2.2.2.2.1 (ix2 R l) + Tb (args m c) R 14 l.val)) = Sq (args m c) R :=
  (sumLast m c R h).trans (sq_eq (args m c) R)

/-- The last point's scale. -/
theorem scale_last (c : Dev nD) (R : Fin 1536) (h : 13 < cfg0.N) :
    sK (∑ l : Fin 128, ((outsAt0 m c 13 h).2.2.2.2.2.2.2.1 (ix2 R l) + Tb (args m c) R 14 l.val))
      (fmax fun l : Fin 128 => max ((outsAt0 m c 13 h).2.2.2.2.2.2.2.2 (ix2 R l)) (Gb (args m c) R 14 l.val)) = Sc (args m c) R := by
  rw [sum_last]
  exact congrArg scaleOf (scale_eq (args m c) R _ fun z => (maxLast m c R h z).trans (and_congr_right fun _ => gb_le (args m c) R z))

theorem h13 : 13 < cfg0.N := by decide

theorem hA14 : ¬ last.val % 15 = 0 := by decide

theorem hB14 : last.val % 15 = 14 := by decide

theorem rw_last (c : Dev nD) (R : Fin 1536) (l : Fin 128) : (outsAt0 m c last.val last.isLt).2.1 (ix2 R l) = rK (Sq (args m c) R) :=
  (rw_C m c last hA14 hB14 (scr m c 13 h13).1 (scr m c 13 h13).2 R l).trans (congrArg rK (sum_last m c R h13))

theorem sw_last (c : Dev nD) (R : Fin 1536) (l : Fin 128) : (outsAt0 m c last.val last.isLt).2.2.1 (ix2 R l) = Sc (args m c) R :=
  (sw_C m c last hA14 hB14 (scr m c 13 h13).1 (scr m c 13 h13).2 R l).trans (scale_last m c R h13)

theorem ix_row (b : Fin 4) (r : Fin 384) :
    (ix3 b 0 r : S4x1x384.Idx) = ix3 ⟨(row b r).val / 384, by omega⟩ 0 ⟨(row b r).val % 384, by omega⟩ := by
  have hb : (⟨(row b r).val / 384, by omega⟩ : Fin 4) = b := Fin.ext (by show (b.val * 384 + r.val) / 384 = b.val; omega)
  have hr : (⟨(row b r).val % 384, by omega⟩ : Fin 384) = r := Fin.ext (by show (b.val * 384 + r.val) % 384 = r.val; omega)
  rw [hb, hr]

theorem rn_last (c : Dev nD) (b : Fin 4) (r : Fin 384) : (outsAt0 m c last.val last.isLt).2.2.2.1 (ix3 b 0 r) = rK (Sq (args m c) (row b r)) :=
  (congrArg (outsAt0 m c last.val last.isLt).2.2.2.1 (ix_row b r)).trans
    ((rn_C m c last hA14 hB14 (scr m c 13 h13).1 (scr m c 13 h13).2 (row b r)).trans (congrArg rK (sum_last m c (row b r) h13)))

theorem sn_last (c : Dev nD) (b : Fin 4) (r : Fin 384) : (outsAt0 m c last.val last.isLt).2.2.2.2.1 (ix3 b 0 r) = Sc (args m c) (row b r) :=
  (congrArg (outsAt0 m c last.val last.isLt).2.2.2.2.1 (ix_row b r)).trans
    ((sn_C m c last hA14 hB14 (scr m c 13 h13).1 (scr m c 13 h13).2 (row b r)).trans (scale_last m c (row b r) h13))

theorem flush7 : ∀ t : Fin cfg0.N, (cfg0.win 7).flush t = true → t = last := by decide +kernel

theorem flush8 : ∀ t : Fin cfg0.N, (cfg0.win 8).flush t = true → t = last := by decide +kernel

theorem flush9 : ∀ t : Fin cfg0.N, (cfg0.win 9).flush t = true → t = last := by decide +kernel

theorem flush10 : ∀ t : Fin cfg0.N, (cfg0.win 10).flush t = true → t = last := by decide +kernel

theorem out7 (c : Dev nD) : (dats m 0 c).arrAt 7 cfg0.N = fun i : S1536x128.Idx => rK (Sq (args m c) (i 0)) := by
  refine (dats m 0 c).arrAt_eq_of_covers 7 _ (by decide +kernel) fun t hf y => ?_
  obtain rfl := flush7 t hf
  blk_simp
  rw [after0_7]
  obtain ⟨R, l, rfl⟩ : ∃ (R : Fin 1536) (l : Fin 128), y = ix2 R l := ⟨y 0, y 1, eq_ix2 _⟩
  refine (rw_last m c R l).trans ?_
  rw [emb7]
  rfl

theorem out8 (c : Dev nD) : (dats m 0 c).arrAt 8 cfg0.N = fun i : S1536x128.Idx => Sc (args m c) (i 0) := by
  refine (dats m 0 c).arrAt_eq_of_covers 8 _ (by decide +kernel) fun t hf y => ?_
  obtain rfl := flush8 t hf
  blk_simp
  rw [after0_8]
  obtain ⟨R, l, rfl⟩ : ∃ (R : Fin 1536) (l : Fin 128), y = ix2 R l := ⟨y 0, y 1, eq_ix2 _⟩
  refine (sw_last m c R l).trans ?_
  rw [emb8]
  rfl

theorem out9 (c : Dev nD) : (dats m 0 c).arrAt 9 cfg0.N = fun i : S4x1x384.Idx => rK (Sq (args m c) (row (i 0) (i 2))) := by
  refine (dats m 0 c).arrAt_eq_of_covers 9 _ (by decide +kernel) fun t hf y => ?_
  obtain rfl := flush9 t hf
  blk_simp
  rw [after0_9]
  obtain ⟨b, r, rfl⟩ : ∃ (b : Fin 4) (r : Fin 384), y = ix3 b 0 r := ⟨y 0, y 2, (eq_ix3 y).trans (congrArg (fun z : Fin 1 => ix3 (y 0) z (y 2)) (Subsingleton.elim (α := Fin 1) (y 1) 0))⟩
  refine (rn_last m c b r).trans ?_
  rw [emb9]
  rfl

theorem out10 (c : Dev nD) : (dats m 0 c).arrAt 10 cfg0.N = fun i : S4x1x384.Idx => Sc (args m c) (row (i 0) (i 2)) := by
  refine (dats m 0 c).arrAt_eq_of_covers 10 _ (by decide +kernel) fun t hf y => ?_
  obtain rfl := flush10 t hf
  blk_simp
  rw [after0_10]
  obtain ⟨b, r, rfl⟩ : ∃ (b : Fin 4) (r : Fin 384), y = ix3 b 0 r := ⟨y 0, y 2, (eq_ix3 y).trans (congrArg (fun z : Fin 1 => ix3 (y 0) z (y 2)) (Subsingleton.elim (α := Fin 1) (y 1) 0))⟩
  refine (sn_last m c b r).trans ?_
  rw [emb10]
  rfl

end Cert.GateUpIdeal.Point

end
-- ==== Proof.RefPay.lean ====
/-
  What the reference's blocks of arithmetic hold at an index, each as a plain expression of the arguments.
-/
module

public import proofs.«01_k».proof.Defs
public import proofs.«01_k».proof.Proof.Gen.GateUpRefIdeal.Skeleton
public import proofs.«01_k».proof.Proof.Unpack
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GateUpRefIdeal.Pay

open Cert.GateUpRefIdeal Cert.GateUpRefIdeal.Gen Cert.Tern Cert.Spec

theorem pay6 (v : Vec Ideal S4x2880x384 .i8) (R : Fin 1536) (k : Fin 2880) :
    k0_pay6 (F := Ideal) v (ix2 R k) = v (ix3 ⟨R.val / 384, by omega⟩ k ⟨R.val % 384, by omega⟩) := by
  unfold k0_pay6
  pointwise

theorem pay7 (v : Vec Ideal S4x1x384 .f32) (R : Fin 1536) :
    k0_pay7 (F := Ideal) v (ix2 R 0) = v (ix3 ⟨R.val / 384, by omega⟩ 0 ⟨R.val % 384, by omega⟩) := by
  unfold k0_pay7
  pointwise

/-- A reference's spelling of a ternary weight, as an extended real. -/
theorem fieldOf (f : ℕ) (hf : f < 4) (b : BitVec 8) :
    FloatOps.sitofp (F := Ideal) FTy.bf16 (IntOp.subi (BitVec.setWidth 8 (IntOp.andi (IntOp.shrsi .vector (BitVec.setWidth 32 b) (BitVec.ofNat 32 (2 * f))) 3#32)) 1#8)
      = tern f b := by
  show (((IntOp.subi (BitVec.setWidth 8 (IntOp.andi (IntOp.shrsi .vector (BitVec.setWidth 32 b) (BitVec.ofNat 32 (2 * f))) 3#32)) 1#8).toInt : ℝ) : EReal) = _
  rw [word_of_byte f hf, Int.cast_sub, Int.cast_one, EReal.coe_sub, EReal.coe_one]
  rfl

theorem field0 (b : BitVec 8) : FloatOps.sitofp (F := Ideal) FTy.bf16 (IntOp.subi (BitVec.setWidth 8 (IntOp.andi (IntOp.shrsi .vector (BitVec.setWidth 32 b) 0#32) 3#32)) 1#8) = tern 0 b := fieldOf 0 (by decide) b
theorem field1 (b : BitVec 8) : FloatOps.sitofp (F := Ideal) FTy.bf16 (IntOp.subi (BitVec.setWidth 8 (IntOp.andi (IntOp.shrsi .vector (BitVec.setWidth 32 b) 2#32) 3#32)) 1#8) = tern 1 b := fieldOf 1 (by decide) b
theorem field2 (b : BitVec 8) : FloatOps.sitofp (F := Ideal) FTy.bf16 (IntOp.subi (BitVec.setWidth 8 (IntOp.andi (IntOp.shrsi .vector (BitVec.setWidth 32 b) 4#32) 3#32)) 1#8) = tern 2 b := fieldOf 2 (by decide) b
theorem field3 (b : BitVec 8) : FloatOps.sitofp (F := Ideal) FTy.bf16 (IntOp.subi (BitVec.setWidth 8 (IntOp.andi (IntOp.shrsi .vector (BitVec.setWidth 32 b) 6#32) 3#32)) 1#8) = tern 3 b := fieldOf 3 (by decide) b

theorem pay8 (c : Vec Ideal S4x2880x384 .i8) (R : Fin 1536) (k : Fin 2880) : k0_pay8 (F := Ideal) c (ix2 R k) = Xs c R k := by
  unfold k0_pay8
  pointwise
  rw [pay6]
  rfl

theorem pay12 (c : Vec Ideal S4x2880x384 .i8) (R : Fin 1536) (k : Fin 2880) : k0_pay12 (F := Ideal) (k0_pay6 (F := Ideal) c) (ix2 R k) = Xs c R k := by
  unfold k0_pay12
  pointwise
  rw [pay6]
  rfl

theorem pay9 (c : Vec Ideal S4x2880x384 .i8) (w : Vec Ideal S720x7680 .i8) (R : Fin 1536) (N : Fin 7680) :
    k0_pay9 (F := Ideal) c w (ix2 R N) = (∑ x : Fin 720, Xs c R ⟨x.val, by omega⟩ * tern 0 (w (ix2 x N)))
      + ∑ x : Fin 720, Xs c R ⟨720 + x.val, by omega⟩ * tern 1 (w (ix2 x N)) := by
  unfold k0_pay9
  pointwise
  simp only [pay8, field0, field1]

theorem pay13 (c : Vec Ideal S4x2880x384 .i8) (w : Vec Ideal S720x7680 .i8) (R : Fin 1536) (N : Fin 7680) :
    k0_pay13 (F := Ideal) (k0_pay6 (F := Ideal) c) w (ix2 R N) = ∑ x : Fin 720, Xs c R ⟨x.val, by omega⟩ * tern 0 (w (ix2 x N)) := by
  unfold k0_pay13
  pointwise
  simp only [pay12, field0]

theorem pay10 (w : Vec Ideal S720x7680 .i8) (k : Fin 720) (N : Fin 7680) :
    FloatOps.sitofp (F := Ideal) FTy.bf16 (k0_pay10 (F := Ideal) w (ix2 k N)) = tern 2 (w (ix2 k N)) := by
  unfold k0_pay10
  pointwise
  exact field2 _

theorem pay14 (w : Vec Ideal S720x7680 .i8) (k : Fin 720) (N : Fin 7680) :
    k0_pay14 (F := Ideal) w (ix2 k N) = tern 1 (w (ix2 k N)) := by
  unfold k0_pay14
  pointwise
  exact field1 _

theorem pay15 (c : Vec Ideal S4x2880x384 .i8) (R : Fin 1536) (x : Fin 720) :
    k0_pay15 (F := Ideal) (k0_pay6 (F := Ideal) c) (ix2 R x) = Xs c R ⟨720 + x.val, by omega⟩ := by
  unfold k0_pay15
  pointwise
  exact pay12 c R _

/-- The four partial dot products of a row and a packed column are the dot product with the column's ternary weights. -/
theorem dots (X : Fin 2880 → EReal) (w : Vec Ideal S720x7680 .i8) (N : Fin 7680) :
    (∑ x : Fin 720, X ⟨x.val, by omega⟩ * tern 0 (w (ix2 x N))) + (∑ x : Fin 720, X ⟨720 + x.val, by omega⟩ * tern 1 (w (ix2 x N)))
      + (∑ x : Fin 720, X ⟨1440 + x.val, by omega⟩ * tern 2 (w (ix2 x N))) + (∑ x : Fin 720, X ⟨2160 + x.val, by omega⟩ * tern 3 (w (ix2 x N)))
      = ∑ k : Fin 2880, X k * Ws w N k := by
  have key : ∑ k : Fin 2880, X k * Ws w N k = ∑ f : Fin 4, ∑ x : Fin 720, X ⟨720 * f.val + x.val, by omega⟩ * tern f.val (w (ix2 x N)) := by
    rw [← Fintype.sum_prod_type']
    refine (Fintype.sum_equiv (finProdFinEquiv (m := 4) (n := 720)) _ _ fun q => ?_).symm
    obtain ⟨f, x⟩ := q
    have hv : (finProdFinEquiv (m := 4) (n := 720) (f, x)).val = x.val + 720 * f.val := rfl
    have e : (finProdFinEquiv (m := 4) (n := 720) (f, x) : Fin 2880) = ⟨720 * f.val + x.val, by omega⟩ := Fin.ext (by rw [hv]; exact Nat.add_comm _ _)
    show X ⟨720 * f.val + x.val, _⟩ * tern f.val (w (ix2 x N)) = X (finProdFinEquiv (m := 4) (n := 720) (f, x) : Fin 2880) * Ws w N (finProdFinEquiv (m := 4) (n := 720) (f, x) : Fin 2880)
    rw [e, Ws]
    have hx := x.isLt
    have e1 : (720 * f.val + x.val) / 720 = f.val := by omega
    have e2 : (⟨(720 * f.val + x.val) % 720, by omega⟩ : Fin 720) = x := Fin.ext (by show (720 * f.val + x.val) % 720 = x.val; omega)
    show _ = _ * tern ((720 * f.val + x.val) / 720) (w (ix2 ⟨(720 * f.val + x.val) % 720, _⟩ N))
    rw [e1, e2]
  rw [key, Fin.sum_univ_four]
  congr 1

theorem pay11 (a : Vec Ideal S4x1x384 .f32) (c : Vec Ideal S4x2880x384 .i8) (w : Vec Ideal S720x7680 .i8) (s : Elt Ideal .f32) (R : Fin 1536) (N : Fin 7680) :
    k0_pay11 (F := Ideal) (k0_pay7 a) w s (k0_pay8 c) (k0_pay9 c w) (k0_pay10 (F := Ideal) w) (ix2 R N)
      = (∑ k : Fin 2880, Xs c R k * Ws w N k) * As a R * s := by
  unfold k0_pay11
  pointwise
  simp only [pay8, pay9, pay10, pay7, field3, dots]
  rfl

theorem pay16 (A : Args) (R : Fin 1536) (N : Fin 7680) :
    k0_pay16 (F := Ideal) (k0_pay7 A.al) (k0_pay11 (k0_pay7 A.al) A.wg (A.s (ix1 0)) (k0_pay8 A.ct) (k0_pay9 A.ct A.wg) (k0_pay10 (F := Ideal) A.wg)) A.wu (A.s (ix1 1))
      (k0_pay12 (k0_pay6 (F := Ideal) A.ct)) (k0_pay13 (k0_pay6 (F := Ideal) A.ct) A.wu) (k0_pay14 A.wu) (k0_pay15 (k0_pay6 (F := Ideal) A.ct)) (constant S1536x7680 .f32 0x00000000#32) (ix2 R N)
      = Ms A R N := by
  unfold k0_pay16
  pointwise
  simp only [pay11, pay12, pay13, pay14, pay15, pay7, field2, field3, dots]
  rfl

theorem pay2 (v : Vec Ideal S1536x1 .f32) (R : Fin 1536) (l : Fin 128) : k0_pay2 (F := Ideal) v (ix2 R l) = v (ix2 R 0) := by
  unfold k0_pay2
  pointwise

theorem pay4 (v : Vec Ideal S1536x1 .f32) (b : Fin 4) (r : Fin 384) :
    k0_pay4 (F := Ideal) v (ix3 b 0 r) = v (ix2 ⟨b.val * 384 + r.val, by omega⟩ 0) := by
  unfold k0_pay4
  pointwise

theorem pay17 (g : Vec Ideal S1x7680 .f32) (N : Fin 7680) : k0_pay17 (F := Ideal) g (ix2 0 N) = g (ix2 0 N) := by
  unfold k0_pay17
  pointwise

end Cert.GateUpRefIdeal.Pay

end
-- ==== Proof.RefStat.lean ====
/-
  The reference's row statistics: the reciprocal root of the mean square and the activation scale of a row.
-/
module

public import proofs.«01_k».proof.Defs
public import proofs.«01_k».proof.Proof.Gen.GateUpRefIdeal.Skeleton
public import proofs.«01_k».proof.Proof.Unpack
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GateUpRefIdeal.Pay

open Cert.GateUpRefIdeal Cert.GateUpRefIdeal.Gen Cert.Tern Cert.Spec

/-- The greatest entry of a row. -/
theorem maxred {n : ℕ} (src : FVec Ideal (⟨2, ![1536, n]⟩ : Shape) .f32) (h : (⟨2, ![1536, n]⟩ : Shape).Reduces [1] S1536)
    (hφ : FKind.Formats .f32) (hacc : 0xFF800000#32 = FKind.maximumf.neutral .f32 hφ) (R : Fin 1536) :
    multiReduction (F := Ideal) .maximumf [1] S1536 src 0xFF800000#32 h hφ hacc (ix1 R) = fmax fun N => src (ix2 R N) := by
  pointwise
  rfl

/-- The sum of a row. -/
theorem sumred {n : ℕ} (src : FVec Ideal (⟨2, ![1536, n]⟩ : Shape) .f32) (h : (⟨2, ![1536, n]⟩ : Shape).Reduces [1] S1536)
    (hφ : FKind.Formats .f32) (hacc : 0x00000000#32 = FKind.add.neutral .f32 hφ) (R : Fin 1536) :
    multiReduction (F := Ideal) .add [1] S1536 src 0x00000000#32 h hφ hacc (ix1 R) = ∑ N, src (ix2 R N) := by
  pointwise

/-- The scale of a row, from its greatest magnitude. -/
def scalePart (v : FVec Ideal S1536 .f32) : FVec Ideal S1536x1 .f32 :=
  have v134 : FVec Ideal S1536x1 .f32 := shapeCast S1536x1 v shapeCasts_S1536_S1536x1
  select (cmpf .oeq v134 (broadcast S1536x1 (Scalar.ofBits .f32 0x00000000#32 : Ideal .f32))) (broadcast S1536x1 (Scalar.ofBits .f32 0x3F800000#32 : Ideal .f32))
    (divf v134 (broadcast S1536x1 (Scalar.ofBits .f32 0x42FE0000#32 : Ideal .f32)))

theorem scalePart_at (v : FVec Ideal S1536 .f32) (R : Fin 1536) : scalePart v (ix2 R 0) = scaleOf (v (ix1 R)) := by
  unfold scalePart
  pointwise
  rfl

/-- The reciprocal root of a row, from its sum of squares. -/
def rootPart (v : FVec Ideal S1536 .f32) : FVec Ideal S1536x1 .f32 :=
  have v122 : FVec Ideal S1536x1 .f32 := shapeCast S1536x1 v shapeCasts_S1536_S1536x1
  rsqrt (addf (divf v122 (broadcast S1536x1 (Scalar.ofBits .f32 0x45F00000#32 : Ideal .f32))) (broadcast S1536x1 (Scalar.ofBits .f32 0x3727C5AC#32 : Ideal .f32)))

theorem rootPart_at (v : FVec Ideal S1536 .f32) (R : Fin 1536) : rootPart v (ix2 R 0) = rK (v (ix1 R)) := by
  unfold rootPart
  pointwise
  rfl

theorem pay1_eq (g : Vec Ideal S1x7680 .f32) (n : Vec Ideal S1536x7680 .f32) :
    k0_pay1 (F := Ideal) g n = scalePart (multiReduction .maximumf [1] S1536 (absf (mulf n (broadcastTo S1536x7680 g broadcasts_S1x7680_S1536x7680)))
      0xFF800000#32 reduces_S1536x7680_S1536 (.inl rfl) rfl) := rfl

theorem absAt (g : Vec Ideal S1x7680 .f32) (n : Vec Ideal S1536x7680 .f32) (R : Fin 1536) (N : Fin 7680) :
    absf (F := Ideal) (s := S1536x7680) (φ := .f32) (mulf n (broadcastTo S1536x7680 g broadcasts_S1x7680_S1536x7680)) (ix2 R N) = max (n (ix2 R N) * g (ix2 0 N)) (-(n (ix2 R N) * g (ix2 0 N))) := by
  pointwise
  rfl

theorem pay1 (g : Vec Ideal S1x7680 .f32) (n : Vec Ideal S1536x7680 .f32) (R : Fin 1536) :
    k0_pay1 (F := Ideal) g n (ix2 R 0) = scaleOf (fmax fun N : Fin 7680 => max (n (ix2 R N) * g (ix2 0 N)) (-(n (ix2 R N) * g (ix2 0 N)))) := by
  rw [pay1_eq, scalePart_at]
  refine congrArg scaleOf ?_
  refine (maxred (n := 7680) _ _ _ _ R).trans ?_
  exact congrArg fmax (funext fun N => absAt g n R N)

theorem pay18_eq (v5 : FVec Ideal S1536x1 .f32) (v59 : FVec Ideal S1536x7680 .f32) (v60 : Vec Ideal S720x7680 .i8) (v61 : Elt Ideal .f32) (v62 : FVec Ideal S1536x2880 .bf16)
    (v73 : FVec Ideal S1536x7680 .f32) (v82 : FVec Ideal S720x7680 .bf16) (v83 : FVec Ideal S1536x720 .bf16) (z : FVec Ideal S1536x7680 .f32) :
    k0_pay18 (F := Ideal) v5 v59 v60 v61 v62 v73 v82 v83 z = rootPart (multiReduction .add [1] S1536
      (mulf (k0_pay16 v5 v59 v60 v61 v62 v73 v82 v83 z) (k0_pay16 v5 v59 v60 v61 v62 v73 v82 v83 z)) 0x00000000#32 reduces_S1536x7680_S1536 (.inl rfl) rfl) := rfl

theorem pay18 (v5 : FVec Ideal S1536x1 .f32) (v59 : FVec Ideal S1536x7680 .f32) (v60 : Vec Ideal S720x7680 .i8) (v61 : Elt Ideal .f32) (v62 : FVec Ideal S1536x2880 .bf16)
    (v73 : FVec Ideal S1536x7680 .f32) (v82 : FVec Ideal S720x7680 .bf16) (v83 : FVec Ideal S1536x720 .bf16) (z : FVec Ideal S1536x7680 .f32) (R : Fin 1536)
    (M : Fin 7680 → EReal) (hM : ∀ N, k0_pay16 (F := Ideal) v5 v59 v60 v61 v62 v73 v82 v83 z (ix2 R N) = M N) :
    k0_pay18 (F := Ideal) v5 v59 v60 v61 v62 v73 v82 v83 z (ix2 R 0) = rK (∑ N, M N * M N) := by
  rw [pay18_eq, rootPart_at]
  refine congrArg rK ?_
  refine (sumred (n := 7680) _ _ _ _ R).trans (Finset.sum_congr rfl fun N _ => ?_)
  show k0_pay16 (F := Ideal) v5 v59 v60 v61 v62 v73 v82 v83 z (ix2 R N) * k0_pay16 (F := Ideal) v5 v59 v60 v61 v62 v73 v82 v83 z (ix2 R N) = _
  rw [hM]

theorem pay19 (v5 : FVec Ideal S1536x1 .f32) (v59 : FVec Ideal S1536x7680 .f32) (v60 : Vec Ideal S720x7680 .i8) (v61 : Elt Ideal .f32) (v62 : FVec Ideal S1536x2880 .bf16)
    (v73 : FVec Ideal S1536x7680 .f32) (v82 : FVec Ideal S720x7680 .bf16) (v83 : FVec Ideal S1536x720 .bf16) (z : FVec Ideal S1536x7680 .f32) (R : Fin 1536) (N : Fin 7680) :
    k0_pay19 (F := Ideal) v5 v59 v60 v61 v62 v73 v82 v83 z (ix2 R N)
      = k0_pay16 (F := Ideal) v5 v59 v60 v61 v62 v73 v82 v83 z (ix2 R N) * k0_pay18 (F := Ideal) v5 v59 v60 v61 v62 v73 v82 v83 z (ix2 R 0) := by
  unfold k0_pay19
  pointwise

end Cert.GateUpRefIdeal.Pay

end
-- ==== Proof.RefVal.lean ====
/-
  The reference's five result arrays, entry by entry.
-/
module

public import proofs.«01_k».proof.Proof.RefPay
public import proofs.«01_k».proof.Proof.RefStat
public import proofs.«01_k».proof.Proof.Scale
public import proofs.«01_k».proof.Proof.Gen.GateUpRefIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GateUpRefIdeal.Val

open Cert.GateUpRefIdeal Cert.GateUpRefIdeal.Gen Cert.GateUpRefIdeal.Value Cert.Spec Cert.Tern Cert.GateUpRefIdeal.Pay

variable (m : (ℓ : Loc nD τ sig) → Buf (Elt Ideal) ℓ)

/-- The reference's arguments on device `c`. -/
def args (c : Dev nD) : Args where
  s := m ⟨c, main_arg0⟩
  ct := m ⟨c, main_arg1⟩
  al := m ⟨c, main_arg2⟩
  g := m ⟨c, main_arg3⟩
  wg := m ⟨c, main_arg4⟩
  wu := m ⟨c, main_arg5⟩

theorem idx : ∀ t : Fin cfg0.N, win0_0.index t = ![0] ∧ win0_1.index t = ![0, 0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0, 0] ∧ win0_10.index t = ![0, 0, 0] := by
  decide +kernel

theorem s_at (c : Dev nD) (t : Fin cfg0.N) (i : Fin 2) : iblk m c 0 t (ix1 i) = (args m c).s (ix1 i) := by
  obtain ⟨e0, e1, e2, e3, e4, e5, e6⟩ := idx t
  show _ = m ⟨c, main_arg0⟩ (ix1 i)
  blk_ext [iblk, V, e0]

theorem s0 (c : Dev nD) (t : Fin cfg0.N) (h) (h') : View.ld (iblk m c 0 t) (Rect.unit (s := S2) ![0] ![1] h) (Shape.Idx.first h') = (args m c).s (ix1 0) := by
  refine Eq.trans (congrArg (iblk m c 0 t) ?_) (s_at m c t 0)
  funext a
  match a with
  | ⟨0, _⟩ => rfl

theorem s1 (c : Dev nD) (t : Fin cfg0.N) (h) (h') : View.ld (iblk m c 0 t) (Rect.unit (s := S2) ![1] ![1] h) (Shape.Idx.first h') = (args m c).s (ix1 1) := by
  refine Eq.trans (congrArg (iblk m c 0 t) ?_) (s_at m c t 1)
  funext a
  match a with
  | ⟨0, _⟩ => rfl

theorem c_eq (c : Dev nD) (t : Fin cfg0.N) : (iblk m c 1 t : S4x2880x384.Idx → BitVec 8) = (args m c).ct := by
  obtain ⟨e0, e1, e2, e3, e4, e5, e6⟩ := idx t
  funext i
  rw [eq_ix3 i]
  show _ = m ⟨c, main_arg1⟩ (ix3 _ _ _)
  blk_ext [iblk, V, e1]

theorem a_eq (c : Dev nD) (t : Fin cfg0.N) : (iblk m c 2 t : S4x1x384.Idx → EReal) = (args m c).al := by
  obtain ⟨e0, e1, e2, e3, e4, e5, e6⟩ := idx t
  funext i
  rw [eq_ix3 i]
  show _ = m ⟨c, main_arg2⟩ (ix3 _ _ _)
  blk_ext [iblk, V, e2]

theorem wg_eq (c : Dev nD) (t : Fin cfg0.N) : (iblk m c 4 t : S720x7680.Idx → BitVec 8) = (args m c).wg := by
  obtain ⟨e0, e1, e2, e3, e4, e5, e6⟩ := idx t
  funext i
  rw [eq_ix2 i]
  show _ = m ⟨c, main_arg4⟩ (ix2 _ _)
  blk_ext [iblk, V, e4]

theorem wu_eq (c : Dev nD) (t : Fin cfg0.N) : (iblk m c 5 t : S720x7680.Idx → BitVec 8) = (args m c).wu := by
  obtain ⟨e0, e1, e2, e3, e4, e5, e6⟩ := idx t
  funext i
  rw [eq_ix2 i]
  show _ = m ⟨c, main_arg5⟩ (ix2 _ _)
  blk_ext [iblk, V, e5]

theorem g_at (c : Dev nD) (t : Fin cfg0.N) (N : Fin 7680) : iblk m c 3 t (ix2 0 N) = (args m c).g (ix1 N) := by
  obtain ⟨e0, e1, e2, e3, e4, e5, e6⟩ := idx t
  show _ = m ⟨c, main_arg3⟩ (ix1 N)
  show V m c main_v0 ((win0_3.blk t).view.emb (ix2 0 N)) = _
  entry_read
  pointwise
  blk_ext [e3]

theorem emb6 (t : Fin cfg0.N) (y : S1536x7680.Idx) : ((View.whole main_v1_0).slice (win0_6.rect t)).emb y = y := by
  obtain ⟨e0, e1, e2, e3, e4, e5, e6, e7, e8, e9, e10⟩ := idx t
  blk_ext [e6]

theorem emb7 (t : Fin cfg0.N) (y : S1536x128.Idx) : ((View.whole main_v1_1).slice (win0_7.rect t)).emb y = y := by
  obtain ⟨e0, e1, e2, e3, e4, e5, e6, e7, e8, e9, e10⟩ := idx t
  blk_ext [e7]

theorem emb9 (t : Fin cfg0.N) (y : S4x1x384.Idx) : ((View.whole main_v1_3).slice (win0_9.rect t)).emb y = y := by
  obtain ⟨e0, e1, e2, e3, e4, e5, e6, e7, e8, e9, e10⟩ := idx t
  blk_ext [e9]

theorem out6 (c : Dev nD) : (dats m 0 c).arrAt 6 cfg0.N = fun i : S1536x7680.Idx => Ms (args m c) (i 0) (i 1) := by
  refine (dats m 0 c).arrAt_eq_of_covers 6 _ (by decide +kernel) fun t hf y => ?_
  blk_simp
  rw [after0_6]
  unfold outsAt0
  frame_out
  simp only [read_unread_whole]
  rw [s0, s1, c_eq, a_eq, wg_eq, wu_eq]
  obtain ⟨R, N, rfl⟩ : ∃ (R : Fin 1536) (N : Fin 7680), y = ix2 R N := ⟨y 0, y 1, eq_ix2 _⟩
  refine (Pay.pay16 (args m c) R N).trans ?_
  rw [emb6]
  rfl

theorem emb8 (t : Fin cfg0.N) (y : S1536x128.Idx) : ((View.whole main_v1_2).slice (win0_8.rect t)).emb y = y := by
  obtain ⟨e0, e1, e2, e3, e4, e5, e6, e7, e8, e9, e10⟩ := idx t
  blk_ext [e8]

theorem emb10 (t : Fin cfg0.N) (y : S4x1x384.Idx) : ((View.whole main_v1_4).slice (win0_10.rect t)).emb y = y := by
  obtain ⟨e0, e1, e2, e3, e4, e5, e6, e7, e8, e9, e10⟩ := idx t
  blk_ext [e10]

theorem pay3 (g : Vec Ideal S1x7680 .f32) (n : Vec Ideal S1536x7680 .f32) (R : Fin 1536) (l : Fin 128) :
    k0_pay3 (F := Ideal) g n (ix2 R l) = k0_pay1 (F := Ideal) g n (ix2 R 0) :=
  Pay.pay2 (k0_pay1 (F := Ideal) g n) R l

theorem pay5 (g : Vec Ideal S1x7680 .f32) (n : Vec Ideal S1536x7680 .f32) (b : Fin 4) (r : Fin 384) :
    k0_pay5 (F := Ideal) g n (ix3 b 0 r) = k0_pay1 (F := Ideal) g n (ix2 (row b r) 0) :=
  Pay.pay4 (k0_pay1 (F := Ideal) g n) b r

/-- The scale from the block's gain and the normalised product. -/
theorem scale_at (c : Dev nD) (t : Fin cfg0.N) (n : Vec Ideal S1536x7680 .f32) (R : Fin 1536)
    (hn : ∀ N, n (ix2 R N) = Ms (args m c) R N * rK (Sq (args m c) R)) :
    k0_pay1 (F := Ideal) (k0_pay17 (F := Ideal) (iblk m c 3 t)) n (ix2 R 0) = Sc (args m c) R := by
  refine (Pay.pay1 _ _ R).trans (congrArg (fun f => scaleOf (fmax f)) (funext fun N => ?_))
  rw [hn, Pay.pay17, g_at]

theorem out7 (c : Dev nD) : (dats m 0 c).arrAt 7 cfg0.N = fun i : S1536x128.Idx => rK (Sq (args m c) (i 0)) := by
  refine (dats m 0 c).arrAt_eq_of_covers 7 _ (by decide +kernel) fun t hf y => ?_
  blk_simp
  rw [after0_7]
  unfold outsAt0
  frame_out
  simp only [read_unread_whole]
  rw [s0, s1, c_eq, a_eq, wg_eq, wu_eq]
  obtain ⟨R, l, rfl⟩ : ∃ (R : Fin 1536) (l : Fin 128), y = ix2 R l := ⟨y 0, y 1, eq_ix2 _⟩
  refine (Pay.pay2 _ R l).trans ((Pay.pay18 _ _ _ _ _ _ _ _ _ R _ fun N => Pay.pay16 (args m c) R N).trans ?_)
  rw [emb7]
  rfl

theorem out8 (c : Dev nD) : (dats m 0 c).arrAt 8 cfg0.N = fun i : S1536x128.Idx => Sc (args m c) (i 0) := by
  refine (dats m 0 c).arrAt_eq_of_covers 8 _ (by decide +kernel) fun t hf y => ?_
  blk_simp
  rw [after0_8]
  unfold outsAt0
  frame_out
  simp only [read_unread_whole]
  rw [s0, s1, c_eq, a_eq, wg_eq, wu_eq]
  obtain ⟨R, l, rfl⟩ : ∃ (R : Fin 1536) (l : Fin 128), y = ix2 R l := ⟨y 0, y 1, eq_ix2 _⟩
  refine (pay3 _ _ R l).trans ((scale_at m c t _ R fun N => (Pay.pay19 _ _ _ _ _ _ _ _ _ R N).trans (congrArg₂ (· * ·) (Pay.pay16 (args m c) R N) (Pay.pay18 _ _ _ _ _ _ _ _ _ R _ fun N => Pay.pay16 (args m c) R N))).trans ?_)
  rw [emb8]
  rfl

theorem out9 (c : Dev nD) : (dats m 0 c).arrAt 9 cfg0.N = fun i : S4x1x384.Idx => rK (Sq (args m c) (row (i 0) (i 2))) := by
  refine (dats m 0 c).arrAt_eq_of_covers 9 _ (by decide +kernel) fun t hf y => ?_
  blk_simp
  rw [after0_9]
  unfold outsAt0
  frame_out
  simp only [read_unread_whole]
  rw [s0, s1, c_eq, a_eq, wg_eq, wu_eq]
  obtain ⟨b, r, rfl⟩ : ∃ (b : Fin 4) (r : Fin 384), y = ix3 b 0 r := ⟨y 0, y 2, (eq_ix3 y).trans (congrArg (fun z : Fin 1 => ix3 (y 0) z (y 2)) (Subsingleton.elim (α := Fin 1) (y 1) 0))⟩
  refine (Pay.pay4 _ b r).trans ((Pay.pay18 _ _ _ _ _ _ _ _ _ (row b r) _ fun N => Pay.pay16 (args m c) (row b r) N).trans ?_)
  rw [emb9]
  rfl

theorem out10 (c : Dev nD) : (dats m 0 c).arrAt 10 cfg0.N = fun i : S4x1x384.Idx => Sc (args m c) (row (i 0) (i 2)) := by
  refine (dats m 0 c).arrAt_eq_of_covers 10 _ (by decide +kernel) fun t hf y => ?_
  blk_simp
  rw [after0_10]
  unfold outsAt0
  frame_out
  simp only [read_unread_whole]
  rw [s0, s1, c_eq, a_eq, wg_eq, wu_eq]
  obtain ⟨b, r, rfl⟩ : ∃ (b : Fin 4) (r : Fin 384), y = ix3 b 0 r := ⟨y 0, y 2, (eq_ix3 y).trans (congrArg (fun z : Fin 1 => ix3 (y 0) z (y 2)) (Subsingleton.elim (α := Fin 1) (y 1) 0))⟩
  refine (pay5 _ _ b r).trans ((scale_at m c t _ (row b r) fun N => (Pay.pay19 _ _ _ _ _ _ _ _ _ (row b r) N).trans (congrArg₂ (· * ·) (Pay.pay16 (args m c) (row b r) N) (Pay.pay18 _ _ _ _ _ _ _ _ _ (row b r) _ fun N => Pay.pay16 (args m c) (row b r) N))).trans ?_)
  rw [emb10]
  rfl

end Cert.GateUpRefIdeal.Val

end
-- ==== Proof.Wide.lean ====
/-
  Products with packed weights of any number of columns: the ternary weight at a row and a column, the dot product in its four
  partial sums, and an array written in pieces that all agree with one function.
-/
module

public import proofs.«01_k».proof.Proof.Scale
public import Idealize.ShloMosaic.Lib.Pipeline.ValueKit
public import Idealize.ShloMosaic.Lib.Pipeline.ReadBack
public import Idealize.ShloMosaic.Lib.Pointwise

@[expose] public section

noncomputable section

open Idealize.ShloMosaic Idealize.ShloMosaic.TcCoe Idealize.SL.Sem

namespace Cert.Spec

open Cert.Tern

/-- The ternary weight at feature `k` of column `N`: field `k / 720` of byte row `k % 720`. -/
def Wn {n : ℕ} (w : (⟨2, ![720, n]⟩ : Shape).Idx → BitVec 8) (N : Fin n) (k : Fin 2880) : EReal :=
  tern (k.val / 720) (w (ix2 ⟨k.val % 720, by omega⟩ N))

/-- The four partial dot products of a row and a packed column are the dot product with the column's ternary weights. -/
theorem dotsn {n : ℕ} (X : Fin 2880 → EReal) (w : (⟨2, ![720, n]⟩ : Shape).Idx → BitVec 8) (N : Fin n) :
    (∑ x : Fin 720, X ⟨x.val, by omega⟩ * tern 0 (w (ix2 x N))) + (∑ x : Fin 720, X ⟨720 + x.val, by omega⟩ * tern 1 (w (ix2 x N)))
      + (∑ x : Fin 720, X ⟨1440 + x.val, by omega⟩ * tern 2 (w (ix2 x N))) + (∑ x : Fin 720, X ⟨2160 + x.val, by omega⟩ * tern 3 (w (ix2 x N)))
      = ∑ k : Fin 2880, X k * Wn w N k := by
  have key : ∑ k : Fin 2880, X k * Wn w N k = ∑ f : Fin 4, ∑ x : Fin 720, X ⟨720 * f.val + x.val, by omega⟩ * tern f.val (w (ix2 x N)) := by
    rw [← Fintype.sum_prod_type']
    refine (Fintype.sum_equiv (finProdFinEquiv (m := 4) (n := 720)) _ _ fun q => ?_).symm
    obtain ⟨f, x⟩ := q
    have hv : (finProdFinEquiv (m := 4) (n := 720) (f, x)).val = x.val + 720 * f.val := rfl
    have e : (finProdFinEquiv (m := 4) (n := 720) (f, x) : Fin 2880) = ⟨720 * f.val + x.val, by omega⟩ := Fin.ext (by rw [hv]; exact Nat.add_comm _ _)
    show X ⟨720 * f.val + x.val, _⟩ * tern f.val (w (ix2 x N)) = X (finProdFinEquiv (m := 4) (n := 720) (f, x) : Fin 2880) * Wn w N (finProdFinEquiv (m := 4) (n := 720) (f, x) : Fin 2880)
    rw [e, Wn]
    have hx := x.isLt
    have e1 : (720 * f.val + x.val) / 720 = f.val := by omega
    have e2 : (⟨(720 * f.val + x.val) % 720, by omega⟩ : Fin 720) = x := Fin.ext (by show (720 * f.val + x.val) % 720 = x.val; omega)
    show _ = _ * tern ((720 * f.val + x.val) / 720) (w (ix2 ⟨(720 * f.val + x.val) % 720, _⟩ N))
    rw [e1, e2]
  rw [key, Fin.sum_univ_four]
  congr 1

/-- Every piece holds what a function of the whole index says. -/
def Good {S : Shape} {e : EltTy} (G : S.Idx → Elt Ideal e) (L : List (View.Piece (Elt Ideal) S e)) : Prop :=
  ∀ p ∈ L, ∀ j, p.2 j = G (p.1.emb j)

theorem good_cons {S : Shape} {e : EltTy} {G : S.Idx → Elt Ideal e} {p : View.Piece (Elt Ideal) S e} {L : List (View.Piece (Elt Ideal) S e)}
    (hp : ∀ j, p.2 j = G (p.1.emb j)) (hL : Good G L) : Good G (p :: L) := fun q hq => by
  rcases List.mem_cons.mp hq with rfl | hq
  · exact hp
  · exact hL q hq

theorem good_nil {S : Shape} {e : EltTy} {G : S.Idx → Elt Ideal e} : Good (S := S) (e := e) G [] := fun q hq => by simp at hq

/-- Where such pieces cover an index, the array holds what the function says. -/
theorem canon_of {S : Shape} {e : EltTy} (G : S.Idx → Elt Ideal e) : ∀ (L : List (View.Piece (Elt Ideal) S e)) (y : S.Idx) (_ : Good G L)
    (_ : ∃ p ∈ L, y ∈ p.1.set), View.canon L y = G y
  | [], _, _, hy => by obtain ⟨p, hp, _⟩ := hy; simp at hp
  | p :: L, y, hG, hy => by
    by_cases hm : y ∈ p.1.set
    · obtain ⟨x, rfl⟩ := p.1.exists_idx_of_mem hm
      rw [show p.1.idx x = p.1.emb x from rfl, View.canon_cons_emb]
      exact hG p (List.mem_cons_self ..) x
    · rw [View.canon_cons_of_not_mem _ _ hm]
      refine canon_of G L y (fun q hq => hG q (List.mem_cons_of_mem _ hq)) ?_
      obtain ⟨q, hq, hyq⟩ := hy
      rcases List.mem_cons.mp hq with rfl | hq'
      · exact absurd hyq hm
      · exact ⟨q, hq', hyq⟩

/-- An index of a band of whole rows. -/
theorem mem_band {a n A B : ℕ} (inb) (y : (⟨2, ![A, B]⟩ : Shape).Idx) (h : a ≤ (y 0).val) (h' : (y 0).val < a + n) :
    y ∈ (Rect.unit (s := ⟨2, ![A, B]⟩) ![a, 0] ![n, B] inb).set := by
  refine Rect.mem_set_unit.mpr fun i => ?_
  match i with
  | ⟨0, _⟩ => exact ⟨h, h'⟩
  | ⟨1, _⟩ => exact ⟨Nat.zero_le _, by show (y 1).val < 0 + B; rw [Nat.zero_add]; exact (y 1).isLt⟩

/-- An index of a band of whole columns. -/
theorem mem_bandC {a n A B : ℕ} (inb) (y : (⟨2, ![A, B]⟩ : Shape).Idx) (h : a ≤ (y 1).val) (h' : (y 1).val < a + n) :
    y ∈ (Rect.unit (s := ⟨2, ![A, B]⟩) ![0, a] ![A, n] inb).set := by
  refine Rect.mem_set_unit.mpr fun i => ?_
  match i with
  | ⟨0, _⟩ => exact ⟨Nat.zero_le _, by show (y 0).val < 0 + A; rw [Nat.zero_add]; exact (y 0).isLt⟩
  | ⟨1, _⟩ => exact ⟨h, h'⟩

/-- The last stored band of columns covers an index, or the ones before it do. -/
theorem cov_step {A B : ℕ} {e : EltTy} {p : View.Piece (Elt Ideal) (⟨2, ![A, B]⟩ : Shape) e} {L : List (View.Piece (Elt Ideal) (⟨2, ![A, B]⟩ : Shape) e)}
    {y : (⟨2, ![A, B]⟩ : Shape).Idx} (a : ℕ) (h : a ≤ (y 1).val → y ∈ p.1.set) (h' : (y 1).val < a → ∃ p ∈ L, y ∈ p.1.set) : ∃ q ∈ p :: L, y ∈ q.1.set := by
  by_cases h0 : a ≤ (y 1).val
  · exact ⟨p, List.mem_cons_self .., h h0⟩
  · obtain ⟨q, hq, hy⟩ := h' (by omega)
    exact ⟨q, List.mem_cons_of_mem _ hq, hy⟩

/-- The arguments of the output projection. -/
structure OArgs where
  /-- The weight scale. -/
  s : (⟨1, ![1]⟩ : Shape).Idx → EReal
  /-- The codes. -/
  ct : (⟨3, ![4, 2880, 384]⟩ : Shape).Idx → BitVec 8
  /-- The activation scales. -/
  al : (⟨3, ![4, 1, 384]⟩ : Shape).Idx → EReal
  /-- The packed weights. -/
  w : (⟨2, ![720, 2880]⟩ : Shape).Idx → BitVec 8
  /-- What the projection is added to. -/
  x : (⟨3, ![4, 2880, 384]⟩ : Shape).Idx → EReal

/-- One entry of the output projection's result. -/
def Ho (A : OArgs) (b : Fin 4) (N : Fin 2880) (r : Fin 384) : EReal :=
  A.x (ix3 b N r) + (∑ k, Xs A.ct (row b r) k * Wn A.w N k) * As A.al (row b r) * A.s (ix1 0)

end Cert.Spec

end
-- ==== Proof.OCols.lean ====
/-
  The unpacked columns of one block of packed weights, as the kernel lays them out: four bands of rows, then transposed slab by
  slab. Each entry is the ternary weight at its feature and column.
-/
module

public import proofs.«01_k».proof.Defs
public import proofs.«01_k».proof.Proof.Gen.OProjIdeal.Value
public import proofs.«01_k».proof.Proof.Wide

@[expose] public section

set_option maxRecDepth 16384

noncomputable section

open Idealize.ShloMosaic Idealize.ShloMosaic.TcCoe Idealize.SL.Sem
open Idealize.ShloMosaic.Pipeline (Dat)

namespace Cert.OProjIdeal.Cols

open Cert.OProjIdeal Cert.OProjIdeal.Gen Cert.OProjIdeal.Value Cert.Spec Cert.Tern

theorem fieldAt (f : Nat) (hf : f < 4) (v : Vec Ideal S720x960 .i8) (y : IVec S180x960 32)
    (hy : ∀ j, y j = (bitcast S180x960 32 v bitcasts_S720x960_w8_S180x960_w32 j >>> (2 * f)) &&& 50529027#32)
    (r : Fin 720) (l : Fin 960) :
    bitcast S720x960 8 y bitcasts_S180x960_w32_S720x960_w8 (ix2 r l) = field f (v (ix2 r l)) :=
  word_field v bitcasts_S720x960_w8_S180x960_w32 bitcasts_S180x960_w32_S720x960_w8 rfl f hf y hy r l

theorem f0 (v : Vec Ideal S720x960 .i8) (r : Fin 720) (l : Fin 960) : k0_pay10 (F := Ideal) v (ix2 r l) = tern 0 (v (ix2 r l)) := by
  unfold k0_pay10
  pointwise
  rw [fieldAt 0 (by decide) v _ (fun j => by
    show IntOp.andi _ _ = _
    rw [show ∀ w : BitVec 32, w >>> (2 * 0) = w from fun w => by simp]; rfl) r l]
  rfl

theorem f1 (v : Vec Ideal S720x960 .i8) (r : Fin 720) (l : Fin 960) : k0_pay12 (F := Ideal) (k0_pay11 (F := Ideal) v) (ix2 r l) = tern 1 (v (ix2 r l)) := by
  unfold k0_pay12 k0_pay11
  pointwise
  rw [fieldAt 1 (by decide) v (andi (shrui (bitcast S180x960 32 v bitcasts_S720x960_w8_S180x960_w32) (broadcast S180x960 2#32))
    (broadcast S180x960 50529027#32)) (fun j => by simp [andi, shrui, broadcast, IntOp.andi, IntOp.shrui]) r l]
  rfl

theorem f2 (v : Vec Ideal S720x960 .i8) (r : Fin 720) (l : Fin 960) : k0_pay13 (F := Ideal) v (ix2 r l) = tern 2 (v (ix2 r l)) := by
  unfold k0_pay13
  pointwise
  rw [fieldAt 2 (by decide) v (andi (shrui (bitcast S180x960 32 v bitcasts_S720x960_w8_S180x960_w32) (broadcast S180x960 4#32))
    (broadcast S180x960 50529027#32)) (fun j => by simp [andi, shrui, broadcast, IntOp.andi, IntOp.shrui]) r l]
  rfl

theorem f3 (v : Vec Ideal S720x960 .i8) (r : Fin 720) (l : Fin 960) : k0_pay14 (F := Ideal) v (ix2 r l) = tern 3 (v (ix2 r l)) := by
  unfold k0_pay14
  pointwise
  rw [fieldAt 3 (by decide) v (andi (shrui (bitcast S180x960 32 v bitcasts_S720x960_w8_S180x960_w32) (broadcast S180x960 6#32))
    (broadcast S180x960 50529027#32)) (fun j => by simp [andi, shrui, broadcast, IntOp.andi, IntOp.shrui]) r l]
  rfl

/-- The ternary weight at a feature and a column of the block. -/
def G (v : Vec Ideal S720x960 .i8) (y : S2880x960.Idx) : EReal := Wn v (y 1) (y 0)

theorem G_fin (f : ℕ) (v : Vec Ideal S720x960 .i8) (P : Vec Ideal S720x960 .bf16) (hp : ∀ q n, P (ix2 q n) = tern f (v (ix2 q n)))
    (o : ℕ) (ho : o = 720 * f) (inb) (j : S720x960.Idx) : P j = G v ((Rect.unit (s := S2880x960) ![o, 0] ![720, 960] inb).emb j) := by
  obtain ⟨q, n, rfl⟩ : ∃ (q : Fin 720) (n : Fin 960), j = ix2 q n := ⟨j 0, j 1, eq_ix2 j⟩
  subst ho
  have hq := q.isLt
  rw [hp]
  show _ = tern ((720 * f + 1 * q.val) / 720) (v (ix2 ⟨(720 * f + 1 * q.val) % 720, _⟩ ⟨0 + 1 * n.val, _⟩))
  have e1 : (720 * f + 1 * q.val) / 720 = f := by omega
  have e2 : (⟨(720 * f + 1 * q.val) % 720, by omega⟩ : Fin 720) = q := Fin.ext (by show (720 * f + 1 * q.val) % 720 = q.val; omega)
  have e3 : (⟨0 + 1 * n.val, by omega⟩ : Fin 960) = n := Fin.ext (by show 0 + 1 * n.val = n.val; omega)
  rw [e1, e2, e3]

/-- The first 1 band. -/
def U1 (v : Vec Ideal S720x960 .i8) : List (View.Piece (Elt Ideal) S2880x960 .bf16) :=
  ⟨Rect.unit (s := S2880x960) ![0, 0] ![720, 960] inb_S2880x960_S720x960_0_0, k0_pay10 v⟩ :: []

theorem good1 (v : Vec Ideal S720x960 .i8) : Good (G v) (U1 v) :=
  good_cons (fun j => G_fin 0 v _ (f0 v) 0 rfl inb_S2880x960_S720x960_0_0 j) good_nil

theorem cov1 (v : Vec Ideal S720x960 .i8) (y : S2880x960.Idx) (h : (y 0).val < 720) : ∃ p ∈ U1 v, y ∈ p.1.set := by
  by_cases h0 : 0 ≤ (y 0).val
  · exact ⟨_, List.mem_cons_self .., mem_band inb_S2880x960_S720x960_0_0 y h0 (by omega)⟩
  · exact absurd (Nat.zero_le _) h0

/-- The first 2 bands. -/
def U2 (v : Vec Ideal S720x960 .i8) : List (View.Piece (Elt Ideal) S2880x960 .bf16) :=
  ⟨Rect.unit (s := S2880x960) ![720, 0] ![720, 960] inb_S2880x960_S720x960_720_0, k0_pay12 (k0_pay11 v)⟩ :: U1 v

theorem good2 (v : Vec Ideal S720x960 .i8) : Good (G v) (U2 v) :=
  good_cons (fun j => G_fin 1 v _ (f1 v) 720 rfl inb_S2880x960_S720x960_720_0 j) (good1 v)

theorem cov2 (v : Vec Ideal S720x960 .i8) (y : S2880x960.Idx) (h : (y 0).val < 1440) : ∃ p ∈ U2 v, y ∈ p.1.set := by
  by_cases h0 : 720 ≤ (y 0).val
  · exact ⟨_, List.mem_cons_self .., mem_band inb_S2880x960_S720x960_720_0 y h0 (by omega)⟩
  · obtain ⟨p, hp, hy⟩ := cov1 v y (by omega)
    exact ⟨p, List.mem_cons_of_mem _ hp, hy⟩

/-- The first 3 bands. -/
def U3 (v : Vec Ideal S720x960 .i8) : List (View.Piece (Elt Ideal) S2880x960 .bf16) :=
  ⟨Rect.unit (s := S2880x960) ![1440, 0] ![720, 960] inb_S2880x960_S720x960_1440_0, k0_pay13 v⟩ :: U2 v

theorem good3 (v : Vec Ideal S720x960 .i8) : Good (G v) (U3 v) :=
  good_cons (fun j => G_fin 2 v _ (f2 v) 1440 rfl inb_S2880x960_S720x960_1440_0 j) (good2 v)

theorem cov3 (v : Vec Ideal S720x960 .i8) (y : S2880x960.Idx) (h : (y 0).val < 2160) : ∃ p ∈ U3 v, y ∈ p.1.set := by
  by_cases h0 : 1440 ≤ (y 0).val
  · exact ⟨_, List.mem_cons_self .., mem_band inb_S2880x960_S720x960_1440_0 y h0 (by omega)⟩
  · obtain ⟨p, hp, hy⟩ := cov2 v y (by omega)
    exact ⟨p, List.mem_cons_of_mem _ hp, hy⟩

/-- The first 4 bands. -/
def U4 (v : Vec Ideal S720x960 .i8) : List (View.Piece (Elt Ideal) S2880x960 .bf16) :=
  ⟨Rect.unit (s := S2880x960) ![2160, 0] ![720, 960] inb_S2880x960_S720x960_2160_0, k0_pay14 v⟩ :: U3 v

theorem good4 (v : Vec Ideal S720x960 .i8) : Good (G v) (U4 v) :=
  good_cons (fun j => G_fin 3 v _ (f3 v) 2160 rfl inb_S2880x960_S720x960_2160_0 j) (good3 v)

theorem cov4 (v : Vec Ideal S720x960 .i8) (y : S2880x960.Idx) (h : (y 0).val < 2880) : ∃ p ∈ U4 v, y ∈ p.1.set := by
  by_cases h0 : 2160 ≤ (y 0).val
  · exact ⟨_, List.mem_cons_self .., mem_band inb_S2880x960_S720x960_2160_0 y h0 (by omega)⟩
  · obtain ⟨p, hp, hy⟩ := cov3 v y (by omega)
    exact ⟨p, List.mem_cons_of_mem _ hp, hy⟩

theorem rd (v : Vec Ideal S720x960 .i8) (L : List (View.Piece (Elt Ideal) S2880x960 .bf16)) (hL : Good (G v) L) (o n : ℕ) (inb)
    (hc : ∀ y : S2880x960.Idx, (y 0).val < o + n → ∃ p ∈ L, y ∈ p.1.set) (l : Fin n) (N : Fin 960) (k : Fin 2880) (hk : k.val = o + l.val) :
    View.readCov (Val := Elt Ideal) (s := S2880x960) (e := .bf16) (View.whole cc0_scratch2) L
      (Rect.toLoadRect (Rect.unit (s := S2880x960) ![o, 0] ![n, 960] inb)) (ix2 l N) = Wn v N k := by
  rw [View.readCov_eq_canon']
  have hj : (Rect.toLoadRect (Rect.unit (s := S2880x960) ![o, 0] ![n, 960] inb)).idx (ix2 l N) = ix2 k N := by
    funext a
    match a with
    | ⟨0, _⟩ => exact Fin.ext (by show o + 1 * l.val = k.val; omega)
    | ⟨1, _⟩ => exact Fin.ext (by show 0 + 1 * N.val = N.val; omega)
  show View.canon _ _ = _
  rw [hj]
  exact canon_of (e := .bf16) (G v) L _ hL (hc (ix2 k N) (by show k.val < _; have := l.isLt; omega))

theorem tr (u : Vec Ideal S128x960 .bf16) (n : Fin 960) (l : Fin 128) : k0_pay15 (F := Ideal) u (ix2 n l) = u (ix2 l n) := by
  unfold k0_pay15
  pointwise

theorem trLast (u : Vec Ideal S64x960 .bf16) (n : Fin 960) (l : Fin 64) : k0_pay41 (F := Ideal) u (ix2 n l) = u (ix2 l n) := by
  unfold k0_pay41
  pointwise

theorem tr1 (u : Vec Ideal S128x960 .bf16) : k0_pay17 (k0_pay16 u) = k0_pay15 u := rfl
theorem tr2 (u : Vec Ideal S128x960 .bf16) : k0_pay18 (F := Ideal) u = k0_pay15 u := rfl
theorem tr3 (u : Vec Ideal S128x960 .bf16) : k0_pay19 (F := Ideal) u = k0_pay15 u := rfl
theorem tr4 (u : Vec Ideal S128x960 .bf16) : k0_pay20 (F := Ideal) u = k0_pay15 u := rfl
theorem tr5 (u : Vec Ideal S128x960 .bf16) : k0_pay21 (F := Ideal) u = k0_pay15 u := rfl
theorem tr6 (u : Vec Ideal S128x960 .bf16) : k0_pay22 (F := Ideal) u = k0_pay15 u := rfl
theorem tr7 (u : Vec Ideal S128x960 .bf16) : k0_pay24 (k0_pay23 u) = k0_pay15 u := rfl
theorem tr8 (u : Vec Ideal S128x960 .bf16) : k0_pay25 (F := Ideal) u = k0_pay15 u := rfl
theorem tr9 (u : Vec Ideal S128x960 .bf16) : k0_pay26 (F := Ideal) u = k0_pay15 u := rfl
theorem tr10 (u : Vec Ideal S128x960 .bf16) : k0_pay27 (F := Ideal) u = k0_pay15 u := rfl
theorem tr11 (u : Vec Ideal S128x960 .bf16) : k0_pay28 (F := Ideal) u = k0_pay15 u := rfl
theorem tr12 (u : Vec Ideal S128x960 .bf16) : k0_pay29 (F := Ideal) u = k0_pay15 u := rfl
theorem tr13 (u : Vec Ideal S128x960 .bf16) : k0_pay31 (k0_pay30 u) = k0_pay15 u := rfl
theorem tr14 (u : Vec Ideal S128x960 .bf16) : k0_pay32 (F := Ideal) u = k0_pay15 u := rfl
theorem tr15 (u : Vec Ideal S128x960 .bf16) : k0_pay33 (F := Ideal) u = k0_pay15 u := rfl
theorem tr16 (u : Vec Ideal S128x960 .bf16) : k0_pay34 (F := Ideal) u = k0_pay15 u := rfl
theorem tr17 (u : Vec Ideal S128x960 .bf16) : k0_pay35 (F := Ideal) u = k0_pay15 u := rfl
theorem tr18 (u : Vec Ideal S128x960 .bf16) : k0_pay36 (F := Ideal) u = k0_pay15 u := rfl
theorem tr19 (u : Vec Ideal S128x960 .bf16) : k0_pay38 (k0_pay37 u) = k0_pay15 u := rfl
theorem tr20 (u : Vec Ideal S128x960 .bf16) : k0_pay39 (F := Ideal) u = k0_pay15 u := rfl
theorem tr21 (u : Vec Ideal S128x960 .bf16) : k0_pay40 (F := Ideal) u = k0_pay15 u := rfl

/-- The ternary weight at a column of the block and a feature. -/
def GT (v : Vec Ideal S720x960 .i8) (y : S960x2880.Idx) : EReal := Wn v (y 0) (y 1)

theorem good_slab {n o : ℕ} (v : Vec Ideal S720x960 .i8) (inb) (P : (⟨2, ![960, n]⟩ : Shape).Idx → EReal) (L : List (View.Piece (Elt Ideal) S960x2880 .bf16))
    (hP : ∀ (N : Fin 960) (l : Fin n) (k : Fin 2880), k.val = o + l.val → P (ix2 N l) = Wn v N k) (hL : Good (GT v) L) :
    Good (S := S960x2880) (e := .bf16) (GT v) (⟨Rect.unit (s := S960x2880) ![0, o] ![960, n] inb, P⟩ :: L) := by
  refine good_cons (fun j => ?_) hL
  obtain ⟨N, l, rfl⟩ : ∃ (N : Fin 960) (l : Fin n), j = ix2 N l := ⟨j 0, j 1, eq_ix2 j⟩
  have hk : o + n ≤ 2880 := inb 1
  have hl := l.isLt
  refine (hP N l ⟨o + l.val, by omega⟩ rfl).trans ?_
  exact congrArg₂ (fun (x : Fin 960) (y : Fin 2880) => Wn v x y) (Fin.ext (by show N.val = 0 + 1 * N.val; omega)) (Fin.ext (by show o + l.val = o + 1 * l.val; omega))

/-- The block's weights with a column in each row. -/
def WT (v : Vec Ideal S720x960 .i8) : Vec Ideal S960x2880 .bf16 :=
  have B := View.readCov (Val := Elt Ideal) (s := S960x2880) (e := .bf16) (View.whole cc0_scratch3)
    [
      ⟨Rect.unit (s := S960x2880) ![0, 2816] ![960, 64] inb_S960x2880_S960x64_0_2816, k0_pay41 (View.readCov (Val := Elt Ideal) (s := S2880x960) (e := .bf16) (View.whole cc0_scratch2) (U4 v) (Rect.toLoadRect (Rect.unit (s := S2880x960) ![2816, 0] ![64, 960] inb_S2880x960_S64x960_2816_0)))⟩,
      ⟨Rect.unit (s := S960x2880) ![0, 2688] ![960, 128] inb_S960x2880_S960x128_0_2688, k0_pay40 (View.readCov (Val := Elt Ideal) (s := S2880x960) (e := .bf16) (View.whole cc0_scratch2) (U4 v) (Rect.toLoadRect (Rect.unit (s := S2880x960) ![2688, 0] ![128, 960] inb_S2880x960_S128x960_2688_0)))⟩,
      ⟨Rect.unit (s := S960x2880) ![0, 2560] ![960, 128] inb_S960x2880_S960x128_0_2560, k0_pay39 (View.readCov (Val := Elt Ideal) (s := S2880x960) (e := .bf16) (View.whole cc0_scratch2) (U4 v) (Rect.toLoadRect (Rect.unit (s := S2880x960) ![2560, 0] ![128, 960] inb_S2880x960_S128x960_2560_0)))⟩,
      ⟨Rect.unit (s := S960x2880) ![0, 2432] ![960, 128] inb_S960x2880_S960x128_0_2432, k0_pay38 (k0_pay37 (View.readCov (Val := Elt Ideal) (s := S2880x960) (e := .bf16) (View.whole cc0_scratch2) (U4 v) (Rect.toLoadRect (Rect.unit (s := S2880x960) ![2432, 0] ![128, 960] inb_S2880x960_S128x960_2432_0))))⟩,
      ⟨Rect.unit (s := S960x2880) ![0, 2304] ![960, 128] inb_S960x2880_S960x128_0_2304, k0_pay36 (View.readCov (Val := Elt Ideal) (s := S2880x960) (e := .bf16) (View.whole cc0_scratch2) (U4 v) (Rect.toLoadRect (Rect.unit (s := S2880x960) ![2304, 0] ![128, 960] inb_S2880x960_S128x960_2304_0)))⟩,
      ⟨Rect.unit (s := S960x2880) ![0, 2176] ![960, 128] inb_S960x2880_S960x128_0_2176, k0_pay35 (View.readCov (Val := Elt Ideal) (s := S2880x960) (e := .bf16) (View.whole cc0_scratch2) (U4 v) (Rect.toLoadRect (Rect.unit (s := S2880x960) ![2176, 0] ![128, 960] inb_S2880x960_S128x960_2176_0)))⟩,
      ⟨Rect.unit (s := S960x2880) ![0, 2048] ![960, 128] inb_S960x2880_S960x128_0_2048, k0_pay34 (View.readCov (Val := Elt Ideal) (s := S2880x960) (e := .bf16) (View.whole cc0_scratch2) (U4 v) (Rect.toLoadRect (Rect.unit (s := S2880x960) ![2048, 0] ![128, 960] inb_S2880x960_S128x960_2048_0)))⟩,
      ⟨Rect.unit (s := S960x2880) ![0, 1920] ![960, 128] inb_S960x2880_S960x128_0_1920, k0_pay33 (View.readCov (Val := Elt Ideal) (s := S2880x960) (e := .bf16) (View.whole cc0_scratch2) (U3 v) (Rect.toLoadRect (Rect.unit (s := S2880x960) ![1920, 0] ![128, 960] inb_S2880x960_S128x960_1920_0)))⟩,
      ⟨Rect.unit (s := S960x2880) ![0, 1792] ![960, 128] inb_S960x2880_S960x128_0_1792, k0_pay32 (View.readCov (Val := Elt Ideal) (s := S2880x960) (e := .bf16) (View.whole cc0_scratch2) (U3 v) (Rect.toLoadRect (Rect.unit (s := S2880x960) ![1792, 0] ![128, 960] inb_S2880x960_S128x960_1792_0)))⟩,
      ⟨Rect.unit (s := S960x2880) ![0, 1664] ![960, 128] inb_S960x2880_S960x128_0_1664, k0_pay31 (k0_pay30 (View.readCov (Val := Elt Ideal) (s := S2880x960) (e := .bf16) (View.whole cc0_scratch2) (U3 v) (Rect.toLoadRect (Rect.unit (s := S2880x960) ![1664, 0] ![128, 960] inb_S2880x960_S128x960_1664_0))))⟩,
      ⟨Rect.unit (s := S960x2880) ![0, 1536] ![960, 128] inb_S960x2880_S960x128_0_1536, k0_pay29 (View.readCov (Val := Elt Ideal) (s := S2880x960) (e := .bf16) (View.whole cc0_scratch2) (U3 v) (Rect.toLoadRect (Rect.unit (s := S2880x960) ![1536, 0] ![128, 960] inb_S2880x960_S128x960_1536_0)))⟩,
      ⟨Rect.unit (s := S960x2880) ![0, 1408] ![960, 128] inb_S960x2880_S960x128_0_1408, k0_pay28 (View.readCov (Val := Elt Ideal) (s := S2880x960) (e := .bf16) (View.whole cc0_scratch2) (U3 v) (Rect.toLoadRect (Rect.unit (s := S2880x960) ![1408, 0] ![128, 960] inb_S2880x960_S128x960_1408_0)))⟩,
      ⟨Rect.unit (s := S960x2880) ![0, 1280] ![960, 128] inb_S960x2880_S960x128_0_1280, k0_pay27 (View.readCov (Val := Elt Ideal) (s := S2880x960) (e := .bf16) (View.whole cc0_scratch2) (U2 v) (Rect.toLoadRect (Rect.unit (s := S2880x960) ![1280, 0] ![128, 960] inb_S2880x960_S128x960_1280_0)))⟩,
      ⟨Rect.unit (s := S960x2880) ![0, 1152] ![960, 128] inb_S960x2880_S960x128_0_1152, k0_pay26 (View.readCov (Val := Elt Ideal) (s := S2880x960) (e := .bf16) (View.whole cc0_scratch2) (U2 v) (Rect.toLoadRect (Rect.unit (s := S2880x960) ![1152, 0] ![128, 960] inb_S2880x960_S128x960_1152_0)))⟩,
      ⟨Rect.unit (s := S960x2880) ![0, 1024] ![960, 128] inb_S960x2880_S960x128_0_1024, k0_pay25 (View.readCov (Val := Elt Ideal) (s := S2880x960) (e := .bf16) (View.whole cc0_scratch2) (U2 v) (Rect.toLoadRect (Rect.unit (s := S2880x960) ![1024, 0] ![128, 960] inb_S2880x960_S128x960_1024_0)))⟩,
      ⟨Rect.unit (s := S960x2880) ![0, 896] ![960, 128] inb_S960x2880_S960x128_0_896, k0_pay24 (k0_pay23 (View.readCov (Val := Elt Ideal) (s := S2880x960) (e := .bf16) (View.whole cc0_scratch2) (U2 v) (Rect.toLoadRect (Rect.unit (s := S2880x960) ![896, 0] ![128, 960] inb_S2880x960_S128x960_896_0))))⟩,
      ⟨Rect.unit (s := S960x2880) ![0, 768] ![960, 128] inb_S960x2880_S960x128_0_768, k0_pay22 (View.readCov (Val := Elt Ideal) (s := S2880x960) (e := .bf16) (View.whole cc0_scratch2) (U2 v) (Rect.toLoadRect (Rect.unit (s := S2880x960) ![768, 0] ![128, 960] inb_S2880x960_S128x960_768_0)))⟩,
      ⟨Rect.unit (s := S960x2880) ![0, 640] ![960, 128] inb_S960x2880_S960x128_0_640, k0_pay21 (View.readCov (Val := Elt Ideal) (s := S2880x960) (e := .bf16) (View.whole cc0_scratch2) (U2 v) (Rect.toLoadRect (Rect.unit (s := S2880x960) ![640, 0] ![128, 960] inb_S2880x960_S128x960_640_0)))⟩,
      ⟨Rect.unit (s := S960x2880) ![0, 512] ![960, 128] inb_S960x2880_S960x128_0_512, k0_pay20 (View.readCov (Val := Elt Ideal) (s := S2880x960) (e := .bf16) (View.whole cc0_scratch2) (U1 v) (Rect.toLoadRect (Rect.unit (s := S2880x960) ![512, 0] ![128, 960] inb_S2880x960_S128x960_512_0)))⟩,
      ⟨Rect.unit (s := S960x2880) ![0, 384] ![960, 128] inb_S960x2880_S960x128_0_384, k0_pay19 (View.readCov (Val := Elt Ideal) (s := S2880x960) (e := .bf16) (View.whole cc0_scratch2) (U1 v) (Rect.toLoadRect (Rect.unit (s := S2880x960) ![384, 0] ![128, 960] inb_S2880x960_S128x960_384_0)))⟩,
      ⟨Rect.unit (s := S960x2880) ![0, 256] ![960, 128] inb_S960x2880_S960x128_0_256, k0_pay18 (View.readCov (Val := Elt Ideal) (s := S2880x960) (e := .bf16) (View.whole cc0_scratch2) (U1 v) (Rect.toLoadRect (Rect.unit (s := S2880x960) ![256, 0] ![128, 960] inb_S2880x960_S128x960_256_0)))⟩,
      ⟨Rect.unit (s := S960x2880) ![0, 128] ![960, 128] inb_S960x2880_S960x128_0_128, k0_pay17 (k0_pay16 (View.readCov (Val := Elt Ideal) (s := S2880x960) (e := .bf16) (View.whole cc0_scratch2) (U1 v) (Rect.toLoadRect (Rect.unit (s := S2880x960) ![128, 0] ![128, 960] inb_S2880x960_S128x960_128_0))))⟩,
      ⟨Rect.unit (s := S960x2880) ![0, 0] ![960, 128] inb_S960x2880_S960x128_0_0, k0_pay15 (View.readCov (Val := Elt Ideal) (s := S2880x960) (e := .bf16) (View.whole cc0_scratch2) (U1 v) (Rect.toLoadRect (Rect.unit (s := S2880x960) ![0, 0] ![128, 960] inb_S2880x960_S128x960_0_0)))⟩]
    (Rect.toLoadRect (Rect.unit (s := S960x2880) ![0, 0] ![960, 2880] inb_S960x2880_S960x2880_0_0))
  B

theorem WT_at (v : Vec Ideal S720x960 .i8) (N : Fin 960) (k : Fin 2880) : WT v (ix2 N k) = Wn v N k := by
  unfold WT
  rw [View.readCov_eq_canon']
  show View.canon _ _ = _
  generalize hj : LoadRect.idx _ _ = j
  have j0 : (j 0).val = N.val := by rw [← hj]; exact (Nat.zero_add _).trans (Nat.one_mul _)
  have j1 : (j 1).val = k.val := by rw [← hj]; exact (Nat.zero_add _).trans (Nat.one_mul _)
  have hk : (j 1).val < 2880 := (j 1).isLt
  have e : Wn v N k = GT v j := congrArg₂ (fun (x : Fin 960) (y : Fin 2880) => Wn v x y) (Fin.ext j0.symm) (Fin.ext j1.symm)
  rw [e]
  refine canon_of (e := .bf16) (GT v) _ j ?_ ?_
  · refine good_slab v _ _ _ (fun N l k hk => by exact (trLast _ N l).trans (rd v _ (good4 v) 2816 64 _ (fun y h => cov4 v y (by omega)) l N k hk)) ?_
    refine good_slab v _ _ _ (fun N l k hk => by rw [tr21]; exact (tr _ N l).trans (rd v _ (good4 v) 2688 128 _ (fun y h => cov4 v y (by omega)) l N k hk)) ?_
    refine good_slab v _ _ _ (fun N l k hk => by rw [tr20]; exact (tr _ N l).trans (rd v _ (good4 v) 2560 128 _ (fun y h => cov4 v y (by omega)) l N k hk)) ?_
    refine good_slab v _ _ _ (fun N l k hk => by rw [tr19]; exact (tr _ N l).trans (rd v _ (good4 v) 2432 128 _ (fun y h => cov4 v y (by omega)) l N k hk)) ?_
    refine good_slab v _ _ _ (fun N l k hk => by rw [tr18]; exact (tr _ N l).trans (rd v _ (good4 v) 2304 128 _ (fun y h => cov4 v y (by omega)) l N k hk)) ?_
    refine good_slab v _ _ _ (fun N l k hk => by rw [tr17]; exact (tr _ N l).trans (rd v _ (good4 v) 2176 128 _ (fun y h => cov4 v y (by omega)) l N k hk)) ?_
    refine good_slab v _ _ _ (fun N l k hk => by rw [tr16]; exact (tr _ N l).trans (rd v _ (good4 v) 2048 128 _ (fun y h => cov4 v y (by omega)) l N k hk)) ?_
    refine good_slab v _ _ _ (fun N l k hk => by rw [tr15]; exact (tr _ N l).trans (rd v _ (good3 v) 1920 128 _ (fun y h => cov3 v y (by omega)) l N k hk)) ?_
    refine good_slab v _ _ _ (fun N l k hk => by rw [tr14]; exact (tr _ N l).trans (rd v _ (good3 v) 1792 128 _ (fun y h => cov3 v y (by omega)) l N k hk)) ?_
    refine good_slab v _ _ _ (fun N l k hk => by rw [tr13]; exact (tr _ N l).trans (rd v _ (good3 v) 1664 128 _ (fun y h => cov3 v y (by omega)) l N k hk)) ?_
    refine good_slab v _ _ _ (fun N l k hk => by rw [tr12]; exact (tr _ N l).trans (rd v _ (good3 v) 1536 128 _ (fun y h => cov3 v y (by omega)) l N k hk)) ?_
    refine good_slab v _ _ _ (fun N l k hk => by rw [tr11]; exact (tr _ N l).trans (rd v _ (good3 v) 1408 128 _ (fun y h => cov3 v y (by omega)) l N k hk)) ?_
    refine good_slab v _ _ _ (fun N l k hk => by rw [tr10]; exact (tr _ N l).trans (rd v _ (good2 v) 1280 128 _ (fun y h => cov2 v y (by omega)) l N k hk)) ?_
    refine good_slab v _ _ _ (fun N l k hk => by rw [tr9]; exact (tr _ N l).trans (rd v _ (good2 v) 1152 128 _ (fun y h => cov2 v y (by omega)) l N k hk)) ?_
    refine good_slab v _ _ _ (fun N l k hk => by rw [tr8]; exact (tr _ N l).trans (rd v _ (good2 v) 1024 128 _ (fun y h => cov2 v y (by omega)) l N k hk)) ?_
    refine good_slab v _ _ _ (fun N l k hk => by rw [tr7]; exact (tr _ N l).trans (rd v _ (good2 v) 896 128 _ (fun y h => cov2 v y (by omega)) l N k hk)) ?_
    refine good_slab v _ _ _ (fun N l k hk => by rw [tr6]; exact (tr _ N l).trans (rd v _ (good2 v) 768 128 _ (fun y h => cov2 v y (by omega)) l N k hk)) ?_
    refine good_slab v _ _ _ (fun N l k hk => by rw [tr5]; exact (tr _ N l).trans (rd v _ (good2 v) 640 128 _ (fun y h => cov2 v y (by omega)) l N k hk)) ?_
    refine good_slab v _ _ _ (fun N l k hk => by rw [tr4]; exact (tr _ N l).trans (rd v _ (good1 v) 512 128 _ (fun y h => cov1 v y (by omega)) l N k hk)) ?_
    refine good_slab v _ _ _ (fun N l k hk => by rw [tr3]; exact (tr _ N l).trans (rd v _ (good1 v) 384 128 _ (fun y h => cov1 v y (by omega)) l N k hk)) ?_
    refine good_slab v _ _ _ (fun N l k hk => by rw [tr2]; exact (tr _ N l).trans (rd v _ (good1 v) 256 128 _ (fun y h => cov1 v y (by omega)) l N k hk)) ?_
    refine good_slab v _ _ _ (fun N l k hk => by rw [tr1]; exact (tr _ N l).trans (rd v _ (good1 v) 128 128 _ (fun y h => cov1 v y (by omega)) l N k hk)) ?_
    refine good_slab v _ _ _ (fun N l k hk => by exact (tr _ N l).trans (rd v _ (good1 v) 0 128 _ (fun y h => cov1 v y (by omega)) l N k hk)) ?_
    exact good_nil
  · refine cov_step 2816 (fun h => mem_bandC inb_S960x2880_S960x64_0_2816 j h (by omega)) (fun h => ?_)
    refine cov_step 2688 (fun h => mem_bandC inb_S960x2880_S960x128_0_2688 j h (by omega)) (fun h => ?_)
    refine cov_step 2560 (fun h => mem_bandC inb_S960x2880_S960x128_0_2560 j h (by omega)) (fun h => ?_)
    refine cov_step 2432 (fun h => mem_bandC inb_S960x2880_S960x128_0_2432 j h (by omega)) (fun h => ?_)
    refine cov_step 2304 (fun h => mem_bandC inb_S960x2880_S960x128_0_2304 j h (by omega)) (fun h => ?_)
    refine cov_step 2176 (fun h => mem_bandC inb_S960x2880_S960x128_0_2176 j h (by omega)) (fun h => ?_)
    refine cov_step 2048 (fun h => mem_bandC inb_S960x2880_S960x128_0_2048 j h (by omega)) (fun h => ?_)
    refine cov_step 1920 (fun h => mem_bandC inb_S960x2880_S960x128_0_1920 j h (by omega)) (fun h => ?_)
    refine cov_step 1792 (fun h => mem_bandC inb_S960x2880_S960x128_0_1792 j h (by omega)) (fun h => ?_)
    refine cov_step 1664 (fun h => mem_bandC inb_S960x2880_S960x128_0_1664 j h (by omega)) (fun h => ?_)
    refine cov_step 1536 (fun h => mem_bandC inb_S960x2880_S960x128_0_1536 j h (by omega)) (fun h => ?_)
    refine cov_step 1408 (fun h => mem_bandC inb_S960x2880_S960x128_0_1408 j h (by omega)) (fun h => ?_)
    refine cov_step 1280 (fun h => mem_bandC inb_S960x2880_S960x128_0_1280 j h (by omega)) (fun h => ?_)
    refine cov_step 1152 (fun h => mem_bandC inb_S960x2880_S960x128_0_1152 j h (by omega)) (fun h => ?_)
    refine cov_step 1024 (fun h => mem_bandC inb_S960x2880_S960x128_0_1024 j h (by omega)) (fun h => ?_)
    refine cov_step 896 (fun h => mem_bandC inb_S960x2880_S960x128_0_896 j h (by omega)) (fun h => ?_)
    refine cov_step 768 (fun h => mem_bandC inb_S960x2880_S960x128_0_768 j h (by omega)) (fun h => ?_)
    refine cov_step 640 (fun h => mem_bandC inb_S960x2880_S960x128_0_640 j h (by omega)) (fun h => ?_)
    refine cov_step 512 (fun h => mem_bandC inb_S960x2880_S960x128_0_512 j h (by omega)) (fun h => ?_)
    refine cov_step 384 (fun h => mem_bandC inb_S960x2880_S960x128_0_384 j h (by omega)) (fun h => ?_)
    refine cov_step 256 (fun h => mem_bandC inb_S960x2880_S960x128_0_256 j h (by omega)) (fun h => ?_)
    refine cov_step 128 (fun h => mem_bandC inb_S960x2880_S960x128_0_128 j h (by omega)) (fun h => ?_)
    exact ⟨_, List.mem_cons_self .., mem_bandC inb_S960x2880_S960x128_0_0 j (Nat.zero_le _) (by omega)⟩

end Cert.OProjIdeal.Cols

end
-- ==== Proof.OPt.lean ====
/-
  One grid point of the output projection: the codes kept across the points, and the block of the result.
-/
module

public import proofs.«01_k».proof.Proof.OCols

@[expose] public section

set_option maxRecDepth 16384

noncomputable section

open Idealize.ShloMosaic Idealize.ShloMosaic.TcCoe Idealize.SL.Sem
open Idealize.ShloMosaic.Pipeline (Dat)

namespace Cert.OProjIdeal.Point

open Cert.OProjIdeal Cert.OProjIdeal.Gen Cert.OProjIdeal.Value Cert.Spec Cert.Tern Cert.OProjIdeal.Cols

variable (m : (ℓ : Loc nD τ sig) → Buf (Elt Ideal) ℓ)

/-- The call's arguments on device `c`. -/
def args (c : Dev nD) : OArgs where
  s := m ⟨c, main_arg0⟩
  ct := m ⟨c, main_arg1⟩
  al := m ⟨c, main_arg2⟩
  w := m ⟨c, main_arg3⟩
  x := m ⟨c, main_arg4⟩

theorem idx : ∀ t : Fin cfg0.N, win0_0.index t = ![0] ∧ win0_1.index t = ![0, 0, 0] ∧ win0_2.index t = ![0, 0, 0]
    ∧ win0_3.index t = ![0, 0] ∧ win0_4.index t = ![0, t.val, 0] ∧ win0_5.index t = ![0, t.val, 0] := by
  decide +kernel

theorem s_at (c : Dev nD) (t : Fin cfg0.N) (i : Fin 1) : iblk m c 0 t (ix1 i) = (args m c).s (ix1 i) := by
  obtain ⟨e0, e1, e2, e3, e4, e5⟩ := idx t
  show _ = m ⟨c, main_arg0⟩ (ix1 i)
  blk_ext [iblk, V, e0]

theorem c_at (c : Dev nD) (t : Fin cfg0.N) (i : Fin 4) (k : Fin 2880) (r : Fin 384) : iblk m c 1 t (ix3 i k r) = (args m c).ct (ix3 i k r) := by
  obtain ⟨e0, e1, e2, e3, e4, e5⟩ := idx t
  show _ = m ⟨c, main_arg1⟩ (ix3 i k r)
  blk_ext [iblk, V, e1]

theorem a_at (c : Dev nD) (t : Fin cfg0.N) (i : Fin 4) (r : Fin 384) : iblk m c 2 t (ix3 i 0 r) = (args m c).al (ix3 i 0 r) := by
  obtain ⟨e0, e1, e2, e3, e4, e5⟩ := idx t
  show _ = m ⟨c, main_arg2⟩ (ix3 i 0 r)
  blk_ext [iblk, V, e2]

theorem w_at (c : Dev nD) (t : Fin cfg0.N) (q : Fin 720) (n : Fin 2880) : iblk m c 3 t (ix2 q n) = (args m c).w (ix2 q n) := by
  obtain ⟨e0, e1, e2, e3, e4, e5⟩ := idx t
  show _ = m ⟨c, main_arg3⟩ (ix2 q n)
  blk_ext [iblk, V, e3]

/-- The column that a point's block has at a place. -/
def at960 (t : ℕ) (n : Fin 960) : Fin 2880 := ⟨(960 * t + n.val) % 2880, Nat.mod_lt _ (by decide)⟩

theorem x_at (c : Dev nD) (t : Fin cfg0.N) (b : Fin 4) (n : Fin 960) (r : Fin 384) : iblk m c 4 t (ix3 b n r) = (args m c).x (ix3 b (at960 t.val n) r) := by
  obtain ⟨e0, e1, e2, e3, e4, e5⟩ := idx t
  have ht : t.val < 3 := t.isLt
  show _ = m ⟨c, main_arg4⟩ (ix3 b (at960 t.val n) r)
  have hc : at960 t.val n = ⟨960 * t.val + n.val, by omega⟩ := Fin.ext (Nat.mod_eq_of_lt (by omega))
  rw [hc]
  blk_ext [iblk, V, e4]

theorem s0_at (c : Dev nD) (t : Fin cfg0.N) (h) : View.ld (iblk m c 0 t) (Rect.unit ![0] ![1] inb_S1_S1_0) (Shape.Idx.first h) = (args m c).s (ix1 0) := by
  refine (congrArg (iblk m c 0 t) ?_).trans (s_at m c t 0)
  funext a
  match a with
  | ⟨0, _⟩ => rfl

theorem ald_at (c : Dev nD) (t : Fin cfg0.N) (b : Fin 4) (inb) (r : Fin 384) :
    View.ld (iblk m c 2 t) (Rect.unit (s := S4x1x384) ![b.val, 0, 0] ![1, 1, 384] inb) (ix3 0 0 r) = As (args m c).al (row b r) := by
  have e1 : (⟨(row b r).val / 384, by omega⟩ : Fin 4) = b := Fin.ext (by show (b.val * 384 + r.val) / 384 = b.val; omega)
  have e2 : (⟨(row b r).val % 384, by omega⟩ : Fin 384) = r := Fin.ext (by show (b.val * 384 + r.val) % 384 = r.val; omega)
  rw [As, e1, e2, ← a_at m c t]
  refine congrArg (fun q => iblk m c 2 t q) ?_
  funext a
  match a with
  | ⟨0, _⟩ => exact Fin.ext (by show b.val + 1 * 0 = b.val; omega)
  | ⟨1, _⟩ => rfl
  | ⟨2, _⟩ => exact Fin.ext (by show 0 + 1 * r.val = r.val; omega)

theorem xld_at (c : Dev nD) (t : Fin cfg0.N) (b : Fin 4) (inb) (n : Fin 960) (r : Fin 384) :
    View.ld (iblk m c 4 t) (Rect.unit (s := S4x960x384) ![b.val, 0, 0] ![1, 960, 384] inb) (ix3 0 n r) = (args m c).x (ix3 b (at960 t.val n) r) := by
  rw [← x_at m c t]
  refine congrArg (fun q => iblk m c 4 t q) ?_
  funext a
  match a with
  | ⟨0, _⟩ => exact Fin.ext (by show b.val + 1 * 0 = b.val; omega)
  | ⟨1, _⟩ => exact Fin.ext (by show 0 + 1 * n.val = n.val; omega)
  | ⟨2, _⟩ => exact Fin.ext (by show 0 + 1 * r.val = r.val; omega)

theorem wld_at (c : Dev nD) (t : Fin cfg0.N) (i : ℕ) (o : ℕ) (ho : o = 960 * i) (hi : i < 3) (inb) (q : Fin 720) (n : Fin 960) :
    k0_pay7 (F := Ideal) (View.ld (iblk m c 3 t) (Rect.unit (s := S720x2880) ![0, o] ![720, 960] inb)) (ix2 q n) = (args m c).w (ix2 q (at960 i n)) := by
  have e : ∀ v : Vec Ideal S720x960 .i8, k0_pay7 (F := Ideal) v (ix2 q n) = v (ix2 q n) := fun v => by unfold k0_pay7; pointwise
  rw [e, ← w_at m c t]
  refine congrArg (fun q => iblk m c 3 t q) ?_
  funext a
  match a with
  | ⟨0, _⟩ => exact Fin.ext (by show 0 + 1 * q.val = q.val; omega)
  | ⟨1, _⟩ => exact Fin.ext (by show o + 1 * n.val = (960 * i + n.val) % 2880; omega)

theorem w8 (v : Vec Ideal S720x960 .i8) : k0_pay8 (F := Ideal) v = k0_pay7 v := rfl
theorem w9 (v : Vec Ideal S720x960 .i8) : k0_pay9 (F := Ideal) v = k0_pay7 v := rfl

/-- A block of unpacked weights, from what its packed bytes are. -/
theorem WTn (c : Dev nD) (i : ℕ) (v : Vec Ideal S720x960 .i8) (hv : ∀ q n, v (ix2 q n) = (args m c).w (ix2 q (at960 i n))) (n : Fin 960) (k : Fin 2880) :
    WT v (ix2 n k) = Wn (args m c).w (at960 i n) k := by
  rw [WT_at, Wn, hv]
  rfl

theorem pay3 (v : Vec Ideal S1x2880x384 .i8) (k : Fin 2880) (r : Fin 384) :
    k0_pay3 (F := Ideal) v (ix2 k r) = (((v (ix3 0 k r)).toInt : ℝ) : EReal) := by
  unfold k0_pay3
  pointwise
  rfl

theorem p4 (v : Vec Ideal S1x2880x384 .i8) : k0_pay4 (F := Ideal) v = k0_pay3 v := rfl
theorem p5 (v : Vec Ideal S1x2880x384 .i8) : k0_pay5 (F := Ideal) v = k0_pay3 v := rfl
theorem p6 (v : Vec Ideal S1x2880x384 .i8) : k0_pay6 (F := Ideal) v = k0_pay3 v := rfl

theorem x_init (c : Dev nD) (t : Fin cfg0.N) (b : Fin 4) (inb) (k : Fin 2880) (r : Fin 384) :
    k0_pay3 (F := Ideal) (View.ld (iblk m c 1 t) (Rect.unit (s := S4x2880x384) ![b.val, 0, 0] ![1, 2880, 384] inb)) (ix2 k r) = Xs (args m c).ct (row b r) k := by
  rw [pay3]
  have e1 : (⟨(row b r).val / 384, by omega⟩ : Fin 4) = b := Fin.ext (by show (b.val * 384 + r.val) / 384 = b.val; omega)
  have e2 : (⟨(row b r).val % 384, by omega⟩ : Fin 384) = r := Fin.ext (by show (b.val * 384 + r.val) % 384 = r.val; omega)
  rw [Xs, e1, e2, ← c_at m c t]
  refine congrArg (fun q => (((iblk m c 1 t q).toInt : ℝ) : EReal)) ?_
  funext a
  match a with
  | ⟨0, _⟩ => exact Fin.ext (by show b.val + 1 * 0 = b.val; omega)
  | ⟨1, _⟩ => exact Fin.ext (by show 0 + 1 * k.val = k.val; omega)
  | ⟨2, _⟩ => exact Fin.ext (by show 0 + 1 * r.val = r.val; omega)

/-- A stored band of code columns, at an index of the band. -/
theorem codes (c : Dev nD) (t : Fin cfg0.N) (b : Fin 4) (inb) (j : S2880x384.Idx) (k : Fin 2880) (R : Fin 1536) (h0 : k.val = (j 0).val)
    (h1 : R.val = 384 * b.val + (j 1).val) :
    k0_pay3 (F := Ideal) (View.ld (iblk m c 1 t) (Rect.unit (s := S4x2880x384) ![b.val, 0, 0] ![1, 2880, 384] inb)) j = Xs (args m c).ct R k := by
  obtain ⟨k', r, rfl⟩ : ∃ (k' : Fin 2880) (r : Fin 384), j = ix2 k' r := ⟨j 0, j 1, eq_ix2 j⟩
  obtain rfl : k = k' := Fin.ext h0
  have h1' : R.val = 384 * b.val + r.val := h1
  obtain rfl : R = row b r := Fin.ext (by show R.val = b.val * 384 + r.val; omega)
  exact x_init m c t b inb k r

section
variable (Y : Vec Ideal S960x2880 .bf16) (X : Vec Ideal S2880x1536 .bf16) (xb : Vec Ideal S1x960x384 .bf16) (a : Vec Ideal S1x1x384 .f32) (s : Elt Ideal .f32)
  (n : Fin 960) (r : Fin 384)

theorem o0 : k0_pay45 (F := Ideal) (k0_pay43 xb) (k0_pay44 Y X a) s (ix3 0 n r)
    = xb (ix3 0 n r) + (∑ k, Y (ix2 n k) * X (ix2 k (row 0 r))) * a (ix3 0 0 r) * s := by
  have e : row 0 r = ⟨r.val, by omega⟩ := Fin.ext (by show 0 * 384 + r.val = r.val; omega)
  rw [e]
  unfold k0_pay45 k0_pay43 k0_pay44 k0_pay42
  pointwise

theorem o1 : k0_pay46 (F := Ideal) (k0_pay42 Y X) xb a s (ix3 0 n r)
    = xb (ix3 0 n r) + (∑ k, Y (ix2 n k) * X (ix2 k (row 1 r))) * a (ix3 0 0 r) * s := by
  unfold k0_pay46 k0_pay42
  pointwise
  rfl

theorem o2 : k0_pay1 (F := Ideal) (k0_pay47 (k0_pay42 Y X) xb a s) (ix3 0 n r)
    = xb (ix3 0 n r) + (∑ k, Y (ix2 n k) * X (ix2 k (row 2 r))) * a (ix3 0 0 r) * s := by
  unfold k0_pay1 k0_pay47 k0_pay42
  pointwise
  rfl

theorem o3 : k0_pay2 (F := Ideal) (k0_pay42 Y X) xb a s (ix3 0 n r)
    = xb (ix3 0 n r) + (∑ k, Y (ix2 n k) * X (ix2 k (row 3 r))) * a (ix3 0 0 r) * s := by
  unfold k0_pay2 k0_pay42
  pointwise
  rfl
end

theorem x_A (c : Dev nD) (t : Fin cfg0.N) (h0 : t.val % 3 = 0) (h1 : t.val % 3 = 0) (h2 : ¬t.val % 3 = 1) (h3 : ¬t.val % 3 = 2) (k : Fin 2880) (R : Fin 1536) :
    (outsAt0 m c t.val t.isLt).2 (ix2 k R) = Xs (args m c).ct R k := by
  rw [outsAt0_A m c t h0 h1 h2 h3]
  frame_open
  simp (disch := decide) only [↓ View.readCov_skip, ↓ View.readCov_cons_toLoadRect, ↓ View.readCov_fill]
  frame_out
  show View.canon _ (ix2 k R) = _
  generalize hi : (ix2 k R : S2880x1536.Idx) = i
  have i0 : (i 0).val = k.val := by rw [← hi]; rfl
  have i1 : (i 1).val = R.val := by rw [← hi]; rfl
  canon_tiles i h
  · rw [p6]; exact codes m c t 3 _ i k R (by omega) (by omega)
  · rw [p5]; exact codes m c t 2 _ i k R (by omega) (by omega)
  · rw [p4]; exact codes m c t 1 _ i k R (by omega) (by omega)
  · exact codes m c t 0 _ i k R (by omega) (by omega)

/-- A stored block of the result, at an index of the block. -/
theorem out_row (c : Dev nD) (t : ℕ) (b : Fin 4) (P : Vec Ideal S1x960x384 .f32) (Y : Vec Ideal S960x2880 .bf16) (X : Vec Ideal S2880x1536 .bf16)
    (xb : Vec Ideal S1x960x384 .bf16) (a : Vec Ideal S1x1x384 .f32) (s : Elt Ideal .f32)
    (hP : ∀ n r, P (ix3 0 n r) = xb (ix3 0 n r) + (∑ k, Y (ix2 n k) * X (ix2 k (row b r))) * a (ix3 0 0 r) * s)
    (hY : ∀ n k, Y (ix2 n k) = Wn (args m c).w (at960 t n) k) (hX : ∀ k R, X (ix2 k R) = Xs (args m c).ct R k)
    (hx : ∀ n r, xb (ix3 0 n r) = (args m c).x (ix3 b (at960 t n) r)) (ha : ∀ r, a (ix3 0 0 r) = As (args m c).al (row b r))
    (hs : s = (args m c).s (ix1 0)) (j : S1x960x384.Idx) (b' : Fin 4) (n : Fin 960) (r : Fin 384) (hb : b'.val = b.val + (j 0).val) (hn : n.val = (j 1).val) (hr : r.val = (j 2).val) :
    P j = Ho (args m c) b' (at960 t n) r := by
  have hj0 : (j 0).val < 1 := (j 0).isLt
  obtain rfl : b' = b := Fin.ext (by omega)
  obtain rfl : j = ix3 0 n r := by
    funext i
    match i with
    | ⟨0, _⟩ => exact Fin.ext (by show (j 0).val = 0; omega)
    | ⟨1, _⟩ => exact Fin.ext hn.symm
    | ⟨2, _⟩ => exact Fin.ext hr.symm
  rw [hP, hx, ha, hs, Ho]
  refine congrArg (fun z => (args m c).x (ix3 b' (at960 t n) r) + z * As (args m c).al (row b' r) * (args m c).s (ix1 0)) (Finset.sum_congr rfl fun k _ => ?_)
  rw [hY, hX, mul_comm]

/-- The codes as the first point stores and reads them. -/
def XA (c : Dev nD) (t : Fin cfg0.N) : Vec Ideal S2880x1536 .bf16 :=
  have B := View.readCov (Val := Elt Ideal) (s := S2880x1536) (e := .bf16) (View.whole cc0_scratch0)
    [⟨Rect.unit (s := S2880x1536) ![0, 1152] ![2880, 384] inb_S2880x1536_S2880x384_0_1152, k0_pay6 (View.ld (iblk m c 1 t) (Rect.unit ![3, 0, 0] ![1, 2880, 384] inb_S4x2880x384_S1x2880x384_3_0_0))⟩,
      ⟨Rect.unit (s := S2880x1536) ![0, 768] ![2880, 384] inb_S2880x1536_S2880x384_0_768, k0_pay5 (View.ld (iblk m c 1 t) (Rect.unit ![2, 0, 0] ![1, 2880, 384] inb_S4x2880x384_S1x2880x384_2_0_0))⟩,
      ⟨Rect.unit (s := S2880x1536) ![0, 384] ![2880, 384] inb_S2880x1536_S2880x384_0_384, k0_pay4 (View.ld (iblk m c 1 t) (Rect.unit ![1, 0, 0] ![1, 2880, 384] inb_S4x2880x384_S1x2880x384_1_0_0))⟩,
      ⟨Rect.unit (s := S2880x1536) ![0, 0] ![2880, 384] inb_S2880x1536_S2880x384_0_0, k0_pay3 (View.ld (iblk m c 1 t) (Rect.unit ![0, 0, 0] ![1, 2880, 384] inb_S4x2880x384_S1x2880x384_0_0_0))⟩]
    (Rect.toLoadRect (Rect.unit (s := S2880x1536) ![0, 0] ![2880, 1536] inb_S2880x1536_S2880x1536_0_0))
  B

theorem XA_at (c : Dev nD) (t : Fin cfg0.N) (k : Fin 2880) (R : Fin 1536) : XA m c t (ix2 k R) = Xs (args m c).ct R k := by
  unfold XA
  rw [View.readCov_eq_canon']
  show View.canon _ _ = _
  generalize hj : LoadRect.idx _ _ = i
  have i0 : (i 0).val = k.val := by rw [← hj]; exact (Nat.zero_add _).trans (Nat.one_mul _)
  have i1 : (i 1).val = R.val := by rw [← hj]; exact (Nat.zero_add _).trans (Nat.one_mul _)
  canon_tiles i h
  · rw [p6]; exact codes m c t 3 _ i k R (by omega) (by omega)
  · rw [p5]; exact codes m c t 2 _ i k R (by omega) (by omega)
  · rw [p4]; exact codes m c t 1 _ i k R (by omega) (by omega)
  · exact codes m c t 0 _ i k R (by omega) (by omega)

theorem h_A (c : Dev nD) (t : Fin cfg0.N) (h0 : t.val % 3 = 0) (h1 : t.val % 3 = 0) (h2 : ¬t.val % 3 = 1) (h3 : ¬t.val % 3 = 2) (b : Fin 4) (n : Fin 960) (r : Fin 384) :
    (outsAt0 m c t.val t.isLt).1 (ix3 b n r) = Ho (args m c) b (at960 t.val n) r := by
  rw [outsAt0_A m c t h0 h1 h2 h3]
  have ht : t.val < 3 := t.isLt
  have hv : ∀ q n, (k0_pay7 (F := Ideal) (View.ld (iblk m c 3 t) (Rect.unit ![0, 0] ![720, 960] inb_S720x2880_S720x960_0_0))) (ix2 q n)
      = (args m c).w (ix2 q (at960 t.val n)) := by
    have e : t.val = 0 := by omega
    rw [e]
    exact fun q n => wld_at m c t 0 0 rfl (by decide) _ q n
  have hY := WTn m c t.val _ hv
  frame_open
  simp (disch := decide) only [↓ View.readCov_skip, ↓ View.readCov_cons_toLoadRect, ↓ View.readCov_fill]
  frame_out
  try simp only [read_unread_whole]
  show View.canon _ (ix3 b n r) = _
  generalize hi : (ix3 b n r : S4x960x384.Idx) = i
  have i0 : (i 0).val = b.val := by rw [← hi]; rfl
  have i1 : (i 1).val = n.val := by rw [← hi]; rfl
  have i2 : (i 2).val = r.val := by rw [← hi]; rfl
  canon_tiles i h
  · exact out_row m c t.val 3 _ _ _ _ _ _ (o3 _ _ _ _ _) hY (XA_at m c t) (xld_at m c t 3 _) (ald_at m c t 3 _) (s0_at m c t _) i b n r (by show b.val = 3 + _; omega) (by omega) (by omega)
  · exact out_row m c t.val 2 _ _ _ _ _ _ (o2 _ _ _ _ _) hY (XA_at m c t) (xld_at m c t 2 _) (ald_at m c t 2 _) (s0_at m c t _) i b n r (by show b.val = 2 + _; omega) (by omega) (by omega)
  · exact out_row m c t.val 1 _ _ _ _ _ _ (o1 _ _ _ _ _) hY (XA_at m c t) (xld_at m c t 1 _) (ald_at m c t 1 _) (s0_at m c t _) i b n r (by show b.val = 1 + _; omega) (by omega) (by omega)
  · exact out_row m c t.val 0 _ _ _ _ _ _ (o0 _ _ _ _ _) hY (XA_at m c t) (xld_at m c t 0 _) (ald_at m c t 0 _) (s0_at m c t _) i b n r (by show b.val = 0 + _; omega) (by omega) (by omega)

theorem h_B (c : Dev nD) (t : Fin cfg0.N) (h0 : ¬t.val % 3 = 0) (h1 : ¬t.val % 3 = 0) (h2 : t.val % 3 = 1) (h3 : ¬t.val % 3 = 2) (hX : ∀ k R, (outsAt0 m c (t.val - 1) (Nat.lt_of_le_of_lt (Nat.sub_le _ _) t.isLt)).2 (ix2 k R) = Xs (args m c).ct R k) (b : Fin 4) (n : Fin 960) (r : Fin 384) :
    (outsAt0 m c t.val t.isLt).1 (ix3 b n r) = Ho (args m c) b (at960 t.val n) r := by
  rw [outsAt0_B m c t h0 h1 h2 h3]
  have ht : t.val < 3 := t.isLt
  have hv : ∀ q n, (k0_pay8 (F := Ideal) (View.ld (iblk m c 3 t) (Rect.unit ![0, 960] ![720, 960] inb_S720x2880_S720x960_0_960))) (ix2 q n)
      = (args m c).w (ix2 q (at960 t.val n)) := by
    have e : t.val = 1 := by omega
    rw [e]
    exact fun q n => by rw [w8]; exact wld_at m c t 1 960 rfl (by decide) _ q n
  have hY := WTn m c t.val _ hv
  frame_open
  simp (disch := decide) only [↓ View.readCov_skip, ↓ View.readCov_cons_toLoadRect, ↓ View.readCov_fill]
  frame_out
  simp only [read_unread_whole]
  show View.canon _ (ix3 b n r) = _
  generalize hi : (ix3 b n r : S4x960x384.Idx) = i
  have i0 : (i 0).val = b.val := by rw [← hi]; rfl
  have i1 : (i 1).val = n.val := by rw [← hi]; rfl
  have i2 : (i 2).val = r.val := by rw [← hi]; rfl
  canon_tiles i h
  · exact out_row m c t.val 3 _ _ _ _ _ _ (o3 _ _ _ _ _) hY (hX) (xld_at m c t 3 _) (ald_at m c t 3 _) (s0_at m c t _) i b n r (by show b.val = 3 + _; omega) (by omega) (by omega)
  · exact out_row m c t.val 2 _ _ _ _ _ _ (o2 _ _ _ _ _) hY (hX) (xld_at m c t 2 _) (ald_at m c t 2 _) (s0_at m c t _) i b n r (by show b.val = 2 + _; omega) (by omega) (by omega)
  · exact out_row m c t.val 1 _ _ _ _ _ _ (o1 _ _ _ _ _) hY (hX) (xld_at m c t 1 _) (ald_at m c t 1 _) (s0_at m c t _) i b n r (by show b.val = 1 + _; omega) (by omega) (by omega)
  · exact out_row m c t.val 0 _ _ _ _ _ _ (o0 _ _ _ _ _) hY (hX) (xld_at m c t 0 _) (ald_at m c t 0 _) (s0_at m c t _) i b n r (by show b.val = 0 + _; omega) (by omega) (by omega)

theorem h_C (c : Dev nD) (t : Fin cfg0.N) (h0 : ¬t.val % 3 = 0) (h1 : ¬t.val % 3 = 0) (h2 : ¬t.val % 3 = 1) (h3 : t.val % 3 = 2) (hX : ∀ k R, (outsAt0 m c (t.val - 1) (Nat.lt_of_le_of_lt (Nat.sub_le _ _) t.isLt)).2 (ix2 k R) = Xs (args m c).ct R k) (b : Fin 4) (n : Fin 960) (r : Fin 384) :
    (outsAt0 m c t.val t.isLt).1 (ix3 b n r) = Ho (args m c) b (at960 t.val n) r := by
  rw [outsAt0_C m c t h0 h1 h2 h3]
  have ht : t.val < 3 := t.isLt
  have hv : ∀ q n, (k0_pay9 (F := Ideal) (View.ld (iblk m c 3 t) (Rect.unit ![0, 1920] ![720, 960] inb_S720x2880_S720x960_0_1920))) (ix2 q n)
      = (args m c).w (ix2 q (at960 t.val n)) := by
    have e : t.val = 2 := by omega
    rw [e]
    exact fun q n => by rw [w9]; exact wld_at m c t 2 1920 rfl (by decide) _ q n
  have hY := WTn m c t.val _ hv
  frame_open
  simp (disch := decide) only [↓ View.readCov_skip, ↓ View.readCov_cons_toLoadRect, ↓ View.readCov_fill]
  frame_out
  simp only [read_unread_whole]
  show View.canon _ (ix3 b n r) = _
  generalize hi : (ix3 b n r : S4x960x384.Idx) = i
  have i0 : (i 0).val = b.val := by rw [← hi]; rfl
  have i1 : (i 1).val = n.val := by rw [← hi]; rfl
  have i2 : (i 2).val = r.val := by rw [← hi]; rfl
  canon_tiles i h
  · exact out_row m c t.val 3 _ _ _ _ _ _ (o3 _ _ _ _ _) hY (hX) (xld_at m c t 3 _) (ald_at m c t 3 _) (s0_at m c t _) i b n r (by show b.val = 3 + _; omega) (by omega) (by omega)
  · exact out_row m c t.val 2 _ _ _ _ _ _ (o2 _ _ _ _ _) hY (hX) (xld_at m c t 2 _) (ald_at m c t 2 _) (s0_at m c t _) i b n r (by show b.val = 2 + _; omega) (by omega) (by omega)
  · exact out_row m c t.val 1 _ _ _ _ _ _ (o1 _ _ _ _ _) hY (hX) (xld_at m c t 1 _) (ald_at m c t 1 _) (s0_at m c t _) i b n r (by show b.val = 1 + _; omega) (by omega) (by omega)
  · exact out_row m c t.val 0 _ _ _ _ _ _ (o0 _ _ _ _ _) hY (hX) (xld_at m c t 0 _) (ald_at m c t 0 _) (s0_at m c t _) i b n r (by show b.val = 0 + _; omega) (by omega) (by omega)

end Cert.OProjIdeal.Point

end
-- ==== Proof.OKer.lean ====
/-
  The output projection's result array after its last grid point, entry by entry.
-/
module

public import proofs.«01_k».proof.Proof.OPt

@[expose] public section

set_option maxRecDepth 16384

noncomputable section

open Idealize.ShloMosaic Idealize.ShloMosaic.TcCoe Idealize.SL.Sem
open Idealize.ShloMosaic.Pipeline (Dat)

namespace Cert.OProjIdeal.Point

open Cert.OProjIdeal Cert.OProjIdeal.Gen Cert.OProjIdeal.Value Cert.Spec Cert.Tern

variable (m : (ℓ : Loc nD τ sig) → Buf (Elt Ideal) ℓ)

theorem x_B (c : Dev nD) (t : Fin cfg0.N) (h0 : ¬t.val % 3 = 0) (h1 : ¬t.val % 3 = 0) (h2 : t.val % 3 = 1) (h3 : ¬t.val % 3 = 2) :
    (outsAt0 m c t.val t.isLt).2 = (outsAt0 m c (t.val - 1) (Nat.lt_of_le_of_lt (Nat.sub_le _ _) t.isLt)).2 := by
  rw [outsAt0_B m c t h0 h1 h2 h3]
  rfl

/-- After the first two points the scratch holds the codes. -/
theorem x_scr (c : Dev nD) (t : Fin cfg0.N) (ht : t.val < 2) (k : Fin 2880) (R : Fin 1536) :
    (outsAt0 m c t.val t.isLt).2 (ix2 k R) = Xs (args m c).ct R k := by
  by_cases h : t.val = 0
  · exact x_A m c t (by omega) (by omega) (by omega) (by omega) k R
  · rw [x_B m c t (by omega) (by omega) (by omega) (by omega)]
    exact x_A m c ⟨t.val - 1, Nat.lt_of_le_of_lt (Nat.sub_le _ _) t.isLt⟩ (by show (t.val - 1) % 3 = 0; omega) (by show (t.val - 1) % 3 = 0; omega)
      (by show ¬ (t.val - 1) % 3 = 1; omega) (by show ¬ (t.val - 1) % 3 = 2; omega) k R

theorem h_at (c : Dev nD) (t : Fin cfg0.N) (b : Fin 4) (n : Fin 960) (r : Fin 384) :
    (outsAt0 m c t.val t.isLt).1 (ix3 b n r) = Ho (args m c) b (at960 t.val n) r := by
  have ht : t.val < 3 := t.isLt
  by_cases h : t.val = 0
  · exact h_A m c t (by omega) (by omega) (by omega) (by omega) b n r
  · have hX := x_scr m c ⟨t.val - 1, Nat.lt_of_le_of_lt (Nat.sub_le _ _) t.isLt⟩ (by show t.val - 1 < 2; omega)
    by_cases h' : t.val = 1
    · exact h_B m c t (by omega) (by omega) (by omega) (by omega) hX b n r
    · exact h_C m c t (by omega) (by omega) (by omega) (by omega) hX b n r

theorem emb5 (t : Fin cfg0.N) (b : Fin 4) (n : Fin 960) (r : Fin 384) :
    ((View.whole main_v0).slice (win0_5.rect t)).emb (ix3 b n r) = ix3 b ⟨960 * t.val + n.val, by have : t.val < 3 := t.isLt; omega⟩ r := by
  obtain ⟨e0, e1, e2, e3, e4, e5⟩ := idx t
  have ht : t.val < 3 := t.isLt
  blk_ext [e5]

theorem out5 (c : Dev nD) : (dats m 0 c).arrAt 5 cfg0.N = fun i : S4x2880x384.Idx => Ho (args m c) (i 0) (i 1) (i 2) := by
  refine (dats m 0 c).arrAt_eq_of_covers 5 _ (by decide +kernel) fun t hf y => ?_
  blk_simp
  rw [after0_5]
  obtain ⟨b, n, r, rfl⟩ : ∃ (b : Fin 4) (n : Fin 960) (r : Fin 384), y = ix3 b n r := ⟨y 0, y 1, y 2, eq_ix3 y⟩
  have ht : t.val < 3 := t.isLt
  refine (h_at m c t b n r).trans ?_
  rw [emb5]
  exact congrArg (fun N => Ho (args m c) b N r) (Fin.ext (Nat.mod_eq_of_lt (by omega)))

end Cert.OProjIdeal.Point

end
-- ==== Proof.ORef.lean ====
/-
  The output projection's reference: its result array, entry by entry.
-/
module

public import proofs.«01_k».proof.Proof.RefPay
public import proofs.«01_k».proof.Proof.Wide
public import proofs.«01_k».proof.Proof.Gen.OProjRefIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OProjRefIdeal.Val

open Cert.OProjRefIdeal Cert.OProjRefIdeal.Gen Cert.OProjRefIdeal.Value Cert.Spec Cert.Tern
open Cert.GateUpRefIdeal.Pay (field0 field1 field2 field3)

variable (m : (ℓ : Loc nD τ sig) → Buf (Elt Ideal) ℓ)

/-- The reference's arguments on device `c`. -/
def args (c : Dev nD) : OArgs where
  s := m ⟨c, main_arg0⟩
  ct := m ⟨c, main_arg1⟩
  al := m ⟨c, main_arg2⟩
  w := m ⟨c, main_arg3⟩
  x := m ⟨c, main_arg4⟩

theorem pay2 (v : Vec Ideal S4x1x384 .f32) (R : Fin 1536) : k0_pay2 (F := Ideal) v (ix2 R 0) = As v R := by
  unfold k0_pay2
  pointwise
  rfl

theorem pay3 (v : Vec Ideal S4x2880x384 .bf16) (R : Fin 1536) (N : Fin 2880) :
    k0_pay3 (F := Ideal) v (ix2 R N) = v (ix3 ⟨R.val / 384, by omega⟩ N ⟨R.val % 384, by omega⟩) := by
  unfold k0_pay3
  pointwise

theorem pay4 (c : Vec Ideal S4x2880x384 .i8) (R : Fin 1536) (k : Fin 2880) : k0_pay4 (F := Ideal) c (ix2 R k) = Xs c R k := by
  unfold k0_pay4
  pointwise
  rfl

theorem pay5 (c : Vec Ideal S4x2880x384 .i8) (w : Vec Ideal S720x2880 .i8) (R : Fin 1536) (N : Fin 2880) :
    k0_pay5 (F := Ideal) c w (ix2 R N) = (∑ x : Fin 720, Xs c R ⟨x.val, by omega⟩ * tern 0 (w (ix2 x N)))
      + ∑ x : Fin 720, Xs c R ⟨720 + x.val, by omega⟩ * tern 1 (w (ix2 x N)) := by
  unfold k0_pay5
  pointwise
  simp only [pay4, field0, field1]

theorem pay6 (w : Vec Ideal S720x2880 .i8) (k : Fin 720) (N : Fin 2880) :
    k0_pay6 (F := Ideal) w (ix2 k N) = IntOp.shrsi .vector (BitVec.setWidth 32 (w (ix2 k N))) 4#32 := by
  unfold k0_pay6
  pointwise

theorem pay1 (A : OArgs) (b : Fin 4) (N : Fin 2880) (r : Fin 384) :
    k0_pay1 (F := Ideal) (k0_pay2 A.al) (k0_pay3 A.x) A.w (A.s (ix1 0)) (k0_pay4 A.ct) (k0_pay5 A.ct A.w) (k0_pay6 (F := Ideal) A.w) (ix3 b N r) = Ho A b N r := by
  have e1 : (⟨(row b r).val / 384, by omega⟩ : Fin 4) = b := Fin.ext (by show (b.val * 384 + r.val) / 384 = b.val; omega)
  have e2 : (⟨(row b r).val % 384, by omega⟩ : Fin 384) = r := Fin.ext (by show (b.val * 384 + r.val) % 384 = r.val; omega)
  unfold k0_pay1
  pointwise
  simp only [pay2, pay3, pay4, pay5, pay6, field2, field3, dotsn]
  show A.x (ix3 ⟨(row b r).val / 384, _⟩ N ⟨(row b r).val % 384, _⟩) + _ = _
  rw [e1, e2]
  rfl

theorem idx : ∀ t : Fin cfg0.N, win0_0.index t = ![0] ∧ win0_1.index t = ![0, 0, 0] ∧ win0_2.index t = ![0, 0, 0]
    ∧ win0_3.index t = ![0, 0] ∧ win0_4.index t = ![0, 0, 0] ∧ win0_5.index t = ![0, 0, 0] := by
  decide +kernel

theorem s_at (c : Dev nD) (t : Fin cfg0.N) (i : Fin 1) : iblk m c 0 t (ix1 i) = (args m c).s (ix1 i) := by
  obtain ⟨e0, e1, e2, e3, e4, e5⟩ := idx t
  show _ = m ⟨c, main_arg0⟩ (ix1 i)
  blk_ext [iblk, V, e0]

theorem s0 (c : Dev nD) (t : Fin cfg0.N) (h) : iblk m c 0 t (Shape.Idx.first (s := S1) h) = (args m c).s (ix1 0) := by
  refine Eq.trans (congrArg (iblk m c 0 t) ?_) (s_at m c t 0)
  funext a
  match a with
  | ⟨0, _⟩ => rfl

theorem c_eq (c : Dev nD) (t : Fin cfg0.N) : (iblk m c 1 t : S4x2880x384.Idx → BitVec 8) = (args m c).ct := by
  obtain ⟨e0, e1, e2, e3, e4, e5⟩ := idx t
  funext i
  rw [eq_ix3 i]
  show _ = m ⟨c, main_arg1⟩ (ix3 _ _ _)
  blk_ext [iblk, V, e1]

theorem a_eq (c : Dev nD) (t : Fin cfg0.N) : (iblk m c 2 t : S4x1x384.Idx → EReal) = (args m c).al := by
  obtain ⟨e0, e1, e2, e3, e4, e5⟩ := idx t
  funext i
  rw [eq_ix3 i]
  show _ = m ⟨c, main_arg2⟩ (ix3 _ _ _)
  blk_ext [iblk, V, e2]

theorem w_eq (c : Dev nD) (t : Fin cfg0.N) : (iblk m c 3 t : S720x2880.Idx → BitVec 8) = (args m c).w := by
  obtain ⟨e0, e1, e2, e3, e4, e5⟩ := idx t
  funext i
  rw [eq_ix2 i]
  show _ = m ⟨c, main_arg3⟩ (ix2 _ _)
  blk_ext [iblk, V, e3]

theorem x_eq (c : Dev nD) (t : Fin cfg0.N) : (iblk m c 4 t : S4x2880x384.Idx → EReal) = (args m c).x := by
  obtain ⟨e0, e1, e2, e3, e4, e5⟩ := idx t
  funext i
  rw [eq_ix3 i]
  show _ = m ⟨c, main_arg4⟩ (ix3 _ _ _)
  blk_ext [iblk, V, e4]

theorem emb5 (t : Fin cfg0.N) (y : S4x2880x384.Idx) : ((View.whole main_v0).slice (win0_5.rect t)).emb y = y := by
  obtain ⟨e0, e1, e2, e3, e4, e5⟩ := idx t
  blk_ext [e5]

theorem out5 (c : Dev nD) : (dats m 0 c).arrAt 5 cfg0.N = fun i : S4x2880x384.Idx => Ho (args m c) (i 0) (i 1) (i 2) := by
  refine (dats m 0 c).arrAt_eq_of_covers 5 _ (by decide +kernel) fun t hf y => ?_
  blk_simp
  rw [after0_5]
  unfold outsAt0
  frame_out
  simp only [read_unread_whole]
  rw [s0, c_eq, a_eq, w_eq, x_eq]
  obtain ⟨b, N, r, rfl⟩ : ∃ (b : Fin 4) (N : Fin 2880) (r : Fin 384), y = ix3 b N r := ⟨y 0, y 1, y 2, eq_ix3 y⟩
  refine (pay1 (args m c) b N r).trans ?_
  rw [emb5]
  rfl

end Cert.OProjRefIdeal.Val

end
-- ==== Proof.Quant.lean ====
/-
  Normalising and quantising a token, in closed form: the reciprocal root, the scale, the code.
-/
module

public import proofs.«01_k».proof.Proof.Scale

@[expose] public section

noncomputable section

open Idealize.ShloMosaic Idealize.ShloMosaic.TcCoe Idealize.SL.Sem

namespace Cert.Spec

/-- The reciprocal root that a token's sum of squares gives. -/
def rQ (σ : EReal) : EReal := Ideal.rsqrt (Ideal.div σ (Ideal.ofBits .f32 1161035776#32) + Ideal.ofBits .f32 925353388#32)

/-- The code of a normalised entry under a scale. -/
def codeQ (n s : EReal) : BitVec 8 :=
  Ideal.fptosi 8 (min (Ideal.ofBits .f32 1123942400#32) (max (Ideal.ofBits .f32 3271426048#32) (Ideal.liftRound Ideal.roundHalfEven (Ideal.div n s))))

/-- Multiplying by the reciprocal of a scale is dividing by it. -/
theorem mul_recip (n s : EReal) (h : s ≠ 0) : n * Ideal.div 1 s = Ideal.div n s := by
  unfold Ideal.div
  rw [if_neg h, if_neg h, one_mul]

theorem bits127 : Ideal.ofBits .f32 1123942400#32 = ((127 : ℝ) : EReal) := by
  simp [Ideal.ofBits, Ideal.ieee, -EReal.coe_mul]; norm_num

theorem bitsN127 : Ideal.ofBits .f32 3271426048#32 = ((-127 : ℝ) : EReal) := by
  simp [Ideal.ofBits, Ideal.ieee, -EReal.coe_mul]; norm_num

/-- The scale of a nonnegative magnitude is not zero. -/
theorem scale_ne (a : EReal) (h : 0 ≤ a) : scaleOf a ≠ 0 := by
  unfold scaleOf
  split_ifs with h0
  · exact one_ne_zero
  · rw [bits127]
    unfold Ideal.div
    rw [if_neg (by exact_mod_cast (by norm_num : (127 : ℝ) ≠ 0)), ← EReal.coe_inv]
    exact mul_ne_zero h0 (by exact_mod_cast (by norm_num : (127 : ℝ)⁻¹ ≠ 0))

/-- The sum over a token's features, block by block: thirty blocks of twelve groups of eight. -/
theorem sumFeat (f : Fin 2880 → EReal) :
    (∑ s : Fin 8, ∑ k ∈ Finset.range 30, ∑ q : Fin 12, f ⟨(96 * k + (8 * q.val + s.val)) % 2880, Nat.mod_lt _ (by decide)⟩) = ∑ n, f n := by
  let c : ℕ → Fin 2880 := fun n => ⟨n % 2880, Nat.mod_lt _ (by decide)⟩
  have k1 : ∑ n, f n = ∑ p : Fin 30, ∑ x : Fin 96, f (c (96 * p.val + x.val)) := by
    rw [← Fintype.sum_prod_type']
    refine (Fintype.sum_equiv (finProdFinEquiv (m := 30) (n := 96)) _ _ fun q => ?_).symm
    obtain ⟨p, x⟩ := q
    refine congrArg f (Fin.ext ?_)
    show (96 * p.val + x.val) % 2880 = x.val + 96 * p.val
    omega
  have k2 : ∀ g : ℕ → EReal, ∑ x : Fin 96, g x.val = ∑ q : Fin 12, ∑ s : Fin 8, g (8 * q.val + s.val) := by
    intro g
    rw [← Fintype.sum_prod_type']
    refine (Fintype.sum_equiv (finProdFinEquiv (m := 12) (n := 8)) _ _ fun q => ?_).symm
    obtain ⟨j, l⟩ := q
    refine congrArg g ?_
    show 8 * j.val + l.val = l.val + 8 * j.val
    omega
  rw [k1]
  have k3 : ∀ p : Fin 30, ∑ x : Fin 96, f (c (96 * p.val + x.val)) = ∑ s : Fin 8, ∑ q : Fin 12, f (c (96 * p.val + (8 * q.val + s.val))) := by
    intro p
    rw [k2 fun x => f (c (96 * p.val + x)), Finset.sum_comm]
  rw [Finset.sum_congr rfl fun p _ => k3 p]
  refine Eq.trans ?_ Finset.sum_comm
  exact Finset.sum_congr rfl fun (s : Fin 8) _ => Finset.sum_range (fun k => ∑ q : Fin 12, f (c (96 * k + (8 * q.val + s.val))))

/-- The arguments of the quantisation. -/
structure QArgs where
  /-- What is normalised. -/
  x : (⟨3, ![4, 2880, 384]⟩ : Shape).Idx → EReal
  /-- The gain. -/
  g : (⟨1, ![2880]⟩ : Shape).Idx → EReal

variable (A : QArgs)

/-- A token's sum of squares. -/
def Qq (b : Fin 4) (r : Fin 384) : EReal := ∑ k : Fin 2880, A.x (ix3 b k r) * A.x (ix3 b k r)

/-- One normalised entry. -/
def Nq (b : Fin 4) (r : Fin 384) (k : Fin 2880) : EReal := A.x (ix3 b k r) * rQ (Qq A b r) * A.g (ix1 k)

/-- A token's scale. -/
def Zq (b : Fin 4) (r : Fin 384) : EReal := scaleOf (fmax fun k => max (Nq A b r k) (-(Nq A b r k)))

/-- One code. -/
def Cq (b : Fin 4) (r : Fin 384) (k : Fin 2880) : BitVec 8 := codeQ (Nq A b r k) (Zq A b r)

end Cert.Spec

end
-- ==== Proof.QPay.lean ====
/-
  What the normalise-and-quantise kernel's pieces of arithmetic hold at an index.
-/
module

public import proofs.«01_k».proof.Defs
public import proofs.«01_k».proof.Proof.Gen.QuantXIdeal.Skeleton
public import proofs.«01_k».proof.Proof.Quant
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.QuantXIdeal.Pay

open Cert.QuantXIdeal Cert.QuantXIdeal.Gen Cert.Spec

theorem pay18 (a : FVec Ideal S8x384 .f32) (v : Vec Ideal S1x96x384 .bf16) (s : Fin 8) (r : Fin 384) :
    k0_pay18 (F := Ideal) a v (ix2 s r) = a (ix2 s r) + ∑ q : Fin 12, (fun i : Fin 96 => v (ix3 0 i r) * v (ix3 0 i r)) ⟨8 * q.val + s.val, by omega⟩ := by
  unfold k0_pay18
  pointwise
  rw [Fin.sum_univ_castSucc, Fin.sum_univ_castSucc, Fin.sum_univ_castSucc, Fin.sum_univ_castSucc, Fin.sum_univ_eight]
  refine congrArg (a (ix2 s r) + ·) ?_
  have e : (⟨8 * 0 + s.val, by omega⟩ : Fin 96) = ⟨s.val, by omega⟩ := Fin.ext (by show 8 * 0 + s.val = s.val; omega)
  show _ = (fun i : Fin 96 => v (ix3 0 i r) * v (ix3 0 i r)) ⟨8 * 0 + s.val, _⟩ + _ + _ + _ + _ + _ + _ + _ + _ + _ + _ + _
  rw [e]
  rfl

theorem pay19 (v : FVec Ideal S8x384 .f32) (r : Fin 384) : k0_pay19 (F := Ideal) v (ix2 0 r) = rQ (∑ s : Fin 8, v (ix2 s r)) := by
  unfold k0_pay19
  pointwise
  rfl

theorem pay22 (v : FVec Ideal S8x384 .f32) (r : Fin 384) : k0_pay22 (F := Ideal) v (ix2 0 r) = scaleOf (fmax fun s : Fin 8 => v (ix2 s r)) := by
  unfold k0_pay22
  pointwise
  rfl

theorem pay24 (v : FVec Ideal S8x384 .f32) (r : Fin 384) : k0_pay24 (F := Ideal) v (ix3 0 0 r) = scaleOf (fmax fun s : Fin 8 => v (ix2 s r)) := by
  unfold k0_pay24
  pointwise
  exact pay22 v r

/-- A bound on twelve maxima taken one after the other. -/
theorem max12 (A z : EReal) (f : Fin 96 → EReal) (s : Fin 8) :
    max A (max (max (max (max (max (max (max (max (max (max (max (f ⟨s.val, by omega⟩) (f ⟨8 + s.val, by omega⟩)) (f ⟨16 + s.val, by omega⟩)) (f ⟨24 + s.val, by omega⟩)) (f ⟨32 + s.val, by omega⟩)) (f ⟨40 + s.val, by omega⟩)) (f ⟨48 + s.val, by omega⟩)) (f ⟨56 + s.val, by omega⟩)) (f ⟨64 + s.val, by omega⟩)) (f ⟨72 + s.val, by omega⟩)) (f ⟨80 + s.val, by omega⟩)) (f ⟨88 + s.val, by omega⟩))
      ≤ z ↔ A ≤ z ∧ ∀ q : Fin 12, f ⟨8 * q.val + s.val, by omega⟩ ≤ z := by
  have e : (⟨8 * 0 + s.val, by omega⟩ : Fin 96) = ⟨s.val, by omega⟩ := Fin.ext (by show 8 * 0 + s.val = s.val; omega)
  simp only [max_le_iff]
  constructor
  · rintro ⟨hA, ⟨⟨⟨⟨⟨⟨⟨⟨⟨⟨⟨h0, h1⟩, h2⟩, h3⟩, h4⟩, h5⟩, h6⟩, h7⟩, h8⟩, h9⟩, h10⟩, h11⟩⟩
    refine ⟨hA, fun q => ?_⟩
    match q with
    | ⟨0, _⟩ => exact (congrArg f e).le.trans h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
    | ⟨8, _⟩ => exact h8
    | ⟨9, _⟩ => exact h9
    | ⟨10, _⟩ => exact h10
    | ⟨11, _⟩ => exact h11
  · rintro ⟨hA, h⟩
    exact ⟨hA, ⟨⟨⟨⟨⟨⟨⟨⟨⟨⟨⟨(congrArg f e).ge.trans (h 0), h 1⟩, h 2⟩, h 3⟩, h 4⟩, h 5⟩, h 6⟩, h 7⟩, h 8⟩, h 9⟩, h 10⟩, h 11⟩⟩

/-- The block's greatest magnitudes, group by group: what bounds them. -/
theorem pay21 (v5 a : FVec Ideal S8x384 .f32) (v : Vec Ideal S1x96x384 .bf16) (g : Vec Ideal S96x128 .f32) (γ : Fin 96 → EReal)
    (hg : ∀ i l, g (ix2 i l) = γ i) (s : Fin 8) (r : Fin 384) (z : EReal) :
    k0_pay21 (F := Ideal) v5 a v g (ix2 s r) ≤ z ↔ a (ix2 s r) ≤ z ∧ ∀ q : Fin 12,
      (fun n : EReal => max n (-n)) ((fun i : Fin 96 => v (ix3 0 i r) * rQ (∑ s : Fin 8, v5 (ix2 s r)) * γ i) ⟨8 * q.val + s.val, by omega⟩) ≤ z := by
  unfold k0_pay21
  pointwise
  simp only [hg, pay19]
  refine Iff.trans (iff_of_eq (congrArg (· ≤ z) ?_)) (max12 (a (ix2 s r)) z (fun i : Fin 96 => (fun n : EReal => max n (-n)) (v (ix3 0 i r) * rQ (∑ s : Fin 8, v5 (ix2 s r)) * γ i)) s)
  by_cases h1 : r.val < 128
  · simp only [dif_pos h1]
    rfl
  · by_cases h2 : r.val - 128 < 128
    · simp only [dif_neg h1, dif_pos h2]
      rfl
    · simp only [dif_neg h1, dif_neg h2]
      rfl

theorem pay23 (v5 v15 : FVec Ideal S8x384 .f32) (v : Vec Ideal S1x96x384 .bf16) (g : Vec Ideal S96x128 .f32) (γ : Fin 96 → EReal)
    (hg : ∀ i l, g (ix2 i l) = γ i) (i : Fin 96) (r : Fin 384) (h0 : 0 ≤ fmax fun s : Fin 8 => v15 (ix2 s r)) :
    k0_pay23 (F := Ideal) v5 v15 v g (ix3 0 i r)
      = codeQ (v (ix3 0 i r) * rQ (∑ s : Fin 8, v5 (ix2 s r)) * γ i) (scaleOf (fmax fun s : Fin 8 => v15 (ix2 s r))) := by
  unfold k0_pay23
  pointwise
  simp only [hg, ite_self, dite_eq_ite, pay19, pay22]
  rw [mul_recip _ _ (scale_ne _ h0)]
  rfl

end Cert.QuantXIdeal.Pay

end
-- ==== Proof.QLoop.lean ====
/-
  The normalise-and-quantise kernel's three loops: a token's sum of squares, its greatest magnitude, its codes.
-/
module

public import proofs.«01_k».proof.Proof.QPay
public import proofs.«01_k».proof.Proof.Wide
public import proofs.«01_k».proof.Proof.Gen.QuantXIdeal.Value

@[expose] public section

set_option maxRecDepth 16384

noncomputable section

open Idealize.ShloMosaic Idealize.ShloMosaic.TcCoe Idealize.SL.Sem
open Idealize.ShloMosaic.Pipeline (Dat)

namespace Cert.QuantXIdeal.Loop

open Cert.QuantXIdeal Cert.QuantXIdeal.Gen Cert.QuantXIdeal.Value Cert.Spec

variable (𝒱 : Variants) (c : Dev nD) (bd : Option 𝒱.V) (i : grid0.Coords) (arg1 : Memref sig .tc .vmem S1x2880x384 .bf16) (harg1 : arg1.IsWhole) (arg2 : Memref sig .tc .vmem S1x2880 .f32) (harg2 : arg2.IsWhole) (arg3 : Memref sig .tc .vmem S1x2880x384 .i8) (harg3 : arg3.IsWhole) (arg4 : Memref sig .tc .vmem S1x1x384 .f32) (harg4 : arg4.IsWhole) (arg5 : Memref sig .tc .vmem S2880x128 .f32) (harg5 : arg5.IsWhole)

/-- The feature at a place of a block. -/
def ft (k : ℕ) (j : ℕ) : Fin 2880 := ⟨(96 * k + j) % 2880, Nat.mod_lt _ (by decide)⟩

theorem ft_lt (k : ℕ) (hk : k < 30) (j : Fin 96) : ft k j.val = ⟨96 * k + j.val, by omega⟩ := Fin.ext (Nat.mod_eq_of_lt (by omega))

theorem xld (x : Vec Ideal S1x2880x384 .bf16) (k : ℕ) (hk : k < 30) (o : Fin 3 → ℕ) (ho : o = ![0, 96 * k, 0]) (inb) (j : Fin 96) (r : Fin 384) :
    View.ld x (Rect.unit (s := S1x2880x384) o ![1, 96, 384] inb) (ix3 0 j r) = x (ix3 0 (ft k j.val) r) := by
  subst ho
  rw [ft_lt k hk]
  refine congrArg x ?_
  funext a
  match a with
  | ⟨0, _⟩ => rfl
  | ⟨1, _⟩ => exact Fin.ext (by show 96 * k + 1 * j.val = 96 * k + j.val; omega)
  | ⟨2, _⟩ => exact Fin.ext (by show 0 + 1 * r.val = r.val; omega)

theorem gld (g : Vec Ideal S2880x128 .f32) (k : ℕ) (hk : k < 30) (o : Fin 2 → ℕ) (ho : o = ![96 * k, 0]) (inb) (j : Fin 96) (l : Fin 128) :
    View.ld g (Rect.unit (s := S2880x128) o ![96, 128] inb) (ix2 j l) = g (ix2 (ft k j.val) l) := by
  subst ho
  rw [ft_lt k hk]
  refine congrArg g ?_
  funext a
  match a with
  | ⟨0, _⟩ => exact Fin.ext (by show 96 * k + 1 * j.val = 96 * k + j.val; omega)
  | ⟨1, _⟩ => exact Fin.ext (by show 0 + 1 * l.val = l.val; omega)

theorem trips1 : k0_t1_loop.trips = 30 := by decide +kernel
theorem trips2 : k0_t2_loop.trips = 30 := by decide +kernel
theorem trips3 : k0_t3_loop.trips = 30 := by decide +kernel

/-- What a block's groups add to the partial sums of squares. -/
theorem step1 (x : Vec Ideal S1x2880x384 .bf16) (acc : FVec Ideal S8x384 .f32) (k : Fin k0_t1_loop.trips) (s : Fin 8) (r : Fin 384) :
    tripR_k0_t1 (F := Ideal) 𝒱 c bd i arg1 harg1 arg2 harg2 arg3 harg3 arg4 harg4 arg5 harg5 (harg1.unread x) k acc (ix2 s r)
      = acc (ix2 s r) + ∑ q : Fin 12, x (ix3 0 (ft k.val (8 * q.val + s.val)) r) * x (ix3 0 (ft k.val (8 * q.val + s.val)) r) := by
  have hk : k.val < 30 := trips1 ▸ k.isLt
  unfold tripR_k0_t1 trip_k0_t1
  frame_out
  refine (Pay.pay18 _ _ s r).trans (congrArg (acc (ix2 s r) + ·) (Finset.sum_congr rfl fun q _ => ?_))
  have e := xld x k.val hk _ (k0_off1_eq k) (k0_off1_inb k) ⟨8 * q.val + s.val, by omega⟩ r
  exact congrArg₂ (· * ·) e e

/-- The partial sums of squares after so many blocks. -/
theorem st1 (x : Vec Ideal S1x2880x384 .bf16) (s : Fin 8) (r : Fin 384) : ∀ (n : ℕ) (_ : n ≤ 30),
    st_k0_t1 (F := Ideal) 𝒱 c bd i arg1 harg1 arg2 harg2 arg3 harg3 arg4 harg4 arg5 harg5 (harg1.unread x) (k0_pay17 (F := Ideal)) n (ix2 s r)
      = ∑ k ∈ Finset.range n, ∑ q : Fin 12, x (ix3 0 (ft k (8 * q.val + s.val)) r) * x (ix3 0 (ft k (8 * q.val + s.val)) r)
  | 0, _ => by
    rw [st_k0_t1_zero, Finset.sum_range_zero]
    unfold k0_pay17
    pointwise
  | n + 1, h => by
    rw [Finset.sum_range_succ, ← st1 x s r n (by omega)]
    rw [st_k0_t1_succ (k := ⟨n, by rw [trips1]; omega⟩)]
    exact step1 𝒱 c bd i arg1 harg1 arg2 harg2 arg3 harg3 arg4 harg4 arg5 harg5 x _ ⟨n, by rw [trips1]; omega⟩ s r

/-- What bounds the greatest magnitudes after one more block. -/
theorem step2 (x : Vec Ideal S1x2880x384 .bf16) (g : Vec Ideal S2880x128 .f32) (γ : Fin 2880 → EReal) (hg : ∀ k l, g (ix2 k l) = γ k)
    (v5 acc : FVec Ideal S8x384 .f32) (k : Fin k0_t2_loop.trips) (s : Fin 8) (r : Fin 384) (z : EReal) :
    tripR_k0_t2 (F := Ideal) 𝒱 c bd i arg1 harg1 arg2 harg2 arg3 harg3 arg4 harg4 arg5 harg5 v5 (harg1.unread x) (harg5.unread g) k acc (ix2 s r) ≤ z
      ↔ acc (ix2 s r) ≤ z ∧ ∀ q : Fin 12, (fun n : EReal => max n (-n)) (x (ix3 0 (ft k.val (8 * q.val + s.val)) r) * rQ (∑ s : Fin 8, v5 (ix2 s r)) * γ (ft k.val (8 * q.val + s.val))) ≤ z := by
  have hk : k.val < 30 := trips2 ▸ k.isLt
  unfold tripR_k0_t2 trip_k0_t2
  frame_out
  refine (Pay.pay21 v5 acc _ _ (fun j => γ (ft k.val j.val)) (fun j l => (gld g k.val hk _ (k0_off3_eq k) (k0_off3_inb k) j l).trans (hg _ _)) s r z).trans ?_
  refine and_congr_right fun _ => forall_congr' fun q => ?_
  have e := xld x k.val hk _ (k0_off2_eq k) (k0_off2_inb k) ⟨8 * q.val + s.val, by omega⟩ r
  exact iff_of_eq (congrArg (fun y : EReal => (fun n : EReal => max n (-n)) (y * rQ (∑ s : Fin 8, v5 (ix2 s r)) * γ (ft k.val (8 * q.val + s.val))) ≤ z) e)

/-- What bounds the greatest magnitudes after so many blocks. -/
theorem st2 (x : Vec Ideal S1x2880x384 .bf16) (g : Vec Ideal S2880x128 .f32) (γ : Fin 2880 → EReal) (hg : ∀ k l, g (ix2 k l) = γ k)
    (v5 : FVec Ideal S8x384 .f32) (s : Fin 8) (r : Fin 384) (z : EReal) : ∀ (n : ℕ) (_ : n ≤ 30),
    st_k0_t2 (F := Ideal) 𝒱 c bd i arg1 harg1 arg2 harg2 arg3 harg3 arg4 harg4 arg5 harg5 v5 (harg1.unread x) (harg5.unread g) (k0_pay20 (F := Ideal)) n (ix2 s r) ≤ z
      ↔ 0 ≤ z ∧ ∀ k < n, ∀ q : Fin 12, (fun n : EReal => max n (-n)) (x (ix3 0 (ft k (8 * q.val + s.val)) r) * rQ (∑ s : Fin 8, v5 (ix2 s r)) * γ (ft k (8 * q.val + s.val))) ≤ z
  | 0, _ => by
    rw [st_k0_t2_zero]
    have e : k0_pay20 (F := Ideal) (ix2 s r) = 0 := by
      unfold k0_pay20
      pointwise
    rw [e]
    simp
  | n + 1, h => by
    rw [st_k0_t2_succ (k := ⟨n, by rw [trips2]; omega⟩)]
    refine (step2 𝒱 c bd i arg1 harg1 arg2 harg2 arg3 harg3 arg4 harg4 arg5 harg5 x g γ hg v5 _ ⟨n, by rw [trips2]; omega⟩ s r z).trans ?_
    refine (and_congr_left' (st2 x g γ hg v5 s r z n (by omega))).trans ?_
    constructor
    · rintro ⟨⟨h0, h1⟩, h2⟩
      refine ⟨h0, fun k hk => ?_⟩
      rcases Nat.lt_succ_iff_lt_or_eq.mp hk with hk | rfl
      · exact h1 k hk
      · exact h2
    · rintro ⟨h0, h1⟩
      exact ⟨⟨h0, fun k hk => h1 k (by omega)⟩, h1 n (by omega)⟩

/-- The codes, block by block, all agree with one function of the feature. -/
theorem pb3 (x : Vec Ideal S1x2880x384 .bf16) (g : Vec Ideal S2880x128 .f32) (γ : Fin 2880 → EReal) (hg : ∀ k l, g (ix2 k l) = γ k)
    (v5 v15 : FVec Ideal S8x384 .f32) (h0 : ∀ r, 0 ≤ fmax fun s : Fin 8 => v15 (ix2 s r)) : ∀ (n : ℕ) (_ : n ≤ 30),
    Good (e := .i8) (fun y : S1x2880x384.Idx => codeQ (x (ix3 0 (y 1) (y 2)) * rQ (∑ s : Fin 8, v5 (ix2 s (y 2))) * γ (y 1)) (scaleOf (fmax fun s : Fin 8 => v15 (ix2 s (y 2)))))
      (pb_k0_t3 (F := Ideal) 𝒱 c bd i arg1 harg1 arg2 harg2 arg3 harg3 arg4 harg4 arg5 harg5 v5 v15 (harg1.unread x) (harg5.unread g) n)
  | 0, _ => good_nil
  | n + 1, h => by
    have hk : n < 30 := by omega
    rw [pb_k0_t3_succ (k := ⟨n, by rw [trips3]; omega⟩)]
    unfold tripL_k0_t3 trip_k0_t3
    frame_out
    refine good_cons (fun j => ?_) (pb3 x g γ hg v5 v15 h0 n (by omega))
    obtain ⟨a, i, r, rfl⟩ : ∃ (a : Fin 1) (i : Fin 96) (r : Fin 384), j = ix3 a i r := ⟨j 0, j 1, j 2, eq_ix3 j⟩
    obtain rfl : a = 0 := Subsingleton.elim _ _
    refine (Pay.pay23 v5 v15 _ _ (fun j => γ (ft n j.val)) (fun j l => (gld g n hk _ (k0_off5_eq _) (k0_off5_inb _) j l).trans (hg _ _)) i r (h0 r)).trans ?_
    have e := xld x n hk _ (k0_off4_eq ⟨n, by rw [trips3]; omega⟩) (k0_off4_inb _) i r
    have e1 : (Rect.unit (s := S1x2880x384) (k0_off4 ⟨n, by rw [trips3]; omega⟩) ![1, 96, 384] (k0_off4_inb _)).emb (ix3 0 i r) = ix3 0 (ft n i.val) r := by
      rw [ft_lt n hk]
      funext a
      refine Fin.ext ?_
      show k0_off4 ⟨n, _⟩ a + 1 * (ix3 (0 : Fin 1) i r a).val = _
      rw [k0_off4_eq]
      match a with
      | ⟨0, _⟩ => rfl
      | ⟨1, _⟩ => show 96 * n + 1 * i.val = 96 * n + i.val; omega
      | ⟨2, _⟩ => show 0 + 1 * r.val = r.val; omega
    refine (congrArg (fun y : EReal => codeQ (y * rQ (∑ s : Fin 8, v5 (ix2 s r)) * γ (ft n i.val)) (scaleOf (fmax fun s : Fin 8 => v15 (ix2 s r)))) e).trans ?_
    exact (congrArg (fun y : S1x2880x384.Idx => codeQ (x (ix3 0 (y 1) (y 2)) * rQ (∑ s : Fin 8, v5 (ix2 s (y 2))) * γ (y 1)) (scaleOf (fmax fun s : Fin 8 => v15 (ix2 s (y 2))))) e1).symm

end Cert.QuantXIdeal.Loop

end
-- ==== Proof.QGain.lean ====
/-
  The gain spread over the lanes, as the normalise-and-quantise kernel stores it.
-/
module

public import proofs.«01_k».proof.Defs
public import proofs.«01_k».proof.Proof.Gen.QuantXIdeal.Skeleton
public import proofs.«01_k».proof.Proof.Quant
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.QuantXIdeal.Pay

open Cert.QuantXIdeal Cert.QuantXIdeal.Gen Cert.Spec

theorem pay2 (u : Vec Ideal S1x2880 .f32) (i l : Fin 128) : k0_pay2 (F := Ideal) u (ix2 i l) = u (ix2 0 ⟨0 + i.val, by omega⟩) := by
  unfold k0_pay2 k0_pay1
  pointwise

theorem pay3 (u : Vec Ideal S1x2880 .f32) (i l : Fin 128) : k0_pay3 (F := Ideal) u (ix2 i l) = u (ix2 0 ⟨128 + i.val, by omega⟩) := by
  unfold k0_pay3 k0_pay1
  pointwise

theorem pay4 (u : Vec Ideal S1x2880 .f32) (i l : Fin 128) : k0_pay4 (F := Ideal) u (ix2 i l) = u (ix2 0 ⟨256 + i.val, by omega⟩) := by
  unfold k0_pay4 k0_pay1
  pointwise

theorem pay5 (u : Vec Ideal S1x2880 .f32) (i l : Fin 128) : k0_pay5 (F := Ideal) u (ix2 i l) = u (ix2 0 ⟨384 + i.val, by omega⟩) := by
  unfold k0_pay5 k0_pay1
  pointwise

theorem pay6 (u : Vec Ideal S1x2880 .f32) (i l : Fin 128) : k0_pay6 (F := Ideal) u (ix2 i l) = u (ix2 0 ⟨512 + i.val, by omega⟩) := by
  unfold k0_pay6 k0_pay1
  pointwise

theorem pay7 (u : Vec Ideal S1x2880 .f32) (i l : Fin 128) : k0_pay7 (F := Ideal) u (ix2 i l) = u (ix2 0 ⟨640 + i.val, by omega⟩) := by
  unfold k0_pay7 k0_pay1
  pointwise

theorem pay8 (u : Vec Ideal S1x2880 .f32) (i l : Fin 128) : k0_pay8 (F := Ideal) u (ix2 i l) = u (ix2 0 ⟨768 + i.val, by omega⟩) := by
  unfold k0_pay8 k0_pay1
  pointwise

theorem pay9 (u : Vec Ideal S1x2880 .f32) (i l : Fin 128) : k0_pay9 (F := Ideal) u (ix2 i l) = u (ix2 0 ⟨896 + i.val, by omega⟩) := by
  unfold k0_pay9 k0_pay1
  pointwise

theorem pay10 (u : Vec Ideal S1x2880 .f32) (i l : Fin 128) : k0_pay10 (F := Ideal) u (ix2 i l) = u (ix2 0 ⟨1024 + i.val, by omega⟩) := by
  unfold k0_pay10 k0_pay1
  pointwise

theorem pay11 (u : Vec Ideal S1x2880 .f32) (i l : Fin 128) : k0_pay11 (F := Ideal) u (ix2 i l) = u (ix2 0 ⟨1152 + i.val, by omega⟩) := by
  unfold k0_pay11 k0_pay1
  pointwise

theorem pay12 (u : Vec Ideal S1x2880 .f32) (i l : Fin 128) : k0_pay12 (F := Ideal) u (ix2 i l) = u (ix2 0 ⟨1280 + i.val, by omega⟩) := by
  unfold k0_pay12 k0_pay1
  pointwise

theorem pay13 (u : Vec Ideal S1x2880 .f32) (i l : Fin 128) : k0_pay13 (F := Ideal) u (ix2 i l) = u (ix2 0 ⟨1408 + i.val, by omega⟩) := by
  unfold k0_pay13 k0_pay1
  pointwise

theorem pay14 (u : Vec Ideal S1x2880 .f32) (i l : Fin 128) : k0_pay14 (F := Ideal) u (ix2 i l) = u (ix2 0 ⟨1536 + i.val, by omega⟩) := by
  unfold k0_pay14 k0_pay1
  pointwise

theorem pay15 (u : Vec Ideal S1x2880 .f32) (i l : Fin 128) : k0_pay15 (F := Ideal) u (ix2 i l) = u (ix2 0 ⟨1664 + i.val, by omega⟩) := by
  unfold k0_pay15 k0_pay1
  pointwise

theorem castAt (v : FVec Ideal S2880x128 .f32) (k : Fin 2880) (l : Fin 128) :
    shapeCast S2880x128 v shapeCasts_S2880x128_S2880x128 (ix2 k l) = v (ix2 k l) := by
  pointwise

/-- A stack of blocks of 128 lanes, whose rows from `o` on are the values of `γ`. -/
inductive Stack (γ : ℕ → EReal) : ℕ → List ((s : Shape) × (s.Idx → EReal)) → Prop
  | nil (o : ℕ) : Stack γ o []
  | cons (o n : ℕ) (x : (⟨2, ![n, 128]⟩ : Shape).Idx → EReal) (xs : List ((s : Shape) × (s.Idx → EReal)))
      (hx : ∀ (i : Fin n) (l : Fin 128), x (ix2 i l) = γ (o + i.val)) (h : Stack γ (o + n) xs) : Stack γ o (⟨⟨2, ![n, 128]⟩, x⟩ :: xs)

theorem stackAt (γ : ℕ → EReal) (k : Fin 2880) (l : Fin 128) : ∀ (xs : List ((s : Shape) × (s.Idx → EReal))) (o : ℕ) (hS : Stack γ o xs)
    (hs : ∀ s ∈ xs.map (·.1), s.FitsOff S2880x128 0) (d : ℕ) (hd : d < (axisSizes S2880x128 0 xs).sum),
    concatenateAt S2880x128 0 (ix2 k l) xs hs d hd = γ (o + d)
  | [], _, _, _, _, hd => absurd hd (Nat.not_lt_zero _)
  | [_], o, .cons _ n x _ hx _, hs, d, hd => by
    have hd' : d < n := by
      have e := hd
      rw [axisSizes_cons S2880x128 0 ⟨⟨2, ![n, 128]⟩, x⟩ [] (hs _ List.mem_cons_self)] at e
      simpa [axisSizes] using e
    rw [concatenateAt_singleton, Shape.Idx.norm_def]
    refine Eq.trans (congrArg x (funext fun b => Fin.ext ?_)) (hx ⟨d, hd'⟩ l)
    match b with
    | ⟨0, _⟩ => rfl
    | ⟨1, _⟩ => rfl
  | _ :: q :: xs, o, .cons _ n x _ hx h, hs, d, hd => by
    rw [concatenateAt_cons]
    split
    · next hlt =>
      rw [Shape.Idx.norm_def]
      refine Eq.trans (congrArg x (funext fun b => Fin.ext ?_)) (hx ⟨d, hlt⟩ l)
      match b with
      | ⟨0, _⟩ => rfl
      | ⟨1, _⟩ => rfl
    · next hlt =>
      have hle : n ≤ d := Nat.le_of_not_lt hlt
      refine (stackAt γ k l (q :: xs) (o + n) h _ _ _).trans (congrArg γ ?_)
      show o + n + (d - n) = o + d
      omega

/-- The gain as columns: every column of the stored array is the gain. -/
theorem pay16 (γ : Fin 2880 → EReal) (v31 : FVec Ideal S1x2880 .f32) (v35 v39 v43 v47 v51 v55 v59 v63 v67 v71 v75 v79 v83 v87 : FVec Ideal S128x128 .f32)
    (h31 : ∀ k, v31 (ix2 0 k) = γ k)
    (h35 : ∀ i l, v35 (ix2 i l) = γ ⟨0 + i.val, by omega⟩)
    (h39 : ∀ i l, v39 (ix2 i l) = γ ⟨128 + i.val, by omega⟩)
    (h43 : ∀ i l, v43 (ix2 i l) = γ ⟨256 + i.val, by omega⟩)
    (h47 : ∀ i l, v47 (ix2 i l) = γ ⟨384 + i.val, by omega⟩)
    (h51 : ∀ i l, v51 (ix2 i l) = γ ⟨512 + i.val, by omega⟩)
    (h55 : ∀ i l, v55 (ix2 i l) = γ ⟨640 + i.val, by omega⟩)
    (h59 : ∀ i l, v59 (ix2 i l) = γ ⟨768 + i.val, by omega⟩)
    (h63 : ∀ i l, v63 (ix2 i l) = γ ⟨896 + i.val, by omega⟩)
    (h67 : ∀ i l, v67 (ix2 i l) = γ ⟨1024 + i.val, by omega⟩)
    (h71 : ∀ i l, v71 (ix2 i l) = γ ⟨1152 + i.val, by omega⟩)
    (h75 : ∀ i l, v75 (ix2 i l) = γ ⟨1280 + i.val, by omega⟩)
    (h79 : ∀ i l, v79 (ix2 i l) = γ ⟨1408 + i.val, by omega⟩)
    (h83 : ∀ i l, v83 (ix2 i l) = γ ⟨1536 + i.val, by omega⟩)
    (h87 : ∀ i l, v87 (ix2 i l) = γ ⟨1664 + i.val, by omega⟩)
    (k : Fin 2880) (l : Fin 128) :
    k0_pay16 (F := Ideal) v31 v35 v39 v43 v47 v51 v55 v59 v63 v67 v71 v75 v79 v83 v87 (ix2 k l) = γ k := by
  unfold k0_pay16
  refine (castAt _ k l).trans ?_
  refine (concatenate_apply _ _ _ _ _).trans ?_
  refine (stackAt (fun n => γ ⟨n % 2880, Nat.mod_lt _ (by decide)⟩) k l _ 0 ?_ _ _ _).trans (congrArg γ (Fin.ext (by show (0 + k.val) % 2880 = k.val; have := k.isLt; omega)))
  refine .cons 0 128 _ _ (fun i l => ?_) ?_
  · exact (h35 i l).trans (congrArg γ (Fin.ext (by show 0 + i.val = (0 + i.val) % 2880; omega)))
  refine .cons 128 128 _ _ (fun i l => ?_) ?_
  · exact (h39 i l).trans (congrArg γ (Fin.ext (by show 128 + i.val = (128 + i.val) % 2880; omega)))
  refine .cons 256 128 _ _ (fun i l => ?_) ?_
  · exact (h43 i l).trans (congrArg γ (Fin.ext (by show 256 + i.val = (256 + i.val) % 2880; omega)))
  refine .cons 384 128 _ _ (fun i l => ?_) ?_
  · exact (h47 i l).trans (congrArg γ (Fin.ext (by show 384 + i.val = (384 + i.val) % 2880; omega)))
  refine .cons 512 128 _ _ (fun i l => ?_) ?_
  · exact (h51 i l).trans (congrArg γ (Fin.ext (by show 512 + i.val = (512 + i.val) % 2880; omega)))
  refine .cons 640 128 _ _ (fun i l => ?_) ?_
  · exact (h55 i l).trans (congrArg γ (Fin.ext (by show 640 + i.val = (640 + i.val) % 2880; omega)))
  refine .cons 768 128 _ _ (fun i l => ?_) ?_
  · exact (h59 i l).trans (congrArg γ (Fin.ext (by show 768 + i.val = (768 + i.val) % 2880; omega)))
  refine .cons 896 128 _ _ (fun i l => ?_) ?_
  · exact (h63 i l).trans (congrArg γ (Fin.ext (by show 896 + i.val = (896 + i.val) % 2880; omega)))
  refine .cons 1024 128 _ _ (fun i l => ?_) ?_
  · exact (h67 i l).trans (congrArg γ (Fin.ext (by show 1024 + i.val = (1024 + i.val) % 2880; omega)))
  refine .cons 1152 128 _ _ (fun i l => ?_) ?_
  · exact (h71 i l).trans (congrArg γ (Fin.ext (by show 1152 + i.val = (1152 + i.val) % 2880; omega)))
  refine .cons 1280 128 _ _ (fun i l => ?_) ?_
  · exact (h75 i l).trans (congrArg γ (Fin.ext (by show 1280 + i.val = (1280 + i.val) % 2880; omega)))
  refine .cons 1408 128 _ _ (fun i l => ?_) ?_
  · exact (h79 i l).trans (congrArg γ (Fin.ext (by show 1408 + i.val = (1408 + i.val) % 2880; omega)))
  refine .cons 1536 128 _ _ (fun i l => ?_) ?_
  · exact (h83 i l).trans (congrArg γ (Fin.ext (by show 1536 + i.val = (1536 + i.val) % 2880; omega)))
  refine .cons 1664 128 _ _ (fun i l => ?_) ?_
  · exact (h87 i l).trans (congrArg γ (Fin.ext (by show 1664 + i.val = (1664 + i.val) % 2880; omega)))
  refine .cons 1792 128 _ _ (fun i l => ?_) ?_
  · refine Eq.trans ?_ ((h31 ⟨1792 + i.val, by omega⟩).trans (congrArg γ (Fin.ext (by show 1792 + i.val = (1792 + i.val) % 2880; omega))))
    pointwise
  refine .cons 1920 128 _ _ (fun i l => ?_) ?_
  · refine Eq.trans ?_ ((h31 ⟨1920 + i.val, by omega⟩).trans (congrArg γ (Fin.ext (by show 1920 + i.val = (1920 + i.val) % 2880; omega))))
    pointwise
  refine .cons 2048 128 _ _ (fun i l => ?_) ?_
  · refine Eq.trans ?_ ((h31 ⟨2048 + i.val, by omega⟩).trans (congrArg γ (Fin.ext (by show 2048 + i.val = (2048 + i.val) % 2880; omega))))
    pointwise
  refine .cons 2176 128 _ _ (fun i l => ?_) ?_
  · refine Eq.trans ?_ ((h31 ⟨2176 + i.val, by omega⟩).trans (congrArg γ (Fin.ext (by show 2176 + i.val = (2176 + i.val) % 2880; omega))))
    pointwise
  refine .cons 2304 128 _ _ (fun i l => ?_) ?_
  · refine Eq.trans ?_ ((h31 ⟨2304 + i.val, by omega⟩).trans (congrArg γ (Fin.ext (by show 2304 + i.val = (2304 + i.val) % 2880; omega))))
    pointwise
  refine .cons 2432 128 _ _ (fun i l => ?_) ?_
  · refine Eq.trans ?_ ((h31 ⟨2432 + i.val, by omega⟩).trans (congrArg γ (Fin.ext (by show 2432 + i.val = (2432 + i.val) % 2880; omega))))
    pointwise
  refine .cons 2560 128 _ _ (fun i l => ?_) ?_
  · refine Eq.trans ?_ ((h31 ⟨2560 + i.val, by omega⟩).trans (congrArg γ (Fin.ext (by show 2560 + i.val = (2560 + i.val) % 2880; omega))))
    pointwise
  refine .cons 2688 128 _ _ (fun i l => ?_) ?_
  · refine Eq.trans ?_ ((h31 ⟨2688 + i.val, by omega⟩).trans (congrArg γ (Fin.ext (by show 2688 + i.val = (2688 + i.val) % 2880; omega))))
    pointwise
  refine .cons 2816 64 _ _ (fun i l => ?_) (.nil _)
  refine Eq.trans ?_ ((h31 ⟨2816 + i.val, by omega⟩).trans (congrArg γ (Fin.ext (by show 2816 + i.val = (2816 + i.val) % 2880; omega))))
  pointwise

end Cert.QuantXIdeal.Pay

end
-- ==== Proof.QKer.lean ====
/-
  The normalise-and-quantise kernel's two arrays after its last grid point, entry by entry.
-/
module

public import proofs.«01_k».proof.Proof.QLoop
public import proofs.«01_k».proof.Proof.QGain
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QuantXIdeal.Point

open Cert.QuantXIdeal Cert.QuantXIdeal.Gen Cert.QuantXIdeal.Value Cert.QuantXIdeal.Loop Cert.Spec

variable (m : (ℓ : Loc nD τ sig) → Buf (Elt Ideal) ℓ)

/-- The call's arguments on device `c`. -/
def args (c : Dev nD) : QArgs where
  x := m ⟨c, main_arg0⟩
  g := m ⟨c, main_arg1⟩

theorem idx : ∀ t : Fin cfg0.N, win0_0.index t = ![t.val, 0, 0] ∧ win0_1.index t = ![0, 0]
    ∧ win0_2.index t = ![t.val, 0, 0] ∧ win0_3.index t = ![t.val, 0, 0] := by
  decide +kernel

/-- The batch entry of a grid point. -/
def bt (t : Fin cfg0.N) : Fin 4 := ⟨t.val, t.isLt⟩

theorem x_at (c : Dev nD) (t : Fin cfg0.N) (k : Fin 2880) (r : Fin 384) : iblk m c 0 t (ix3 0 k r) = (args m c).x (ix3 (bt t) k r) := by
  obtain ⟨e0, e1, e2, e3⟩ := idx t
  have ht : t.val < 4 := t.isLt
  show _ = m ⟨c, main_arg0⟩ (ix3 (bt t) k r)
  unfold bt
  blk_ext [iblk, V, e0]

theorem g_at (c : Dev nD) (t : Fin cfg0.N) (k : Fin 2880) : iblk m c 1 t (ix2 0 k) = (args m c).g (ix1 k) := by
  obtain ⟨e0, e1, e2, e3⟩ := idx t
  show _ = m ⟨c, main_arg1⟩ (ix1 k)
  show V m c main_v0 ((win0_1.blk t).view.emb (ix2 0 k)) = _
  entry_read
  pointwise
  blk_ext [e1]

theorem pay1 (u : Vec Ideal S1x2880 .f32) (k : Fin 2880) : k0_pay1 (F := Ideal) u (ix2 0 k) = u (ix2 0 k) := by
  unfold k0_pay1
  pointwise

/-- The gain spread over the lanes, from the gain's block. -/
theorem gain (u : Vec Ideal S1x2880 .f32) (k : Fin 2880) (l : Fin 128) :
    k0_pay16 (F := Ideal) (k0_pay1 u) (k0_pay2 u) (k0_pay3 u) (k0_pay4 u) (k0_pay5 u) (k0_pay6 u) (k0_pay7 u) (k0_pay8 u) (k0_pay9 u) (k0_pay10 u) (k0_pay11 u)
      (k0_pay12 u) (k0_pay13 u) (k0_pay14 u) (k0_pay15 u) (ix2 k l) = u (ix2 0 k) :=
  Pay.pay16 (fun k => u (ix2 0 k)) _ _ _ _ _ _ _ _ _ _ _ _ _ _ _ (pay1 u) (Pay.pay2 u) (Pay.pay3 u) (Pay.pay4 u) (Pay.pay5 u) (Pay.pay6 u) (Pay.pay7 u) (Pay.pay8 u)
    (Pay.pay9 u) (Pay.pay10 u) (Pay.pay11 u) (Pay.pay12 u) (Pay.pay13 u) (Pay.pay14 u) (Pay.pay15 u) k l

theorem g_A (c : Dev nD) (t : Fin cfg0.N) (h0 : t.val % 4 = 0) (k : Fin 2880) (l : Fin 128) :
    (outsAt0 m c t.val t.isLt).2.2 (ix2 k l) = (args m c).g (ix1 k) := by
  rw [outsAt0_A m c t h0]
  dsimp only
  unfold sout0_A_0
  frame_out
  exact (gain (iblk m c 1 t) k l).trans (g_at m c t k)

theorem g_B (c : Dev nD) (t : Fin cfg0.N) (h0 : ¬ t.val % 4 = 0) :
    (outsAt0 m c t.val t.isLt).2.2 = (outsAt0 m c (t.val - 1) (Nat.lt_of_le_of_lt (Nat.sub_le _ _) t.isLt)).2.2 := by
  rw [outsAt0_B m c t h0]
  rfl

/-- At every point the scratch holds the gain in every lane. -/
theorem g_scr (c : Dev nD) : ∀ (n : ℕ) (hn : n < cfg0.N) (k : Fin 2880) (l : Fin 128), (outsAt0 m c n hn).2.2 (ix2 k l) = (args m c).g (ix1 k)
  | 0, hn, k, l => g_A m c ⟨0, hn⟩ rfl k l
  | n + 1, hn, k, l => by
    have h4 : n + 1 < 4 := hn
    rw [g_B m c ⟨n + 1, hn⟩ (by show ¬ (n + 1) % 4 = 0; omega)]
    exact g_scr c n (Nat.lt_of_succ_lt hn) k l

theorem max_nonneg (A : QArgs) (b : Fin 4) (r : Fin 384) : 0 ≤ fmax fun k => max (Nq A b r k) (-(Nq A b r k)) :=
  (max_neg_nonneg (Nq A b r 0)).trans ((fmax_le (fun k => max (Nq A b r k) (-(Nq A b r k))) _).mp le_rfl 0)

section Token

variable (𝒱 : Variants) (c : Dev nD) (bd : Option 𝒱.V) (i : grid0.Coords) (arg1 : Memref sig .tc .vmem S1x2880x384 .bf16) (harg1 : arg1.IsWhole) (arg2 : Memref sig .tc .vmem S1x2880 .f32) (harg2 : arg2.IsWhole) (arg3 : Memref sig .tc .vmem S1x2880x384 .i8) (harg3 : arg3.IsWhole) (arg4 : Memref sig .tc .vmem S1x1x384 .f32) (harg4 : arg4.IsWhole) (arg5 : Memref sig .tc .vmem S2880x128 .f32) (harg5 : arg5.IsWhole)
variable (A : QArgs) (b : Fin 4) (x : Vec Ideal S1x2880x384 .bf16) (hx : ∀ k r, x (ix3 0 k r) = A.x (ix3 b k r))
  (g : Vec Ideal S2880x128 .f32) (hg : ∀ k l, g (ix2 k l) = A.g (ix1 k))

include hx in
theorem sumAt (r : Fin 384) : (∑ s : Fin 8, st_k0_t1 (F := Ideal) 𝒱 c bd i arg1 harg1 arg2 harg2 arg3 harg3 arg4 harg4 arg5 harg5 (harg1.unread x) (k0_pay17 (F := Ideal)) 30 (ix2 s r)) = Qq A b r := by
  simp only [st1 𝒱 c bd i arg1 harg1 arg2 harg2 arg3 harg3 arg4 harg4 arg5 harg5 x _ r 30 le_rfl, hx]
  exact sumFeat fun k => A.x (ix3 b k r) * A.x (ix3 b k r)

/-- Every feature lies in a block, a group and a place. -/
theorem ft_all (P : Fin 2880 → Prop) (h : ∀ (s : Fin 8), ∀ k < 30, ∀ q : Fin 12, P (ft k (8 * q.val + s.val))) (n : Fin 2880) : P n := by
  have hn := n.isLt
  have e := h ⟨n.val % 8, Nat.mod_lt _ (by decide)⟩ (n.val / 96) (by omega) ⟨n.val % 96 / 8, by omega⟩
  have e' : ft (n.val / 96) (8 * (n.val % 96 / 8) + n.val % 8) = n := Fin.ext (by show (96 * (n.val / 96) + (8 * (n.val % 96 / 8) + n.val % 8)) % 2880 = n.val; omega)
  exact e' ▸ e

include hx hg in
theorem maxAt (v5 : FVec Ideal S8x384 .f32) (r : Fin 384) (h5 : (∑ s : Fin 8, v5 (ix2 s r)) = Qq A b r) :
    (fmax fun s : Fin 8 => st_k0_t2 (F := Ideal) 𝒱 c bd i arg1 harg1 arg2 harg2 arg3 harg3 arg4 harg4 arg5 harg5 v5 (harg1.unread x) (harg5.unread g) (k0_pay20 (F := Ideal)) 30 (ix2 s r))
      = fmax fun k => max (Nq A b r k) (-(Nq A b r k)) := by
  refine eq_of_forall_ge_iff fun z => ?_
  rw [fmax_le, fmax_le]
  have hs := fun s => st2 𝒱 c bd i arg1 harg1 arg2 harg2 arg3 harg3 arg4 harg4 arg5 harg5 x g (fun k => A.g (ix1 k)) hg v5 s r z 30 le_rfl
  simp only [h5, hx] at hs
  constructor
  · intro h
    exact ft_all (fun k => max (Nq A b r k) (-(Nq A b r k)) ≤ z) fun s k hk q => ((hs s).mp (h s)).2 k hk q
  · intro h s
    exact (hs s).mpr ⟨(max_neg_nonneg _).trans (h 0), fun k _ q => h (ft k (8 * q.val + s.val))⟩

include hx hg in
theorem scaleTok (r : Fin 384) : k0_pay24 (F := Ideal) (st_k0_t2 (F := Ideal) 𝒱 c bd i arg1 harg1 arg2 harg2 arg3 harg3 arg4 harg4 arg5 harg5 (st_k0_t1 (F := Ideal) 𝒱 c bd i arg1 harg1 arg2 harg2 arg3 harg3 arg4 harg4 arg5 harg5 (harg1.unread x) (k0_pay17 (F := Ideal)) 30) (harg1.unread x) (harg5.unread g) (k0_pay20 (F := Ideal)) 30) (ix3 0 0 r) = Zq A b r :=
  (Pay.pay24 _ r).trans (congrArg scaleOf (maxAt 𝒱 c bd i arg1 harg1 arg2 harg2 arg3 harg3 arg4 harg4 arg5 harg5 A b x hx g hg _ r (sumAt 𝒱 c bd i arg1 harg1 arg2 harg2 arg3 harg3 arg4 harg4 arg5 harg5 A b x hx r)))

/-- The last loop's stores cover the block of codes. -/
theorem codeCov (v5 v15 : FVec Ideal S8x384 .f32) (X1 : BufTy.Contents (Elt Ideal) arg1.view.ty) (X5 : BufTy.Contents (Elt Ideal) arg5.view.ty) (y : S1x2880x384.Idx) :
    ∃ p ∈ pb_k0_t3 (F := Ideal) 𝒱 c bd i arg1 harg1 arg2 harg2 arg3 harg3 arg4 harg4 arg5 harg5 v5 v15 X1 X5 30, y ∈ p.1.set :=
  View.cover_of_tiledL (pb_k0_t3 (F := Ideal) 𝒱 c bd i arg1 harg1 arg2 harg2 arg3 harg3 arg4 harg4 arg5 harg5 v5 v15 X1 X5 30) S1x96x384.size (by sl_kernel_rfl) y

include hx hg in
theorem codeTok (X : BufTy.Contents (Elt Ideal) arg5.view.ty) (hX : X = harg5.unread g) (N : ℕ) (hN : N = 30) (k : Fin 2880) (r : Fin 384) :
    View.canon (pb_k0_t3 (F := Ideal) 𝒱 c bd i arg1 harg1 arg2 harg2 arg3 harg3 arg4 harg4 arg5 harg5 (st_k0_t1 (F := Ideal) 𝒱 c bd i arg1 harg1 arg2 harg2 arg3 harg3 arg4 harg4 arg5 harg5 (harg1.unread x) (k0_pay17 (F := Ideal)) N) (st_k0_t2 (F := Ideal) 𝒱 c bd i arg1 harg1 arg2 harg2 arg3 harg3 arg4 harg4 arg5 harg5 (st_k0_t1 (F := Ideal) 𝒱 c bd i arg1 harg1 arg2 harg2 arg3 harg3 arg4 harg4 arg5 harg5 (harg1.unread x) (k0_pay17 (F := Ideal)) N) (harg1.unread x) X (k0_pay20 (F := Ideal)) N) (harg1.unread x) X N) (ix3 0 k r) = Cq A b r k := by
  subst hN hX
  have h1 := fun r => sumAt 𝒱 c bd i arg1 harg1 arg2 harg2 arg3 harg3 arg4 harg4 arg5 harg5 A b x hx r
  have h2 := fun r => maxAt 𝒱 c bd i arg1 harg1 arg2 harg2 arg3 harg3 arg4 harg4 arg5 harg5 A b x hx g hg _ r (h1 r)
  refine (canon_of (e := .i8) _ _ (ix3 0 k r) (pb3 𝒱 c bd i arg1 harg1 arg2 harg2 arg3 harg3 arg4 harg4 arg5 harg5 x g (fun k => A.g (ix1 k)) hg _ _
    (fun r => (h2 r).symm ▸ max_nonneg A b r) 30 le_rfl) (codeCov 𝒱 c bd i arg1 harg1 arg2 harg2 arg3 harg3 arg4 harg4 arg5 harg5 _ _ _ _ _)).trans ?_
  show codeQ (x (ix3 0 k r) * rQ (∑ s : Fin 8, (st_k0_t1 (F := Ideal) 𝒱 c bd i arg1 harg1 arg2 harg2 arg3 harg3 arg4 harg4 arg5 harg5 (harg1.unread x) (k0_pay17 (F := Ideal)) 30) (ix2 s r)) * A.g (ix1 k)) (scaleOf (fmax fun s : Fin 8 => (st_k0_t2 (F := Ideal) 𝒱 c bd i arg1 harg1 arg2 harg2 arg3 harg3 arg4 harg4 arg5 harg5 (st_k0_t1 (F := Ideal) 𝒱 c bd i arg1 harg1 arg2 harg2 arg3 harg3 arg4 harg4 arg5 harg5 (harg1.unread x) (k0_pay17 (F := Ideal)) 30) (harg1.unread x) (harg5.unread g) (k0_pay20 (F := Ideal)) 30) (ix2 s r))) = _
  rw [h1 r, h2 r, hx]
  rfl

end Token

theorem emb2 (t : Fin cfg0.N) (k : Fin 2880) (r : Fin 384) : ((View.whole main_v1_0).slice (win0_2.rect t)).emb (ix3 0 k r) = ix3 (bt t) k r := by
  obtain ⟨e0, e1, e2, e3⟩ := idx t
  have ht : t.val < 4 := t.isLt
  unfold bt
  blk_ext [e2]

theorem emb3 (t : Fin cfg0.N) (r : Fin 384) : ((View.whole main_v1_1).slice (win0_3.rect t)).emb (ix3 0 0 r) = ix3 (bt t) 0 r := by
  obtain ⟨e0, e1, e2, e3⟩ := idx t
  have ht : t.val < 4 := t.isLt
  unfold bt
  blk_ext [e3]

theorem tr30 : Scf.trips (0#32) (Scalar.addi 0#32 30#32) 1#32 = 30 := by decide +kernel

theorem a_B (c : Dev nD) (t : Fin cfg0.N) (h0 : ¬ t.val % 4 = 0) (r : Fin 384) :
    (outsAt0 m c t.val t.isLt).2.1 (ix3 0 0 r) = Zq (args m c) (bt t) r := by
  rw [outsAt0_B m c t h0]
  dsimp only
  unfold out0_B_3
  frame_out
  rw [tr30]
  exact scaleTok _ _ _ _ _ _ _ _ _ _ _ _ _ _ (args m c) (bt t) _ (x_at m c t) _ (g_scr m c _ _) r

theorem c_B (c : Dev nD) (t : Fin cfg0.N) (h0 : ¬ t.val % 4 = 0) (k : Fin 2880) (r : Fin 384) :
    (outsAt0 m c t.val t.isLt).1 (ix3 0 k r) = Cq (args m c) (bt t) r k := by
  rw [outsAt0_B m c t h0]
  dsimp only
  unfold out0_B_2
  frame_out
  refine codeTok Variants.none c none (grid0.coords t) (ms0_0 t) (hs0_0 t) (ms0_1 t) (hs0_1 t) (ms0_2 t) (hs0_2 t) (ms0_3 t) (hs0_3 t) scM0_0 (Memref.isWhole_whole _) (args m c) (bt t) _ (x_at m c t) _ (g_scr m c _ _) _ rfl _ tr30 k r

/-- A scratch holding the gain in every lane is what a load of the gain sees. -/
theorem scr_eq (c : Dev nD) (X : BufTy.Contents (Elt Ideal) (scM0_0 : Memref sig .tc .vmem S2880x128 .f32).view.ty)
    (hX : ∀ k l, (scM0_0 : Memref sig .tc .vmem S2880x128 .f32).view.read (Elt Ideal) X (ix2 k l) = (args m c).g (ix1 k)) :
    ∃ g : Vec Ideal S2880x128 .f32, (∀ k l, g (ix2 k l) = (args m c).g (ix1 k)) ∧ X = (Memref.isWhole_whole _ : (scM0_0 : Memref sig .tc .vmem S2880x128 .f32).IsWhole).unread g :=
  ⟨_, hX, (Memref.isWhole_whole _ : (scM0_0 : Memref sig .tc .vmem S2880x128 .f32).IsWhole).eq_unread rfl⟩

/-- What the first point stores into the scratch, read back. -/
theorem scr_A (c : Dev nD) (t : Fin cfg0.N) (u : Vec Ideal S2880x128 .f32) (hu : ∀ k l, u (ix2 k l) = (args m c).g (ix1 k)) (k : Fin 2880) (l : Fin 128) :
    (scM0_0 : Memref sig .tc .vmem S2880x128 .f32).view.read (Elt Ideal) ((View.whole cc0_scratch0).writes (Elt Ideal) (View.whole cc0_scratch0).junk
      [⟨Rect.unit ![0, 0] ![2880, 128] inb_S2880x128_S2880x128_0_0, u⟩]) (ix2 k l) = (args m c).g (ix1 k) := by
  refine Eq.trans ?_ (hu k l)
  frame_out

theorem a_A (c : Dev nD) (t : Fin cfg0.N) (h0 : t.val % 4 = 0) (r : Fin 384) :
    (outsAt0 m c t.val t.isLt).2.1 (ix3 0 0 r) = Zq (args m c) (bt t) r := by
  rw [outsAt0_A m c t h0]
  dsimp only
  unfold out0_A_3
  frame_out
  rw [tr30]
  obtain ⟨g, hg, e⟩ := scr_eq m c _ (scr_A m c t _ (fun k l => (gain (iblk m c 1 t) k l).trans (g_at m c t k)))
  refine Eq.trans (congrArg (fun X => k0_pay24 (F := Ideal) (st_k0_t2 (F := Ideal) Variants.none c none (grid0.coords t) (ms0_0 t) (hs0_0 t) (ms0_1 t) (hs0_1 t) (ms0_2 t) (hs0_2 t) (ms0_3 t) (hs0_3 t) scM0_0 (Memref.isWhole_whole _) (st_k0_t1 (F := Ideal) Variants.none c none (grid0.coords t) (ms0_0 t) (hs0_0 t) (ms0_1 t) (hs0_1 t) (ms0_2 t) (hs0_2 t) (ms0_3 t) (hs0_3 t) scM0_0 (Memref.isWhole_whole _) ((hs0_0 t).unread (iblk m c 0 t)) (k0_pay17 (F := Ideal)) 30)
    ((hs0_0 t).unread (iblk m c 0 t)) X (k0_pay20 (F := Ideal)) 30) (ix3 0 0 r)) e) ?_
  exact scaleTok _ _ _ _ _ _ _ _ _ _ _ _ _ _ (args m c) (bt t) _ (x_at m c t) g hg r

theorem c_A (c : Dev nD) (t : Fin cfg0.N) (h0 : t.val % 4 = 0) (k : Fin 2880) (r : Fin 384) :
    (outsAt0 m c t.val t.isLt).1 (ix3 0 k r) = Cq (args m c) (bt t) r k := by
  rw [outsAt0_A m c t h0]
  dsimp only
  unfold out0_A_2
  frame_out
  obtain ⟨g, hg, e⟩ := scr_eq m c _ (scr_A m c t _ (fun k l => (gain (iblk m c 1 t) k l).trans (g_at m c t k)))
  exact codeTok Variants.none c none (grid0.coords t) (ms0_0 t) (hs0_0 t) (ms0_1 t) (hs0_1 t) (ms0_2 t) (hs0_2 t) (ms0_3 t) (hs0_3 t) scM0_0 (Memref.isWhole_whole _) (args m c) (bt t) _ (x_at m c t) g hg _ e _ tr30 k r

theorem a_at (c : Dev nD) (t : Fin cfg0.N) (r : Fin 384) : (outsAt0 m c t.val t.isLt).2.1 (ix3 0 0 r) = Zq (args m c) (bt t) r :=
  (em (t.val % 4 = 0)).elim (fun h => a_A m c t h r) (fun h => a_B m c t h r)

theorem c_at (c : Dev nD) (t : Fin cfg0.N) (k : Fin 2880) (r : Fin 384) : (outsAt0 m c t.val t.isLt).1 (ix3 0 k r) = Cq (args m c) (bt t) r k :=
  (em (t.val % 4 = 0)).elim (fun h => c_A m c t h k r) (fun h => c_B m c t h k r)

/-- The codes after the last grid point. -/
theorem out2 (c : Dev nD) : (dats m 0 c).arrAt 2 cfg0.N = fun i : S4x2880x384.Idx => Cq (args m c) (i 0) (i 2) (i 1) := by
  refine (dats m 0 c).arrAt_eq_of_covers 2 _ (by decide +kernel) fun t hf y => ?_
  blk_simp
  rw [after0_2]
  obtain ⟨b, k, r, rfl⟩ : ∃ (b : Fin 1) (k : Fin 2880) (r : Fin 384), y = ix3 b k r := ⟨y 0, y 1, y 2, eq_ix3 y⟩
  obtain rfl : b = 0 := Subsingleton.elim _ _
  refine (c_at m c t k r).trans ?_
  rw [emb2]
  rfl

/-- The scales after the last grid point. -/
theorem out3 (c : Dev nD) : (dats m 0 c).arrAt 3 cfg0.N = fun i : S4x1x384.Idx => Zq (args m c) (i 0) (i 2) := by
  refine (dats m 0 c).arrAt_eq_of_covers 3 _ (by decide +kernel) fun t hf y => ?_
  blk_simp
  rw [after0_3]
  obtain ⟨b, k, r, rfl⟩ : ∃ (b : Fin 1) (k : Fin 1) (r : Fin 384), y = ix3 b k r := ⟨y 0, y 1, y 2, eq_ix3 y⟩
  obtain rfl : b = 0 := Subsingleton.elim _ _
  obtain rfl : k = 0 := Subsingleton.elim _ _
  refine (a_at m c t r).trans ?_
  rw [emb3]
  rfl

end Cert.QuantXIdeal.Point

end
-- ==== Proof.QRef.lean ====
/-
  The normalise-and-quantise reference: its two result arrays, entry by entry.
-/
module

public import proofs.«01_k».proof.Proof.RefStat
public import proofs.«01_k».proof.Proof.Quant
public import proofs.«01_k».proof.Proof.Gen.QuantXRefIdeal.Frame
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QuantXRefIdeal.Val

open Cert.QuantXRefIdeal Cert.QuantXRefIdeal.Gen Cert.Spec
open Cert.GateUpRefIdeal.Pay (maxred sumred)

section Run

variable {F : FTy → Type} [FloatOps F]
variable (m : (ℓ : Loc nD τ sig) → Buf (Elt F) ℓ) (ρ : Dev nD → PrngReg)

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v1_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_1) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      kept_main_arg0 m r h c,
      kept_main_arg1 m r h c⟩)
    (run_main m ρ)

end Run

/-- The entries, a row per token. -/
def rows (x : Vec Ideal S4x2880x384 .bf16) : FVec Ideal S1536x2880 .f32 :=
  extf .f32 (shapeCast S1536x2880 (transpose S4x384x2880 [0, 2, 1] x transposes_S4x2880x384_p0_2_1_S4x384x2880) shapeCasts_S4x384x2880_S1536x2880) bitsLt_bf16_f32

theorem rows_at (x : Vec Ideal S4x2880x384 .bf16) (R : Fin 1536) (k : Fin 2880) :
    rows x (ix2 R k) = x (ix3 ⟨R.val / 384, by omega⟩ k ⟨R.val % 384, by omega⟩) := by
  unfold rows
  pointwise

theorem row_div (b : Fin 4) (r : Fin 384) (h) : (⟨(row b r).val / 384, h⟩ : Fin 4) = b := Fin.ext (by show (b.val * 384 + r.val) / 384 = b.val; omega)

theorem row_mod (b : Fin 4) (r : Fin 384) (h) : (⟨(row b r).val % 384, h⟩ : Fin 384) = r := Fin.ext (by show (b.val * 384 + r.val) % 384 = r.val; omega)

/-- The rows normalised, from their sums of squares. -/
def normPart (v : FVec Ideal S1536 .f32) (n : FVec Ideal S1536x2880 .f32) (g : Vec Ideal S1x2880 .f32) : FVec Ideal S1536x2880 .f32 :=
  have v8 : FVec Ideal S1536x1 .f32 := shapeCast S1536x1 v shapeCasts_S1536_S1536x1
  have v13 : FVec Ideal S1536x1 .f32 := rsqrt (addf (divf v8 (broadcast S1536x1 (Scalar.ofBits .f32 0x45340000#32 : Ideal .f32))) (broadcast S1536x1 (Scalar.ofBits .f32 0x3727C5AC#32 : Ideal .f32)))
  mulf (mulf n (broadcastTo S1536x2880 v13 broadcasts_S1536x1_S1536x2880))
    (broadcastTo S1536x2880 (shapeCast S1x2880 g shapeCasts_S1x2880_S1x2880) broadcasts_S1x2880_S1536x2880)

theorem normPart_at (v : FVec Ideal S1536 .f32) (n : FVec Ideal S1536x2880 .f32) (g : Vec Ideal S1x2880 .f32) (R : Fin 1536) (k : Fin 2880) :
    normPart v n g (ix2 R k) = n (ix2 R k) * rQ (v (ix1 R)) * g (ix2 0 k) := by
  unfold normPart
  pointwise
  rfl

theorem pay1_eq (x : Vec Ideal S4x2880x384 .bf16) (g : Vec Ideal S1x2880 .f32) :
    k0_pay1 (F := Ideal) x g = normPart (multiReduction .add [1] S1536 (mulf (rows x) (rows x)) 0x00000000#32 reduces_S1536x2880_S1536 (.inl rfl) rfl) (rows x) g := rfl

/-- The scale of a row, from its greatest magnitude. -/
def scalePart (v : FVec Ideal S1536 .f32) : FVec Ideal S1536x1 .f32 :=
  have v20 : FVec Ideal S1536x1 .f32 := shapeCast S1536x1 v shapeCasts_S1536_S1536x1
  select (cmpf .oeq v20 (broadcast S1536x1 (Scalar.ofBits .f32 0x00000000#32 : Ideal .f32))) (broadcast S1536x1 (Scalar.ofBits .f32 0x3F800000#32 : Ideal .f32))
    (divf v20 (broadcast S1536x1 (Scalar.ofBits .f32 0x42FE0000#32 : Ideal .f32)))

theorem scalePart_at (v : FVec Ideal S1536 .f32) (R : Fin 1536) : scalePart v (ix2 R 0) = scaleOf (v (ix1 R)) := by
  unfold scalePart
  pointwise
  rfl

theorem pay2_eq (x : Vec Ideal S4x2880x384 .bf16) (g : Vec Ideal S1x2880 .f32) :
    k0_pay2 (F := Ideal) x g = scalePart (multiReduction .maximumf [1] S1536 (absf (k0_pay1 (F := Ideal) x g)) 0xFF800000#32 reduces_S1536x2880_S1536 (.inl rfl) rfl) := rfl

theorem sit (v : BitVec 32) : (Scalar.sitofp (F := Ideal) .f32 v : EReal) = ((v.toInt : ℝ) : EReal) := rfl

theorem sit127 : (Scalar.sitofp (F := Ideal) .f32 127#32 : EReal) = Ideal.ofBits .f32 1123942400#32 := by
  rw [bits127, sit, show (127#32).toInt = 127 from by decide]
  norm_num

theorem sitN127 : (Scalar.sitofp (F := Ideal) .f32 4294967169#32 : EReal) = Ideal.ofBits .f32 3271426048#32 := by
  rw [bitsN127, sit, show (4294967169#32).toInt = -127 from by decide]
  norm_num

/-- The rows' codes between two bounds. -/
def codePart (lo hi : Ideal .f32) (z : FVec Ideal S1536x1 .f32) (n : FVec Ideal S1536x2880 .f32) : IVec S4x2880x384 8 :=
  transpose S4x2880x384 [0, 2, 1] (shapeCast S4x384x2880 (fptosi (F := Ideal) 8 (minimumf (broadcast S1536x2880 hi) (maximumf (broadcast S1536x2880 lo)
    (roundeven (divf n (broadcastTo S1536x2880 z broadcasts_S1536x1_S1536x2880)))))) shapeCasts_S1536x2880_S4x384x2880) transposes_S4x384x2880_p0_2_1_S4x2880x384

theorem codePart_at (lo hi : Ideal .f32) (z : FVec Ideal S1536x1 .f32) (n : FVec Ideal S1536x2880 .f32) (b : Fin 4) (k : Fin 2880) (r : Fin 384) :
    codePart lo hi z n (ix3 b k r) = Ideal.fptosi 8 (min hi (max lo (Ideal.liftRound Ideal.roundHalfEven (Ideal.div (n (ix2 (row b r) k)) (z (ix2 (row b r) 0)))))) := by
  unfold codePart
  pointwise
  rfl

theorem pay3_eq (x : Vec Ideal S4x2880x384 .bf16) (g : Vec Ideal S1x2880 .f32) :
    k0_pay3 (F := Ideal) x g = codePart (Scalar.sitofp (F := Ideal) .f32 4294967169#32) (Scalar.sitofp (F := Ideal) .f32 127#32) (k0_pay2 (F := Ideal) x g) (k0_pay1 (F := Ideal) x g) := rfl

section Entry

variable (A : QArgs) (x : Vec Ideal S4x2880x384 .bf16) (hx : x = A.x) (g : Vec Ideal S1x2880 .f32) (hg : ∀ k, g (ix2 0 k) = A.g (ix1 k))
include hx hg

theorem pay1 (b : Fin 4) (r : Fin 384) (k : Fin 2880) : k0_pay1 (F := Ideal) x g (ix2 (row b r) k) = Nq A b r k := by
  have e : ∀ k, rows x (ix2 (row b r) k) = A.x (ix3 b k r) := fun k => by rw [rows_at, row_div, row_mod, hx]
  rw [pay1_eq, normPart_at, e, hg]
  refine congrArg (fun σ => A.x (ix3 b k r) * rQ σ * A.g (ix1 k)) ?_
  refine (sumred (n := 2880) _ _ _ _ (row b r)).trans (Finset.sum_congr rfl fun N _ => ?_)
  show rows x (ix2 (row b r) N) * rows x (ix2 (row b r) N) = _
  rw [e]

theorem pay2 (b : Fin 4) (r : Fin 384) : k0_pay2 (F := Ideal) x g (ix2 (row b r) 0) = Zq A b r := by
  rw [pay2_eq, scalePart_at]
  refine congrArg scaleOf ?_
  refine (maxred (n := 2880) _ _ _ _ (row b r)).trans ?_
  refine congrArg fmax (funext fun N => ?_)
  show max (k0_pay1 (F := Ideal) x g (ix2 (row b r) N)) (-(k0_pay1 (F := Ideal) x g (ix2 (row b r) N))) = _
  rw [pay1 A x hx g hg]

theorem pay3 (b : Fin 4) (k : Fin 2880) (r : Fin 384) : k0_pay3 (F := Ideal) x g (ix3 b k r) = Cq A b r k := by
  rw [pay3_eq, codePart_at, sit127, sitN127, pay1 A x hx g hg, pay2 A x hx g hg]
  rfl

theorem pay4 (b : Fin 4) (r : Fin 384) : k0_pay4 (F := Ideal) x g (ix3 b 0 r) = Zq A b r := by
  unfold k0_pay4
  pointwise
  exact pay2 A x hx g hg b r

end Entry

variable (m : (ℓ : Loc nD τ sig) → Buf (Elt Ideal) ℓ)

/-- The reference's arguments on device `c`. -/
def args (c : Dev nD) : QArgs where
  x := m ⟨c, main_arg0⟩
  g := m ⟨c, main_arg1⟩

theorem idx : ∀ t : Fin cfg0.N, win0_0.index t = ![0, 0, 0] ∧ win0_1.index t = ![0, 0]
    ∧ win0_2.index t = ![0, 0, 0] ∧ win0_3.index t = ![0, 0, 0] := by
  decide +kernel

theorem x_eq (c : Dev nD) (t : Fin cfg0.N) : (iblk m c 0 t : S4x2880x384.Idx → EReal) = (args m c).x := by
  obtain ⟨e0, e1, e2, e3⟩ := idx t
  funext i
  rw [eq_ix3 i]
  show _ = m ⟨c, main_arg0⟩ (ix3 _ _ _)
  blk_ext [iblk, V, e0]

theorem g_at (c : Dev nD) (t : Fin cfg0.N) (k : Fin 2880) : iblk m c 1 t (ix2 0 k) = (args m c).g (ix1 k) := by
  obtain ⟨e0, e1, e2, e3⟩ := idx t
  show _ = m ⟨c, main_arg1⟩ (ix1 k)
  show V m c main_v0 ((win0_1.blk t).view.emb (ix2 0 k)) = _
  entry_read
  pointwise
  blk_ext [e1]

theorem emb2 (t : Fin cfg0.N) (y : S4x2880x384.Idx) : ((View.whole main_v1_0).slice (win0_2.rect t)).emb y = y := by
  obtain ⟨e0, e1, e2, e3⟩ := idx t
  blk_ext [e2]

theorem emb3 (t : Fin cfg0.N) (y : S4x1x384.Idx) : ((View.whole main_v1_1).slice (win0_3.rect t)).emb y = y := by
  obtain ⟨e0, e1, e2, e3⟩ := idx t
  blk_ext [e3]

/-- The codes. -/
theorem out2 (c : Dev nD) : (dats m 0 c).arrAt 2 cfg0.N = fun i : S4x2880x384.Idx => Cq (args m c) (i 0) (i 2) (i 1) := by
  refine (dats m 0 c).arrAt_eq_of_covers 2 _ (by decide +kernel) fun t hf y => ?_
  blk_simp
  rw [after0_2]
  unfold out0_2
  frame_out
  obtain ⟨b, k, r, rfl⟩ : ∃ (b : Fin 4) (k : Fin 2880) (r : Fin 384), y = ix3 b k r := ⟨y 0, y 1, y 2, eq_ix3 y⟩
  refine (pay3 (args m c) _ (x_eq m c t) _ (g_at m c t) b k r).trans ?_
  rw [emb2]
  rfl

/-- The scales. -/
theorem out3 (c : Dev nD) : (dats m 0 c).arrAt 3 cfg0.N = fun i : S4x1x384.Idx => Zq (args m c) (i 0) (i 2) := by
  refine (dats m 0 c).arrAt_eq_of_covers 3 _ (by decide +kernel) fun t hf y => ?_
  blk_simp
  rw [after0_3]
  unfold out0_3
  frame_out
  obtain ⟨b, k, r, rfl⟩ : ∃ (b : Fin 4) (k : Fin 1) (r : Fin 384), y = ix3 b k r := ⟨y 0, y 1, y 2, eq_ix3 y⟩
  obtain rfl : k = 0 := Subsingleton.elim _ _
  refine (pay4 (args m c) _ (x_eq m c t) _ (g_at m c t) b r).trans ?_
  rw [emb3]
  rfl

end Cert.QuantXRefIdeal.Val

end
-- ==== Proof.QHPay.lean ====
/-
  What the normalise-and-quantise (of the hidden state) kernel's pieces of arithmetic hold at an index.
-/
module

public import proofs.«01_k».proof.Defs
public import proofs.«01_k».proof.Proof.Gen.QuantHIdeal.Skeleton
public import proofs.«01_k».proof.Proof.Quant
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.QuantHIdeal.Pay

open Cert.QuantHIdeal Cert.QuantHIdeal.Gen Cert.Spec

theorem pay18 (a : FVec Ideal S8x384 .f32) (v : Vec Ideal S1x96x384 .f32) (s : Fin 8) (r : Fin 384) :
    k0_pay18 (F := Ideal) a v (ix2 s r) = a (ix2 s r) + ∑ q : Fin 12, (fun i : Fin 96 => v (ix3 0 i r) * v (ix3 0 i r)) ⟨8 * q.val + s.val, by omega⟩ := by
  unfold k0_pay18
  pointwise
  rw [Fin.sum_univ_castSucc, Fin.sum_univ_castSucc, Fin.sum_univ_castSucc, Fin.sum_univ_castSucc, Fin.sum_univ_eight]
  refine congrArg (a (ix2 s r) + ·) ?_
  have e : (⟨8 * 0 + s.val, by omega⟩ : Fin 96) = ⟨s.val, by omega⟩ := Fin.ext (by show 8 * 0 + s.val = s.val; omega)
  show _ = (fun i : Fin 96 => v (ix3 0 i r) * v (ix3 0 i r)) ⟨8 * 0 + s.val, _⟩ + _ + _ + _ + _ + _ + _ + _ + _ + _ + _ + _
  rw [e]
  rfl

theorem pay19 (v : FVec Ideal S8x384 .f32) (r : Fin 384) : k0_pay19 (F := Ideal) v (ix2 0 r) = rQ (∑ s : Fin 8, v (ix2 s r)) := by
  unfold k0_pay19
  pointwise
  rfl

theorem pay22 (v : FVec Ideal S8x384 .f32) (r : Fin 384) : k0_pay22 (F := Ideal) v (ix2 0 r) = scaleOf (fmax fun s : Fin 8 => v (ix2 s r)) := by
  unfold k0_pay22
  pointwise
  rfl

theorem pay24 (v : FVec Ideal S8x384 .f32) (r : Fin 384) : k0_pay24 (F := Ideal) v (ix3 0 0 r) = scaleOf (fmax fun s : Fin 8 => v (ix2 s r)) := by
  unfold k0_pay24
  pointwise
  exact pay22 v r

/-- A bound on twelve maxima taken one after the other. -/
theorem max12 (A z : EReal) (f : Fin 96 → EReal) (s : Fin 8) :
    max A (max (max (max (max (max (max (max (max (max (max (max (f ⟨s.val, by omega⟩) (f ⟨8 + s.val, by omega⟩)) (f ⟨16 + s.val, by omega⟩)) (f ⟨24 + s.val, by omega⟩)) (f ⟨32 + s.val, by omega⟩)) (f ⟨40 + s.val, by omega⟩)) (f ⟨48 + s.val, by omega⟩)) (f ⟨56 + s.val, by omega⟩)) (f ⟨64 + s.val, by omega⟩)) (f ⟨72 + s.val, by omega⟩)) (f ⟨80 + s.val, by omega⟩)) (f ⟨88 + s.val, by omega⟩))
      ≤ z ↔ A ≤ z ∧ ∀ q : Fin 12, f ⟨8 * q.val + s.val, by omega⟩ ≤ z := by
  have e : (⟨8 * 0 + s.val, by omega⟩ : Fin 96) = ⟨s.val, by omega⟩ := Fin.ext (by show 8 * 0 + s.val = s.val; omega)
  simp only [max_le_iff]
  constructor
  · rintro ⟨hA, ⟨⟨⟨⟨⟨⟨⟨⟨⟨⟨⟨h0, h1⟩, h2⟩, h3⟩, h4⟩, h5⟩, h6⟩, h7⟩, h8⟩, h9⟩, h10⟩, h11⟩⟩
    refine ⟨hA, fun q => ?_⟩
    match q with
    | ⟨0, _⟩ => exact (congrArg f e).le.trans h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
    | ⟨8, _⟩ => exact h8
    | ⟨9, _⟩ => exact h9
    | ⟨10, _⟩ => exact h10
    | ⟨11, _⟩ => exact h11
  · rintro ⟨hA, h⟩
    exact ⟨hA, ⟨⟨⟨⟨⟨⟨⟨⟨⟨⟨⟨(congrArg f e).ge.trans (h 0), h 1⟩, h 2⟩, h 3⟩, h 4⟩, h 5⟩, h 6⟩, h 7⟩, h 8⟩, h 9⟩, h 10⟩, h 11⟩⟩

/-- The block's greatest magnitudes, group by group: what bounds them. -/
theorem pay21 (v5 a : FVec Ideal S8x384 .f32) (v : Vec Ideal S1x96x384 .f32) (g : Vec Ideal S96x128 .f32) (γ : Fin 96 → EReal)
    (hg : ∀ i l, g (ix2 i l) = γ i) (s : Fin 8) (r : Fin 384) (z : EReal) :
    k0_pay21 (F := Ideal) v5 a v g (ix2 s r) ≤ z ↔ a (ix2 s r) ≤ z ∧ ∀ q : Fin 12,
      (fun n : EReal => max n (-n)) ((fun i : Fin 96 => v (ix3 0 i r) * rQ (∑ s : Fin 8, v5 (ix2 s r)) * γ i) ⟨8 * q.val + s.val, by omega⟩) ≤ z := by
  unfold k0_pay21
  pointwise
  simp only [hg, pay19]
  refine Iff.trans (iff_of_eq (congrArg (· ≤ z) ?_)) (max12 (a (ix2 s r)) z (fun i : Fin 96 => (fun n : EReal => max n (-n)) (v (ix3 0 i r) * rQ (∑ s : Fin 8, v5 (ix2 s r)) * γ i)) s)
  by_cases h1 : r.val < 128
  · simp only [dif_pos h1]
    rfl
  · by_cases h2 : r.val - 128 < 128
    · simp only [dif_neg h1, dif_pos h2]
      rfl
    · simp only [dif_neg h1, dif_neg h2]
      rfl

theorem pay23 (v5 v15 : FVec Ideal S8x384 .f32) (v : Vec Ideal S1x96x384 .f32) (g : Vec Ideal S96x128 .f32) (γ : Fin 96 → EReal)
    (hg : ∀ i l, g (ix2 i l) = γ i) (i : Fin 96) (r : Fin 384) (h0 : 0 ≤ fmax fun s : Fin 8 => v15 (ix2 s r)) :
    k0_pay23 (F := Ideal) v5 v15 v g (ix3 0 i r)
      = codeQ (v (ix3 0 i r) * rQ (∑ s : Fin 8, v5 (ix2 s r)) * γ i) (scaleOf (fmax fun s : Fin 8 => v15 (ix2 s r))) := by
  unfold k0_pay23
  pointwise
  simp only [hg, ite_self, dite_eq_ite, pay19, pay22]
  rw [mul_recip _ _ (scale_ne _ h0)]
  rfl

end Cert.QuantHIdeal.Pay

end
-- ==== Proof.QHLoop.lean ====
/-
  The normalise-and-quantise (of the hidden state) kernel's three loops: a token's sum of squares, its greatest magnitude, its codes.
-/
module

public import proofs.«01_k».proof.Proof.QHPay
public import proofs.«01_k».proof.Proof.Wide
public import proofs.«01_k».proof.Proof.Gen.QuantHIdeal.Value

@[expose] public section

set_option maxRecDepth 16384

noncomputable section

open Idealize.ShloMosaic Idealize.ShloMosaic.TcCoe Idealize.SL.Sem
open Idealize.ShloMosaic.Pipeline (Dat)

namespace Cert.QuantHIdeal.Loop

open Cert.QuantHIdeal Cert.QuantHIdeal.Gen Cert.QuantHIdeal.Value Cert.Spec

variable (𝒱 : Variants) (c : Dev nD) (bd : Option 𝒱.V) (i : grid0.Coords) (arg1 : Memref sig .tc .vmem S1x2880x384 .f32) (harg1 : arg1.IsWhole) (arg2 : Memref sig .tc .vmem S1x2880 .f32) (harg2 : arg2.IsWhole) (arg3 : Memref sig .tc .vmem S1x2880x384 .i8) (harg3 : arg3.IsWhole) (arg4 : Memref sig .tc .vmem S1x1x384 .f32) (harg4 : arg4.IsWhole) (arg5 : Memref sig .tc .vmem S2880x128 .f32) (harg5 : arg5.IsWhole)

/-- The feature at a place of a block. -/
def ft (k : ℕ) (j : ℕ) : Fin 2880 := ⟨(96 * k + j) % 2880, Nat.mod_lt _ (by decide)⟩

theorem ft_lt (k : ℕ) (hk : k < 30) (j : Fin 96) : ft k j.val = ⟨96 * k + j.val, by omega⟩ := Fin.ext (Nat.mod_eq_of_lt (by omega))

theorem xld (x : Vec Ideal S1x2880x384 .f32) (k : ℕ) (hk : k < 30) (o : Fin 3 → ℕ) (ho : o = ![0, 96 * k, 0]) (inb) (j : Fin 96) (r : Fin 384) :
    View.ld x (Rect.unit (s := S1x2880x384) o ![1, 96, 384] inb) (ix3 0 j r) = x (ix3 0 (ft k j.val) r) := by
  subst ho
  rw [ft_lt k hk]
  refine congrArg x ?_
  funext a
  match a with
  | ⟨0, _⟩ => rfl
  | ⟨1, _⟩ => exact Fin.ext (by show 96 * k + 1 * j.val = 96 * k + j.val; omega)
  | ⟨2, _⟩ => exact Fin.ext (by show 0 + 1 * r.val = r.val; omega)

theorem gld (g : Vec Ideal S2880x128 .f32) (k : ℕ) (hk : k < 30) (o : Fin 2 → ℕ) (ho : o = ![96 * k, 0]) (inb) (j : Fin 96) (l : Fin 128) :
    View.ld g (Rect.unit (s := S2880x128) o ![96, 128] inb) (ix2 j l) = g (ix2 (ft k j.val) l) := by
  subst ho
  rw [ft_lt k hk]
  refine congrArg g ?_
  funext a
  match a with
  | ⟨0, _⟩ => exact Fin.ext (by show 96 * k + 1 * j.val = 96 * k + j.val; omega)
  | ⟨1, _⟩ => exact Fin.ext (by show 0 + 1 * l.val = l.val; omega)

theorem trips1 : k0_t1_loop.trips = 30 := by decide +kernel
theorem trips2 : k0_t2_loop.trips = 30 := by decide +kernel
theorem trips3 : k0_t3_loop.trips = 30 := by decide +kernel

/-- What a block's groups add to the partial sums of squares. -/
theorem step1 (x : Vec Ideal S1x2880x384 .f32) (acc : FVec Ideal S8x384 .f32) (k : Fin k0_t1_loop.trips) (s : Fin 8) (r : Fin 384) :
    tripR_k0_t1 (F := Ideal) 𝒱 c bd i arg1 harg1 arg2 harg2 arg3 harg3 arg4 harg4 arg5 harg5 (harg1.unread x) k acc (ix2 s r)
      = acc (ix2 s r) + ∑ q : Fin 12, x (ix3 0 (ft k.val (8 * q.val + s.val)) r) * x (ix3 0 (ft k.val (8 * q.val + s.val)) r) := by
  have hk : k.val < 30 := trips1 ▸ k.isLt
  unfold tripR_k0_t1 trip_k0_t1
  frame_out
  refine (Pay.pay18 _ _ s r).trans (congrArg (acc (ix2 s r) + ·) (Finset.sum_congr rfl fun q _ => ?_))
  have e := xld x k.val hk _ (k0_off1_eq k) (k0_off1_inb k) ⟨8 * q.val + s.val, by omega⟩ r
  exact congrArg₂ (· * ·) e e

/-- The partial sums of squares after so many blocks. -/
theorem st1 (x : Vec Ideal S1x2880x384 .f32) (s : Fin 8) (r : Fin 384) : ∀ (n : ℕ) (_ : n ≤ 30),
    st_k0_t1 (F := Ideal) 𝒱 c bd i arg1 harg1 arg2 harg2 arg3 harg3 arg4 harg4 arg5 harg5 (harg1.unread x) (k0_pay17 (F := Ideal)) n (ix2 s r)
      = ∑ k ∈ Finset.range n, ∑ q : Fin 12, x (ix3 0 (ft k (8 * q.val + s.val)) r) * x (ix3 0 (ft k (8 * q.val + s.val)) r)
  | 0, _ => by
    rw [st_k0_t1_zero, Finset.sum_range_zero]
    unfold k0_pay17
    pointwise
  | n + 1, h => by
    rw [Finset.sum_range_succ, ← st1 x s r n (by omega)]
    rw [st_k0_t1_succ (k := ⟨n, by rw [trips1]; omega⟩)]
    exact step1 𝒱 c bd i arg1 harg1 arg2 harg2 arg3 harg3 arg4 harg4 arg5 harg5 x _ ⟨n, by rw [trips1]; omega⟩ s r

/-- What bounds the greatest magnitudes after one more block. -/
theorem step2 (x : Vec Ideal S1x2880x384 .f32) (g : Vec Ideal S2880x128 .f32) (γ : Fin 2880 → EReal) (hg : ∀ k l, g (ix2 k l) = γ k)
    (v5 acc : FVec Ideal S8x384 .f32) (k : Fin k0_t2_loop.trips) (s : Fin 8) (r : Fin 384) (z : EReal) :
    tripR_k0_t2 (F := Ideal) 𝒱 c bd i arg1 harg1 arg2 harg2 arg3 harg3 arg4 harg4 arg5 harg5 v5 (harg1.unread x) (harg5.unread g) k acc (ix2 s r) ≤ z
      ↔ acc (ix2 s r) ≤ z ∧ ∀ q : Fin 12, (fun n : EReal => max n (-n)) (x (ix3 0 (ft k.val (8 * q.val + s.val)) r) * rQ (∑ s : Fin 8, v5 (ix2 s r)) * γ (ft k.val (8 * q.val + s.val))) ≤ z := by
  have hk : k.val < 30 := trips2 ▸ k.isLt
  unfold tripR_k0_t2 trip_k0_t2
  frame_out
  refine (Pay.pay21 v5 acc _ _ (fun j => γ (ft k.val j.val)) (fun j l => (gld g k.val hk _ (k0_off3_eq k) (k0_off3_inb k) j l).trans (hg _ _)) s r z).trans ?_
  refine and_congr_right fun _ => forall_congr' fun q => ?_
  have e := xld x k.val hk _ (k0_off2_eq k) (k0_off2_inb k) ⟨8 * q.val + s.val, by omega⟩ r
  exact iff_of_eq (congrArg (fun y : EReal => (fun n : EReal => max n (-n)) (y * rQ (∑ s : Fin 8, v5 (ix2 s r)) * γ (ft k.val (8 * q.val + s.val))) ≤ z) e)

/-- What bounds the greatest magnitudes after so many blocks. -/
theorem st2 (x : Vec Ideal S1x2880x384 .f32) (g : Vec Ideal S2880x128 .f32) (γ : Fin 2880 → EReal) (hg : ∀ k l, g (ix2 k l) = γ k)
    (v5 : FVec Ideal S8x384 .f32) (s : Fin 8) (r : Fin 384) (z : EReal) : ∀ (n : ℕ) (_ : n ≤ 30),
    st_k0_t2 (F := Ideal) 𝒱 c bd i arg1 harg1 arg2 harg2 arg3 harg3 arg4 harg4 arg5 harg5 v5 (harg1.unread x) (harg5.unread g) (k0_pay20 (F := Ideal)) n (ix2 s r) ≤ z
      ↔ 0 ≤ z ∧ ∀ k < n, ∀ q : Fin 12, (fun n : EReal => max n (-n)) (x (ix3 0 (ft k (8 * q.val + s.val)) r) * rQ (∑ s : Fin 8, v5 (ix2 s r)) * γ (ft k (8 * q.val + s.val))) ≤ z
  | 0, _ => by
    rw [st_k0_t2_zero]
    have e : k0_pay20 (F := Ideal) (ix2 s r) = 0 := by
      unfold k0_pay20
      pointwise
    rw [e]
    simp
  | n + 1, h => by
    rw [st_k0_t2_succ (k := ⟨n, by rw [trips2]; omega⟩)]
    refine (step2 𝒱 c bd i arg1 harg1 arg2 harg2 arg3 harg3 arg4 harg4 arg5 harg5 x g γ hg v5 _ ⟨n, by rw [trips2]; omega⟩ s r z).trans ?_
    refine (and_congr_left' (st2 x g γ hg v5 s r z n (by omega))).trans ?_
    constructor
    · rintro ⟨⟨h0, h1⟩, h2⟩
      refine ⟨h0, fun k hk => ?_⟩
      rcases Nat.lt_succ_iff_lt_or_eq.mp hk with hk | rfl
      · exact h1 k hk
      · exact h2
    · rintro ⟨h0, h1⟩
      exact ⟨⟨h0, fun k hk => h1 k (by omega)⟩, h1 n (by omega)⟩

/-- The codes, block by block, all agree with one function of the feature. -/
theorem pb3 (x : Vec Ideal S1x2880x384 .f32) (g : Vec Ideal S2880x128 .f32) (γ : Fin 2880 → EReal) (hg : ∀ k l, g (ix2 k l) = γ k)
    (v5 v15 : FVec Ideal S8x384 .f32) (h0 : ∀ r, 0 ≤ fmax fun s : Fin 8 => v15 (ix2 s r)) : ∀ (n : ℕ) (_ : n ≤ 30),
    Good (e := .i8) (fun y : S1x2880x384.Idx => codeQ (x (ix3 0 (y 1) (y 2)) * rQ (∑ s : Fin 8, v5 (ix2 s (y 2))) * γ (y 1)) (scaleOf (fmax fun s : Fin 8 => v15 (ix2 s (y 2)))))
      (pb_k0_t3 (F := Ideal) 𝒱 c bd i arg1 harg1 arg2 harg2 arg3 harg3 arg4 harg4 arg5 harg5 v5 v15 (harg1.unread x) (harg5.unread g) n)
  | 0, _ => good_nil
  | n + 1, h => by
    have hk : n < 30 := by omega
    rw [pb_k0_t3_succ (k := ⟨n, by rw [trips3]; omega⟩)]
    unfold tripL_k0_t3 trip_k0_t3
    frame_out
    refine good_cons (fun j => ?_) (pb3 x g γ hg v5 v15 h0 n (by omega))
    obtain ⟨a, i, r, rfl⟩ : ∃ (a : Fin 1) (i : Fin 96) (r : Fin 384), j = ix3 a i r := ⟨j 0, j 1, j 2, eq_ix3 j⟩
    obtain rfl : a = 0 := Subsingleton.elim _ _
    refine (Pay.pay23 v5 v15 _ _ (fun j => γ (ft n j.val)) (fun j l => (gld g n hk _ (k0_off5_eq _) (k0_off5_inb _) j l).trans (hg _ _)) i r (h0 r)).trans ?_
    have e := xld x n hk _ (k0_off4_eq ⟨n, by rw [trips3]; omega⟩) (k0_off4_inb _) i r
    have e1 : (Rect.unit (s := S1x2880x384) (k0_off4 ⟨n, by rw [trips3]; omega⟩) ![1, 96, 384] (k0_off4_inb _)).emb (ix3 0 i r) = ix3 0 (ft n i.val) r := by
      rw [ft_lt n hk]
      funext a
      refine Fin.ext ?_
      show k0_off4 ⟨n, _⟩ a + 1 * (ix3 (0 : Fin 1) i r a).val = _
      rw [k0_off4_eq]
      match a with
      | ⟨0, _⟩ => rfl
      | ⟨1, _⟩ => show 96 * n + 1 * i.val = 96 * n + i.val; omega
      | ⟨2, _⟩ => show 0 + 1 * r.val = r.val; omega
    refine (congrArg (fun y : EReal => codeQ (y * rQ (∑ s : Fin 8, v5 (ix2 s r)) * γ (ft n i.val)) (scaleOf (fmax fun s : Fin 8 => v15 (ix2 s r)))) e).trans ?_
    exact (congrArg (fun y : S1x2880x384.Idx => codeQ (x (ix3 0 (y 1) (y 2)) * rQ (∑ s : Fin 8, v5 (ix2 s (y 2))) * γ (y 1)) (scaleOf (fmax fun s : Fin 8 => v15 (ix2 s (y 2))))) e1).symm

end Cert.QuantHIdeal.Loop

end
-- ==== Proof.QHGain.lean ====
/-
  The gain spread over the lanes, as the normalise-and-quantise (of the hidden state) kernel stores it.
-/
module

public import proofs.«01_k».proof.Defs
public import proofs.«01_k».proof.Proof.Gen.QuantHIdeal.Skeleton
public import proofs.«01_k».proof.Proof.Quant
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.QuantHIdeal.Pay

open Cert.QuantHIdeal Cert.QuantHIdeal.Gen Cert.Spec

theorem pay2 (u : Vec Ideal S1x2880 .f32) (i l : Fin 128) : k0_pay2 (F := Ideal) u (ix2 i l) = u (ix2 0 ⟨0 + i.val, by omega⟩) := by
  unfold k0_pay2 k0_pay1
  pointwise

theorem pay3 (u : Vec Ideal S1x2880 .f32) (i l : Fin 128) : k0_pay3 (F := Ideal) u (ix2 i l) = u (ix2 0 ⟨128 + i.val, by omega⟩) := by
  unfold k0_pay3 k0_pay1
  pointwise

theorem pay4 (u : Vec Ideal S1x2880 .f32) (i l : Fin 128) : k0_pay4 (F := Ideal) u (ix2 i l) = u (ix2 0 ⟨256 + i.val, by omega⟩) := by
  unfold k0_pay4 k0_pay1
  pointwise

theorem pay5 (u : Vec Ideal S1x2880 .f32) (i l : Fin 128) : k0_pay5 (F := Ideal) u (ix2 i l) = u (ix2 0 ⟨384 + i.val, by omega⟩) := by
  unfold k0_pay5 k0_pay1
  pointwise

theorem pay6 (u : Vec Ideal S1x2880 .f32) (i l : Fin 128) : k0_pay6 (F := Ideal) u (ix2 i l) = u (ix2 0 ⟨512 + i.val, by omega⟩) := by
  unfold k0_pay6 k0_pay1
  pointwise

theorem pay7 (u : Vec Ideal S1x2880 .f32) (i l : Fin 128) : k0_pay7 (F := Ideal) u (ix2 i l) = u (ix2 0 ⟨640 + i.val, by omega⟩) := by
  unfold k0_pay7 k0_pay1
  pointwise

theorem pay8 (u : Vec Ideal S1x2880 .f32) (i l : Fin 128) : k0_pay8 (F := Ideal) u (ix2 i l) = u (ix2 0 ⟨768 + i.val, by omega⟩) := by
  unfold k0_pay8 k0_pay1
  pointwise

theorem pay9 (u : Vec Ideal S1x2880 .f32) (i l : Fin 128) : k0_pay9 (F := Ideal) u (ix2 i l) = u (ix2 0 ⟨896 + i.val, by omega⟩) := by
  unfold k0_pay9 k0_pay1
  pointwise

theorem pay10 (u : Vec Ideal S1x2880 .f32) (i l : Fin 128) : k0_pay10 (F := Ideal) u (ix2 i l) = u (ix2 0 ⟨1024 + i.val, by omega⟩) := by
  unfold k0_pay10 k0_pay1
  pointwise

theorem pay11 (u : Vec Ideal S1x2880 .f32) (i l : Fin 128) : k0_pay11 (F := Ideal) u (ix2 i l) = u (ix2 0 ⟨1152 + i.val, by omega⟩) := by
  unfold k0_pay11 k0_pay1
  pointwise

theorem pay12 (u : Vec Ideal S1x2880 .f32) (i l : Fin 128) : k0_pay12 (F := Ideal) u (ix2 i l) = u (ix2 0 ⟨1280 + i.val, by omega⟩) := by
  unfold k0_pay12 k0_pay1
  pointwise

theorem pay13 (u : Vec Ideal S1x2880 .f32) (i l : Fin 128) : k0_pay13 (F := Ideal) u (ix2 i l) = u (ix2 0 ⟨1408 + i.val, by omega⟩) := by
  unfold k0_pay13 k0_pay1
  pointwise

theorem pay14 (u : Vec Ideal S1x2880 .f32) (i l : Fin 128) : k0_pay14 (F := Ideal) u (ix2 i l) = u (ix2 0 ⟨1536 + i.val, by omega⟩) := by
  unfold k0_pay14 k0_pay1
  pointwise

theorem pay15 (u : Vec Ideal S1x2880 .f32) (i l : Fin 128) : k0_pay15 (F := Ideal) u (ix2 i l) = u (ix2 0 ⟨1664 + i.val, by omega⟩) := by
  unfold k0_pay15 k0_pay1
  pointwise

theorem castAt (v : FVec Ideal S2880x128 .f32) (k : Fin 2880) (l : Fin 128) :
    shapeCast S2880x128 v shapeCasts_S2880x128_S2880x128 (ix2 k l) = v (ix2 k l) := by
  pointwise

/-- A stack of blocks of 128 lanes, whose rows from `o` on are the values of `γ`. -/
inductive Stack (γ : ℕ → EReal) : ℕ → List ((s : Shape) × (s.Idx → EReal)) → Prop
  | nil (o : ℕ) : Stack γ o []
  | cons (o n : ℕ) (x : (⟨2, ![n, 128]⟩ : Shape).Idx → EReal) (xs : List ((s : Shape) × (s.Idx → EReal)))
      (hx : ∀ (i : Fin n) (l : Fin 128), x (ix2 i l) = γ (o + i.val)) (h : Stack γ (o + n) xs) : Stack γ o (⟨⟨2, ![n, 128]⟩, x⟩ :: xs)

theorem stackAt (γ : ℕ → EReal) (k : Fin 2880) (l : Fin 128) : ∀ (xs : List ((s : Shape) × (s.Idx → EReal))) (o : ℕ) (hS : Stack γ o xs)
    (hs : ∀ s ∈ xs.map (·.1), s.FitsOff S2880x128 0) (d : ℕ) (hd : d < (axisSizes S2880x128 0 xs).sum),
    concatenateAt S2880x128 0 (ix2 k l) xs hs d hd = γ (o + d)
  | [], _, _, _, _, hd => absurd hd (Nat.not_lt_zero _)
  | [_], o, .cons _ n x _ hx _, hs, d, hd => by
    have hd' : d < n := by
      have e := hd
      rw [axisSizes_cons S2880x128 0 ⟨⟨2, ![n, 128]⟩, x⟩ [] (hs _ List.mem_cons_self)] at e
      simpa [axisSizes] using e
    rw [concatenateAt_singleton, Shape.Idx.norm_def]
    refine Eq.trans (congrArg x (funext fun b => Fin.ext ?_)) (hx ⟨d, hd'⟩ l)
    match b with
    | ⟨0, _⟩ => rfl
    | ⟨1, _⟩ => rfl
  | _ :: q :: xs, o, .cons _ n x _ hx h, hs, d, hd => by
    rw [concatenateAt_cons]
    split
    · next hlt =>
      rw [Shape.Idx.norm_def]
      refine Eq.trans (congrArg x (funext fun b => Fin.ext ?_)) (hx ⟨d, hlt⟩ l)
      match b with
      | ⟨0, _⟩ => rfl
      | ⟨1, _⟩ => rfl
    · next hlt =>
      have hle : n ≤ d := Nat.le_of_not_lt hlt
      refine (stackAt γ k l (q :: xs) (o + n) h _ _ _).trans (congrArg γ ?_)
      show o + n + (d - n) = o + d
      omega

/-- The gain as columns: every column of the stored array is the gain. -/
theorem pay16 (γ : Fin 2880 → EReal) (v31 : FVec Ideal S1x2880 .f32) (v35 v39 v43 v47 v51 v55 v59 v63 v67 v71 v75 v79 v83 v87 : FVec Ideal S128x128 .f32)
    (h31 : ∀ k, v31 (ix2 0 k) = γ k)
    (h35 : ∀ i l, v35 (ix2 i l) = γ ⟨0 + i.val, by omega⟩)
    (h39 : ∀ i l, v39 (ix2 i l) = γ ⟨128 + i.val, by omega⟩)
    (h43 : ∀ i l, v43 (ix2 i l) = γ ⟨256 + i.val, by omega⟩)
    (h47 : ∀ i l, v47 (ix2 i l) = γ ⟨384 + i.val, by omega⟩)
    (h51 : ∀ i l, v51 (ix2 i l) = γ ⟨512 + i.val, by omega⟩)
    (h55 : ∀ i l, v55 (ix2 i l) = γ ⟨640 + i.val, by omega⟩)
    (h59 : ∀ i l, v59 (ix2 i l) = γ ⟨768 + i.val, by omega⟩)
    (h63 : ∀ i l, v63 (ix2 i l) = γ ⟨896 + i.val, by omega⟩)
    (h67 : ∀ i l, v67 (ix2 i l) = γ ⟨1024 + i.val, by omega⟩)
    (h71 : ∀ i l, v71 (ix2 i l) = γ ⟨1152 + i.val, by omega⟩)
    (h75 : ∀ i l, v75 (ix2 i l) = γ ⟨1280 + i.val, by omega⟩)
    (h79 : ∀ i l, v79 (ix2 i l) = γ ⟨1408 + i.val, by omega⟩)
    (h83 : ∀ i l, v83 (ix2 i l) = γ ⟨1536 + i.val, by omega⟩)
    (h87 : ∀ i l, v87 (ix2 i l) = γ ⟨1664 + i.val, by omega⟩)
    (k : Fin 2880) (l : Fin 128) :
    k0_pay16 (F := Ideal) v31 v35 v39 v43 v47 v51 v55 v59 v63 v67 v71 v75 v79 v83 v87 (ix2 k l) = γ k := by
  unfold k0_pay16
  refine (castAt _ k l).trans ?_
  refine (concatenate_apply _ _ _ _ _).trans ?_
  refine (stackAt (fun n => γ ⟨n % 2880, Nat.mod_lt _ (by decide)⟩) k l _ 0 ?_ _ _ _).trans (congrArg γ (Fin.ext (by show (0 + k.val) % 2880 = k.val; have := k.isLt; omega)))
  refine .cons 0 128 _ _ (fun i l => ?_) ?_
  · exact (h35 i l).trans (congrArg γ (Fin.ext (by show 0 + i.val = (0 + i.val) % 2880; omega)))
  refine .cons 128 128 _ _ (fun i l => ?_) ?_
  · exact (h39 i l).trans (congrArg γ (Fin.ext (by show 128 + i.val = (128 + i.val) % 2880; omega)))
  refine .cons 256 128 _ _ (fun i l => ?_) ?_
  · exact (h43 i l).trans (congrArg γ (Fin.ext (by show 256 + i.val = (256 + i.val) % 2880; omega)))
  refine .cons 384 128 _ _ (fun i l => ?_) ?_
  · exact (h47 i l).trans (congrArg γ (Fin.ext (by show 384 + i.val = (384 + i.val) % 2880; omega)))
  refine .cons 512 128 _ _ (fun i l => ?_) ?_
  · exact (h51 i l).trans (congrArg γ (Fin.ext (by show 512 + i.val = (512 + i.val) % 2880; omega)))
  refine .cons 640 128 _ _ (fun i l => ?_) ?_
  · exact (h55 i l).trans (congrArg γ (Fin.ext (by show 640 + i.val = (640 + i.val) % 2880; omega)))
  refine .cons 768 128 _ _ (fun i l => ?_) ?_
  · exact (h59 i l).trans (congrArg γ (Fin.ext (by show 768 + i.val = (768 + i.val) % 2880; omega)))
  refine .cons 896 128 _ _ (fun i l => ?_) ?_
  · exact (h63 i l).trans (congrArg γ (Fin.ext (by show 896 + i.val = (896 + i.val) % 2880; omega)))
  refine .cons 1024 128 _ _ (fun i l => ?_) ?_
  · exact (h67 i l).trans (congrArg γ (Fin.ext (by show 1024 + i.val = (1024 + i.val) % 2880; omega)))
  refine .cons 1152 128 _ _ (fun i l => ?_) ?_
  · exact (h71 i l).trans (congrArg γ (Fin.ext (by show 1152 + i.val = (1152 + i.val) % 2880; omega)))
  refine .cons 1280 128 _ _ (fun i l => ?_) ?_
  · exact (h75 i l).trans (congrArg γ (Fin.ext (by show 1280 + i.val = (1280 + i.val) % 2880; omega)))
  refine .cons 1408 128 _ _ (fun i l => ?_) ?_
  · exact (h79 i l).trans (congrArg γ (Fin.ext (by show 1408 + i.val = (1408 + i.val) % 2880; omega)))
  refine .cons 1536 128 _ _ (fun i l => ?_) ?_
  · exact (h83 i l).trans (congrArg γ (Fin.ext (by show 1536 + i.val = (1536 + i.val) % 2880; omega)))
  refine .cons 1664 128 _ _ (fun i l => ?_) ?_
  · exact (h87 i l).trans (congrArg γ (Fin.ext (by show 1664 + i.val = (1664 + i.val) % 2880; omega)))
  refine .cons 1792 128 _ _ (fun i l => ?_) ?_
  · refine Eq.trans ?_ ((h31 ⟨1792 + i.val, by omega⟩).trans (congrArg γ (Fin.ext (by show 1792 + i.val = (1792 + i.val) % 2880; omega))))
    pointwise
  refine .cons 1920 128 _ _ (fun i l => ?_) ?_
  · refine Eq.trans ?_ ((h31 ⟨1920 + i.val, by omega⟩).trans (congrArg γ (Fin.ext (by show 1920 + i.val = (1920 + i.val) % 2880; omega))))
    pointwise
  refine .cons 2048 128 _ _ (fun i l => ?_) ?_
  · refine Eq.trans ?_ ((h31 ⟨2048 + i.val, by omega⟩).trans (congrArg γ (Fin.ext (by show 2048 + i.val = (2048 + i.val) % 2880; omega))))
    pointwise
  refine .cons 2176 128 _ _ (fun i l => ?_) ?_
  · refine Eq.trans ?_ ((h31 ⟨2176 + i.val, by omega⟩).trans (congrArg γ (Fin.ext (by show 2176 + i.val = (2176 + i.val) % 2880; omega))))
    pointwise
  refine .cons 2304 128 _ _ (fun i l => ?_) ?_
  · refine Eq.trans ?_ ((h31 ⟨2304 + i.val, by omega⟩).trans (congrArg γ (Fin.ext (by show 2304 + i.val = (2304 + i.val) % 2880; omega))))
    pointwise
  refine .cons 2432 128 _ _ (fun i l => ?_) ?_
  · refine Eq.trans ?_ ((h31 ⟨2432 + i.val, by omega⟩).trans (congrArg γ (Fin.ext (by show 2432 + i.val = (2432 + i.val) % 2880; omega))))
    pointwise
  refine .cons 2560 128 _ _ (fun i l => ?_) ?_
  · refine Eq.trans ?_ ((h31 ⟨2560 + i.val, by omega⟩).trans (congrArg γ (Fin.ext (by show 2560 + i.val = (2560 + i.val) % 2880; omega))))
    pointwise
  refine .cons 2688 128 _ _ (fun i l => ?_) ?_
  · refine Eq.trans ?_ ((h31 ⟨2688 + i.val, by omega⟩).trans (congrArg γ (Fin.ext (by show 2688 + i.val = (2688 + i.val) % 2880; omega))))
    pointwise
  refine .cons 2816 64 _ _ (fun i l => ?_) (.nil _)
  refine Eq.trans ?_ ((h31 ⟨2816 + i.val, by omega⟩).trans (congrArg γ (Fin.ext (by show 2816 + i.val = (2816 + i.val) % 2880; omega))))
  pointwise

end Cert.QuantHIdeal.Pay

end
-- ==== Proof.QHKer.lean ====
/-
  The normalise-and-quantise (of the hidden state) kernel's two arrays after its last grid point, entry by entry.
-/
module

public import proofs.«01_k».proof.Proof.QHLoop
public import proofs.«01_k».proof.Proof.QHGain
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QuantHIdeal.Point

open Cert.QuantHIdeal Cert.QuantHIdeal.Gen Cert.QuantHIdeal.Value Cert.QuantHIdeal.Loop Cert.Spec

variable (m : (ℓ : Loc nD τ sig) → Buf (Elt Ideal) ℓ)

/-- The call's arguments on device `c`. -/
def args (c : Dev nD) : QArgs where
  x := m ⟨c, main_arg0⟩
  g := m ⟨c, main_arg1⟩

theorem idx : ∀ t : Fin cfg0.N, win0_0.index t = ![t.val, 0, 0] ∧ win0_1.index t = ![0, 0]
    ∧ win0_2.index t = ![t.val, 0, 0] ∧ win0_3.index t = ![t.val, 0, 0] := by
  decide +kernel

/-- The batch entry of a grid point. -/
def bt (t : Fin cfg0.N) : Fin 4 := ⟨t.val, t.isLt⟩

theorem x_at (c : Dev nD) (t : Fin cfg0.N) (k : Fin 2880) (r : Fin 384) : iblk m c 0 t (ix3 0 k r) = (args m c).x (ix3 (bt t) k r) := by
  obtain ⟨e0, e1, e2, e3⟩ := idx t
  have ht : t.val < 4 := t.isLt
  show _ = m ⟨c, main_arg0⟩ (ix3 (bt t) k r)
  unfold bt
  blk_ext [iblk, V, e0]

theorem g_at (c : Dev nD) (t : Fin cfg0.N) (k : Fin 2880) : iblk m c 1 t (ix2 0 k) = (args m c).g (ix1 k) := by
  obtain ⟨e0, e1, e2, e3⟩ := idx t
  show _ = m ⟨c, main_arg1⟩ (ix1 k)
  show V m c main_v0 ((win0_1.blk t).view.emb (ix2 0 k)) = _
  entry_read
  pointwise
  blk_ext [e1]

theorem pay1 (u : Vec Ideal S1x2880 .f32) (k : Fin 2880) : k0_pay1 (F := Ideal) u (ix2 0 k) = u (ix2 0 k) := by
  unfold k0_pay1
  pointwise

/-- The gain spread over the lanes, from the gain's block. -/
theorem gain (u : Vec Ideal S1x2880 .f32) (k : Fin 2880) (l : Fin 128) :
    k0_pay16 (F := Ideal) (k0_pay1 u) (k0_pay2 u) (k0_pay3 u) (k0_pay4 u) (k0_pay5 u) (k0_pay6 u) (k0_pay7 u) (k0_pay8 u) (k0_pay9 u) (k0_pay10 u) (k0_pay11 u)
      (k0_pay12 u) (k0_pay13 u) (k0_pay14 u) (k0_pay15 u) (ix2 k l) = u (ix2 0 k) :=
  Pay.pay16 (fun k => u (ix2 0 k)) _ _ _ _ _ _ _ _ _ _ _ _ _ _ _ (pay1 u) (Pay.pay2 u) (Pay.pay3 u) (Pay.pay4 u) (Pay.pay5 u) (Pay.pay6 u) (Pay.pay7 u) (Pay.pay8 u)
    (Pay.pay9 u) (Pay.pay10 u) (Pay.pay11 u) (Pay.pay12 u) (Pay.pay13 u) (Pay.pay14 u) (Pay.pay15 u) k l

theorem g_A (c : Dev nD) (t : Fin cfg0.N) (h0 : t.val % 4 = 0) (k : Fin 2880) (l : Fin 128) :
    (outsAt0 m c t.val t.isLt).2.2 (ix2 k l) = (args m c).g (ix1 k) := by
  rw [outsAt0_A m c t h0]
  dsimp only
  unfold sout0_A_0
  frame_out
  exact (gain (iblk m c 1 t) k l).trans (g_at m c t k)

theorem g_B (c : Dev nD) (t : Fin cfg0.N) (h0 : ¬ t.val % 4 = 0) :
    (outsAt0 m c t.val t.isLt).2.2 = (outsAt0 m c (t.val - 1) (Nat.lt_of_le_of_lt (Nat.sub_le _ _) t.isLt)).2.2 := by
  rw [outsAt0_B m c t h0]
  rfl

/-- At every point the scratch holds the gain in every lane. -/
theorem g_scr (c : Dev nD) : ∀ (n : ℕ) (hn : n < cfg0.N) (k : Fin 2880) (l : Fin 128), (outsAt0 m c n hn).2.2 (ix2 k l) = (args m c).g (ix1 k)
  | 0, hn, k, l => g_A m c ⟨0, hn⟩ rfl k l
  | n + 1, hn, k, l => by
    have h4 : n + 1 < 4 := hn
    rw [g_B m c ⟨n + 1, hn⟩ (by show ¬ (n + 1) % 4 = 0; omega)]
    exact g_scr c n (Nat.lt_of_succ_lt hn) k l

theorem max_nonneg (A : QArgs) (b : Fin 4) (r : Fin 384) : 0 ≤ fmax fun k => max (Nq A b r k) (-(Nq A b r k)) :=
  (max_neg_nonneg (Nq A b r 0)).trans ((fmax_le (fun k => max (Nq A b r k) (-(Nq A b r k))) _).mp le_rfl 0)

section Token

variable (𝒱 : Variants) (c : Dev nD) (bd : Option 𝒱.V) (i : grid0.Coords) (arg1 : Memref sig .tc .vmem S1x2880x384 .f32) (harg1 : arg1.IsWhole) (arg2 : Memref sig .tc .vmem S1x2880 .f32) (harg2 : arg2.IsWhole) (arg3 : Memref sig .tc .vmem S1x2880x384 .i8) (harg3 : arg3.IsWhole) (arg4 : Memref sig .tc .vmem S1x1x384 .f32) (harg4 : arg4.IsWhole) (arg5 : Memref sig .tc .vmem S2880x128 .f32) (harg5 : arg5.IsWhole)
variable (A : QArgs) (b : Fin 4) (x : Vec Ideal S1x2880x384 .f32) (hx : ∀ k r, x (ix3 0 k r) = A.x (ix3 b k r))
  (g : Vec Ideal S2880x128 .f32) (hg : ∀ k l, g (ix2 k l) = A.g (ix1 k))

include hx in
theorem sumAt (r : Fin 384) : (∑ s : Fin 8, st_k0_t1 (F := Ideal) 𝒱 c bd i arg1 harg1 arg2 harg2 arg3 harg3 arg4 harg4 arg5 harg5 (harg1.unread x) (k0_pay17 (F := Ideal)) 30 (ix2 s r)) = Qq A b r := by
  simp only [st1 𝒱 c bd i arg1 harg1 arg2 harg2 arg3 harg3 arg4 harg4 arg5 harg5 x _ r 30 le_rfl, hx]
  exact sumFeat fun k => A.x (ix3 b k r) * A.x (ix3 b k r)

/-- Every feature lies in a block, a group and a place. -/
theorem ft_all (P : Fin 2880 → Prop) (h : ∀ (s : Fin 8), ∀ k < 30, ∀ q : Fin 12, P (ft k (8 * q.val + s.val))) (n : Fin 2880) : P n := by
  have hn := n.isLt
  have e := h ⟨n.val % 8, Nat.mod_lt _ (by decide)⟩ (n.val / 96) (by omega) ⟨n.val % 96 / 8, by omega⟩
  have e' : ft (n.val / 96) (8 * (n.val % 96 / 8) + n.val % 8) = n := Fin.ext (by show (96 * (n.val / 96) + (8 * (n.val % 96 / 8) + n.val % 8)) % 2880 = n.val; omega)
  exact e' ▸ e

include hx hg in
theorem maxAt (v5 : FVec Ideal S8x384 .f32) (r : Fin 384) (h5 : (∑ s : Fin 8, v5 (ix2 s r)) = Qq A b r) :
    (fmax fun s : Fin 8 => st_k0_t2 (F := Ideal) 𝒱 c bd i arg1 harg1 arg2 harg2 arg3 harg3 arg4 harg4 arg5 harg5 v5 (harg1.unread x) (harg5.unread g) (k0_pay20 (F := Ideal)) 30 (ix2 s r))
      = fmax fun k => max (Nq A b r k) (-(Nq A b r k)) := by
  refine eq_of_forall_ge_iff fun z => ?_
  rw [fmax_le, fmax_le]
  have hs := fun s => st2 𝒱 c bd i arg1 harg1 arg2 harg2 arg3 harg3 arg4 harg4 arg5 harg5 x g (fun k => A.g (ix1 k)) hg v5 s r z 30 le_rfl
  simp only [h5, hx] at hs
  constructor
  · intro h
    exact ft_all (fun k => max (Nq A b r k) (-(Nq A b r k)) ≤ z) fun s k hk q => ((hs s).mp (h s)).2 k hk q
  · intro h s
    exact (hs s).mpr ⟨(max_neg_nonneg _).trans (h 0), fun k _ q => h (ft k (8 * q.val + s.val))⟩

include hx hg in
theorem scaleTok (r : Fin 384) : k0_pay24 (F := Ideal) (st_k0_t2 (F := Ideal) 𝒱 c bd i arg1 harg1 arg2 harg2 arg3 harg3 arg4 harg4 arg5 harg5 (st_k0_t1 (F := Ideal) 𝒱 c bd i arg1 harg1 arg2 harg2 arg3 harg3 arg4 harg4 arg5 harg5 (harg1.unread x) (k0_pay17 (F := Ideal)) 30) (harg1.unread x) (harg5.unread g) (k0_pay20 (F := Ideal)) 30) (ix3 0 0 r) = Zq A b r :=
  (Pay.pay24 _ r).trans (congrArg scaleOf (maxAt 𝒱 c bd i arg1 harg1 arg2 harg2 arg3 harg3 arg4 harg4 arg5 harg5 A b x hx g hg _ r (sumAt 𝒱 c bd i arg1 harg1 arg2 harg2 arg3 harg3 arg4 harg4 arg5 harg5 A b x hx r)))

/-- The last loop's stores cover the block of codes. -/
theorem codeCov (v5 v15 : FVec Ideal S8x384 .f32) (X1 : BufTy.Contents (Elt Ideal) arg1.view.ty) (X5 : BufTy.Contents (Elt Ideal) arg5.view.ty) (y : S1x2880x384.Idx) :
    ∃ p ∈ pb_k0_t3 (F := Ideal) 𝒱 c bd i arg1 harg1 arg2 harg2 arg3 harg3 arg4 harg4 arg5 harg5 v5 v15 X1 X5 30, y ∈ p.1.set :=
  View.cover_of_tiledL (pb_k0_t3 (F := Ideal) 𝒱 c bd i arg1 harg1 arg2 harg2 arg3 harg3 arg4 harg4 arg5 harg5 v5 v15 X1 X5 30) S1x96x384.size (by sl_kernel_rfl) y

include hx hg in
theorem codeTok (X : BufTy.Contents (Elt Ideal) arg5.view.ty) (hX : X = harg5.unread g) (N : ℕ) (hN : N = 30) (k : Fin 2880) (r : Fin 384) :
    View.canon (pb_k0_t3 (F := Ideal) 𝒱 c bd i arg1 harg1 arg2 harg2 arg3 harg3 arg4 harg4 arg5 harg5 (st_k0_t1 (F := Ideal) 𝒱 c bd i arg1 harg1 arg2 harg2 arg3 harg3 arg4 harg4 arg5 harg5 (harg1.unread x) (k0_pay17 (F := Ideal)) N) (st_k0_t2 (F := Ideal) 𝒱 c bd i arg1 harg1 arg2 harg2 arg3 harg3 arg4 harg4 arg5 harg5 (st_k0_t1 (F := Ideal) 𝒱 c bd i arg1 harg1 arg2 harg2 arg3 harg3 arg4 harg4 arg5 harg5 (harg1.unread x) (k0_pay17 (F := Ideal)) N) (harg1.unread x) X (k0_pay20 (F := Ideal)) N) (harg1.unread x) X N) (ix3 0 k r) = Cq A b r k := by
  subst hN hX
  have h1 := fun r => sumAt 𝒱 c bd i arg1 harg1 arg2 harg2 arg3 harg3 arg4 harg4 arg5 harg5 A b x hx r
  have h2 := fun r => maxAt 𝒱 c bd i arg1 harg1 arg2 harg2 arg3 harg3 arg4 harg4 arg5 harg5 A b x hx g hg _ r (h1 r)
  refine (canon_of (e := .i8) _ _ (ix3 0 k r) (pb3 𝒱 c bd i arg1 harg1 arg2 harg2 arg3 harg3 arg4 harg4 arg5 harg5 x g (fun k => A.g (ix1 k)) hg _ _
    (fun r => (h2 r).symm ▸ max_nonneg A b r) 30 le_rfl) (codeCov 𝒱 c bd i arg1 harg1 arg2 harg2 arg3 harg3 arg4 harg4 arg5 harg5 _ _ _ _ _)).trans ?_
  show codeQ (x (ix3 0 k r) * rQ (∑ s : Fin 8, (st_k0_t1 (F := Ideal) 𝒱 c bd i arg1 harg1 arg2 harg2 arg3 harg3 arg4 harg4 arg5 harg5 (harg1.unread x) (k0_pay17 (F := Ideal)) 30) (ix2 s r)) * A.g (ix1 k)) (scaleOf (fmax fun s : Fin 8 => (st_k0_t2 (F := Ideal) 𝒱 c bd i arg1 harg1 arg2 harg2 arg3 harg3 arg4 harg4 arg5 harg5 (st_k0_t1 (F := Ideal) 𝒱 c bd i arg1 harg1 arg2 harg2 arg3 harg3 arg4 harg4 arg5 harg5 (harg1.unread x) (k0_pay17 (F := Ideal)) 30) (harg1.unread x) (harg5.unread g) (k0_pay20 (F := Ideal)) 30) (ix2 s r))) = _
  rw [h1 r, h2 r, hx]
  rfl

end Token

theorem emb2 (t : Fin cfg0.N) (k : Fin 2880) (r : Fin 384) : ((View.whole main_v1_0).slice (win0_2.rect t)).emb (ix3 0 k r) = ix3 (bt t) k r := by
  obtain ⟨e0, e1, e2, e3⟩ := idx t
  have ht : t.val < 4 := t.isLt
  unfold bt
  blk_ext [e2]

theorem emb3 (t : Fin cfg0.N) (r : Fin 384) : ((View.whole main_v1_1).slice (win0_3.rect t)).emb (ix3 0 0 r) = ix3 (bt t) 0 r := by
  obtain ⟨e0, e1, e2, e3⟩ := idx t
  have ht : t.val < 4 := t.isLt
  unfold bt
  blk_ext [e3]

theorem tr30 : Scf.trips (0#32) (Scalar.addi 0#32 30#32) 1#32 = 30 := by decide +kernel

theorem a_B (c : Dev nD) (t : Fin cfg0.N) (h0 : ¬ t.val % 4 = 0) (r : Fin 384) :
    (outsAt0 m c t.val t.isLt).2.1 (ix3 0 0 r) = Zq (args m c) (bt t) r := by
  rw [outsAt0_B m c t h0]
  dsimp only
  unfold out0_B_3
  frame_out
  rw [tr30]
  exact scaleTok _ _ _ _ _ _ _ _ _ _ _ _ _ _ (args m c) (bt t) _ (x_at m c t) _ (g_scr m c _ _) r

theorem c_B (c : Dev nD) (t : Fin cfg0.N) (h0 : ¬ t.val % 4 = 0) (k : Fin 2880) (r : Fin 384) :
    (outsAt0 m c t.val t.isLt).1 (ix3 0 k r) = Cq (args m c) (bt t) r k := by
  rw [outsAt0_B m c t h0]
  dsimp only
  unfold out0_B_2
  frame_out
  refine codeTok Variants.none c none (grid0.coords t) (ms0_0 t) (hs0_0 t) (ms0_1 t) (hs0_1 t) (ms0_2 t) (hs0_2 t) (ms0_3 t) (hs0_3 t) scM0_0 (Memref.isWhole_whole _) (args m c) (bt t) _ (x_at m c t) _ (g_scr m c _ _) _ rfl _ tr30 k r

/-- A scratch holding the gain in every lane is what a load of the gain sees. -/
theorem scr_eq (c : Dev nD) (X : BufTy.Contents (Elt Ideal) (scM0_0 : Memref sig .tc .vmem S2880x128 .f32).view.ty)
    (hX : ∀ k l, (scM0_0 : Memref sig .tc .vmem S2880x128 .f32).view.read (Elt Ideal) X (ix2 k l) = (args m c).g (ix1 k)) :
    ∃ g : Vec Ideal S2880x128 .f32, (∀ k l, g (ix2 k l) = (args m c).g (ix1 k)) ∧ X = (Memref.isWhole_whole _ : (scM0_0 : Memref sig .tc .vmem S2880x128 .f32).IsWhole).unread g :=
  ⟨_, hX, (Memref.isWhole_whole _ : (scM0_0 : Memref sig .tc .vmem S2880x128 .f32).IsWhole).eq_unread rfl⟩

/-- What the first point stores into the scratch, read back. -/
theorem scr_A (c : Dev nD) (t : Fin cfg0.N) (u : Vec Ideal S2880x128 .f32) (hu : ∀ k l, u (ix2 k l) = (args m c).g (ix1 k)) (k : Fin 2880) (l : Fin 128) :
    (scM0_0 : Memref sig .tc .vmem S2880x128 .f32).view.read (Elt Ideal) ((View.whole cc0_scratch0).writes (Elt Ideal) (View.whole cc0_scratch0).junk
      [⟨Rect.unit ![0, 0] ![2880, 128] inb_S2880x128_S2880x128_0_0, u⟩]) (ix2 k l) = (args m c).g (ix1 k) := by
  refine Eq.trans ?_ (hu k l)
  frame_out

theorem a_A (c : Dev nD) (t : Fin cfg0.N) (h0 : t.val % 4 = 0) (r : Fin 384) :
    (outsAt0 m c t.val t.isLt).2.1 (ix3 0 0 r) = Zq (args m c) (bt t) r := by
  rw [outsAt0_A m c t h0]
  dsimp only
  unfold out0_A_3
  frame_out
  rw [tr30]
  obtain ⟨g, hg, e⟩ := scr_eq m c _ (scr_A m c t _ (fun k l => (gain (iblk m c 1 t) k l).trans (g_at m c t k)))
  refine Eq.trans (congrArg (fun X => k0_pay24 (F := Ideal) (st_k0_t2 (F := Ideal) Variants.none c none (grid0.coords t) (ms0_0 t) (hs0_0 t) (ms0_1 t) (hs0_1 t) (ms0_2 t) (hs0_2 t) (ms0_3 t) (hs0_3 t) scM0_0 (Memref.isWhole_whole _) (st_k0_t1 (F := Ideal) Variants.none c none (grid0.coords t) (ms0_0 t) (hs0_0 t) (ms0_1 t) (hs0_1 t) (ms0_2 t) (hs0_2 t) (ms0_3 t) (hs0_3 t) scM0_0 (Memref.isWhole_whole _) ((hs0_0 t).unread (iblk m c 0 t)) (k0_pay17 (F := Ideal)) 30)
    ((hs0_0 t).unread (iblk m c 0 t)) X (k0_pay20 (F := Ideal)) 30) (ix3 0 0 r)) e) ?_
  exact scaleTok _ _ _ _ _ _ _ _ _ _ _ _ _ _ (args m c) (bt t) _ (x_at m c t) g hg r

theorem c_A (c : Dev nD) (t : Fin cfg0.N) (h0 : t.val % 4 = 0) (k : Fin 2880) (r : Fin 384) :
    (outsAt0 m c t.val t.isLt).1 (ix3 0 k r) = Cq (args m c) (bt t) r k := by
  rw [outsAt0_A m c t h0]
  dsimp only
  unfold out0_A_2
  frame_out
  obtain ⟨g, hg, e⟩ := scr_eq m c _ (scr_A m c t _ (fun k l => (gain (iblk m c 1 t) k l).trans (g_at m c t k)))
  exact codeTok Variants.none c none (grid0.coords t) (ms0_0 t) (hs0_0 t) (ms0_1 t) (hs0_1 t) (ms0_2 t) (hs0_2 t) (ms0_3 t) (hs0_3 t) scM0_0 (Memref.isWhole_whole _) (args m c) (bt t) _ (x_at m c t) g hg _ e _ tr30 k r

theorem a_at (c : Dev nD) (t : Fin cfg0.N) (r : Fin 384) : (outsAt0 m c t.val t.isLt).2.1 (ix3 0 0 r) = Zq (args m c) (bt t) r :=
  (em (t.val % 4 = 0)).elim (fun h => a_A m c t h r) (fun h => a_B m c t h r)

theorem c_at (c : Dev nD) (t : Fin cfg0.N) (k : Fin 2880) (r : Fin 384) : (outsAt0 m c t.val t.isLt).1 (ix3 0 k r) = Cq (args m c) (bt t) r k :=
  (em (t.val % 4 = 0)).elim (fun h => c_A m c t h k r) (fun h => c_B m c t h k r)

/-- The codes after the last grid point. -/
theorem out2 (c : Dev nD) : (dats m 0 c).arrAt 2 cfg0.N = fun i : S4x2880x384.Idx => Cq (args m c) (i 0) (i 2) (i 1) := by
  refine (dats m 0 c).arrAt_eq_of_covers 2 _ (by decide +kernel) fun t hf y => ?_
  blk_simp
  rw [after0_2]
  obtain ⟨b, k, r, rfl⟩ : ∃ (b : Fin 1) (k : Fin 2880) (r : Fin 384), y = ix3 b k r := ⟨y 0, y 1, y 2, eq_ix3 y⟩
  obtain rfl : b = 0 := Subsingleton.elim _ _
  refine (c_at m c t k r).trans ?_
  rw [emb2]
  rfl

/-- The scales after the last grid point. -/
theorem out3 (c : Dev nD) : (dats m 0 c).arrAt 3 cfg0.N = fun i : S4x1x384.Idx => Zq (args m c) (i 0) (i 2) := by
  refine (dats m 0 c).arrAt_eq_of_covers 3 _ (by decide +kernel) fun t hf y => ?_
  blk_simp
  rw [after0_3]
  obtain ⟨b, k, r, rfl⟩ : ∃ (b : Fin 1) (k : Fin 1) (r : Fin 384), y = ix3 b k r := ⟨y 0, y 1, y 2, eq_ix3 y⟩
  obtain rfl : b = 0 := Subsingleton.elim _ _
  obtain rfl : k = 0 := Subsingleton.elim _ _
  refine (a_at m c t r).trans ?_
  rw [emb3]
  rfl

end Cert.QuantHIdeal.Point

end
-- ==== Proof.QHRef.lean ====
/-
  The normalise-and-quantise (of the hidden state) reference: its two result arrays, entry by entry.
-/
module

public import proofs.«01_k».proof.Proof.RefStat
public import proofs.«01_k».proof.Proof.Quant
public import proofs.«01_k».proof.Proof.Gen.QuantHRefIdeal.Frame
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QuantHRefIdeal.Val

open Cert.QuantHRefIdeal Cert.QuantHRefIdeal.Gen Cert.Spec
open Cert.GateUpRefIdeal.Pay (maxred sumred)

section Run

variable {F : FTy → Type} [FloatOps F]
variable (m : (ℓ : Loc nD τ sig) → Buf (Elt F) ℓ) (ρ : Dev nD → PrngReg)

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v1_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_1) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      kept_main_arg0 m r h c,
      kept_main_arg1 m r h c⟩)
    (run_main m ρ)

end Run

/-- The entries, a row per token. -/
def rows (x : Vec Ideal S4x2880x384 .f32) : FVec Ideal S1536x2880 .f32 :=
  shapeCast S1536x2880 (transpose S4x384x2880 [0, 2, 1] x transposes_S4x2880x384_p0_2_1_S4x384x2880) shapeCasts_S4x384x2880_S1536x2880

theorem rows_at (x : Vec Ideal S4x2880x384 .f32) (R : Fin 1536) (k : Fin 2880) :
    rows x (ix2 R k) = x (ix3 ⟨R.val / 384, by omega⟩ k ⟨R.val % 384, by omega⟩) := by
  unfold rows
  pointwise

theorem row_div (b : Fin 4) (r : Fin 384) (h) : (⟨(row b r).val / 384, h⟩ : Fin 4) = b := Fin.ext (by show (b.val * 384 + r.val) / 384 = b.val; omega)

theorem row_mod (b : Fin 4) (r : Fin 384) (h) : (⟨(row b r).val % 384, h⟩ : Fin 384) = r := Fin.ext (by show (b.val * 384 + r.val) % 384 = r.val; omega)

/-- The rows normalised, from their sums of squares. -/
def normPart (v : FVec Ideal S1536 .f32) (n : FVec Ideal S1536x2880 .f32) (g : Vec Ideal S1x2880 .f32) : FVec Ideal S1536x2880 .f32 :=
  have v8 : FVec Ideal S1536x1 .f32 := shapeCast S1536x1 v shapeCasts_S1536_S1536x1
  have v13 : FVec Ideal S1536x1 .f32 := rsqrt (addf (divf v8 (broadcast S1536x1 (Scalar.ofBits .f32 0x45340000#32 : Ideal .f32))) (broadcast S1536x1 (Scalar.ofBits .f32 0x3727C5AC#32 : Ideal .f32)))
  mulf (mulf n (broadcastTo S1536x2880 v13 broadcasts_S1536x1_S1536x2880))
    (broadcastTo S1536x2880 (shapeCast S1x2880 g shapeCasts_S1x2880_S1x2880) broadcasts_S1x2880_S1536x2880)

theorem normPart_at (v : FVec Ideal S1536 .f32) (n : FVec Ideal S1536x2880 .f32) (g : Vec Ideal S1x2880 .f32) (R : Fin 1536) (k : Fin 2880) :
    normPart v n g (ix2 R k) = n (ix2 R k) * rQ (v (ix1 R)) * g (ix2 0 k) := by
  unfold normPart
  pointwise
  rfl

theorem pay1_eq (x : Vec Ideal S4x2880x384 .f32) (g : Vec Ideal S1x2880 .f32) :
    k0_pay1 (F := Ideal) x g = normPart (multiReduction .add [1] S1536 (mulf (rows x) (rows x)) 0x00000000#32 reduces_S1536x2880_S1536 (.inl rfl) rfl) (rows x) g := rfl

/-- The scale of a row, from its greatest magnitude. -/
def scalePart (v : FVec Ideal S1536 .f32) : FVec Ideal S1536x1 .f32 :=
  have v20 : FVec Ideal S1536x1 .f32 := shapeCast S1536x1 v shapeCasts_S1536_S1536x1
  select (cmpf .oeq v20 (broadcast S1536x1 (Scalar.ofBits .f32 0x00000000#32 : Ideal .f32))) (broadcast S1536x1 (Scalar.ofBits .f32 0x3F800000#32 : Ideal .f32))
    (divf v20 (broadcast S1536x1 (Scalar.ofBits .f32 0x42FE0000#32 : Ideal .f32)))

theorem scalePart_at (v : FVec Ideal S1536 .f32) (R : Fin 1536) : scalePart v (ix2 R 0) = scaleOf (v (ix1 R)) := by
  unfold scalePart
  pointwise
  rfl

theorem pay2_eq (x : Vec Ideal S4x2880x384 .f32) (g : Vec Ideal S1x2880 .f32) :
    k0_pay2 (F := Ideal) x g = scalePart (multiReduction .maximumf [1] S1536 (absf (k0_pay1 (F := Ideal) x g)) 0xFF800000#32 reduces_S1536x2880_S1536 (.inl rfl) rfl) := rfl

theorem sit (v : BitVec 32) : (Scalar.sitofp (F := Ideal) .f32 v : EReal) = ((v.toInt : ℝ) : EReal) := rfl

theorem sit127 : (Scalar.sitofp (F := Ideal) .f32 127#32 : EReal) = Ideal.ofBits .f32 1123942400#32 := by
  rw [bits127, sit, show (127#32).toInt = 127 from by decide]
  norm_num

theorem sitN127 : (Scalar.sitofp (F := Ideal) .f32 4294967169#32 : EReal) = Ideal.ofBits .f32 3271426048#32 := by
  rw [bitsN127, sit, show (4294967169#32).toInt = -127 from by decide]
  norm_num

/-- The rows' codes between two bounds. -/
def codePart (lo hi : Ideal .f32) (z : FVec Ideal S1536x1 .f32) (n : FVec Ideal S1536x2880 .f32) : IVec S4x2880x384 8 :=
  transpose S4x2880x384 [0, 2, 1] (shapeCast S4x384x2880 (fptosi (F := Ideal) 8 (minimumf (broadcast S1536x2880 hi) (maximumf (broadcast S1536x2880 lo)
    (roundeven (divf n (broadcastTo S1536x2880 z broadcasts_S1536x1_S1536x2880)))))) shapeCasts_S1536x2880_S4x384x2880) transposes_S4x384x2880_p0_2_1_S4x2880x384

theorem codePart_at (lo hi : Ideal .f32) (z : FVec Ideal S1536x1 .f32) (n : FVec Ideal S1536x2880 .f32) (b : Fin 4) (k : Fin 2880) (r : Fin 384) :
    codePart lo hi z n (ix3 b k r) = Ideal.fptosi 8 (min hi (max lo (Ideal.liftRound Ideal.roundHalfEven (Ideal.div (n (ix2 (row b r) k)) (z (ix2 (row b r) 0)))))) := by
  unfold codePart
  pointwise
  rfl

theorem pay3_eq (x : Vec Ideal S4x2880x384 .f32) (g : Vec Ideal S1x2880 .f32) :
    k0_pay3 (F := Ideal) x g = codePart (Scalar.sitofp (F := Ideal) .f32 4294967169#32) (Scalar.sitofp (F := Ideal) .f32 127#32) (k0_pay2 (F := Ideal) x g) (k0_pay1 (F := Ideal) x g) := rfl

section Entry

variable (A : QArgs) (x : Vec Ideal S4x2880x384 .f32) (hx : x = A.x) (g : Vec Ideal S1x2880 .f32) (hg : ∀ k, g (ix2 0 k) = A.g (ix1 k))
include hx hg

theorem pay1 (b : Fin 4) (r : Fin 384) (k : Fin 2880) : k0_pay1 (F := Ideal) x g (ix2 (row b r) k) = Nq A b r k := by
  have e : ∀ k, rows x (ix2 (row b r) k) = A.x (ix3 b k r) := fun k => by rw [rows_at, row_div, row_mod, hx]
  rw [pay1_eq, normPart_at, e, hg]
  refine congrArg (fun σ => A.x (ix3 b k r) * rQ σ * A.g (ix1 k)) ?_
  refine (sumred (n := 2880) _ _ _ _ (row b r)).trans (Finset.sum_congr rfl fun N _ => ?_)
  show rows x (ix2 (row b r) N) * rows x (ix2 (row b r) N) = _
  rw [e]

theorem pay2 (b : Fin 4) (r : Fin 384) : k0_pay2 (F := Ideal) x g (ix2 (row b r) 0) = Zq A b r := by
  rw [pay2_eq, scalePart_at]
  refine congrArg scaleOf ?_
  refine (maxred (n := 2880) _ _ _ _ (row b r)).trans ?_
  refine congrArg fmax (funext fun N => ?_)
  show max (k0_pay1 (F := Ideal) x g (ix2 (row b r) N)) (-(k0_pay1 (F := Ideal) x g (ix2 (row b r) N))) = _
  rw [pay1 A x hx g hg]

theorem pay3 (b : Fin 4) (k : Fin 2880) (r : Fin 384) : k0_pay3 (F := Ideal) x g (ix3 b k r) = Cq A b r k := by
  rw [pay3_eq, codePart_at, sit127, sitN127, pay1 A x hx g hg, pay2 A x hx g hg]
  rfl

theorem pay4 (b : Fin 4) (r : Fin 384) : k0_pay4 (F := Ideal) x g (ix3 b 0 r) = Zq A b r := by
  unfold k0_pay4
  pointwise
  exact pay2 A x hx g hg b r

end Entry

variable (m : (ℓ : Loc nD τ sig) → Buf (Elt Ideal) ℓ)

/-- The reference's arguments on device `c`. -/
def args (c : Dev nD) : QArgs where
  x := m ⟨c, main_arg0⟩
  g := m ⟨c, main_arg1⟩

theorem idx : ∀ t : Fin cfg0.N, win0_0.index t = ![0, 0, 0] ∧ win0_1.index t = ![0, 0]
    ∧ win0_2.index t = ![0, 0, 0] ∧ win0_3.index t = ![0, 0, 0] := by
  decide +kernel

theorem x_eq (c : Dev nD) (t : Fin cfg0.N) : (iblk m c 0 t : S4x2880x384.Idx → EReal) = (args m c).x := by
  obtain ⟨e0, e1, e2, e3⟩ := idx t
  funext i
  rw [eq_ix3 i]
  show _ = m ⟨c, main_arg0⟩ (ix3 _ _ _)
  blk_ext [iblk, V, e0]

theorem g_at (c : Dev nD) (t : Fin cfg0.N) (k : Fin 2880) : iblk m c 1 t (ix2 0 k) = (args m c).g (ix1 k) := by
  obtain ⟨e0, e1, e2, e3⟩ := idx t
  show _ = m ⟨c, main_arg1⟩ (ix1 k)
  show V m c main_v0 ((win0_1.blk t).view.emb (ix2 0 k)) = _
  entry_read
  pointwise
  blk_ext [e1]

theorem emb2 (t : Fin cfg0.N) (y : S4x2880x384.Idx) : ((View.whole main_v1_0).slice (win0_2.rect t)).emb y = y := by
  obtain ⟨e0, e1, e2, e3⟩ := idx t
  blk_ext [e2]

theorem emb3 (t : Fin cfg0.N) (y : S4x1x384.Idx) : ((View.whole main_v1_1).slice (win0_3.rect t)).emb y = y := by
  obtain ⟨e0, e1, e2, e3⟩ := idx t
  blk_ext [e3]

/-- The codes. -/
theorem out2 (c : Dev nD) : (dats m 0 c).arrAt 2 cfg0.N = fun i : S4x2880x384.Idx => Cq (args m c) (i 0) (i 2) (i 1) := by
  refine (dats m 0 c).arrAt_eq_of_covers 2 _ (by decide +kernel) fun t hf y => ?_
  blk_simp
  rw [after0_2]
  unfold out0_2
  frame_out
  obtain ⟨b, k, r, rfl⟩ : ∃ (b : Fin 4) (k : Fin 2880) (r : Fin 384), y = ix3 b k r := ⟨y 0, y 1, y 2, eq_ix3 y⟩
  refine (pay3 (args m c) _ (x_eq m c t) _ (g_at m c t) b k r).trans ?_
  rw [emb2]
  rfl

/-- The scales. -/
theorem out3 (c : Dev nD) : (dats m 0 c).arrAt 3 cfg0.N = fun i : S4x1x384.Idx => Zq (args m c) (i 0) (i 2) := by
  refine (dats m 0 c).arrAt_eq_of_covers 3 _ (by decide +kernel) fun t hf y => ?_
  blk_simp
  rw [after0_3]
  unfold out0_3
  frame_out
  obtain ⟨b, k, r, rfl⟩ : ∃ (b : Fin 4) (k : Fin 1) (r : Fin 384), y = ix3 b k r := ⟨y 0, y 1, y 2, eq_ix3 y⟩
  obtain rfl : k = 0 := Subsingleton.elim _ _
  refine (pay4 (args m c) _ (x_eq m c t) _ (g_at m c t) b r).trans ?_
  rw [emb3]
  rfl

end Cert.QuantHRefIdeal.Val

end
-- ==== Proof.AKerA.lean ====
/-
  The attention call's body run in case A of its conditional. After the head loop the scratch of attention rows holds the loop's
  pieces and nothing older, which is said first; the rest of the run reads that.
-/
module

public import proofs.«01_k».proof.Proof.Gen.Attn.Frame.Runs

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The head loop's stores cover the scratch of attention rows: it holds them and nothing older. -/
theorem rowsScr (𝒱 : Variants) (c : Dev nD) (bd : Option 𝒱.V) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole)
    (X1 : BufTy.Contents (Elt F) arg1.view.ty) (X2 : BufTy.Contents (Elt F) arg2.view.ty) (X3 : BufTy.Contents (Elt F) arg3.view.ty) (f : BufTy.Contents (Elt F) arg9.view.ty) (N : ℕ) (hN : N = 6) :
    arg9.view.writes (Elt F) f (pb_k0_t1 (F := F) 𝒱 c bd i arg1 harg1 arg2 harg2 arg3 harg3 arg4 harg4 arg5 harg5 arg6 harg6 arg7 harg7 arg8 harg8 arg9 harg9 X1 X2 X3 N)
      = harg9.unread (View.canon (pb_k0_t1 (F := F) 𝒱 c bd i arg1 harg1 arg2 harg2 arg3 harg3 arg4 harg4 arg5 harg5 arg6 harg6 arg7 harg7 arg8 harg8 arg9 harg9 X1 X2 X3 6)) := by
  subst hN
  exact harg9.eq_unread (View.read_writes_eq_canon _ _ _ fun y =>
    View.cover_of_tiledL (pb_k0_t1 (F := F) 𝒱 c bd i arg1 harg1 arg2 harg2 arg3 harg3 arg4 harg4 arg5 harg5 arg6 harg6 arg7 harg7 arg8 harg8 arg9 harg9 X1 X2 X3 6) S160x384.size (by sl_kernel_rfl) y)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) :
    Σ' (L4 : List (View.Piece (Elt F) S1x2880x384 .i8)), Σ' (L5 : List (View.Piece (Elt F) S1x1x384 .f32)), Σ' (L6 : List (View.Piece (Elt F) S1x1x384 .f32)), { LS0 : List (View.Piece (Elt F) S2880x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ d, owns (c : Thread nD τ) arg9 fullShare d)) -∗ K ⟨⟩))
          ⊢ wp frame (wpE (defs₀ (F := F)) Variants.none c none) E (cc0_attention_quant i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_attention_quant_eq_skeleton]; unfold cc0_attention_quant_skel
    simp only [k0_part4_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    have hS := rowsScr (F := F) Variants.none c none i arg1 harg1 arg2 harg2 arg3 harg3 arg4 harg4 arg5 harg5 arg6 harg6 arg7 harg7 arg8 harg8 arg9 harg9 (harg1.unread x0) (harg2.unread x1) (harg3.unread x2) fs1 _ (show Scf.trips k0_t1_loop.lb k0_t1_loop.ub k0_t1_loop.st = 6 by decide +kernel)
    unfold kernelRun0_A.sl.r_2 kernelRun0_A.sl.r_1 kernelRun0_A.sl.r
    rw [hS]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _, _; isplitr; swap; · iexact HS1
    ipureintro; rfl

end Cert.Attn.Gen

end
-- ==== Proof.AKerB.lean ====
/-
  The attention call's body run in case B of its conditional. After the head loop the scratch of attention rows holds the loop's
  pieces and nothing older, which is said first; the rest of the run reads that.
-/
module

public import proofs.«01_k».proof.Proof.AKerA

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) :
    Σ' (L4 : List (View.Piece (Elt F) S1x2880x384 .i8)), Σ' (L5 : List (View.Piece (Elt F) S1x1x384 .f32)), Σ' (L6 : List (View.Piece (Elt F) S1x1x384 .f32)), { LS0 : List (View.Piece (Elt F) S2880x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ (∃ d, owns (c : Thread nD τ) arg9 fullShare d)) -∗ K ⟨⟩))
          ⊢ wp frame (wpE (defs₀ (F := F)) Variants.none c none) E (cc0_attention_quant i arg1 harg1 arg2 harg2 arg3 harg3 arg4 harg4 arg5 harg5 arg6 harg6 arg7 harg7 arg8 harg8 arg9 harg9) K } := by
  refine ⟨?_, ?_, ?_, [], fun E K => ?run⟩
  case run =>
    simp only [cc0_attention_quant_eq_skeleton]; unfold cc0_attention_quant_skel
    simp only [k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | sl_exact hc0)
    have hS := rowsScr (F := F) Variants.none c none i arg1 harg1 arg2 harg2 arg3 harg3 arg4 harg4 arg5 harg5 arg6 harg6 arg7 harg7 arg8 harg8 arg9 harg9 (harg1.unread x0) (harg2.unread x1) (harg3.unread x2) fs1 _ (show Scf.trips k0_t1_loop.lb k0_t1_loop.ub k0_t1_loop.st = 6 by decide +kernel)
    unfold kernelRun0_B.sl.r_2 kernelRun0_B.sl.r_1 kernelRun0_B.sl.r
    rw [hS]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]
    · iexists _; isplitr; · ipureintro; exact harg8.read_unread _
      iexact HS0
    iexists _, _; isplitr; swap; · iexact HS1
    ipureintro; rfl

end Cert.Attn.Gen

end
-- ==== Proof.AKerFrame.lean ====
/-
  The attention call's frame: what its outputs and the spread gain hold point by point, and that the run ends with them and leaves the
  arguments alone.
-/
module

public import proofs.«01_k».proof.Proof.AKerB
public import Idealize.ShloMosaic.Lib.Claim

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 4 tile its block (30 stores of `S1x96x384`, checked by the kernel's evaluation: Lib/Ring.lean `Piece.tiledL`, linear in the pieces, through a loop's `@[irreducible]` trip theorem too), so they cover it. -/
theorem cover0_A_4 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) (y : S1x2880x384.Idx) :
    ∃ pc ∈ (kernelRun0_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).1 S1x96x384.size (by sl_kernel_rfl) y

/-- What case A leaves in output 4's staging buffer: its pieces read back over junk. -/
def out0_A_4 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) : Vec F S1x2880x384 .i8 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 x0 x1 x2 x3).1)

/-- Case A's pieces for output 5 tile its block (1 store of `S1x1x384`, checked by the kernel's evaluation: Lib/Ring.lean `Piece.tiledL`, linear in the pieces, through a loop's `@[irreducible]` trip theorem too), so they cover it. -/
theorem cover0_A_5 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) (y : S1x1x384.Idx) :
    ∃ pc ∈ (kernelRun0_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.1 S1x1x384.size (by sl_kernel_rfl) y

/-- What case A leaves in output 5's staging buffer: its pieces read back over junk. -/
def out0_A_5 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) : Vec F S1x1x384 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3).2.1)

/-- Case A's pieces for output 6 tile its block (1 store of `S1x1x384`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) (y : S1x1x384.Idx) :
    ∃ pc ∈ (kernelRun0_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.1 S1x1x384.size (by sl_kernel_rfl) y

/-- What case A leaves in output 6's staging buffer: its pieces read back over junk. -/
def out0_A_6 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) : Vec F S1x1x384 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3).2.2.1)

/-- Case A's pieces for scratch `arg8`, which the kernel carries between points, cover it: 1 piece of `S2880x128` tiling it (Lib/Ring.lean `Piece.tiledL`). -/
theorem scover0_A_0 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) (y : S2880x128.Idx) :
    ∃ pc ∈ (kernelRun0_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.2.1 S2880x128.size (by sl_kernel_rfl) y

/-- What case A leaves in scratch `arg8`: its pieces read back over junk. -/
def sout0_A_0 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) : Vec F S2880x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3).2.2.2.1)

/-- Case B's pieces for output 4 tile its block (30 stores of `S1x96x384`, checked by the kernel's evaluation: Lib/Ring.lean `Piece.tiledL`, linear in the pieces, through a loop's `@[irreducible]` trip theorem too), so they cover it. -/
theorem cover0_B_4 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) (y : S1x2880x384.Idx) :
    ∃ pc ∈ (kernelRun0_B c i arg1 harg1 arg2 harg2 arg3 harg3 arg4 harg4 arg5 harg5 arg6 harg6 arg7 harg7 arg8 harg8 arg9 harg9 hc0 x0 x1 x2 x3 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xs0).1 S1x96x384.size (by sl_kernel_rfl) y

/-- What case B leaves in output 4's staging buffer: its pieces read back over junk. -/
def out0_B_4 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) : Vec F S1x2880x384 .i8 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 x0 x1 x2 x3 xs0).1)

/-- Case B's pieces for output 5 tile its block (1 store of `S1x1x384`, checked by the kernel's evaluation: Lib/Ring.lean `Piece.tiledL`, linear in the pieces, through a loop's `@[irreducible]` trip theorem too), so they cover it. -/
theorem cover0_B_5 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) (y : S1x1x384.Idx) :
    ∃ pc ∈ (kernelRun0_B c i arg1 harg1 arg2 harg2 arg3 harg3 arg4 harg4 arg5 harg5 arg6 harg6 arg7 harg7 arg8 harg8 arg9 harg9 hc0 x0 x1 x2 x3 xs0).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xs0).2.1 S1x1x384.size (by sl_kernel_rfl) y

/-- What case B leaves in output 5's staging buffer: its pieces read back over junk. -/
def out0_B_5 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) : Vec F S1x1x384 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 xs0).2.1)

/-- Case B's pieces for output 6 tile its block (1 store of `S1x1x384`, checked by the kernel's evaluation: Lib/Ring.lean `Piece.tiledL`, linear in the pieces, through a loop's `@[irreducible]` trip theorem too), so they cover it. -/
theorem cover0_B_6 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) (y : S1x1x384.Idx) :
    ∃ pc ∈ (kernelRun0_B c i arg1 harg1 arg2 harg2 arg3 harg3 arg4 harg4 arg5 harg5 arg6 harg6 arg7 harg7 arg8 harg8 arg9 harg9 hc0 x0 x1 x2 x3 xs0).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xs0).2.2.1 S1x1x384.size (by sl_kernel_rfl) y

/-- What case B leaves in output 6's staging buffer: its pieces read back over junk. -/
def out0_B_6 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) : Vec F S1x1x384 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 xs0).2.2.1)

/-- Case B stores nothing into scratch `arg8`: it holds what the point before left. -/
def sout0_B_0 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) : Vec F S2880x128 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2880x384 .i8 × Vec F S1x1x384 .f32 × Vec F S1x1x384 .f32 × Vec F S2880x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2)

/-- `outsAt0` at a point of case A: that case's contents. -/
theorem outsAt0_A (c : Dev nD) (t : Fin cfg0.N) (h0 : t.val % 4 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases hz : t.val = 0
    · rw [PhiS_castSucc m c t, PhiS_zero m c _ _ hz, PhiA0_eq]
      rw [outsAt0_A m c t h0]
      unfold out0_A_4 out0_A_5 out0_A_6 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _)
    · exfalso; have hN : t.val < 4 := lt_of_lt_of_eq t.isLt (show cfg0.N = 4 from N_0); omega
  · by_cases hz : t.val = 0
    · exfalso; have hN : t.val < 4 := lt_of_lt_of_eq t.isLt (show cfg0.N = 4 from N_0); omega
    · rw [PhiS_castSucc m c t, PhiS_pos m c _ _ hz]
      rw [outsAt0_B m c t h0]
      unfold out0_B_4 out0_B_5 out0_B_6 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Attn`'s statement (Defs.lean) at any `F` — Proof.lean cites it at `Bits`:
    `theorem Cert.Proof.claim : Cert.Claim := ⟨Cert.Attn.Gen.facts, fun m ρ _ => Cert.Attn.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Attn.Gen

end
-- ==== Proof.AIdealA.lean ====
/-
  The attention call's body run in case A of its conditional. After the head loop the scratch of attention rows holds the loop's
  pieces and nothing older, which is said first; the rest of the run reads that.
-/
module

public import proofs.«01_k».proof.Proof.Gen.AttnIdeal.Frame.Runs

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The head loop's stores cover the scratch of attention rows: it holds them and nothing older. -/
theorem rowsScr (𝒱 : Variants) (c : Dev nD) (bd : Option 𝒱.V) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole)
    (X1 : BufTy.Contents (Elt F) arg1.view.ty) (X2 : BufTy.Contents (Elt F) arg2.view.ty) (X3 : BufTy.Contents (Elt F) arg3.view.ty) (f : BufTy.Contents (Elt F) arg9.view.ty) (N : ℕ) (hN : N = 6) :
    arg9.view.writes (Elt F) f (pb_k0_t1 (F := F) 𝒱 c bd i arg1 harg1 arg2 harg2 arg3 harg3 arg4 harg4 arg5 harg5 arg6 harg6 arg7 harg7 arg8 harg8 arg9 harg9 X1 X2 X3 N)
      = harg9.unread (View.canon (pb_k0_t1 (F := F) 𝒱 c bd i arg1 harg1 arg2 harg2 arg3 harg3 arg4 harg4 arg5 harg5 arg6 harg6 arg7 harg7 arg8 harg8 arg9 harg9 X1 X2 X3 6)) := by
  subst hN
  exact harg9.eq_unread (View.read_writes_eq_canon _ _ _ fun y =>
    View.cover_of_tiledL (pb_k0_t1 (F := F) 𝒱 c bd i arg1 harg1 arg2 harg2 arg3 harg3 arg4 harg4 arg5 harg5 arg6 harg6 arg7 harg7 arg8 harg8 arg9 harg9 X1 X2 X3 6) S160x384.size (by sl_kernel_rfl) y)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) :
    Σ' (L4 : List (View.Piece (Elt F) S1x2880x384 .i8)), Σ' (L5 : List (View.Piece (Elt F) S1x1x384 .f32)), Σ' (L6 : List (View.Piece (Elt F) S1x1x384 .f32)), { LS0 : List (View.Piece (Elt F) S2880x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ d, owns (c : Thread nD τ) arg9 fullShare d)) -∗ K ⟨⟩))
          ⊢ wp frame (wpE (defs₀ (F := F)) Variants.none c none) E (cc0_attention_quant i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_attention_quant_eq_skeleton]; unfold cc0_attention_quant_skel
    simp only [k0_part4_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    have hS := rowsScr (F := F) Variants.none c none i arg1 harg1 arg2 harg2 arg3 harg3 arg4 harg4 arg5 harg5 arg6 harg6 arg7 harg7 arg8 harg8 arg9 harg9 (harg1.unread x0) (harg2.unread x1) (harg3.unread x2) fs1 _ (show Scf.trips k0_t1_loop.lb k0_t1_loop.ub k0_t1_loop.st = 6 by decide +kernel)
    unfold kernelRun0_A.sl.r_2 kernelRun0_A.sl.r_1 kernelRun0_A.sl.r
    rw [hS]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _, _; isplitr; swap; · iexact HS1
    ipureintro; rfl

end Cert.AttnIdeal.Gen

end
-- ==== Proof.AIdealB.lean ====
/-
  The attention call's body run in case B of its conditional. After the head loop the scratch of attention rows holds the loop's
  pieces and nothing older, which is said first; the rest of the run reads that.
-/
module

public import proofs.«01_k».proof.Proof.AIdealA

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) :
    Σ' (L4 : List (View.Piece (Elt F) S1x2880x384 .i8)), Σ' (L5 : List (View.Piece (Elt F) S1x1x384 .f32)), Σ' (L6 : List (View.Piece (Elt F) S1x1x384 .f32)), { LS0 : List (View.Piece (Elt F) S2880x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ (∃ d, owns (c : Thread nD τ) arg9 fullShare d)) -∗ K ⟨⟩))
          ⊢ wp frame (wpE (defs₀ (F := F)) Variants.none c none) E (cc0_attention_quant i arg1 harg1 arg2 harg2 arg3 harg3 arg4 harg4 arg5 harg5 arg6 harg6 arg7 harg7 arg8 harg8 arg9 harg9) K } := by
  refine ⟨?_, ?_, ?_, [], fun E K => ?run⟩
  case run =>
    simp only [cc0_attention_quant_eq_skeleton]; unfold cc0_attention_quant_skel
    simp only [k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | sl_exact hc0)
    have hS := rowsScr (F := F) Variants.none c none i arg1 harg1 arg2 harg2 arg3 harg3 arg4 harg4 arg5 harg5 arg6 harg6 arg7 harg7 arg8 harg8 arg9 harg9 (harg1.unread x0) (harg2.unread x1) (harg3.unread x2) fs1 _ (show Scf.trips k0_t1_loop.lb k0_t1_loop.ub k0_t1_loop.st = 6 by decide +kernel)
    unfold kernelRun0_B.sl.r_2 kernelRun0_B.sl.r_1 kernelRun0_B.sl.r
    rw [hS]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]
    · iexists _; isplitr; · ipureintro; exact harg8.read_unread _
      iexact HS0
    iexists _, _; isplitr; swap; · iexact HS1
    ipureintro; rfl

end Cert.AttnIdeal.Gen

end
-- ==== Proof.AIdealFrame.lean ====
/-
  The attention call's frame: what its outputs and the spread gain hold point by point, and that the run ends with them and leaves the
  arguments alone.
-/
module

public import proofs.«01_k».proof.Proof.AIdealB
public import Idealize.ShloMosaic.Lib.Claim

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 4 tile its block (30 stores of `S1x96x384`, checked by the kernel's evaluation: Lib/Ring.lean `Piece.tiledL`, linear in the pieces, through a loop's `@[irreducible]` trip theorem too), so they cover it. -/
theorem cover0_A_4 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) (y : S1x2880x384.Idx) :
    ∃ pc ∈ (kernelRun0_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).1 S1x96x384.size (by sl_kernel_rfl) y

/-- What case A leaves in output 4's staging buffer: its pieces read back over junk. -/
def out0_A_4 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) : Vec F S1x2880x384 .i8 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 x0 x1 x2 x3).1)

/-- Case A's pieces for output 5 tile its block (1 store of `S1x1x384`, checked by the kernel's evaluation: Lib/Ring.lean `Piece.tiledL`, linear in the pieces, through a loop's `@[irreducible]` trip theorem too), so they cover it. -/
theorem cover0_A_5 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) (y : S1x1x384.Idx) :
    ∃ pc ∈ (kernelRun0_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.1 S1x1x384.size (by sl_kernel_rfl) y

/-- What case A leaves in output 5's staging buffer: its pieces read back over junk. -/
def out0_A_5 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) : Vec F S1x1x384 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3).2.1)

/-- Case A's pieces for output 6 tile its block (1 store of `S1x1x384`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) (y : S1x1x384.Idx) :
    ∃ pc ∈ (kernelRun0_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.1 S1x1x384.size (by sl_kernel_rfl) y

/-- What case A leaves in output 6's staging buffer: its pieces read back over junk. -/
def out0_A_6 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) : Vec F S1x1x384 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3).2.2.1)

/-- Case A's pieces for scratch `arg8`, which the kernel carries between points, cover it: 1 piece of `S2880x128` tiling it (Lib/Ring.lean `Piece.tiledL`). -/
theorem scover0_A_0 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) (y : S2880x128.Idx) :
    ∃ pc ∈ (kernelRun0_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.2.1 S2880x128.size (by sl_kernel_rfl) y

/-- What case A leaves in scratch `arg8`: its pieces read back over junk. -/
def sout0_A_0 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : cond0_0 i)
    (x0 : Vec F S1x18x160x384 .bf16) (x1 : Vec F S1x6x160x384 .bf16) (x2 : Vec F S1x6x160x384 .bf16) (x3 : Vec F S1x2880 .f32) : Vec F S2880x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3).2.2.2.1)

/-- Case B's pieces for output 4 tile its block (30 stores of `S1x96x384`, checked by the kernel's evaluation: Lib/Ring.lean `Piece.tiledL`, linear in the pieces, through a loop's `@[irreducible]` trip theorem too), so they cover it. -/
theorem cover0_B_4 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) (y : S1x2880x384.Idx) :
    ∃ pc ∈ (kernelRun0_B c i arg1 harg1 arg2 harg2 arg3 harg3 arg4 harg4 arg5 harg5 arg6 harg6 arg7 harg7 arg8 harg8 arg9 harg9 hc0 x0 x1 x2 x3 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xs0).1 S1x96x384.size (by sl_kernel_rfl) y

/-- What case B leaves in output 4's staging buffer: its pieces read back over junk. -/
def out0_B_4 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) : Vec F S1x2880x384 .i8 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 x0 x1 x2 x3 xs0).1)

/-- Case B's pieces for output 5 tile its block (1 store of `S1x1x384`, checked by the kernel's evaluation: Lib/Ring.lean `Piece.tiledL`, linear in the pieces, through a loop's `@[irreducible]` trip theorem too), so they cover it. -/
theorem cover0_B_5 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) (y : S1x1x384.Idx) :
    ∃ pc ∈ (kernelRun0_B c i arg1 harg1 arg2 harg2 arg3 harg3 arg4 harg4 arg5 harg5 arg6 harg6 arg7 harg7 arg8 harg8 arg9 harg9 hc0 x0 x1 x2 x3 xs0).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xs0).2.1 S1x1x384.size (by sl_kernel_rfl) y

/-- What case B leaves in output 5's staging buffer: its pieces read back over junk. -/
def out0_B_5 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) : Vec F S1x1x384 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 xs0).2.1)

/-- Case B's pieces for output 6 tile its block (1 store of `S1x1x384`, checked by the kernel's evaluation: Lib/Ring.lean `Piece.tiledL`, linear in the pieces, through a loop's `@[irreducible]` trip theorem too), so they cover it. -/
theorem cover0_B_6 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) (y : S1x1x384.Idx) :
    ∃ pc ∈ (kernelRun0_B c i arg1 harg1 arg2 harg2 arg3 harg3 arg4 harg4 arg5 harg5 arg6 harg6 arg7 harg7 arg8 harg8 arg9 harg9 hc0 x0 x1 x2 x3 xs0).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xs0).2.2.1 S1x1x384.size (by sl_kernel_rfl) y

/-- What case B leaves in output 6's staging buffer: its pieces read back over junk. -/
def out0_B_6 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) : Vec F S1x1x384 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 xs0).2.2.1)

/-- Case B stores nothing into scratch `arg8`: it holds what the point before left. -/
def sout0_B_0 (c : Dev nD) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole) (hc0 : ¬cond0_0 i)
    (x0 : Vec F S1x18x160x384 .bf16) (x1 : Vec F S1x6x160x384 .bf16) (x2 : Vec F S1x6x160x384 .bf16) (x3 : Vec F S1x2880 .f32) (xs0 : Vec F S2880x128 .f32) : Vec F S2880x128 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2880x384 .i8 × Vec F S1x1x384 .f32 × Vec F S1x1x384 .f32 × Vec F S2880x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2)

/-- `outsAt0` at a point of case A: that case's contents. -/
theorem outsAt0_A (c : Dev nD) (t : Fin cfg0.N) (h0 : t.val % 4 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases hz : t.val = 0
    · rw [PhiS_castSucc m c t, PhiS_zero m c _ _ hz, PhiA0_eq]
      rw [outsAt0_A m c t h0]
      unfold out0_A_4 out0_A_5 out0_A_6 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _)
    · exfalso; have hN : t.val < 4 := lt_of_lt_of_eq t.isLt (show cfg0.N = 4 from N_0); omega
  · by_cases hz : t.val = 0
    · exfalso; have hN : t.val < 4 := lt_of_lt_of_eq t.isLt (show cfg0.N = 4 from N_0); omega
    · rw [PhiS_castSucc m c t, PhiS_pos m c _ _ hz]
      rw [outsAt0_B m c t h0]
      unfold out0_B_4 out0_B_5 out0_B_6 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_AttnIdeal`'s statement (Defs.lean) at any `F` — Proof.lean cites it at `Bits`:
    `theorem Cert.Proof.claim : Cert.Claim := ⟨Cert.AttnIdeal.Gen.facts, fun m ρ _ => Cert.AttnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.AttnIdeal.Gen

end
-- ==== Proof.AHead.lean ====
/-
  Attention of one head over a whole sequence of keys, in closed form: scores, exponentials, the weighted values.
-/
module

public import proofs.«01_k».proof.Proof.Quant

@[expose] public section

noncomputable section

open Idealize.ShloMosaic Idealize.ShloMosaic.TcCoe Idealize.SL.Sem

namespace Cert.Spec

/-- The score of a key for a query token, out of reach when the key comes later. -/
def Sa (k q : Fin 160 → Fin 384 → EReal) (t x : Fin 384) : EReal :=
  Scalar.select (IntOp.cmpi CmpIPredicate.sle (BitVec.ofNat 32 x.val) (BitVec.ofNat 32 t.val))
    ((∑ d, k d x * q d t) * Ideal.ofBits FTy.f32 1034021019#32) (Ideal.ofBits FTy.f32 4286578688#32)

/-- The exponential of a score, below the token's greatest. -/
def Ea (k q : Fin 160 → Fin 384 → EReal) (t x : Fin 384) : EReal := Ideal.exp (Sa k q t x - fmax fun x => Sa k q t x)

/-- One feature of the head's result for a token. -/
def Oa (k q v : Fin 160 → Fin 384 → EReal) (t : Fin 384) (d : Fin 160) : EReal := ∑ x, v d x * Ideal.div (Ea k q t x) (∑ x, Ea k q t x)

/-- The arguments of the attention. -/
structure AArgs where
  /-- The queries. -/
  q : (⟨4, ![4, 18, 160, 384]⟩ : Shape).Idx → EReal
  /-- The keys. -/
  k : (⟨4, ![4, 6, 160, 384]⟩ : Shape).Idx → EReal
  /-- The values. -/
  v : (⟨4, ![4, 6, 160, 384]⟩ : Shape).Idx → EReal
  /-- The gain. -/
  g : (⟨1, ![2880]⟩ : Shape).Idx → EReal

/-- One feature of the attention's result: the head is the feature's, three heads share a key and a value. -/
def Ao (A : AArgs) (b : Fin 4) (f : Fin 2880) (t : Fin 384) : EReal :=
  Oa (fun d x => A.k (ix4 b ⟨f.val / 480, by omega⟩ d x)) (fun d t => A.q (ix4 b ⟨f.val / 160, by omega⟩ d t))
    (fun d x => A.v (ix4 b ⟨f.val / 480, by omega⟩ d x)) t ⟨f.val % 160, by omega⟩

/-- What is then normalised and quantised. -/
def qargs (A : AArgs) : QArgs where
  x := fun i => Ao A (i 0) (i 1) (i 2)
  g := A.g

end Cert.Spec

end
-- ==== Proof.APay.lean ====
/-
  What the attention kernel's pieces of arithmetic hold at an index.
-/
module

public import proofs.«01_k».proof.Defs
public import proofs.«01_k».proof.Proof.Gen.AttnIdeal.Skeleton
public import proofs.«01_k».proof.Proof.AHead
public import proofs.«01_k».proof.Proof.QHPay
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttnIdeal.Pay

open Cert.AttnIdeal Cert.AttnIdeal.Gen Cert.Spec
open Cert.QuantHIdeal.Pay (max12)

theorem pay26 (x t : Fin 384) : k0_pay26 (ix2 x t) = IntOp.cmpi CmpIPredicate.sle (BitVec.ofNat 32 x.val) (BitVec.ofNat 32 t.val) := by
  unfold k0_pay26
  pointwise

/-- A head's result, from its blocks. -/
theorem pay21 (k v q : Vec Ideal S1x1x160x384 .bf16) (d : Fin 160) (t : Fin 384) :
    k0_pay21 (F := Ideal) k0_pay26 k v q (ix2 d t) = Oa (fun d x => k (ix4 0 0 d x)) (fun d t => q (ix4 0 0 d t)) (fun d x => v (ix4 0 0 d x)) t d := by
  unfold k0_pay21 k0_pay19 k0_pay20
  pointwise
  simp only [pay26]
  rfl

theorem pay22 (m : IVec S384x384 1) (k v q : Vec Ideal S1x1x160x384 .bf16) :
    k0_pay22 (F := Ideal) m (k0_pay19 k) (k0_pay20 v) q = k0_pay21 m k v q := rfl

theorem pay27 (m : IVec S384x384 1) (k v q : Vec Ideal S1x1x160x384 .bf16) :
    k0_pay27 (F := Ideal) (k0_pay20 v) (k0_pay23 m (k0_pay19 k) q) (k0_pay24 m (k0_pay19 k) q) = k0_pay21 m k v q := rfl

theorem pay29 (a : FVec Ideal S8x384 .f32) (v : Vec Ideal S96x384 .f32) (s : Fin 8) (r : Fin 384) :
    k0_pay29 (F := Ideal) a v (ix2 s r) = a (ix2 s r) + ∑ q : Fin 12, (fun i : Fin 96 => v (ix2 i r) * v (ix2 i r)) ⟨8 * q.val + s.val, by omega⟩ := by
  unfold k0_pay29
  pointwise
  rw [Fin.sum_univ_castSucc, Fin.sum_univ_castSucc, Fin.sum_univ_castSucc, Fin.sum_univ_castSucc, Fin.sum_univ_eight]
  refine congrArg (a (ix2 s r) + ·) ?_
  have e : (⟨8 * 0 + s.val, by omega⟩ : Fin 96) = ⟨s.val, by omega⟩ := Fin.ext (by show 8 * 0 + s.val = s.val; omega)
  show _ = (fun i : Fin 96 => v (ix2 i r) * v (ix2 i r)) ⟨8 * 0 + s.val, _⟩ + _ + _ + _ + _ + _ + _ + _ + _ + _ + _ + _
  rw [e]
  rfl

theorem pay30 (v : FVec Ideal S8x384 .f32) (r : Fin 384) : k0_pay30 (F := Ideal) v (ix2 0 r) = rQ (∑ s : Fin 8, v (ix2 s r)) := by
  unfold k0_pay30
  pointwise
  rfl

theorem pay33 (v : FVec Ideal S8x384 .f32) (r : Fin 384) : k0_pay33 (F := Ideal) v (ix2 0 r) = scaleOf (fmax fun s : Fin 8 => v (ix2 s r)) := by
  unfold k0_pay33
  pointwise
  rfl

theorem pay34 (v : FVec Ideal S8x384 .f32) (r : Fin 384) : k0_pay34 (F := Ideal) v (ix2 0 r) = Ideal.div 1 (scaleOf (fmax fun s : Fin 8 => v (ix2 s r))) := by
  unfold k0_pay34
  pointwise
  simp only [pay33]

theorem pay2 (z : FVec Ideal S1x384 .f32) (r : Fin 384) : k0_pay2 (F := Ideal) z (ix3 0 0 r) = z (ix2 0 r) := by
  unfold k0_pay2
  pointwise

theorem pay3 (z : FVec Ideal S1x384 .f32) (r : Fin 384) : k0_pay3 (F := Ideal) z (ix3 0 0 r) = z (ix2 0 r) := by
  unfold k0_pay3
  pointwise

/-- The block's greatest magnitudes, group by group: what bounds them. -/
theorem pay32 (v5 a : FVec Ideal S8x384 .f32) (v : Vec Ideal S96x384 .f32) (g : Vec Ideal S96x128 .f32) (γ : Fin 96 → EReal)
    (hg : ∀ i l, g (ix2 i l) = γ i) (s : Fin 8) (r : Fin 384) (z : EReal) :
    k0_pay32 (F := Ideal) v5 a v g (ix2 s r) ≤ z ↔ a (ix2 s r) ≤ z ∧ ∀ q : Fin 12,
      (fun n : EReal => max n (-n)) ((fun i : Fin 96 => v (ix2 i r) * rQ (∑ s : Fin 8, v5 (ix2 s r)) * γ i) ⟨8 * q.val + s.val, by omega⟩) ≤ z := by
  unfold k0_pay32
  pointwise
  simp only [hg, pay30]
  refine Iff.trans (iff_of_eq (congrArg (· ≤ z) ?_)) (max12 (a (ix2 s r)) z (fun i : Fin 96 => (fun n : EReal => max n (-n)) (v (ix2 i r) * rQ (∑ s : Fin 8, v5 (ix2 s r)) * γ i)) s)
  by_cases h1 : r.val < 128
  · simp only [dif_pos h1]
    rfl
  · by_cases h2 : r.val - 128 < 128
    · simp only [dif_neg h1, dif_pos h2]
      rfl
    · simp only [dif_neg h1, dif_neg h2]
      rfl

theorem pay1 (w z : FVec Ideal S1x384 .f32) (v : Vec Ideal S96x384 .f32) (g : Vec Ideal S96x128 .f32) (γ : Fin 96 → EReal)
    (hg : ∀ i l, g (ix2 i l) = γ i) (i : Fin 96) (r : Fin 384) (σ μ : EReal) (hw : w (ix2 0 r) = rQ σ) (hz : z (ix2 0 r) = Ideal.div 1 (scaleOf μ)) (h0 : 0 ≤ μ) :
    k0_pay1 (F := Ideal) w z v g (ix3 0 i r) = codeQ (v (ix2 i r) * rQ σ * γ i) (scaleOf μ) := by
  unfold k0_pay1
  pointwise
  simp only [hg, ite_self, dite_eq_ite, hw, hz]
  rw [mul_recip _ _ (scale_ne _ h0)]
  rfl

end Cert.AttnIdeal.Pay

end
-- ==== Proof.ALoop.lean ====
/-
  The attention kernel's four loops: a head's result: a token's sum of squares, its greatest magnitude, its codes.
-/
module

public import proofs.«01_k».proof.Proof.APay
public import proofs.«01_k».proof.Proof.Wide
public import proofs.«01_k».proof.Proof.AIdealFrame

@[expose] public section

set_option maxRecDepth 16384

noncomputable section

open Idealize.ShloMosaic Idealize.ShloMosaic.TcCoe Idealize.SL.Sem
open Idealize.ShloMosaic.Pipeline (Dat)

namespace Cert.AttnIdeal.Loop

open Cert.AttnIdeal Cert.AttnIdeal.Gen Cert.Spec

variable (𝒱 : Variants) (c : Dev nD) (bd : Option 𝒱.V) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole)

/-- The feature at a place of a block. -/
def ft (k : ℕ) (j : ℕ) : Fin 2880 := ⟨(96 * k + j) % 2880, Nat.mod_lt _ (by decide)⟩

theorem ft_lt (k : ℕ) (hk : k < 30) (j : Fin 96) : ft k j.val = ⟨96 * k + j.val, by omega⟩ := Fin.ext (Nat.mod_eq_of_lt (by omega))

theorem xld (x : Vec Ideal S2880x384 .f32) (k : ℕ) (hk : k < 30) (o : Fin 2 → ℕ) (ho : o = ![96 * k, 0]) (inb) (j : Fin 96) (r : Fin 384) :
    View.ld x (Rect.unit (s := S2880x384) o ![96, 384] inb) (ix2 j r) = x (ix2 (ft k j.val) r) := by
  subst ho
  rw [ft_lt k hk]
  refine congrArg x ?_
  funext a
  match a with
  | ⟨0, _⟩ => exact Fin.ext (by show 96 * k + 1 * j.val = 96 * k + j.val; omega)
  | ⟨1, _⟩ => exact Fin.ext (by show 0 + 1 * r.val = r.val; omega)

theorem gld (g : Vec Ideal S2880x128 .f32) (k : ℕ) (hk : k < 30) (o : Fin 2 → ℕ) (ho : o = ![96 * k, 0]) (inb) (j : Fin 96) (l : Fin 128) :
    View.ld g (Rect.unit (s := S2880x128) o ![96, 128] inb) (ix2 j l) = g (ix2 (ft k j.val) l) := by
  subst ho
  rw [ft_lt k hk]
  refine congrArg g ?_
  funext a
  match a with
  | ⟨0, _⟩ => exact Fin.ext (by show 96 * k + 1 * j.val = 96 * k + j.val; omega)
  | ⟨1, _⟩ => exact Fin.ext (by show 0 + 1 * l.val = l.val; omega)

theorem trips2 : k0_t2_loop.trips = 30 := by decide +kernel
theorem trips3 : k0_t3_loop.trips = 30 := by decide +kernel
theorem trips4 : k0_t4_loop.trips = 30 := by decide +kernel

/-- What a block's groups add to the partial sums of squares. -/
theorem step1 (x : Vec Ideal S2880x384 .f32) (acc : FVec Ideal S8x384 .f32) (k : Fin k0_t2_loop.trips) (s : Fin 8) (r : Fin 384) :
    tripR_k0_t2 (F := Ideal) 𝒱 c bd i arg1 harg1 arg2 harg2 arg3 harg3 arg4 harg4 arg5 harg5 arg6 harg6 arg7 harg7 arg8 harg8 arg9 harg9 (harg9.unread x) k acc (ix2 s r)
      = acc (ix2 s r) + ∑ q : Fin 12, x (ix2 (ft k.val (8 * q.val + s.val)) r) * x (ix2 (ft k.val (8 * q.val + s.val)) r) := by
  have hk : k.val < 30 := trips2 ▸ k.isLt
  unfold tripR_k0_t2 trip_k0_t2
  frame_out
  refine (Pay.pay29 _ _ s r).trans (congrArg (acc (ix2 s r) + ·) (Finset.sum_congr rfl fun q _ => ?_))
  have e := xld x k.val hk _ (k0_off4_eq k) (k0_off4_inb k) ⟨8 * q.val + s.val, by omega⟩ r
  exact congrArg₂ (· * ·) e e

/-- The partial sums of squares after so many blocks. -/
theorem st1 (x : Vec Ideal S2880x384 .f32) (s : Fin 8) (r : Fin 384) : ∀ (n : ℕ) (_ : n ≤ 30),
    st_k0_t2 (F := Ideal) 𝒱 c bd i arg1 harg1 arg2 harg2 arg3 harg3 arg4 harg4 arg5 harg5 arg6 harg6 arg7 harg7 arg8 harg8 arg9 harg9 (harg9.unread x) (k0_pay28 (F := Ideal)) n (ix2 s r)
      = ∑ k ∈ Finset.range n, ∑ q : Fin 12, x (ix2 (ft k (8 * q.val + s.val)) r) * x (ix2 (ft k (8 * q.val + s.val)) r)
  | 0, _ => by
    rw [st_k0_t2_zero, Finset.sum_range_zero]
    unfold k0_pay28
    pointwise
  | n + 1, h => by
    rw [Finset.sum_range_succ, ← st1 x s r n (by omega)]
    rw [st_k0_t2_succ (k := ⟨n, by rw [trips2]; omega⟩)]
    exact step1 𝒱 c bd i arg1 harg1 arg2 harg2 arg3 harg3 arg4 harg4 arg5 harg5 arg6 harg6 arg7 harg7 arg8 harg8 arg9 harg9 x _ ⟨n, by rw [trips2]; omega⟩ s r

/-- What bounds the greatest magnitudes after one more block. -/
theorem step2 (x : Vec Ideal S2880x384 .f32) (g : Vec Ideal S2880x128 .f32) (γ : Fin 2880 → EReal) (hg : ∀ k l, g (ix2 k l) = γ k)
    (v5 acc : FVec Ideal S8x384 .f32) (k : Fin k0_t3_loop.trips) (s : Fin 8) (r : Fin 384) (z : EReal) :
    tripR_k0_t3 (F := Ideal) 𝒱 c bd i arg1 harg1 arg2 harg2 arg3 harg3 arg4 harg4 arg5 harg5 arg6 harg6 arg7 harg7 arg8 harg8 arg9 harg9 v5 (harg8.unread g) (harg9.unread x) k acc (ix2 s r) ≤ z
      ↔ acc (ix2 s r) ≤ z ∧ ∀ q : Fin 12, (fun n : EReal => max n (-n)) (x (ix2 (ft k.val (8 * q.val + s.val)) r) * rQ (∑ s : Fin 8, v5 (ix2 s r)) * γ (ft k.val (8 * q.val + s.val))) ≤ z := by
  have hk : k.val < 30 := trips3 ▸ k.isLt
  unfold tripR_k0_t3 trip_k0_t3
  frame_out
  refine (Pay.pay32 v5 acc _ _ (fun j => γ (ft k.val j.val)) (fun j l => (gld g k.val hk _ (k0_off6_eq k) (k0_off6_inb k) j l).trans (hg _ _)) s r z).trans ?_
  refine and_congr_right fun _ => forall_congr' fun q => ?_
  have e := xld x k.val hk _ (k0_off5_eq k) (k0_off5_inb k) ⟨8 * q.val + s.val, by omega⟩ r
  exact iff_of_eq (congrArg (fun y : EReal => (fun n : EReal => max n (-n)) (y * rQ (∑ s : Fin 8, v5 (ix2 s r)) * γ (ft k.val (8 * q.val + s.val))) ≤ z) e)

/-- What bounds the greatest magnitudes after so many blocks. -/
theorem st2 (x : Vec Ideal S2880x384 .f32) (g : Vec Ideal S2880x128 .f32) (γ : Fin 2880 → EReal) (hg : ∀ k l, g (ix2 k l) = γ k)
    (v5 : FVec Ideal S8x384 .f32) (s : Fin 8) (r : Fin 384) (z : EReal) : ∀ (n : ℕ) (_ : n ≤ 30),
    st_k0_t3 (F := Ideal) 𝒱 c bd i arg1 harg1 arg2 harg2 arg3 harg3 arg4 harg4 arg5 harg5 arg6 harg6 arg7 harg7 arg8 harg8 arg9 harg9 v5 (harg8.unread g) (harg9.unread x) (k0_pay31 (F := Ideal)) n (ix2 s r) ≤ z
      ↔ 0 ≤ z ∧ ∀ k < n, ∀ q : Fin 12, (fun n : EReal => max n (-n)) (x (ix2 (ft k (8 * q.val + s.val)) r) * rQ (∑ s : Fin 8, v5 (ix2 s r)) * γ (ft k (8 * q.val + s.val))) ≤ z
  | 0, _ => by
    rw [st_k0_t3_zero]
    have e : k0_pay31 (F := Ideal) (ix2 s r) = 0 := by
      unfold k0_pay31
      pointwise
    rw [e]
    simp
  | n + 1, h => by
    rw [st_k0_t3_succ (k := ⟨n, by rw [trips3]; omega⟩)]
    refine (step2 𝒱 c bd i arg1 harg1 arg2 harg2 arg3 harg3 arg4 harg4 arg5 harg5 arg6 harg6 arg7 harg7 arg8 harg8 arg9 harg9 x g γ hg v5 _ ⟨n, by rw [trips3]; omega⟩ s r z).trans ?_
    refine (and_congr_left' (st2 x g γ hg v5 s r z n (by omega))).trans ?_
    constructor
    · rintro ⟨⟨h0, h1⟩, h2⟩
      refine ⟨h0, fun k hk => ?_⟩
      rcases Nat.lt_succ_iff_lt_or_eq.mp hk with hk | rfl
      · exact h1 k hk
      · exact h2
    · rintro ⟨h0, h1⟩
      exact ⟨⟨h0, fun k hk => h1 k (by omega)⟩, h1 n (by omega)⟩

/-- The codes, block by block, all agree with one function of the feature. -/
theorem pb3 (x : Vec Ideal S2880x384 .f32) (g : Vec Ideal S2880x128 .f32) (γ : Fin 2880 → EReal) (hg : ∀ k l, g (ix2 k l) = γ k)
    (w z : FVec Ideal S1x384 .f32) (σ μ : Fin 384 → EReal) (hw : ∀ r, w (ix2 0 r) = rQ (σ r)) (hz : ∀ r, z (ix2 0 r) = Ideal.div 1 (scaleOf (μ r))) (h0 : ∀ r, 0 ≤ μ r) : ∀ (n : ℕ) (_ : n ≤ 30),
    Good (e := .i8) (fun y : S1x2880x384.Idx => codeQ (x (ix2 (y 1) (y 2)) * rQ (σ (y 2)) * γ (y 1)) (scaleOf (μ (y 2))))
      (pb_k0_t4 (F := Ideal) 𝒱 c bd i arg1 harg1 arg2 harg2 arg3 harg3 arg4 harg4 arg5 harg5 arg6 harg6 arg7 harg7 arg8 harg8 arg9 harg9 w z (harg8.unread g) (harg9.unread x) n)
  | 0, _ => good_nil
  | n + 1, h => by
    have hk : n < 30 := by omega
    rw [pb_k0_t4_succ (k := ⟨n, by rw [trips4]; omega⟩)]
    unfold tripL_k0_t4 trip_k0_t4
    frame_out
    refine good_cons (fun j => ?_) (pb3 x g γ hg w z σ μ hw hz h0 n (by omega))
    obtain ⟨a, i, r, rfl⟩ : ∃ (a : Fin 1) (i : Fin 96) (r : Fin 384), j = ix3 a i r := ⟨j 0, j 1, j 2, eq_ix3 j⟩
    obtain rfl : a = 0 := Subsingleton.elim _ _
    refine (Pay.pay1 w z _ _ (fun j => γ (ft n j.val)) (fun j l => (gld g n hk _ (k0_off8_eq _) (k0_off8_inb _) j l).trans (hg _ _)) i r (σ r) (μ r) (hw r) (hz r) (h0 r)).trans ?_
    have e := xld x n hk _ (k0_off7_eq ⟨n, by rw [trips4]; omega⟩) (k0_off7_inb _) i r
    have e1 : (Rect.unit (s := S1x2880x384) (k0_off9 ⟨n, by rw [trips4]; omega⟩) ![1, 96, 384] (k0_off9_inb _)).emb (ix3 0 i r) = ix3 0 (ft n i.val) r := by
      rw [ft_lt n hk]
      funext a
      refine Fin.ext ?_
      show k0_off9 ⟨n, _⟩ a + 1 * (ix3 (0 : Fin 1) i r a).val = _
      rw [k0_off9_eq]
      match a with
      | ⟨0, _⟩ => rfl
      | ⟨1, _⟩ => show 96 * n + 1 * i.val = 96 * n + i.val; omega
      | ⟨2, _⟩ => show 0 + 1 * r.val = r.val; omega
    refine (congrArg (fun y : EReal => codeQ (y * rQ (σ r) * γ (ft n i.val)) (scaleOf (μ r))) e).trans ?_
    exact (congrArg (fun y : S1x2880x384.Idx => codeQ (x (ix2 (y 1) (y 2)) * rQ (σ (y 2)) * γ (y 1)) (scaleOf (μ (y 2)))) e1).symm

/-- The head loop's loads: head `h` of the query, of a key or a value. -/
theorem qld (x : Vec Ideal S1x18x160x384 .bf16) (h : Fin 18) (o : Fin 4 → ℕ) (ho : o = ![0, h.val, 0, 0]) (inb) (d : Fin 160) (t : Fin 384) :
    View.ld x (Rect.unit (s := S1x18x160x384) o ![1, 1, 160, 384] inb) (ix4 0 0 d t) = x (ix4 0 h d t) := by
  subst ho
  refine congrArg x ?_
  funext a
  match a with
  | ⟨0, _⟩ => rfl
  | ⟨1, _⟩ => rfl
  | ⟨2, _⟩ => exact Fin.ext (by show 0 + 1 * d.val = d.val; omega)
  | ⟨3, _⟩ => exact Fin.ext (by show 0 + 1 * t.val = t.val; omega)

theorem kld (x : Vec Ideal S1x6x160x384 .bf16) (h : Fin 6) (o : Fin 4 → ℕ) (ho : o = ![0, h.val, 0, 0]) (inb) (d : Fin 160) (t : Fin 384) :
    View.ld x (Rect.unit (s := S1x6x160x384) o ![1, 1, 160, 384] inb) (ix4 0 0 d t) = x (ix4 0 h d t) := by
  subst ho
  refine congrArg x ?_
  funext a
  match a with
  | ⟨0, _⟩ => rfl
  | ⟨1, _⟩ => rfl
  | ⟨2, _⟩ => exact Fin.ext (by show 0 + 1 * d.val = d.val; omega)
  | ⟨3, _⟩ => exact Fin.ext (by show 0 + 1 * t.val = t.val; omega)

theorem tripsH : k0_t1_loop.trips = 6 := by decide +kernel

/-- A feature of a token, from the blocks of one batch entry. -/
def Hb (k v : Vec Ideal S1x6x160x384 .bf16) (q : Vec Ideal S1x18x160x384 .bf16) (f : Fin 2880) (t : Fin 384) : EReal :=
  Oa (fun d x => k (ix4 0 ⟨f.val / 480, by omega⟩ d x)) (fun d t => q (ix4 0 ⟨f.val / 160, by omega⟩ d t))
    (fun d x => v (ix4 0 ⟨f.val / 480, by omega⟩ d x)) t ⟨f.val % 160, by omega⟩

/-- One store of the head loop holds one head's rows. -/
theorem headAt (q : Vec Ideal S1x18x160x384 .bf16) (k v : Vec Ideal S1x6x160x384 .bf16) (n : Fin 6) (p : Fin 3) (o1 : Fin 4 → ℕ) (h1 : o1 = ![0, n.val, 0, 0]) (i1)
    (o2 : Fin 4 → ℕ) (h2 : o2 = ![0, 3 * n.val + p.val, 0, 0]) (i2) (o3 : Fin 2 → ℕ) (h3 : o3 = ![480 * n.val + 160 * p.val, 0]) (i3) (j : S160x384.Idx) :
    k0_pay21 (F := Ideal) k0_pay26 (View.ld k (Rect.unit (s := S1x6x160x384) o1 ![1, 1, 160, 384] i1)) (View.ld v (Rect.unit (s := S1x6x160x384) o1 ![1, 1, 160, 384] i1))
      (View.ld q (Rect.unit (s := S1x18x160x384) o2 ![1, 1, 160, 384] i2)) j
      = (fun y : S2880x384.Idx => Hb k v q (y 0) (y 1)) ((Rect.unit (s := S2880x384) o3 ![160, 384] i3).emb j) := by
  obtain ⟨d, t, rfl⟩ : ∃ (d : Fin 160) (t : Fin 384), j = ix2 d t := ⟨j 0, j 1, eq_ix2 j⟩
  have hn := n.isLt
  have hp := p.isLt
  have hd := d.isLt
  subst h3
  have e1 : (Rect.unit (s := S2880x384) ![480 * n.val + 160 * p.val, 0] ![160, 384] i3).emb (ix2 d t) = ix2 ⟨480 * n.val + 160 * p.val + d.val, by omega⟩ t := by
    funext a
    match a with
    | ⟨0, _⟩ => exact Fin.ext (by show 480 * n.val + 160 * p.val + 1 * d.val = 480 * n.val + 160 * p.val + d.val; omega)
    | ⟨1, _⟩ => exact Fin.ext (by show 0 + 1 * t.val = t.val; omega)
  rw [e1, Pay.pay21]
  have ek : (⟨(480 * n.val + 160 * p.val + d.val) / 480, by omega⟩ : Fin 6) = n := Fin.ext (by show (480 * n.val + 160 * p.val + d.val) / 480 = n.val; omega)
  have eq : (⟨(480 * n.val + 160 * p.val + d.val) / 160, by omega⟩ : Fin 18) = ⟨3 * n.val + p.val, by omega⟩ := Fin.ext (by show (480 * n.val + 160 * p.val + d.val) / 160 = 3 * n.val + p.val; omega)
  have ed : (⟨(480 * n.val + 160 * p.val + d.val) % 160, by omega⟩ : Fin 160) = d := Fin.ext (by show (480 * n.val + 160 * p.val + d.val) % 160 = d.val; omega)
  have l1 := fun d x => kld k n o1 h1 i1 d x
  have l2 := fun d x => kld v n o1 h1 i1 d x
  have l3 := fun d x => qld q ⟨3 * n.val + p.val, by omega⟩ o2 h2 i2 d x
  show _ = Hb k v q ⟨480 * n.val + 160 * p.val + d.val, _⟩ t
  unfold Hb
  simp only [ek, eq, ed, l1, l2, l3]

/-- The head loop's stores all agree with one function of feature and token. -/
theorem pbH (q : Vec Ideal S1x18x160x384 .bf16) (k v : Vec Ideal S1x6x160x384 .bf16) : ∀ (n : ℕ) (_ : n ≤ 6),
    Good (e := .f32) (fun y : S2880x384.Idx => Hb k v q (y 0) (y 1))
      (pb_k0_t1 (F := Ideal) 𝒱 c bd i arg1 harg1 arg2 harg2 arg3 harg3 arg4 harg4 arg5 harg5 arg6 harg6 arg7 harg7 arg8 harg8 arg9 harg9 (harg1.unread q) (harg2.unread k) (harg3.unread v) n)
  | 0, _ => good_nil
  | n + 1, h => by
    have hk : n < 6 := by omega
    rw [pb_k0_t1_succ (k := ⟨n, by rw [tripsH]; omega⟩)]
    unfold tripL_k0_t1 trip_k0_t1
    frame_out
    refine good_cons (fun j => ?_) (good_cons (fun j => ?_) (good_cons (fun j => ?_) (pbH q k v n (by omega))))
    · refine (congrFun (Pay.pay27 _ _ _ _) j).trans ?_
      exact headAt q k v ⟨n, hk⟩ 2 _ (k0_off1_eq ⟨n, by rw [tripsH]; omega⟩) (k0_off1_inb _) _ (k0_off2_eq ⟨n, by rw [tripsH]; omega⟩ 2) (k0_off2_inb _ 2) _ (k0_off3_eq ⟨n, by rw [tripsH]; omega⟩ 2) (k0_off3_inb _ 2) j
    · refine (congrFun (Pay.pay22 _ _ _ _) j).trans ?_
      exact headAt q k v ⟨n, hk⟩ 1 _ (k0_off1_eq ⟨n, by rw [tripsH]; omega⟩) (k0_off1_inb _) _ (k0_off2_eq ⟨n, by rw [tripsH]; omega⟩ 1) (k0_off2_inb _ 1) _ (k0_off3_eq ⟨n, by rw [tripsH]; omega⟩ 1) (k0_off3_inb _ 1) j
    · exact headAt q k v ⟨n, hk⟩ 0 _ (k0_off1_eq ⟨n, by rw [tripsH]; omega⟩) (k0_off1_inb _) _ (k0_off2_eq ⟨n, by rw [tripsH]; omega⟩ 0) (k0_off2_inb _ 0) _ (k0_off3_eq ⟨n, by rw [tripsH]; omega⟩ 0) (k0_off3_inb _ 0) j

/-- The scratch of attention rows after the head loop. -/
theorem rowsAt (q : Vec Ideal S1x18x160x384 .bf16) (k v : Vec Ideal S1x6x160x384 .bf16) (f : Fin 2880) (t : Fin 384) :
    View.canon (pb_k0_t1 (F := Ideal) 𝒱 c bd i arg1 harg1 arg2 harg2 arg3 harg3 arg4 harg4 arg5 harg5 arg6 harg6 arg7 harg7 arg8 harg8 arg9 harg9 (harg1.unread q) (harg2.unread k) (harg3.unread v) 6) (ix2 f t) = Hb k v q f t :=
  canon_of (e := .f32) _ _ (ix2 f t) (pbH 𝒱 c bd i arg1 harg1 arg2 harg2 arg3 harg3 arg4 harg4 arg5 harg5 arg6 harg6 arg7 harg7 arg8 harg8 arg9 harg9 q k v 6 le_rfl)
    (View.cover_of_tiledL (pb_k0_t1 (F := Ideal) 𝒱 c bd i arg1 harg1 arg2 harg2 arg3 harg3 arg4 harg4 arg5 harg5 arg6 harg6 arg7 harg7 arg8 harg8 arg9 harg9 (harg1.unread q) (harg2.unread k) (harg3.unread v) 6) S160x384.size (by sl_kernel_rfl) (ix2 f t))

end Cert.AttnIdeal.Loop

end
-- ==== Proof.AGain.lean ====
/-
  The gain spread over the lanes, as the attention kernel stores it.
-/
module

public import proofs.«01_k».proof.Defs
public import proofs.«01_k».proof.Proof.Gen.AttnIdeal.Skeleton
public import proofs.«01_k».proof.Proof.QHGain
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttnIdeal.Pay

open Cert.AttnIdeal Cert.AttnIdeal.Gen Cert.Spec
open Cert.QuantHIdeal.Pay (castAt Stack stackAt)

theorem pay5 (u : Vec Ideal S1x2880 .f32) (i l : Fin 128) : k0_pay5 (F := Ideal) u (ix2 i l) = u (ix2 0 ⟨0 + i.val, by omega⟩) := by
  unfold k0_pay5 k0_pay4
  pointwise

theorem pay6 (u : Vec Ideal S1x2880 .f32) (i l : Fin 128) : k0_pay6 (F := Ideal) u (ix2 i l) = u (ix2 0 ⟨128 + i.val, by omega⟩) := by
  unfold k0_pay6 k0_pay4
  pointwise

theorem pay7 (u : Vec Ideal S1x2880 .f32) (i l : Fin 128) : k0_pay7 (F := Ideal) u (ix2 i l) = u (ix2 0 ⟨256 + i.val, by omega⟩) := by
  unfold k0_pay7 k0_pay4
  pointwise

theorem pay8 (u : Vec Ideal S1x2880 .f32) (i l : Fin 128) : k0_pay8 (F := Ideal) u (ix2 i l) = u (ix2 0 ⟨384 + i.val, by omega⟩) := by
  unfold k0_pay8 k0_pay4
  pointwise

theorem pay9 (u : Vec Ideal S1x2880 .f32) (i l : Fin 128) : k0_pay9 (F := Ideal) u (ix2 i l) = u (ix2 0 ⟨512 + i.val, by omega⟩) := by
  unfold k0_pay9 k0_pay4
  pointwise

theorem pay10 (u : Vec Ideal S1x2880 .f32) (i l : Fin 128) : k0_pay10 (F := Ideal) u (ix2 i l) = u (ix2 0 ⟨640 + i.val, by omega⟩) := by
  unfold k0_pay10 k0_pay4
  pointwise

theorem pay11 (u : Vec Ideal S1x2880 .f32) (i l : Fin 128) : k0_pay11 (F := Ideal) u (ix2 i l) = u (ix2 0 ⟨768 + i.val, by omega⟩) := by
  unfold k0_pay11 k0_pay4
  pointwise

theorem pay12 (u : Vec Ideal S1x2880 .f32) (i l : Fin 128) : k0_pay12 (F := Ideal) u (ix2 i l) = u (ix2 0 ⟨896 + i.val, by omega⟩) := by
  unfold k0_pay12 k0_pay4
  pointwise

theorem pay13 (u : Vec Ideal S1x2880 .f32) (i l : Fin 128) : k0_pay13 (F := Ideal) u (ix2 i l) = u (ix2 0 ⟨1024 + i.val, by omega⟩) := by
  unfold k0_pay13 k0_pay4
  pointwise

theorem pay14 (u : Vec Ideal S1x2880 .f32) (i l : Fin 128) : k0_pay14 (F := Ideal) u (ix2 i l) = u (ix2 0 ⟨1152 + i.val, by omega⟩) := by
  unfold k0_pay14 k0_pay4
  pointwise

theorem pay15 (u : Vec Ideal S1x2880 .f32) (i l : Fin 128) : k0_pay15 (F := Ideal) u (ix2 i l) = u (ix2 0 ⟨1280 + i.val, by omega⟩) := by
  unfold k0_pay15 k0_pay4
  pointwise

theorem pay16 (u : Vec Ideal S1x2880 .f32) (i l : Fin 128) : k0_pay16 (F := Ideal) u (ix2 i l) = u (ix2 0 ⟨1408 + i.val, by omega⟩) := by
  unfold k0_pay16 k0_pay4
  pointwise

theorem pay17 (u : Vec Ideal S1x2880 .f32) (i l : Fin 128) : k0_pay17 (F := Ideal) u (ix2 i l) = u (ix2 0 ⟨1536 + i.val, by omega⟩) := by
  unfold k0_pay17 k0_pay4
  pointwise

theorem pay18 (u : Vec Ideal S1x2880 .f32) (i l : Fin 128) : k0_pay18 (F := Ideal) u (ix2 i l) = u (ix2 0 ⟨1664 + i.val, by omega⟩) := by
  unfold k0_pay18 k0_pay4
  pointwise

/-- The gain as columns: every column of the stored array is the gain. -/
theorem pay25 (γ : Fin 2880 → EReal) (v31 : FVec Ideal S1x2880 .f32) (v35 v39 v43 v47 v51 v55 v59 v63 v67 v71 v75 v79 v83 v87 : FVec Ideal S128x128 .f32)
    (h31 : ∀ k, v31 (ix2 0 k) = γ k)
    (h35 : ∀ i l, v35 (ix2 i l) = γ ⟨0 + i.val, by omega⟩)
    (h39 : ∀ i l, v39 (ix2 i l) = γ ⟨128 + i.val, by omega⟩)
    (h43 : ∀ i l, v43 (ix2 i l) = γ ⟨256 + i.val, by omega⟩)
    (h47 : ∀ i l, v47 (ix2 i l) = γ ⟨384 + i.val, by omega⟩)
    (h51 : ∀ i l, v51 (ix2 i l) = γ ⟨512 + i.val, by omega⟩)
    (h55 : ∀ i l, v55 (ix2 i l) = γ ⟨640 + i.val, by omega⟩)
    (h59 : ∀ i l, v59 (ix2 i l) = γ ⟨768 + i.val, by omega⟩)
    (h63 : ∀ i l, v63 (ix2 i l) = γ ⟨896 + i.val, by omega⟩)
    (h67 : ∀ i l, v67 (ix2 i l) = γ ⟨1024 + i.val, by omega⟩)
    (h71 : ∀ i l, v71 (ix2 i l) = γ ⟨1152 + i.val, by omega⟩)
    (h75 : ∀ i l, v75 (ix2 i l) = γ ⟨1280 + i.val, by omega⟩)
    (h79 : ∀ i l, v79 (ix2 i l) = γ ⟨1408 + i.val, by omega⟩)
    (h83 : ∀ i l, v83 (ix2 i l) = γ ⟨1536 + i.val, by omega⟩)
    (h87 : ∀ i l, v87 (ix2 i l) = γ ⟨1664 + i.val, by omega⟩)
    (k : Fin 2880) (l : Fin 128) :
    k0_pay25 (F := Ideal) v31 v35 v39 v43 v47 v51 v55 v59 v63 v67 v71 v75 v79 v83 v87 (ix2 k l) = γ k := by
  unfold k0_pay25
  refine (castAt _ k l).trans ?_
  refine (concatenate_apply _ _ _ _ _).trans ?_
  refine (stackAt (fun n => γ ⟨n % 2880, Nat.mod_lt _ (by decide)⟩) k l _ 0 ?_ _ _ _).trans (congrArg γ (Fin.ext (by show (0 + k.val) % 2880 = k.val; have := k.isLt; omega)))
  refine .cons 0 128 _ _ (fun i l => ?_) ?_
  · exact (h35 i l).trans (congrArg γ (Fin.ext (by show 0 + i.val = (0 + i.val) % 2880; omega)))
  refine .cons 128 128 _ _ (fun i l => ?_) ?_
  · exact (h39 i l).trans (congrArg γ (Fin.ext (by show 128 + i.val = (128 + i.val) % 2880; omega)))
  refine .cons 256 128 _ _ (fun i l => ?_) ?_
  · exact (h43 i l).trans (congrArg γ (Fin.ext (by show 256 + i.val = (256 + i.val) % 2880; omega)))
  refine .cons 384 128 _ _ (fun i l => ?_) ?_
  · exact (h47 i l).trans (congrArg γ (Fin.ext (by show 384 + i.val = (384 + i.val) % 2880; omega)))
  refine .cons 512 128 _ _ (fun i l => ?_) ?_
  · exact (h51 i l).trans (congrArg γ (Fin.ext (by show 512 + i.val = (512 + i.val) % 2880; omega)))
  refine .cons 640 128 _ _ (fun i l => ?_) ?_
  · exact (h55 i l).trans (congrArg γ (Fin.ext (by show 640 + i.val = (640 + i.val) % 2880; omega)))
  refine .cons 768 128 _ _ (fun i l => ?_) ?_
  · exact (h59 i l).trans (congrArg γ (Fin.ext (by show 768 + i.val = (768 + i.val) % 2880; omega)))
  refine .cons 896 128 _ _ (fun i l => ?_) ?_
  · exact (h63 i l).trans (congrArg γ (Fin.ext (by show 896 + i.val = (896 + i.val) % 2880; omega)))
  refine .cons 1024 128 _ _ (fun i l => ?_) ?_
  · exact (h67 i l).trans (congrArg γ (Fin.ext (by show 1024 + i.val = (1024 + i.val) % 2880; omega)))
  refine .cons 1152 128 _ _ (fun i l => ?_) ?_
  · exact (h71 i l).trans (congrArg γ (Fin.ext (by show 1152 + i.val = (1152 + i.val) % 2880; omega)))
  refine .cons 1280 128 _ _ (fun i l => ?_) ?_
  · exact (h75 i l).trans (congrArg γ (Fin.ext (by show 1280 + i.val = (1280 + i.val) % 2880; omega)))
  refine .cons 1408 128 _ _ (fun i l => ?_) ?_
  · exact (h79 i l).trans (congrArg γ (Fin.ext (by show 1408 + i.val = (1408 + i.val) % 2880; omega)))
  refine .cons 1536 128 _ _ (fun i l => ?_) ?_
  · exact (h83 i l).trans (congrArg γ (Fin.ext (by show 1536 + i.val = (1536 + i.val) % 2880; omega)))
  refine .cons 1664 128 _ _ (fun i l => ?_) ?_
  · exact (h87 i l).trans (congrArg γ (Fin.ext (by show 1664 + i.val = (1664 + i.val) % 2880; omega)))
  refine .cons 1792 128 _ _ (fun i l => ?_) ?_
  · refine Eq.trans ?_ ((h31 ⟨1792 + i.val, by omega⟩).trans (congrArg γ (Fin.ext (by show 1792 + i.val = (1792 + i.val) % 2880; omega))))
    pointwise
  refine .cons 1920 128 _ _ (fun i l => ?_) ?_
  · refine Eq.trans ?_ ((h31 ⟨1920 + i.val, by omega⟩).trans (congrArg γ (Fin.ext (by show 1920 + i.val = (1920 + i.val) % 2880; omega))))
    pointwise
  refine .cons 2048 128 _ _ (fun i l => ?_) ?_
  · refine Eq.trans ?_ ((h31 ⟨2048 + i.val, by omega⟩).trans (congrArg γ (Fin.ext (by show 2048 + i.val = (2048 + i.val) % 2880; omega))))
    pointwise
  refine .cons 2176 128 _ _ (fun i l => ?_) ?_
  · refine Eq.trans ?_ ((h31 ⟨2176 + i.val, by omega⟩).trans (congrArg γ (Fin.ext (by show 2176 + i.val = (2176 + i.val) % 2880; omega))))
    pointwise
  refine .cons 2304 128 _ _ (fun i l => ?_) ?_
  · refine Eq.trans ?_ ((h31 ⟨2304 + i.val, by omega⟩).trans (congrArg γ (Fin.ext (by show 2304 + i.val = (2304 + i.val) % 2880; omega))))
    pointwise
  refine .cons 2432 128 _ _ (fun i l => ?_) ?_
  · refine Eq.trans ?_ ((h31 ⟨2432 + i.val, by omega⟩).trans (congrArg γ (Fin.ext (by show 2432 + i.val = (2432 + i.val) % 2880; omega))))
    pointwise
  refine .cons 2560 128 _ _ (fun i l => ?_) ?_
  · refine Eq.trans ?_ ((h31 ⟨2560 + i.val, by omega⟩).trans (congrArg γ (Fin.ext (by show 2560 + i.val = (2560 + i.val) % 2880; omega))))
    pointwise
  refine .cons 2688 128 _ _ (fun i l => ?_) ?_
  · refine Eq.trans ?_ ((h31 ⟨2688 + i.val, by omega⟩).trans (congrArg γ (Fin.ext (by show 2688 + i.val = (2688 + i.val) % 2880; omega))))
    pointwise
  refine .cons 2816 64 _ _ (fun i l => ?_) (.nil _)
  refine Eq.trans ?_ ((h31 ⟨2816 + i.val, by omega⟩).trans (congrArg γ (Fin.ext (by show 2816 + i.val = (2816 + i.val) % 2880; omega))))
  pointwise

end Cert.AttnIdeal.Pay

end
-- ==== Proof.AKer.lean ====
/-
  The attention kernel's three arrays after its last grid point, entry by entry.
-/
module

public import proofs.«01_k».proof.Proof.ALoop
public import proofs.«01_k».proof.Proof.AGain
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnIdeal.Point

open Cert.AttnIdeal Cert.AttnIdeal.Gen Cert.AttnIdeal.Loop Cert.Spec

section Run

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Run

variable (m : (ℓ : Loc nD τ sig) → Buf (Elt Ideal) ℓ)

/-- The call's arguments on device `c`. -/
def args (c : Dev nD) : AArgs where
  q := m ⟨c, main_arg0⟩
  k := m ⟨c, main_arg1⟩
  v := m ⟨c, main_arg2⟩
  g := m ⟨c, main_arg3⟩

theorem idx : ∀ t : Fin cfg0.N, win0_0.index t = ![t.val, 0, 0, 0] ∧ win0_1.index t = ![t.val, 0, 0, 0] ∧ win0_2.index t = ![t.val, 0, 0, 0] ∧ win0_3.index t = ![0, 0]
    ∧ win0_4.index t = ![t.val, 0, 0] ∧ win0_5.index t = ![t.val, 0, 0] ∧ win0_6.index t = ![t.val, 0, 0] := by
  decide +kernel

/-- The batch entry of a grid point. -/
def bt (t : Fin cfg0.N) : Fin 4 := ⟨t.val, t.isLt⟩

theorem q_at (c : Dev nD) (t : Fin cfg0.N) (h : Fin 18) (d : Fin 160) (r : Fin 384) : iblk m c 0 t (ix4 0 h d r) = (args m c).q (ix4 (bt t) h d r) := by
  obtain ⟨e0, e1, e2, e3, e4, e5, e6⟩ := idx t
  have ht : t.val < 4 := t.isLt
  show _ = m ⟨c, main_arg0⟩ (ix4 (bt t) h d r)
  unfold bt
  blk_ext [iblk, V, e0]

theorem k_at (c : Dev nD) (t : Fin cfg0.N) (h : Fin 6) (d : Fin 160) (r : Fin 384) : iblk m c 1 t (ix4 0 h d r) = (args m c).k (ix4 (bt t) h d r) := by
  obtain ⟨e0, e1, e2, e3, e4, e5, e6⟩ := idx t
  have ht : t.val < 4 := t.isLt
  show _ = m ⟨c, main_arg1⟩ (ix4 (bt t) h d r)
  unfold bt
  blk_ext [iblk, V, e1]

theorem v_at (c : Dev nD) (t : Fin cfg0.N) (h : Fin 6) (d : Fin 160) (r : Fin 384) : iblk m c 2 t (ix4 0 h d r) = (args m c).v (ix4 (bt t) h d r) := by
  obtain ⟨e0, e1, e2, e3, e4, e5, e6⟩ := idx t
  have ht : t.val < 4 := t.isLt
  show _ = m ⟨c, main_arg2⟩ (ix4 (bt t) h d r)
  unfold bt
  blk_ext [iblk, V, e2]

theorem g_at (c : Dev nD) (t : Fin cfg0.N) (k : Fin 2880) : iblk m c 3 t (ix2 0 k) = (args m c).g (ix1 k) := by
  obtain ⟨e0, e1, e2, e3, e4, e5, e6⟩ := idx t
  show _ = m ⟨c, main_arg3⟩ (ix1 k)
  show V m c main_v0 ((win0_3.blk t).view.emb (ix2 0 k)) = _
  entry_read
  pointwise
  blk_ext [e3]

theorem pay4 (u : Vec Ideal S1x2880 .f32) (k : Fin 2880) : k0_pay4 (F := Ideal) u (ix2 0 k) = u (ix2 0 k) := by
  unfold k0_pay4
  pointwise

/-- The gain spread over the lanes, from the gain's block. -/
theorem gain (u : Vec Ideal S1x2880 .f32) (k : Fin 2880) (l : Fin 128) :
    k0_pay25 (F := Ideal) (k0_pay4 u) (k0_pay5 u) (k0_pay6 u) (k0_pay7 u) (k0_pay8 u) (k0_pay9 u) (k0_pay10 u) (k0_pay11 u) (k0_pay12 u) (k0_pay13 u) (k0_pay14 u) (k0_pay15 u) (k0_pay16 u) (k0_pay17 u) (k0_pay18 u) (ix2 k l) = u (ix2 0 k) :=
  Pay.pay25 (fun k => u (ix2 0 k)) _ _ _ _ _ _ _ _ _ _ _ _ _ _ _ (pay4 u) (Pay.pay5 u) (Pay.pay6 u) (Pay.pay7 u) (Pay.pay8 u) (Pay.pay9 u) (Pay.pay10 u) (Pay.pay11 u) (Pay.pay12 u) (Pay.pay13 u) (Pay.pay14 u) (Pay.pay15 u) (Pay.pay16 u) (Pay.pay17 u) (Pay.pay18 u) k l

theorem g_A (c : Dev nD) (t : Fin cfg0.N) (h0 : t.val % 4 = 0) (k : Fin 2880) (l : Fin 128) :
    (outsAt0 m c t.val t.isLt).2.2.2 (ix2 k l) = (args m c).g (ix1 k) := by
  rw [outsAt0_A m c t h0]
  dsimp only
  unfold sout0_A_0
  frame_out
  exact (gain (iblk m c 3 t) k l).trans (g_at m c t k)

theorem g_B (c : Dev nD) (t : Fin cfg0.N) (h0 : ¬ t.val % 4 = 0) :
    (outsAt0 m c t.val t.isLt).2.2.2 = (outsAt0 m c (t.val - 1) (Nat.lt_of_le_of_lt (Nat.sub_le _ _) t.isLt)).2.2.2 := by
  rw [outsAt0_B m c t h0]
  rfl

/-- At every point the scratch holds the gain in every lane. -/
theorem g_scr (c : Dev nD) : ∀ (n : ℕ) (hn : n < cfg0.N) (k : Fin 2880) (l : Fin 128), (outsAt0 m c n hn).2.2.2 (ix2 k l) = (args m c).g (ix1 k)
  | 0, hn, k, l => g_A m c ⟨0, hn⟩ rfl k l
  | n + 1, hn, k, l => by
    have h4 : n + 1 < 4 := hn
    rw [g_B m c ⟨n + 1, hn⟩ (by show ¬ (n + 1) % 4 = 0; omega)]
    exact g_scr c n (Nat.lt_of_succ_lt hn) k l

theorem max_nonneg (A : QArgs) (b : Fin 4) (r : Fin 384) : 0 ≤ fmax fun k => max (Nq A b r k) (-(Nq A b r k)) :=
  (max_neg_nonneg (Nq A b r 0)).trans ((fmax_le (fun k => max (Nq A b r k) (-(Nq A b r k))) _).mp le_rfl 0)

section Token

variable (𝒱 : Variants) (c : Dev nD) (bd : Option 𝒱.V) (i : grid0.Coords) (arg1 : Memref sig .tc .vmem S1x18x160x384 .bf16) (harg1 : arg1.IsWhole) (arg2 : Memref sig .tc .vmem S1x6x160x384 .bf16) (harg2 : arg2.IsWhole) (arg3 : Memref sig .tc .vmem S1x6x160x384 .bf16) (harg3 : arg3.IsWhole) (arg4 : Memref sig .tc .vmem S1x2880 .f32) (harg4 : arg4.IsWhole) (arg5 : Memref sig .tc .vmem S1x2880x384 .i8) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S2880x128 .f32) (harg8 : arg8.IsWhole) (arg9 : Memref sig .tc .vmem S2880x384 .f32) (harg9 : arg9.IsWhole)
variable (A : QArgs) (b : Fin 4) (x : Vec Ideal S2880x384 .f32) (hx : ∀ k r, x (ix2 k r) = A.x (ix3 b k r))
  (g : Vec Ideal S2880x128 .f32) (hg : ∀ k l, g (ix2 k l) = A.g (ix1 k))

include hx in
theorem sumAt (r : Fin 384) : (∑ s : Fin 8, st_k0_t2 (F := Ideal) 𝒱 c bd i arg1 harg1 arg2 harg2 arg3 harg3 arg4 harg4 arg5 harg5 arg6 harg6 arg7 harg7 arg8 harg8 arg9 harg9 (harg9.unread x) (k0_pay28 (F := Ideal)) 30 (ix2 s r)) = Qq A b r := by
  simp only [st1 𝒱 c bd i arg1 harg1 arg2 harg2 arg3 harg3 arg4 harg4 arg5 harg5 arg6 harg6 arg7 harg7 arg8 harg8 arg9 harg9 x _ r 30 le_rfl, hx]
  exact sumFeat fun k => A.x (ix3 b k r) * A.x (ix3 b k r)

/-- Every feature lies in a block, a group and a place. -/
theorem ft_all (P : Fin 2880 → Prop) (h : ∀ (s : Fin 8), ∀ k < 30, ∀ q : Fin 12, P (ft k (8 * q.val + s.val))) (n : Fin 2880) : P n := by
  have hn := n.isLt
  have e := h ⟨n.val % 8, Nat.mod_lt _ (by decide)⟩ (n.val / 96) (by omega) ⟨n.val % 96 / 8, by omega⟩
  have e' : ft (n.val / 96) (8 * (n.val % 96 / 8) + n.val % 8) = n := Fin.ext (by show (96 * (n.val / 96) + (8 * (n.val % 96 / 8) + n.val % 8)) % 2880 = n.val; omega)
  exact e' ▸ e

include hx hg in
theorem maxAt (v5 : FVec Ideal S8x384 .f32) (r : Fin 384) (h5 : (∑ s : Fin 8, v5 (ix2 s r)) = Qq A b r) :
    (fmax fun s : Fin 8 => st_k0_t3 (F := Ideal) 𝒱 c bd i arg1 harg1 arg2 harg2 arg3 harg3 arg4 harg4 arg5 harg5 arg6 harg6 arg7 harg7 arg8 harg8 arg9 harg9 v5 (harg8.unread g) (harg9.unread x) (k0_pay31 (F := Ideal)) 30 (ix2 s r))
      = fmax fun k => max (Nq A b r k) (-(Nq A b r k)) := by
  refine eq_of_forall_ge_iff fun z => ?_
  rw [fmax_le, fmax_le]
  have hs := fun s => st2 𝒱 c bd i arg1 harg1 arg2 harg2 arg3 harg3 arg4 harg4 arg5 harg5 arg6 harg6 arg7 harg7 arg8 harg8 arg9 harg9 x g (fun k => A.g (ix1 k)) hg v5 s r z 30 le_rfl
  simp only [h5, hx] at hs
  constructor
  · intro h
    exact ft_all (fun k => max (Nq A b r k) (-(Nq A b r k)) ≤ z) fun s k hk q => ((hs s).mp (h s)).2 k hk q
  · intro h s
    exact (hs s).mpr ⟨(max_neg_nonneg _).trans (h 0), fun k _ q => h (ft k (8 * q.val + s.val))⟩

include hx in
theorem rootTok (N : ℕ) (hN : N = 30) (r : Fin 384) : k0_pay3 (F := Ideal) (k0_pay30 (F := Ideal) (st_k0_t2 (F := Ideal) 𝒱 c bd i arg1 harg1 arg2 harg2 arg3 harg3 arg4 harg4 arg5 harg5 arg6 harg6 arg7 harg7 arg8 harg8 arg9 harg9 (harg9.unread x) (k0_pay28 (F := Ideal)) N)) (ix3 0 0 r) = rQ (Qq A b r) := by
  subst hN
  exact (Pay.pay3 _ r).trans ((Pay.pay30 _ r).trans (congrArg rQ (sumAt 𝒱 c bd i arg1 harg1 arg2 harg2 arg3 harg3 arg4 harg4 arg5 harg5 arg6 harg6 arg7 harg7 arg8 harg8 arg9 harg9 A b x hx r)))

include hx hg in
theorem scaleTok (X : BufTy.Contents (Elt Ideal) arg8.view.ty) (hX : X = harg8.unread g) (N : ℕ) (hN : N = 30) (r : Fin 384) :
    k0_pay2 (F := Ideal) (k0_pay33 (F := Ideal) (st_k0_t3 (F := Ideal) 𝒱 c bd i arg1 harg1 arg2 harg2 arg3 harg3 arg4 harg4 arg5 harg5 arg6 harg6 arg7 harg7 arg8 harg8 arg9 harg9 (st_k0_t2 (F := Ideal) 𝒱 c bd i arg1 harg1 arg2 harg2 arg3 harg3 arg4 harg4 arg5 harg5 arg6 harg6 arg7 harg7 arg8 harg8 arg9 harg9 (harg9.unread x) (k0_pay28 (F := Ideal)) N) X (harg9.unread x) (k0_pay31 (F := Ideal)) N)) (ix3 0 0 r) = Zq A b r := by
  subst hN hX
  exact (Pay.pay2 _ r).trans ((Pay.pay33 _ r).trans (congrArg scaleOf (maxAt 𝒱 c bd i arg1 harg1 arg2 harg2 arg3 harg3 arg4 harg4 arg5 harg5 arg6 harg6 arg7 harg7 arg8 harg8 arg9 harg9 A b x hx g hg _ r (sumAt 𝒱 c bd i arg1 harg1 arg2 harg2 arg3 harg3 arg4 harg4 arg5 harg5 arg6 harg6 arg7 harg7 arg8 harg8 arg9 harg9 A b x hx r))))

/-- The last loop's stores cover the block of codes. -/
theorem codeCov (w z : FVec Ideal S1x384 .f32) (X8 : BufTy.Contents (Elt Ideal) arg8.view.ty) (X9 : BufTy.Contents (Elt Ideal) arg9.view.ty) (y : S1x2880x384.Idx) :
    ∃ p ∈ pb_k0_t4 (F := Ideal) 𝒱 c bd i arg1 harg1 arg2 harg2 arg3 harg3 arg4 harg4 arg5 harg5 arg6 harg6 arg7 harg7 arg8 harg8 arg9 harg9 w z X8 X9 30, y ∈ p.1.set :=
  View.cover_of_tiledL (pb_k0_t4 (F := Ideal) 𝒱 c bd i arg1 harg1 arg2 harg2 arg3 harg3 arg4 harg4 arg5 harg5 arg6 harg6 arg7 harg7 arg8 harg8 arg9 harg9 w z X8 X9 30) S1x96x384.size (by sl_kernel_rfl) y

include hx hg in
theorem codeTok (X : BufTy.Contents (Elt Ideal) arg8.view.ty) (hX : X = harg8.unread g) (N : ℕ) (hN : N = 30) (k : Fin 2880) (r : Fin 384) :
    View.canon (pb_k0_t4 (F := Ideal) 𝒱 c bd i arg1 harg1 arg2 harg2 arg3 harg3 arg4 harg4 arg5 harg5 arg6 harg6 arg7 harg7 arg8 harg8 arg9 harg9 (k0_pay30 (F := Ideal) (st_k0_t2 (F := Ideal) 𝒱 c bd i arg1 harg1 arg2 harg2 arg3 harg3 arg4 harg4 arg5 harg5 arg6 harg6 arg7 harg7 arg8 harg8 arg9 harg9 (harg9.unread x) (k0_pay28 (F := Ideal)) N)) (k0_pay34 (F := Ideal) (st_k0_t3 (F := Ideal) 𝒱 c bd i arg1 harg1 arg2 harg2 arg3 harg3 arg4 harg4 arg5 harg5 arg6 harg6 arg7 harg7 arg8 harg8 arg9 harg9 (st_k0_t2 (F := Ideal) 𝒱 c bd i arg1 harg1 arg2 harg2 arg3 harg3 arg4 harg4 arg5 harg5 arg6 harg6 arg7 harg7 arg8 harg8 arg9 harg9 (harg9.unread x) (k0_pay28 (F := Ideal)) N) X (harg9.unread x) (k0_pay31 (F := Ideal)) N)) X (harg9.unread x) N) (ix3 0 k r) = Cq A b r k := by
  subst hN hX
  have h1 := fun r => sumAt 𝒱 c bd i arg1 harg1 arg2 harg2 arg3 harg3 arg4 harg4 arg5 harg5 arg6 harg6 arg7 harg7 arg8 harg8 arg9 harg9 A b x hx r
  have h2 := fun r => maxAt 𝒱 c bd i arg1 harg1 arg2 harg2 arg3 harg3 arg4 harg4 arg5 harg5 arg6 harg6 arg7 harg7 arg8 harg8 arg9 harg9 A b x hx g hg _ r (h1 r)
  refine (canon_of (e := .i8) _ _ (ix3 0 k r) (pb3 𝒱 c bd i arg1 harg1 arg2 harg2 arg3 harg3 arg4 harg4 arg5 harg5 arg6 harg6 arg7 harg7 arg8 harg8 arg9 harg9 x g (fun k => A.g (ix1 k)) hg _ _ (fun r => Qq A b r) (fun r => fmax fun k => max (Nq A b r k) (-(Nq A b r k)))
    (fun r => (Pay.pay30 _ r).trans (congrArg rQ (h1 r))) (fun r => (Pay.pay34 _ r).trans (congrArg (fun μ => Ideal.div 1 (scaleOf μ)) (h2 r)))
    (fun r => max_nonneg A b r) 30 le_rfl) (codeCov 𝒱 c bd i arg1 harg1 arg2 harg2 arg3 harg3 arg4 harg4 arg5 harg5 arg6 harg6 arg7 harg7 arg8 harg8 arg9 harg9 _ _ _ _ _)).trans ?_
  show codeQ (x (ix2 k r) * rQ (Qq A b r) * A.g (ix1 k)) (scaleOf (fmax fun k => max (Nq A b r k) (-(Nq A b r k)))) = _
  rw [hx]
  rfl

end Token

/-- The attention rows of a grid point are the attention's result. -/
theorem x_at (c : Dev nD) (t : Fin cfg0.N) (k : Fin 2880) (r : Fin 384) :
    View.canon (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hs0_0 t).unread (iblk m c 0 t)) ((hs0_1 t).unread (iblk m c 1 t)) ((hs0_2 t).unread (iblk m c 2 t)) 6) (ix2 k r)
      = (qargs (args m c)).x (ix3 (bt t) k r) := by
  refine (rowsAt _ _ _ _ _ _ _ _ _ _ _ _ _ _ _ _ _ _ _ _ _ _ (iblk m c 0 t) (iblk m c 1 t) (iblk m c 2 t) k r).trans ?_
  show _ = Ao (args m c) (bt t) k r
  unfold Hb Ao
  simp only [q_at, k_at, v_at]

theorem emb4 (t : Fin cfg0.N) (k : Fin 2880) (r : Fin 384) : ((View.whole main_v1_0).slice (win0_4.rect t)).emb (ix3 0 k r) = ix3 (bt t) k r := by
  obtain ⟨e0, e1, e2, e3, e4, e5, e6⟩ := idx t
  have ht : t.val < 4 := t.isLt
  unfold bt
  blk_ext [e4]

theorem emb5 (t : Fin cfg0.N) (r : Fin 384) : ((View.whole main_v1_1).slice (win0_5.rect t)).emb (ix3 0 0 r) = ix3 (bt t) 0 r := by
  obtain ⟨e0, e1, e2, e3, e4, e5, e6⟩ := idx t
  have ht : t.val < 4 := t.isLt
  unfold bt
  blk_ext [e5]

theorem emb6 (t : Fin cfg0.N) (r : Fin 384) : ((View.whole main_v1_2).slice (win0_6.rect t)).emb (ix3 0 0 r) = ix3 (bt t) 0 r := by
  obtain ⟨e0, e1, e2, e3, e4, e5, e6⟩ := idx t
  have ht : t.val < 4 := t.isLt
  unfold bt
  blk_ext [e6]

theorem tr30 : Scf.trips (0#32) (Scalar.addi 0#32 30#32) 1#32 = 30 := by decide +kernel

/-- A scratch holding the gain in every lane is what a load of the gain sees. -/
theorem scr_eq (c : Dev nD) (X : BufTy.Contents (Elt Ideal) (scM0_0 : Memref sig .tc .vmem S2880x128 .f32).view.ty)
    (hX : ∀ k l, (scM0_0 : Memref sig .tc .vmem S2880x128 .f32).view.read (Elt Ideal) X (ix2 k l) = (args m c).g (ix1 k)) :
    ∃ g : Vec Ideal S2880x128 .f32, (∀ k l, g (ix2 k l) = (args m c).g (ix1 k)) ∧ X = (Memref.isWhole_whole _ : (scM0_0 : Memref sig .tc .vmem S2880x128 .f32).IsWhole).unread g :=
  ⟨_, hX, (Memref.isWhole_whole _ : (scM0_0 : Memref sig .tc .vmem S2880x128 .f32).IsWhole).eq_unread rfl⟩

/-- What the first point stores into the scratch, read back. -/
theorem scr_A (c : Dev nD) (t : Fin cfg0.N) (u : Vec Ideal S2880x128 .f32) (hu : ∀ k l, u (ix2 k l) = (args m c).g (ix1 k)) (k : Fin 2880) (l : Fin 128) :
    (scM0_0 : Memref sig .tc .vmem S2880x128 .f32).view.read (Elt Ideal) ((View.whole cc0_scratch0).writes (Elt Ideal) (View.whole cc0_scratch0).junk
      [⟨Rect.unit ![0, 0] ![2880, 128] inb_S2880x128_S2880x128_0_0, u⟩]) (ix2 k l) = (args m c).g (ix1 k) := by
  refine Eq.trans ?_ (hu k l)
  frame_out

theorem c_B (c : Dev nD) (t : Fin cfg0.N) (h0 : ¬ t.val % 4 = 0) (k : Fin 2880) (r : Fin 384) :
    (outsAt0 m c t.val t.isLt).1 (ix3 0 k r) = Cq (qargs (args m c)) (bt t) r k := by
  rw [outsAt0_B m c t h0]
  dsimp only
  unfold out0_B_4
  frame_out
  exact codeTok Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (qargs (args m c)) (bt t) _ (x_at m c t) _ (g_scr m c _ _) _ rfl _ tr30 k r

theorem a_B (c : Dev nD) (t : Fin cfg0.N) (h0 : ¬ t.val % 4 = 0) (r : Fin 384) :
    (outsAt0 m c t.val t.isLt).2.1 (ix3 0 0 r) = Zq (qargs (args m c)) (bt t) r := by
  rw [outsAt0_B m c t h0]
  dsimp only
  unfold out0_B_5
  frame_out
  exact scaleTok Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (qargs (args m c)) (bt t) _ (x_at m c t) _ (g_scr m c _ _) _ rfl _ tr30 r

theorem r_B (c : Dev nD) (t : Fin cfg0.N) (h0 : ¬ t.val % 4 = 0) (r : Fin 384) :
    (outsAt0 m c t.val t.isLt).2.2.1 (ix3 0 0 r) = rQ (Qq (qargs (args m c)) (bt t) r) := by
  rw [outsAt0_B m c t h0]
  dsimp only
  unfold out0_B_6
  frame_out
  exact rootTok Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (qargs (args m c)) (bt t) _ (x_at m c t) _ tr30 r

theorem c_A (c : Dev nD) (t : Fin cfg0.N) (h0 : t.val % 4 = 0) (k : Fin 2880) (r : Fin 384) :
    (outsAt0 m c t.val t.isLt).1 (ix3 0 k r) = Cq (qargs (args m c)) (bt t) r k := by
  rw [outsAt0_A m c t h0]
  dsimp only
  unfold out0_A_4
  frame_out
  obtain ⟨g, hg, e⟩ := scr_eq m c _ (scr_A m c t _ (fun k l => (gain (iblk m c 3 t) k l).trans (g_at m c t k)))
  exact codeTok Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (qargs (args m c)) (bt t) _ (x_at m c t) g hg _ e _ tr30 k r

theorem a_A (c : Dev nD) (t : Fin cfg0.N) (h0 : t.val % 4 = 0) (r : Fin 384) :
    (outsAt0 m c t.val t.isLt).2.1 (ix3 0 0 r) = Zq (qargs (args m c)) (bt t) r := by
  rw [outsAt0_A m c t h0]
  dsimp only
  unfold out0_A_5
  frame_out
  obtain ⟨g, hg, e⟩ := scr_eq m c _ (scr_A m c t _ (fun k l => (gain (iblk m c 3 t) k l).trans (g_at m c t k)))
  exact scaleTok Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (qargs (args m c)) (bt t) _ (x_at m c t) g hg _ e _ tr30 r

theorem r_A (c : Dev nD) (t : Fin cfg0.N) (h0 : t.val % 4 = 0) (r : Fin 384) :
    (outsAt0 m c t.val t.isLt).2.2.1 (ix3 0 0 r) = rQ (Qq (qargs (args m c)) (bt t) r) := by
  rw [outsAt0_A m c t h0]
  dsimp only
  unfold out0_A_6
  frame_out
  exact rootTok Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (qargs (args m c)) (bt t) _ (x_at m c t) _ tr30 r

/-- The codes after the last grid point. -/
theorem out4 (c : Dev nD) : (dats m 0 c).arrAt 4 cfg0.N = fun i : S4x2880x384.Idx => Cq (qargs (args m c)) (i 0) (i 2) (i 1) := by
  refine (dats m 0 c).arrAt_eq_of_covers 4 _ (by decide +kernel) fun t hf y => ?_
  blk_simp
  rw [after0_4]
  obtain ⟨b, k, r, rfl⟩ : ∃ (b : Fin 1) (k : Fin 2880) (r : Fin 384), y = ix3 b k r := ⟨y 0, y 1, y 2, eq_ix3 y⟩
  obtain rfl : b = 0 := Subsingleton.elim _ _
  refine ((em (t.val % 4 = 0)).elim (fun h => c_A m c t h k r) (fun h => c_B m c t h k r)).trans ?_
  rw [emb4]
  rfl

/-- The scales after the last grid point. -/
theorem out5 (c : Dev nD) : (dats m 0 c).arrAt 5 cfg0.N = fun i : S4x1x384.Idx => Zq (qargs (args m c)) (i 0) (i 2) := by
  refine (dats m 0 c).arrAt_eq_of_covers 5 _ (by decide +kernel) fun t hf y => ?_
  blk_simp
  rw [after0_5]
  obtain ⟨b, k, r, rfl⟩ : ∃ (b : Fin 1) (k : Fin 1) (r : Fin 384), y = ix3 b k r := ⟨y 0, y 1, y 2, eq_ix3 y⟩
  obtain rfl : b = 0 := Subsingleton.elim _ _
  obtain rfl : k = 0 := Subsingleton.elim _ _
  refine ((em (t.val % 4 = 0)).elim (fun h => a_A m c t h r) (fun h => a_B m c t h r)).trans ?_
  rw [emb5]
  rfl

/-- The reciprocal roots after the last grid point. -/
theorem out6 (c : Dev nD) : (dats m 0 c).arrAt 6 cfg0.N = fun i : S4x1x384.Idx => rQ (Qq (qargs (args m c)) (i 0) (i 2)) := by
  refine (dats m 0 c).arrAt_eq_of_covers 6 _ (by decide +kernel) fun t hf y => ?_
  blk_simp
  rw [after0_6]
  obtain ⟨b, k, r, rfl⟩ : ∃ (b : Fin 1) (k : Fin 1) (r : Fin 384), y = ix3 b k r := ⟨y 0, y 1, y 2, eq_ix3 y⟩
  obtain rfl : b = 0 := Subsingleton.elim _ _
  obtain rfl : k = 0 := Subsingleton.elim _ _
  refine ((em (t.val % 4 = 0)).elim (fun h => r_A m c t h r) (fun h => r_B m c t h r)).trans ?_
  rw [emb6]
  rfl

end Cert.AttnIdeal.Point

end
-- ==== Proof.ARef.lean ====
/-
  The attention reference: its three result arrays, entry by entry.
-/
module

public import proofs.«01_k».proof.Proof.QHRef
public import proofs.«01_k».proof.Proof.AHead
public import proofs.«01_k».proof.Proof.Gen.AttnRefIdeal.Frame
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnRefIdeal.Val

open Cert.AttnRefIdeal Cert.AttnRefIdeal.Gen Cert.Spec
open Cert.GateUpRefIdeal.Pay (maxred sumred)
open Cert.QuantHRefIdeal.Val (scalePart scalePart_at codePart codePart_at sit127 sitN127)

section Run

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Run

/-- The masked scores. -/
def sc (v0 : Vec Ideal S4x18x160x384 .bf16) (v2 : Vec Ideal S4x6x160x384 .bf16) : FVec Ideal S72x384x384 .f32 :=
  let v1 : FVec Ideal S72x160x384 .bf16 := shapeCast S72x160x384 v0 shapeCasts_S4x18x160x384_S72x160x384
  let v3 : FVec Ideal S4x6x1x160x384 .bf16 := shapeCast S4x6x1x160x384 v2 shapeCasts_S4x6x160x384_S4x6x1x160x384
  let v4 : FVec Ideal S4x6x1x160x384 .bf16 := shapeCast S4x6x1x160x384 v3 shapeCasts_S4x6x1x160x384_S4x6x1x160x384
  let v5 : FVec Ideal S4x6x3x160x384 .bf16 := broadcastTo S4x6x3x160x384 v4 broadcasts_S4x6x1x160x384_S4x6x3x160x384
  let v6 : FVec Ideal S72x160x384 .bf16 := shapeCast S72x160x384 v5 shapeCasts_S4x6x3x160x384_S72x160x384
  let v12 : FVec Ideal S72x384x160 .bf16 := transpose S72x384x160 [0, 2, 1] v1 transposes_S72x160x384_p0_2_1_S72x384x160
  let cst : FVec Ideal S72x384x384 .f32 := constant S72x384x384 .f32 0x00000000#32
  let v13 : FVec Ideal S72x384x384 .f32 := matmul dot_S72x384x160_S72x160x384_S72x384x384_2_1_1_2_0_0 none v12 v6 cst
  let cst_11 : Ideal .f32 := Scalar.ofBits .f32 0x3DA1E89B#32
  let v14 : FVec Ideal S72x384x384 .f32 := broadcast S72x384x384 cst_11
  let v15 : FVec Ideal S72x384x384 .f32 := mulf v13 v14
  let v16 : IVec S72x384x384 32 := iota .tc S72x384x384 32 [1] iota_S72x384x384_d1_w32
  let v17 : IVec S72x384x384 32 := iota .tc S72x384x384 32 [2] iota_S72x384x384_d2_w32
  let v18 : IVec S72x384x384 1 := cmpi .sle v17 v16
  let cst_12 : Ideal .f32 := Scalar.ofBits .f32 0xFF800000#32
  let v19 : FVec Ideal S72x384x384 .f32 := broadcast S72x384x384 cst_12
  select v18 v15 v19

/-- The exponentials of masked scores, from each token's greatest. -/
def expPart (v21 : FVec Ideal S72x384 .f32) (v20 : FVec Ideal S72x384x384 .f32) : FVec Ideal S72x384x384 .f32 :=
  let cst_14 : Ideal .f32 := Scalar.ofBits .f32 0xFF800000#32
  let v22 : FVec Ideal S72x384 .f32 := broadcast S72x384 cst_14
  let v23 : FVec Ideal S72x384 .f32 := maximumf v22 v21
  let v24 : FVec Ideal S72x384x1 .f32 := shapeCast S72x384x1 v23 shapeCasts_S72x384_S72x384x1
  let v25 : FVec Ideal S72x384x384 .f32 := broadcastTo S72x384x384 v24 broadcasts_S72x384x1_S72x384x384
  exp (subf v20 v25)

/-- The weights, from each token's sum of exponentials. -/
def divPart (v28 : FVec Ideal S72x384 .f32) (v27 : FVec Ideal S72x384x384 .f32) : FVec Ideal S72x384x384 .bf16 :=
  let v29 : FVec Ideal S72x384x1 .f32 := shapeCast S72x384x1 v28 shapeCasts_S72x384_S72x384x1
  let v30 : FVec Ideal S72x384x384 .f32 := broadcastTo S72x384x384 v29 broadcasts_S72x384x1_S72x384x384
  truncf .bf16 (divf v27 v30) bitsLt_bf16_f32

/-- The attention weights of masked scores. -/
def pr (v20 : FVec Ideal S72x384x384 .f32) : FVec Ideal S72x384x384 .bf16 :=
  let v27 : FVec Ideal S72x384x384 .f32 := expPart (multiReduction .maximumf [2] S72x384 v20 0xFF800000#32 reduces_S72x384x384_S72x384 (.inl rfl) rfl) v20
  divPart (multiReduction .add [2] S72x384 v27 0x00000000#32 reduces_S72x384x384_S72x384 (.inl rfl) rfl) v27

/-- The weighted values, one token to a row. -/
def wv (v7 : Vec Ideal S4x6x160x384 .bf16) (v32 : FVec Ideal S72x384x384 .bf16) : FVec Ideal S1536x2880 .f32 :=
  let v8 : FVec Ideal S4x6x1x160x384 .bf16 := shapeCast S4x6x1x160x384 v7 shapeCasts_S4x6x160x384_S4x6x1x160x384
  let v9 : FVec Ideal S4x6x1x160x384 .bf16 := shapeCast S4x6x1x160x384 v8 shapeCasts_S4x6x1x160x384_S4x6x1x160x384
  let v10 : FVec Ideal S4x6x3x160x384 .bf16 := broadcastTo S4x6x3x160x384 v9 broadcasts_S4x6x1x160x384_S4x6x3x160x384
  let v11 : FVec Ideal S72x160x384 .bf16 := shapeCast S72x160x384 v10 shapeCasts_S4x6x3x160x384_S72x160x384
  let cst_16 : FVec Ideal S72x384x160 .f32 := constant S72x384x160 .f32 0x00000000#32
  let v33 : FVec Ideal S72x384x160 .f32 := matmul dot_S72x384x384_S72x160x384_S72x384x160_2_2_1_1_0_0 none v32 v11 cst_16
  let v34 : FVec Ideal S72x160x384 .f32 := transpose S72x160x384 [0, 2, 1] v33 transposes_S72x384x160_p0_2_1_S72x160x384
  let v35 : FVec Ideal S4x2880x384 .f32 := shapeCast S4x2880x384 v34 shapeCasts_S72x160x384_S4x2880x384
  let v36 : FVec Ideal S4x384x2880 .f32 := transpose S4x384x2880 [0, 2, 1] v35 transposes_S4x2880x384_p0_2_1_S4x384x2880
  shapeCast S1536x2880 v36 shapeCasts_S4x384x2880_S1536x2880

theorem pay1_eq (v0 : Vec Ideal S4x18x160x384 .bf16) (v2 v7 : Vec Ideal S4x6x160x384 .bf16) :
    k0_pay1 (F := Ideal) v0 v2 v7 = wv v7 (pr (sc v0 v2)) := rfl

theorem sc_at (v0 : Vec Ideal S4x18x160x384 .bf16) (v2 : Vec Ideal S4x6x160x384 .bf16) (n : Fin 72) (t x : Fin 384) :
    sc v0 v2 (ix3 n t x) = Sa (fun d x => v2 (ix4 ⟨n.val / 18, by omega⟩ ⟨n.val / 3 % 6, by omega⟩ d x)) (fun d t => v0 (ix4 ⟨n.val / 18, by omega⟩ ⟨n.val % 18, by omega⟩ d t)) t x := by
  unfold sc Sa
  pointwise
  exact congrArg (fun y : EReal => Scalar.select (IntOp.cmpi CmpIPredicate.sle (BitVec.ofNat 32 x.val) (BitVec.ofNat 32 t.val)) (y * Ideal.ofBits FTy.f32 1034021019#32) (Ideal.ofBits FTy.f32 4286578688#32))
    (Finset.sum_congr rfl fun d _ => mul_comm _ _)

/-- The greatest entry along the last axis. -/
theorem maxred3 {n : ℕ} (src : FVec Ideal (⟨3, ![72, 384, n]⟩ : Shape) .f32) (h : (⟨3, ![72, 384, n]⟩ : Shape).Reduces [2] S72x384)
    (hφ : FKind.Formats .f32) (hacc : 0xFF800000#32 = FKind.maximumf.neutral .f32 hφ) (a : Fin 72) (t : Fin 384) :
    multiReduction (F := Ideal) .maximumf [2] S72x384 src 0xFF800000#32 h hφ hacc (ix2 a t) = fmax fun x => src (ix3 a t x) := by
  pointwise
  rfl

/-- The sum along the last axis. -/
theorem sumred3 {n : ℕ} (src : FVec Ideal (⟨3, ![72, 384, n]⟩ : Shape) .f32) (h : (⟨3, ![72, 384, n]⟩ : Shape).Reduces [2] S72x384)
    (hφ : FKind.Formats .f32) (hacc : 0x00000000#32 = FKind.add.neutral .f32 hφ) (a : Fin 72) (t : Fin 384) :
    multiReduction (F := Ideal) .add [2] S72x384 src 0x00000000#32 h hφ hacc (ix2 a t) = ∑ x, src (ix3 a t x) := by
  pointwise

theorem expPart_at (u : FVec Ideal S72x384 .f32) (v : FVec Ideal S72x384x384 .f32) (n : Fin 72) (t x : Fin 384) :
    expPart u v (ix3 n t x) = Ideal.exp (v (ix3 n t x) - max (Ideal.ofBits FTy.f32 4286578688#32) (u (ix2 n t))) := by
  unfold expPart
  pointwise

theorem divPart_at (u : FVec Ideal S72x384 .f32) (v : FVec Ideal S72x384x384 .f32) (n : Fin 72) (t x : Fin 384) :
    divPart u v (ix3 n t x) = Ideal.div (v (ix3 n t x)) (u (ix2 n t)) := by
  unfold divPart
  pointwise

/-- The least value changes no maximum. -/
theorem max_seed (z : EReal) : max (Ideal.ofBits FTy.f32 4286578688#32) z = z :=
  max_eq_right (by simp [Ideal.ofBits, Ideal.ieee])

theorem pr_at (v : FVec Ideal S72x384x384 .f32) (k q : Fin 160 → Fin 384 → EReal) (n : Fin 72) (t : Fin 384) (hv : ∀ x, v (ix3 n t x) = Sa k q t x) (x : Fin 384) :
    pr v (ix3 n t x) = Ideal.div (Ea k q t x) (∑ x, Ea k q t x) := by
  have e : ∀ x, expPart (multiReduction .maximumf [2] S72x384 v 0xFF800000#32 reduces_S72x384x384_S72x384 (.inl rfl) rfl) v (ix3 n t x) = Ea k q t x := fun x => by
    rw [expPart_at, max_seed, hv]
    refine congrArg (fun μ => Ideal.exp (Sa k q t x - μ)) ?_
    refine (maxred3 (n := 384) _ _ _ _ n t).trans (congrArg fmax (funext fun y => hv y))
  show divPart _ _ (ix3 n t x) = _
  rw [divPart_at, e]
  refine congrArg (Ideal.div (Ea k q t x)) ?_
  exact (sumred3 (n := 384) _ _ _ _ n t).trans (Finset.sum_congr rfl fun y _ => e y)

theorem wv_at (v7 : Vec Ideal S4x6x160x384 .bf16) (p : FVec Ideal S72x384x384 .bf16) (R : Fin 1536) (f : Fin 2880) :
    wv v7 p (ix2 R f) = ∑ x, p (ix3 ⟨R.val / 384 * 18 + f.val / 160, by omega⟩ ⟨R.val % 384, by omega⟩ x)
      * v7 (ix4 ⟨(R.val / 384 * 18 + f.val / 160) / 18, by omega⟩ ⟨(R.val / 384 * 18 + f.val / 160) / 3 % 6, by omega⟩ ⟨f.val % 160, by omega⟩ x) := by
  unfold wv
  pointwise

section Head

variable (A : AArgs) (v0 : Vec Ideal S4x18x160x384 .bf16) (h0 : v0 = A.q) (v2 v7 : Vec Ideal S4x6x160x384 .bf16) (h2 : v2 = A.k) (h7 : v7 = A.v)
include h0 h2 h7

/-- The attention's result, a row per token. -/
theorem pay1 (b : Fin 4) (r : Fin 384) (f : Fin 2880) : k0_pay1 (F := Ideal) v0 v2 v7 (ix2 (row b r) f) = (qargs A).x (ix3 b f r) := by
  rw [pay1_eq, wv_at]
  have hb := b.isLt
  have hr := r.isLt
  have hf := f.isLt
  have hR : (row b r).val = b.val * 384 + r.val := rfl
  have e0 : (row b r).val / 384 = b.val := by omega
  have e1 : (⟨(row b r).val % 384, by omega⟩ : Fin 384) = r := Fin.ext (by show (row b r).val % 384 = r.val; omega)
  have e2 : (⟨((row b r).val / 384 * 18 + f.val / 160) / 18, by omega⟩ : Fin 4) = b := Fin.ext (by show ((row b r).val / 384 * 18 + f.val / 160) / 18 = b.val; omega)
  have e3 : (⟨((row b r).val / 384 * 18 + f.val / 160) / 3 % 6, by omega⟩ : Fin 6) = ⟨f.val / 480, by omega⟩ := Fin.ext (by show ((row b r).val / 384 * 18 + f.val / 160) / 3 % 6 = f.val / 480; omega)
  have e4 : (⟨((row b r).val / 384 * 18 + f.val / 160) % 18, by omega⟩ : Fin 18) = ⟨f.val / 160, by omega⟩ := Fin.ext (by show ((row b r).val / 384 * 18 + f.val / 160) % 18 = f.val / 160; omega)
  show _ = Ao A b f r
  unfold Ao Oa
  refine Finset.sum_congr rfl fun x _ => ?_
  refine (mul_comm _ _).trans ?_
  rw [e1, e2, e3, h7]
  refine congrArg (A.v (ix4 b ⟨f.val / 480, by omega⟩ ⟨f.val % 160, by omega⟩ x) * ·) ?_
  refine pr_at _ _ _ _ r (fun y => ?_) x
  rw [sc_at, h0, h2]
  simp only [e2, e3, e4]

end Head

/-- The reciprocal root of a row, from its sum of squares. -/
def rootPart (v : FVec Ideal S1536 .f32) : FVec Ideal S1536x1 .f32 :=
  have v42 : FVec Ideal S1536x1 .f32 := shapeCast S1536x1 v shapeCasts_S1536_S1536x1
  rsqrt (addf (divf v42 (broadcast S1536x1 (Scalar.ofBits .f32 0x45340000#32 : Ideal .f32))) (broadcast S1536x1 (Scalar.ofBits .f32 0x3727C5AC#32 : Ideal .f32)))

theorem rootPart_at (v : FVec Ideal S1536 .f32) (R : Fin 1536) : rootPart v (ix2 R 0) = rQ (v (ix1 R)) := by
  unfold rootPart
  pointwise
  rfl

theorem pay2_eq (X : FVec Ideal S1536x2880 .f32) :
    k0_pay2 (F := Ideal) X = rootPart (multiReduction .add [1] S1536 (mulf X X) 0x00000000#32 reduces_S1536x2880_S1536 (.inl rfl) rfl) := rfl

theorem pay3_at (X : FVec Ideal S1536x2880 .f32) (g : Vec Ideal S1x2880 .f32) (R : Fin 1536) (k : Fin 2880) :
    k0_pay3 (F := Ideal) X g (ix2 R k) = X (ix2 R k) * k0_pay2 (F := Ideal) X (ix2 R 0) * g (ix2 0 k) := by
  unfold k0_pay3
  pointwise

theorem pay4_eq (X : FVec Ideal S1536x2880 .f32) (g : Vec Ideal S1x2880 .f32) :
    k0_pay4 (F := Ideal) X g = scalePart (multiReduction .maximumf [1] S1536 (absf (k0_pay3 (F := Ideal) X g)) 0xFF800000#32 reduces_S1536x2880_S1536 (.inl rfl) rfl) := rfl

theorem pay5_eq (X : FVec Ideal S1536x2880 .f32) (g : Vec Ideal S1x2880 .f32) :
    k0_pay5 (F := Ideal) X g = codePart (Scalar.sitofp (F := Ideal) .f32 4294967169#32) (Scalar.sitofp (F := Ideal) .f32 127#32) (k0_pay4 (F := Ideal) X g) (k0_pay3 (F := Ideal) X g) := rfl

section Entry

variable (A : QArgs) (X : FVec Ideal S1536x2880 .f32) (hx : ∀ b r k, X (ix2 (row b r) k) = A.x (ix3 b k r)) (g : Vec Ideal S1x2880 .f32) (hg : ∀ k, g (ix2 0 k) = A.g (ix1 k))

include hx in
theorem pay2 (b : Fin 4) (r : Fin 384) : k0_pay2 (F := Ideal) X (ix2 (row b r) 0) = rQ (Qq A b r) := by
  rw [pay2_eq, rootPart_at]
  refine congrArg rQ ?_
  refine (sumred (n := 2880) _ _ _ _ (row b r)).trans (Finset.sum_congr rfl fun N _ => ?_)
  show X (ix2 (row b r) N) * X (ix2 (row b r) N) = _
  rw [hx]

include hx hg

theorem pay3 (b : Fin 4) (r : Fin 384) (k : Fin 2880) : k0_pay3 (F := Ideal) X g (ix2 (row b r) k) = Nq A b r k := by
  rw [pay3_at, hx, hg, pay2 A X hx]
  rfl

theorem pay4 (b : Fin 4) (r : Fin 384) : k0_pay4 (F := Ideal) X g (ix2 (row b r) 0) = Zq A b r := by
  rw [pay4_eq, scalePart_at]
  refine congrArg scaleOf ?_
  refine (maxred (n := 2880) _ _ _ _ (row b r)).trans ?_
  refine congrArg fmax (funext fun N => ?_)
  show max (k0_pay3 (F := Ideal) X g (ix2 (row b r) N)) (-(k0_pay3 (F := Ideal) X g (ix2 (row b r) N))) = _
  rw [pay3 A X hx g hg]

theorem pay5 (b : Fin 4) (k : Fin 2880) (r : Fin 384) : k0_pay5 (F := Ideal) X g (ix3 b k r) = Cq A b r k := by
  rw [pay5_eq, codePart_at, sit127, sitN127, pay3 A X hx g hg, pay4 A X hx g hg]
  rfl

theorem pay6 (b : Fin 4) (r : Fin 384) : k0_pay6 (F := Ideal) X g (ix3 b 0 r) = Zq A b r := by
  unfold k0_pay6
  pointwise
  exact pay4 A X hx g hg b r

omit hg in
theorem pay7 (b : Fin 4) (r : Fin 384) : k0_pay7 (F := Ideal) X (ix3 b 0 r) = rQ (Qq A b r) := by
  unfold k0_pay7
  pointwise
  exact pay2 A X hx b r

end Entry

variable (m : (ℓ : Loc nD τ sig) → Buf (Elt Ideal) ℓ)

/-- The reference's arguments on device `c`. -/
def args (c : Dev nD) : AArgs where
  q := m ⟨c, main_arg0⟩
  k := m ⟨c, main_arg1⟩
  v := m ⟨c, main_arg2⟩
  g := m ⟨c, main_arg3⟩

theorem idx : ∀ t : Fin cfg0.N, win0_0.index t = ![0, 0, 0, 0] ∧ win0_1.index t = ![0, 0, 0, 0] ∧ win0_2.index t = ![0, 0, 0, 0] ∧ win0_3.index t = ![0, 0]
    ∧ win0_4.index t = ![0, 0, 0] ∧ win0_5.index t = ![0, 0, 0] ∧ win0_6.index t = ![0, 0, 0] := by
  decide +kernel

theorem q_eq (c : Dev nD) (t : Fin cfg0.N) : (iblk m c 0 t : S4x18x160x384.Idx → EReal) = (args m c).q := by
  obtain ⟨e0, e1, e2, e3, e4, e5, e6⟩ := idx t
  funext i
  rw [eq_ix4 i]
  show _ = m ⟨c, main_arg0⟩ (ix4 _ _ _ _)
  blk_ext [iblk, V, e0]

theorem k_eq (c : Dev nD) (t : Fin cfg0.N) : (iblk m c 1 t : S4x6x160x384.Idx → EReal) = (args m c).k := by
  obtain ⟨e0, e1, e2, e3, e4, e5, e6⟩ := idx t
  funext i
  rw [eq_ix4 i]
  show _ = m ⟨c, main_arg1⟩ (ix4 _ _ _ _)
  blk_ext [iblk, V, e1]

theorem v_eq (c : Dev nD) (t : Fin cfg0.N) : (iblk m c 2 t : S4x6x160x384.Idx → EReal) = (args m c).v := by
  obtain ⟨e0, e1, e2, e3, e4, e5, e6⟩ := idx t
  funext i
  rw [eq_ix4 i]
  show _ = m ⟨c, main_arg2⟩ (ix4 _ _ _ _)
  blk_ext [iblk, V, e2]

theorem g_at (c : Dev nD) (t : Fin cfg0.N) (k : Fin 2880) : iblk m c 3 t (ix2 0 k) = (args m c).g (ix1 k) := by
  obtain ⟨e0, e1, e2, e3, e4, e5, e6⟩ := idx t
  show _ = m ⟨c, main_arg3⟩ (ix1 k)
  show V m c main_v0 ((win0_3.blk t).view.emb (ix2 0 k)) = _
  entry_read
  pointwise
  blk_ext [e3]

theorem x_at (c : Dev nD) (t : Fin cfg0.N) (b : Fin 4) (r : Fin 384) (k : Fin 2880) :
    k0_pay1 (F := Ideal) (iblk m c 0 t) (iblk m c 1 t) (iblk m c 2 t) (ix2 (row b r) k) = (qargs (args m c)).x (ix3 b k r) :=
  pay1 (args m c) _ (q_eq m c t) _ _ (k_eq m c t) (v_eq m c t) b r k

theorem emb4 (t : Fin cfg0.N) (y : S4x2880x384.Idx) : ((View.whole main_v1_0).slice (win0_4.rect t)).emb y = y := by
  obtain ⟨e0, e1, e2, e3, e4, e5, e6⟩ := idx t
  blk_ext [e4]

theorem emb5 (t : Fin cfg0.N) (y : S4x1x384.Idx) : ((View.whole main_v1_1).slice (win0_5.rect t)).emb y = y := by
  obtain ⟨e0, e1, e2, e3, e4, e5, e6⟩ := idx t
  blk_ext [e5]

theorem emb6 (t : Fin cfg0.N) (y : S4x1x384.Idx) : ((View.whole main_v1_2).slice (win0_6.rect t)).emb y = y := by
  obtain ⟨e0, e1, e2, e3, e4, e5, e6⟩ := idx t
  blk_ext [e6]

/-- The codes. -/
theorem out4 (c : Dev nD) : (dats m 0 c).arrAt 4 cfg0.N = fun i : S4x2880x384.Idx => Cq (qargs (args m c)) (i 0) (i 2) (i 1) := by
  refine (dats m 0 c).arrAt_eq_of_covers 4 _ (by decide +kernel) fun t hf y => ?_
  blk_simp
  rw [after0_4]
  unfold out0_4 k0_pay8
  frame_out
  obtain ⟨b, k, r, rfl⟩ : ∃ (b : Fin 4) (k : Fin 2880) (r : Fin 384), y = ix3 b k r := ⟨y 0, y 1, y 2, eq_ix3 y⟩
  refine (pay5 (qargs (args m c)) _ (x_at m c t) _ (g_at m c t) b k r).trans ?_
  rw [emb4]
  rfl

/-- The scales. -/
theorem out5 (c : Dev nD) : (dats m 0 c).arrAt 5 cfg0.N = fun i : S4x1x384.Idx => Zq (qargs (args m c)) (i 0) (i 2) := by
  refine (dats m 0 c).arrAt_eq_of_covers 5 _ (by decide +kernel) fun t hf y => ?_
  blk_simp
  rw [after0_5]
  unfold out0_5 k0_pay8
  frame_out
  obtain ⟨b, k, r, rfl⟩ : ∃ (b : Fin 4) (k : Fin 1) (r : Fin 384), y = ix3 b k r := ⟨y 0, y 1, y 2, eq_ix3 y⟩
  obtain rfl : k = 0 := Subsingleton.elim _ _
  refine (pay6 (qargs (args m c)) _ (x_at m c t) _ (g_at m c t) b r).trans ?_
  rw [emb5]
  rfl

/-- The reciprocal roots. -/
theorem out6 (c : Dev nD) : (dats m 0 c).arrAt 6 cfg0.N = fun i : S4x1x384.Idx => rQ (Qq (qargs (args m c)) (i 0) (i 2)) := by
  refine (dats m 0 c).arrAt_eq_of_covers 6 _ (by decide +kernel) fun t hf y => ?_
  blk_simp
  rw [after0_6]
  unfold out0_6 k0_pay8
  frame_out
  obtain ⟨b, k, r, rfl⟩ : ∃ (b : Fin 4) (k : Fin 1) (r : Fin 384), y = ix3 b k r := ⟨y 0, y 1, y 2, eq_ix3 y⟩
  obtain rfl : k = 0 := Subsingleton.elim _ _
  refine (pay7 (qargs (args m c)) _ (x_at m c t) b r).trans ?_
  rw [emb6]
  rfl

end Cert.AttnRefIdeal.Val

end
-- ==== Proof.lean ====
/- The claims of the certificate, put together from the modules under Proof/. -/
module

public import proofs.«01_k».proof.Defs
public import proofs.«01_k».proof.Proof.Gen.GateUp
public import proofs.«01_k».proof.Proof.Gen.GateUp.Frame
public import proofs.«01_k».proof.Proof.Gen.GateUpIdeal.Frame
public import proofs.«01_k».proof.Proof.Gen.GateUpIdeal.Value
public import proofs.«01_k».proof.Proof.Gen.GateUpRefIdeal.Value
public import proofs.«01_k».proof.Proof.Gen.OProj
public import proofs.«01_k».proof.Proof.Gen.OProj.Frame
public import proofs.«01_k».proof.Proof.Gen.OProjIdeal.Frame
public import proofs.«01_k».proof.Proof.Gen.OProjIdeal.Value
public import proofs.«01_k».proof.Proof.Gen.OProjRefIdeal.Value
public import proofs.«01_k».proof.Proof.Gen.QuantX
public import proofs.«01_k».proof.Proof.Gen.QuantX.Frame
public import proofs.«01_k».proof.Proof.Gen.QuantXIdeal.Frame
public import proofs.«01_k».proof.Proof.Gen.QuantXIdeal.Value
public import proofs.«01_k».proof.Proof.Gen.QuantXRefIdeal.Frame
public import proofs.«01_k».proof.Proof.Gen.QuantH
public import proofs.«01_k».proof.Proof.Gen.QuantH.Frame
public import proofs.«01_k».proof.Proof.Gen.QuantHIdeal.Frame
public import proofs.«01_k».proof.Proof.Gen.QuantHIdeal.Value
public import proofs.«01_k».proof.Proof.Gen.QuantHRefIdeal.Frame
public import proofs.«01_k».proof.Proof.Gen.Attn
public import proofs.«01_k».proof.Proof.Gen.AttnRefIdeal.Frame
public import proofs.«01_k».proof.Proof.KerVal
public import proofs.«01_k».proof.Proof.RefVal
public import proofs.«01_k».proof.Proof.OKer
public import proofs.«01_k».proof.Proof.ORef
public import proofs.«01_k».proof.Proof.QKer
public import proofs.«01_k».proof.Proof.QRef
public import proofs.«01_k».proof.Proof.QHKer
public import proofs.«01_k».proof.Proof.QHRef
public import proofs.«01_k».proof.Proof.AKerFrame
public import proofs.«01_k».proof.Proof.AIdealFrame
public import proofs.«01_k».proof.Proof.AKer
public import proofs.«01_k».proof.Proof.ARef
public import Idealize.ShloMosaic.Adequacy
public import Idealize.ShloMosaic.Init

@[expose] public section

noncomputable section

namespace Cert.Proof

open Idealize.ShloMosaic Idealize.SL.Sem

open Cert.GateUpIdeal in
/-- From equal arguments the kernel and the reference leave the same five arrays. -/
theorem algebraic : Cert.algebraic_GateUpIdeal_GateUpRefIdeal (hGateUpIdeal := Cert.GateUpIdeal.Gen.facts) (hGateUpRefIdeal := Cert.GateUpRefIdeal.Gen.facts) := by
  intro m g m' g' _ h
  have ha : ∀ c, Cert.GateUpRefIdeal.Val.args m' c = Cert.GateUpIdeal.Point.args m c := by
    intro c
    obtain ⟨h0, h1, h2, h3, h4, h5⟩ := h c
    unfold Cert.GateUpRefIdeal.Val.args Cert.GateUpIdeal.Point.args
    congr 1
  refine ⟨fun c => (Cert.GateUpIdeal.Gen.dats m 0 c).arrAt 6 Cert.GateUpIdeal.cfg0.N, fun c => (Cert.GateUpIdeal.Gen.dats m 0 c).arrAt 7 Cert.GateUpIdeal.cfg0.N,
    fun c => (Cert.GateUpIdeal.Gen.dats m 0 c).arrAt 8 Cert.GateUpIdeal.cfg0.N, fun c => (Cert.GateUpIdeal.Gen.dats m 0 c).arrAt 9 Cert.GateUpIdeal.cfg0.N,
    fun c => (Cert.GateUpIdeal.Gen.dats m 0 c).arrAt 10 Cert.GateUpIdeal.cfg0.N, Cert.GateUpIdeal.Value.run_blocks m g, ?_⟩
  refine (θ_run _ _ _).mono (fun r hr c => ?_) (Cert.GateUpRefIdeal.Value.run_blocks m' g')
  obtain ⟨k6, k7, k8, k9, k10, kr⟩ := hr c
  refine ⟨k6.trans ?_, k7.trans ?_, k8.trans ?_, k9.trans ?_, k10.trans ?_, kr⟩
  · exact (Cert.GateUpRefIdeal.Val.out6 m' c).trans ((congrArg (fun A => fun i : Cert.GateUpIdeal.S1536x7680.Idx => Cert.Spec.Ms A (i 0) (i 1)) (ha c)).trans (Cert.GateUpIdeal.Point.out6 m c).symm)
  · exact (Cert.GateUpRefIdeal.Val.out7 m' c).trans ((congrArg (fun A => fun i : Cert.GateUpIdeal.S1536x128.Idx => Cert.Spec.rK (Cert.Spec.Sq A (i 0))) (ha c)).trans (Cert.GateUpIdeal.Point.out7 m c).symm)
  · exact (Cert.GateUpRefIdeal.Val.out8 m' c).trans ((congrArg (fun A => fun i : Cert.GateUpIdeal.S1536x128.Idx => Cert.Spec.Sc A (i 0)) (ha c)).trans (Cert.GateUpIdeal.Point.out8 m c).symm)
  · exact (Cert.GateUpRefIdeal.Val.out9 m' c).trans ((congrArg (fun A => fun i : Cert.GateUpIdeal.S4x1x384.Idx => Cert.Spec.rK (Cert.Spec.Sq A (Cert.Spec.row (i 0) (i 2)))) (ha c)).trans (Cert.GateUpIdeal.Point.out9 m c).symm)
  · exact (Cert.GateUpRefIdeal.Val.out10 m' c).trans ((congrArg (fun A => fun i : Cert.GateUpIdeal.S4x1x384.Idx => Cert.Spec.Sc A (Cert.Spec.row (i 0) (i 2))) (ha c)).trans (Cert.GateUpIdeal.Point.out10 m c).symm)

/-- From equal arguments the output projection and its reference leave the same array. -/
theorem algebraicO : Cert.algebraic_OProjIdeal_OProjRefIdeal (hOProjIdeal := Cert.OProjIdeal.Gen.facts) (hOProjRefIdeal := Cert.OProjRefIdeal.Gen.facts) := by
  intro m g m' g' _ h
  have ha : ∀ c, Cert.OProjRefIdeal.Val.args m' c = Cert.OProjIdeal.Point.args m c := by
    intro c
    obtain ⟨h0, h1, h2, h3, h4⟩ := h c
    unfold Cert.OProjRefIdeal.Val.args Cert.OProjIdeal.Point.args
    congr 1
  refine ⟨fun c => (Cert.OProjIdeal.Gen.dats m 0 c).arrAt 5 Cert.OProjIdeal.cfg0.N, Cert.OProjIdeal.Value.run_blocks m g, ?_⟩
  refine (θ_run _ _ _).mono (fun r hr c => ?_) (Cert.OProjRefIdeal.Value.run_blocks m' g')
  obtain ⟨k5, kr⟩ := hr c
  refine ⟨k5.trans ?_, kr⟩
  exact (Cert.OProjRefIdeal.Val.out5 m' c).trans ((congrArg (fun A => fun i : Cert.OProjIdeal.S4x2880x384.Idx => Cert.Spec.Ho A (i 0) (i 1) (i 2)) (ha c)).trans (Cert.OProjIdeal.Point.out5 m c).symm)

/-- From equal arguments the quantisation of the first input and its reference leave the same codes and scales. -/
theorem algebraicQX : Cert.algebraic_QuantXIdeal_QuantXRefIdeal (hQuantXIdeal := Cert.QuantXIdeal.Gen.facts) (hQuantXRefIdeal := Cert.QuantXRefIdeal.Gen.facts) := by
  intro m g m' g' _ h
  have ha : ∀ c, Cert.QuantXRefIdeal.Val.args m' c = Cert.QuantXIdeal.Point.args m c := by
    intro c
    obtain ⟨h0, h1⟩ := h c
    unfold Cert.QuantXRefIdeal.Val.args Cert.QuantXIdeal.Point.args
    congr 1
  refine ⟨fun c => (Cert.QuantXIdeal.Gen.dats m 0 c).arrAt 2 Cert.QuantXIdeal.cfg0.N, fun c => (Cert.QuantXIdeal.Gen.dats m 0 c).arrAt 3 Cert.QuantXIdeal.cfg0.N,
    Cert.QuantXIdeal.Value.run_blocks m g, ?_⟩
  refine (θ_run _ _ _).mono (fun r hr c => ?_) (Cert.QuantXRefIdeal.Val.run_blocks m' g')
  obtain ⟨k2, k3, kr⟩ := hr c
  refine ⟨k2.trans ?_, k3.trans ?_, kr⟩
  · exact (Cert.QuantXRefIdeal.Val.out2 m' c).trans ((congrArg (fun A => fun i : Cert.QuantXIdeal.S4x2880x384.Idx => Cert.Spec.Cq A (i 0) (i 2) (i 1)) (ha c)).trans (Cert.QuantXIdeal.Point.out2 m c).symm)
  · exact (Cert.QuantXRefIdeal.Val.out3 m' c).trans ((congrArg (fun A => fun i : Cert.QuantXIdeal.S4x1x384.Idx => Cert.Spec.Zq A (i 0) (i 2)) (ha c)).trans (Cert.QuantXIdeal.Point.out3 m c).symm)

/-- From equal arguments the quantisation of the hidden state and its reference leave the same codes and scales. -/
theorem algebraicQH : Cert.algebraic_QuantHIdeal_QuantHRefIdeal (hQuantHIdeal := Cert.QuantHIdeal.Gen.facts) (hQuantHRefIdeal := Cert.QuantHRefIdeal.Gen.facts) := by
  intro m g m' g' _ h
  have ha : ∀ c, Cert.QuantHRefIdeal.Val.args m' c = Cert.QuantHIdeal.Point.args m c := by
    intro c
    obtain ⟨h0, h1⟩ := h c
    unfold Cert.QuantHRefIdeal.Val.args Cert.QuantHIdeal.Point.args
    congr 1
  refine ⟨fun c => (Cert.QuantHIdeal.Gen.dats m 0 c).arrAt 2 Cert.QuantHIdeal.cfg0.N, fun c => (Cert.QuantHIdeal.Gen.dats m 0 c).arrAt 3 Cert.QuantHIdeal.cfg0.N,
    Cert.QuantHIdeal.Value.run_blocks m g, ?_⟩
  refine (θ_run _ _ _).mono (fun r hr c => ?_) (Cert.QuantHRefIdeal.Val.run_blocks m' g')
  obtain ⟨k2, k3, kr⟩ := hr c
  refine ⟨k2.trans ?_, k3.trans ?_, kr⟩
  · exact (Cert.QuantHRefIdeal.Val.out2 m' c).trans ((congrArg (fun A => fun i : Cert.QuantHIdeal.S4x2880x384.Idx => Cert.Spec.Cq A (i 0) (i 2) (i 1)) (ha c)).trans (Cert.QuantHIdeal.Point.out2 m c).symm)
  · exact (Cert.QuantHRefIdeal.Val.out3 m' c).trans ((congrArg (fun A => fun i : Cert.QuantHIdeal.S4x1x384.Idx => Cert.Spec.Zq A (i 0) (i 2)) (ha c)).trans (Cert.QuantHIdeal.Point.out3 m c).symm)

/-- From equal arguments the attention and its reference leave the same codes, scales and reciprocal roots. -/
theorem algebraicA : Cert.algebraic_AttnIdeal_AttnRefIdeal (hAttnIdeal := Cert.AttnIdeal.Gen.facts) (hAttnRefIdeal := Cert.AttnRefIdeal.Gen.facts) := by
  intro m g m' g' _ h
  have ha : ∀ c, Cert.AttnRefIdeal.Val.args m' c = Cert.AttnIdeal.Point.args m c := by
    intro c
    obtain ⟨h0, h1, h2, h3⟩ := h c
    unfold Cert.AttnRefIdeal.Val.args Cert.AttnIdeal.Point.args
    congr 1
  refine ⟨fun c => (Cert.AttnIdeal.Gen.dats m 0 c).arrAt 4 Cert.AttnIdeal.cfg0.N, fun c => (Cert.AttnIdeal.Gen.dats m 0 c).arrAt 5 Cert.AttnIdeal.cfg0.N,
    fun c => (Cert.AttnIdeal.Gen.dats m 0 c).arrAt 6 Cert.AttnIdeal.cfg0.N, Cert.AttnIdeal.Point.run_blocks m g, ?_⟩
  refine (θ_run _ _ _).mono (fun r hr c => ?_) (Cert.AttnRefIdeal.Val.run_blocks m' g')
  obtain ⟨k4, k5, k6, kr⟩ := hr c
  refine ⟨k4.trans ?_, k5.trans ?_, k6.trans ?_, kr⟩
  · exact (Cert.AttnRefIdeal.Val.out4 m' c).trans ((congrArg (fun A => fun i : Cert.AttnIdeal.S4x2880x384.Idx => Cert.Spec.Cq (Cert.Spec.qargs A) (i 0) (i 2) (i 1)) (ha c)).trans (Cert.AttnIdeal.Point.out4 m c).symm)
  · exact (Cert.AttnRefIdeal.Val.out5 m' c).trans ((congrArg (fun A => fun i : Cert.AttnIdeal.S4x1x384.Idx => Cert.Spec.Zq (Cert.Spec.qargs A) (i 0) (i 2)) (ha c)).trans (Cert.AttnIdeal.Point.out5 m c).symm)
  · exact (Cert.AttnRefIdeal.Val.out6 m' c).trans ((congrArg (fun A => fun i : Cert.AttnIdeal.S4x1x384.Idx => Cert.Spec.rQ (Cert.Spec.Qq (Cert.Spec.qargs A) (i 0) (i 2))) (ha c)).trans (Cert.AttnIdeal.Point.out6 m c).symm)

theorem claim : Cert.Claim := ⟨Cert.GateUp.Gen.facts, Cert.GateUpIdeal.Gen.facts, Cert.GateUpRefIdeal.Gen.facts,
  Cert.OProj.Gen.facts, Cert.OProjIdeal.Gen.facts, Cert.OProjRefIdeal.Gen.facts,
  Cert.QuantX.Gen.facts, Cert.QuantXIdeal.Gen.facts, Cert.QuantXRefIdeal.Gen.facts,
  Cert.QuantH.Gen.facts, Cert.QuantHIdeal.Gen.facts, Cert.QuantHRefIdeal.Gen.facts,
  Cert.Attn.Gen.facts, Cert.AttnIdeal.Gen.facts, Cert.AttnRefIdeal.Gen.facts,
  fun m ρ _ => Cert.GateUp.Gen.frame m ρ, fun m ρ _ => Cert.GateUpIdeal.Gen.frame m ρ, fun m ρ _ => Cert.GateUpRefIdeal.Gen.frame m ρ,
  fun m ρ _ => Cert.OProj.Gen.frame m ρ, fun m ρ _ => Cert.OProjIdeal.Gen.frame m ρ, fun m ρ _ => Cert.OProjRefIdeal.Gen.frame m ρ,
  fun m ρ _ => Cert.QuantX.Gen.frame m ρ, fun m ρ _ => Cert.QuantXIdeal.Gen.frame m ρ, fun m ρ _ => Cert.QuantXRefIdeal.Gen.frame m ρ,
  fun m ρ _ => Cert.QuantH.Gen.frame m ρ, fun m ρ _ => Cert.QuantHIdeal.Gen.frame m ρ, fun m ρ _ => Cert.QuantHRefIdeal.Gen.frame m ρ,
  fun m ρ _ => Cert.Attn.Gen.frame m ρ, fun m ρ _ => Cert.AttnIdeal.Gen.frame m ρ, fun m ρ _ => Cert.AttnRefIdeal.Gen.frame m ρ,
  trivial, algebraic, trivial, algebraicO, trivial, algebraicQX, trivial, algebraicQH, trivial, algebraicA⟩

end Cert.Proof

end
